-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.2.1 = (fun _ => 1#1)
    ∧ (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).2.1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).2.2.1 = (fun _ => 1#1)
    ∧ (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v57_0)) (v1 : (c : Dev Cert.Kernel2Ideal.nD) → Buf (Elt Ideal) ((c.tc : Thread Cert.Kernel2Ideal.nD Cert.Kernel2Ideal.τ).loc Cert.Kernel2Ideal.main_v57_1)) (v2 : (c : Dev Cert.Kernel2Ideal.nD) → Buf (Elt Ideal) ((c.tc : Thread Cert.Kernel2Ideal.nD Cert.Kernel2Ideal.τ).loc Cert.Kernel2Ideal.main_v57_2)) (v3 : (c : Dev Cert.Kernel2Ideal.nD) → Buf (Elt Ideal) ((c.tc : Thread Cert.Kernel2Ideal.nD Cert.Kernel2Ideal.τ).loc Cert.Kernel2Ideal.main_v57_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v57_0) = v0 c
          ∧ r.2.mem ((c.tc : Thread Cert.Kernel2Ideal.nD Cert.Kernel2Ideal.τ).loc Cert.Kernel2Ideal.main_v57_1) = v1 c
          ∧ r.2.mem ((c.tc : Thread Cert.Kernel2Ideal.nD Cert.Kernel2Ideal.τ).loc Cert.Kernel2Ideal.main_v57_2) = v2 c
          ∧ r.2.mem ((c.tc : Thread Cert.Kernel2Ideal.nD Cert.Kernel2Ideal.τ).loc Cert.Kernel2Ideal.main_v57_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v114) = v0 c
          ∧ r.2.mem ((c.tc : Thread Cert.Reference2Ideal.nD Cert.Reference2Ideal.τ).loc Cert.Reference2Ideal.main_v116) = v1 c
          ∧ r.2.mem ((c.tc : Thread Cert.Reference2Ideal.nD Cert.Reference2Ideal.τ).loc Cert.Reference2Ideal.main_v118) = v2 c
          ∧ r.2.mem ((c.tc : Thread Cert.Reference2Ideal.nD Cert.Reference2Ideal.τ).loc Cert.Reference2Ideal.main_v120) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v116_0)) (v1 : (c : Dev Cert.Kernel4Ideal.nD) → Buf (Elt Ideal) ((c.tc : Thread Cert.Kernel4Ideal.nD Cert.Kernel4Ideal.τ).loc Cert.Kernel4Ideal.main_v116_1)) (v2 : (c : Dev Cert.Kernel4Ideal.nD) → Buf (Elt Ideal) ((c.tc : Thread Cert.Kernel4Ideal.nD Cert.Kernel4Ideal.τ).loc Cert.Kernel4Ideal.main_v116_2)) (v3 : (c : Dev Cert.Kernel4Ideal.nD) → Buf (Elt Ideal) ((c.tc : Thread Cert.Kernel4Ideal.nD Cert.Kernel4Ideal.τ).loc Cert.Kernel4Ideal.main_v116_3)) (v4 : (c : Dev Cert.Kernel4Ideal.nD) → Buf (Elt Ideal) ((c.tc : Thread Cert.Kernel4Ideal.nD Cert.Kernel4Ideal.τ).loc Cert.Kernel4Ideal.main_v116_4)) (v5 : (c : Dev Cert.Kernel4Ideal.nD) → Buf (Elt Ideal) ((c.tc : Thread Cert.Kernel4Ideal.nD Cert.Kernel4Ideal.τ).loc Cert.Kernel4Ideal.main_v116_5)) (v6 : (c : Dev Cert.Kernel4Ideal.nD) → Buf (Elt Ideal) ((c.tc : Thread Cert.Kernel4Ideal.nD Cert.Kernel4Ideal.τ).loc Cert.Kernel4Ideal.main_v116_6)) (v7 : (c : Dev Cert.Kernel4Ideal.nD) → Buf (Elt Ideal) ((c.tc : Thread Cert.Kernel4Ideal.nD Cert.Kernel4Ideal.τ).loc Cert.Kernel4Ideal.main_v116_7)) (v8 : (c : Dev Cert.Kernel4Ideal.nD) → Buf (Elt Ideal) ((c.tc : Thread Cert.Kernel4Ideal.nD Cert.Kernel4Ideal.τ).loc Cert.Kernel4Ideal.main_v116_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v116_0) = v0 c
          ∧ r.2.mem ((c.tc : Thread Cert.Kernel4Ideal.nD Cert.Kernel4Ideal.τ).loc Cert.Kernel4Ideal.main_v116_1) = v1 c
          ∧ r.2.mem ((c.tc : Thread Cert.Kernel4Ideal.nD Cert.Kernel4Ideal.τ).loc Cert.Kernel4Ideal.main_v116_2) = v2 c
          ∧ r.2.mem ((c.tc : Thread Cert.Kernel4Ideal.nD Cert.Kernel4Ideal.τ).loc Cert.Kernel4Ideal.main_v116_3) = v3 c
          ∧ r.2.mem ((c.tc : Thread Cert.Kernel4Ideal.nD Cert.Kernel4Ideal.τ).loc Cert.Kernel4Ideal.main_v116_4) = v4 c
          ∧ r.2.mem ((c.tc : Thread Cert.Kernel4Ideal.nD Cert.Kernel4Ideal.τ).loc Cert.Kernel4Ideal.main_v116_5) = v5 c
          ∧ r.2.mem ((c.tc : Thread Cert.Kernel4Ideal.nD Cert.Kernel4Ideal.τ).loc Cert.Kernel4Ideal.main_v116_6) = v6 c
          ∧ r.2.mem ((c.tc : Thread Cert.Kernel4Ideal.nD Cert.Kernel4Ideal.τ).loc Cert.Kernel4Ideal.main_v116_7) = v7 c
          ∧ r.2.mem ((c.tc : Thread Cert.Kernel4Ideal.nD Cert.Kernel4Ideal.τ).loc Cert.Kernel4Ideal.main_v116_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v267) = v0 c
          ∧ r.2.mem ((c.tc : Thread Cert.Reference4Ideal.nD Cert.Reference4Ideal.τ).loc Cert.Reference4Ideal.main_v269) = v1 c
          ∧ r.2.mem ((c.tc : Thread Cert.Reference4Ideal.nD Cert.Reference4Ideal.τ).loc Cert.Reference4Ideal.main_v271) = v2 c
          ∧ r.2.mem ((c.tc : Thread Cert.Reference4Ideal.nD Cert.Reference4Ideal.τ).loc Cert.Reference4Ideal.main_v273) = v3 c
          ∧ r.2.mem ((c.tc : Thread Cert.Reference4Ideal.nD Cert.Reference4Ideal.τ).loc Cert.Reference4Ideal.main_v275) = v4 c
          ∧ r.2.mem ((c.tc : Thread Cert.Reference4Ideal.nD Cert.Reference4Ideal.τ).loc Cert.Reference4Ideal.main_v277) = v5 c
          ∧ r.2.mem ((c.tc : Thread Cert.Reference4Ideal.nD Cert.Reference4Ideal.τ).loc Cert.Reference4Ideal.main_v279) = v6 c
          ∧ r.2.mem ((c.tc : Thread Cert.Reference4Ideal.nD Cert.Reference4Ideal.τ).loc Cert.Reference4Ideal.main_v280) = v7 c
          ∧ r.2.mem ((c.tc : Thread Cert.Reference4Ideal.nD Cert.Reference4Ideal.τ).loc Cert.Reference4Ideal.main_v281) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
-- ==== Pre_finite_scores.lean ====
abbrev S32x2048x1024 : Shape := ⟨3, ![32, 2048, 1024]⟩
abbrev S65536x512 : Shape := ⟨2, ![65536, 512]⟩
abbrev S65536x128 : Shape := ⟨2, ![65536, 128]⟩
abbrev S65536x1024 : Shape := ⟨2, ![65536, 1024]⟩
abbrev S1024x1024 : Shape := ⟨2, ![1024, 1024]⟩
abbrev S64 : Shape := ⟨1, ![64]⟩
abbrev S128 : Shape := ⟨1, ![128]⟩
abbrev S_ : Shape := ⟨0, ![]⟩

class Facts : Prop where
  bcast_S_S65536x512 : S_.BroadcastsInDim S65536x512 (![] : Fin 0 → Fin S65536x512.rank)
  bcast_S_S65536x128 : S_.BroadcastsInDim S65536x128 (![] : Fin 0 → Fin S65536x128.rank)

variable [Facts]

def fn {F : FTy → Type} [FloatOps F] (main_arg0 : FVec F S32x2048x1024 .f32) (main_arg1 : FVec F S65536x512 .bf16) (main_arg2 : FVec F S65536x128 .bf16) (main_arg3 : FVec F S65536x128 .bf16) (main_arg4 : FVec F S65536x512 .bf16) (main_arg5 : FVec F S65536x512 .bf16) (main_arg6 : FVec F S65536x512 .bf16) (main_arg7 : FVec F S65536x1024 .bf16) (main_arg8 : FVec F S1024x1024 .f32) (main_arg9 : FVec F S64 .f32) (main_arg10 : FVec F S64 .f32) (main_arg11 : FVec F S64 .f32) (main_arg12 : FVec F S64 .f32) (main_arg13 : FVec F S128 .f32) : IVec S65536x512 1 × IVec S65536x128 1 × IVec S65536x512 1 × IVec S65536x512 1 :=
  let main_v0 : FVec F S65536x512 .bf16 := Host.absf main_arg1
  let main_cst : FVec F S_ .bf16 := constant S_ .bf16 0x7F80#16
  let main_v1 : FVec F S65536x512 .bf16 := broadcastInDim S65536x512 ![] bcast_S_S65536x512 main_cst
  let main_v2 : IVec S65536x512 1 := cmpf .olt main_v0 main_v1
  let main_v3 : FVec F S65536x128 .bf16 := Host.absf main_arg2
  let main_cst_0 : FVec F S_ .bf16 := constant S_ .bf16 0x7F80#16
  let main_v4 : FVec F S65536x128 .bf16 := broadcastInDim S65536x128 ![] bcast_S_S65536x128 main_cst_0
  let main_v5 : IVec S65536x128 1 := cmpf .olt main_v3 main_v4
  let main_v6 : FVec F S65536x512 .bf16 := Host.absf main_arg4
  let main_cst_1 : FVec F S_ .bf16 := constant S_ .bf16 0x7F80#16
  let main_v7 : FVec F S65536x512 .bf16 := broadcastInDim S65536x512 ![] bcast_S_S65536x512 main_cst_1
  let main_v8 : IVec S65536x512 1 := cmpf .olt main_v6 main_v7
  let main_v9 : FVec F S65536x512 .bf16 := Host.absf main_arg5
  let main_cst_2 : FVec F S_ .bf16 := constant S_ .bf16 0x7F80#16
  let main_v10 : FVec F S65536x512 .bf16 := broadcastInDim S65536x512 ![] bcast_S_S65536x512 main_cst_2
  let main_v11 : IVec S65536x512 1 := cmpf .olt main_v9 main_v10
  (main_v2, main_v5, main_v8, main_v11)
-- ==== Kernel.lean ====
abbrev S32x2048x1024 : Shape := ⟨3, ![32, 2048, 1024]⟩
abbrev S1024x1024 : Shape := ⟨2, ![1024, 1024]⟩
abbrev S65536x1024 : Shape := ⟨2, ![65536, 1024]⟩
abbrev S3x1024x1024 : Shape := ⟨3, ![3, 1024, 1024]⟩
abbrev S3 : Shape := ⟨1, ![3]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 7
  | .vmem => 4
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S65536x1024, .f32⟩
  | .hbm, ⟨4, _⟩ => ⟨S65536x1024, .bf16⟩
  | .hbm, ⟨5, _⟩ => ⟨S1024x1024, .bf16⟩
  | .hbm, ⟨6, _⟩ => ⟨S65536x1024, .f32⟩
  | .local _ .vmem, ⟨0, _⟩ => ⟨S1024x1024, .bf16⟩
  | .local _ .vmem, ⟨1, _⟩ => ⟨S3x1024x1024, .bf16⟩
  | .local _ .vmem, ⟨2, _⟩ => ⟨S3x1024x1024, .f32⟩
  | .local _ .vmem, ⟨3, _⟩ => ⟨S2x1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_18_r0 : BitVec 32 := 0#32
  let c3_i32_r0 : BitVec 32 := 3#32
  let v21_r0 : BitVec 32 := Scalar.remui c0_i32_18_r0 c3_i32_r0
  ![v21_r0.toNat]
def k0_off2 : Fin 3 → Nat :=
  let c0_i32_18_r0 : BitVec 32 := 0#32
  let c3_i32_r0 : BitVec 32 := 3#32
  let v21_r0 : BitVec 32 := Scalar.remui c0_i32_18_r0 c3_i32_r0
  let c0_i32_19_r0 : BitVec 32 := 0#32
  let c0_i32_20_r0 : BitVec 32 := 0#32
  ![v21_r0.toNat, 0, 0]
def k0_cond1 : BitVec 1 :=
  let true_34_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c64_i32_r0 : BitVec 32 := 64#32
  let v8_r0 : BitVec 1 := Scalar.cmpi .eq v7_r0 c64_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_33_r0 : BitVec 32 := 0#32
  let v35_r0 : BitVec 1 := Scalar.cmpi .ne v10_r0 c0_i32_33_r0
  let v36_r0 : BitVec 1 := Scalar.andi true_34_r0 v35_r0
  let true_35_r0 : BitVec 1 := 1#1
  let v37_r0 : BitVec 1 := Scalar.andi v36_r0 true_35_r0
  let v38_r0 : BitVec 32 := Scalar.extui v37_r0
  let c0_i32_36_r0 : BitVec 32 := 0#32
  let v39_r0 : BitVec 1 := Scalar.cmpi .ne v38_r0 c0_i32_36_r0
  v39_r0

def k0_off3 : Fin 1 → Nat :=
  let c0_i32_23_r0 : BitVec 32 := 0#32
  let c1_i32_24_r0 : BitVec 32 := 1#32
  let v27_r0 : BitVec 32 := Scalar.addi c0_i32_23_r0 c1_i32_24_r0
  let c3_i32_80_r0 : BitVec 32 := 3#32
  let v83_r0 : BitVec 32 := Scalar.remui v27_r0 c3_i32_80_r0
  ![v83_r0.toNat]
def k0_off4 : Fin 3 → Nat :=
  let c0_i32_23_r0 : BitVec 32 := 0#32
  let c1_i32_24_r0 : BitVec 32 := 1#32
  let v27_r0 : BitVec 32 := Scalar.addi c0_i32_23_r0 c1_i32_24_r0
  let c3_i32_80_r0 : BitVec 32 := 3#32
  let v83_r0 : BitVec 32 := Scalar.remui v27_r0 c3_i32_80_r0
  let c0_i32_82_r0 : BitVec 32 := 0#32
  let c0_i32_83_r0 : BitVec 32 := 0#32
  ![v83_r0.toNat, 0, 0]
def k0_off5 : Fin 2 → Nat :=
  let c1024_i32_81_r0 : BitVec 32 := 1024#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c64_i32_r0 : BitVec 32 := 64#32
  let v8_r0 : BitVec 1 := Scalar.cmpi .eq v7_r0 c64_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v84_r0 : BitVec 32 := Scalar.muli c1024_i32_81_r0 v10_r0
  let c0_i32_84_r0 : BitVec 32 := 0#32
  ![v84_r0.toNat, 0]
def k0_cond2 : BitVec 1 :=
  let true_39_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c64_i32_r0 : BitVec 32 := 64#32
  let v8_r0 : BitVec 1 := Scalar.cmpi .eq v7_r0 c64_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_38_r0 : BitVec 32 := 0#32
  let v42_r0 : BitVec 1 := Scalar.cmpi .ne v10_r0 c0_i32_38_r0
  let v43_r0 : BitVec 1 := Scalar.andi true_39_r0 v42_r0
  let true_40_r0 : BitVec 1 := 1#1
  let v44_r0 : BitVec 1 := Scalar.andi v43_r0 true_40_r0
  let v45_r0 : BitVec 32 := Scalar.extui v44_r0
  let c0_i32_41_r0 : BitVec 32 := 0#32
  let v46_r0 : BitVec 1 := Scalar.cmpi .ne v45_r0 c0_i32_41_r0
  v46_r0

def k0_off6 : Fin 1 → Nat :=
  let c0_i32_31_r0 : BitVec 32 := 0#32
  let c1_i32_32_r0 : BitVec 32 := 1#32
  let v34_r0 : BitVec 32 := Scalar.addi c0_i32_31_r0 c1_i32_32_r0
  let c3_i32_80_r0 : BitVec 32 := 3#32
  let v83_r0 : BitVec 32 := Scalar.remui v34_r0 c3_i32_80_r0
  ![v83_r0.toNat]
def k0_off7 : Fin 3 → Nat :=
  let c0_i32_31_r0 : BitVec 32 := 0#32
  let c1_i32_32_r0 : BitVec 32 := 1#32
  let v34_r0 : BitVec 32 := Scalar.addi c0_i32_31_r0 c1_i32_32_r0
  let c3_i32_80_r0 : BitVec 32 := 3#32
  let v83_r0 : BitVec 32 := Scalar.remui v34_r0 c3_i32_80_r0
  let c0_i32_82_r0 : BitVec 32 := 0#32
  let c0_i32_83_r0 : BitVec 32 := 0#32
  ![v83_r0.toNat, 0, 0]
def k0_off8 : Fin 2 → Nat :=
  let c1024_i32_81_r0 : BitVec 32 := 1024#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c64_i32_r0 : BitVec 32 := 64#32
  let v8_r0 : BitVec 1 := Scalar.cmpi .eq v7_r0 c64_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v84_r0 : BitVec 32 := Scalar.muli c1024_i32_81_r0 v10_r0
  let c0_i32_84_r0 : BitVec 32 := 0#32
  ![v84_r0.toNat, 0]
@[reducible] def k0_t1_loop : Scf.Loop 32 :=
  let c0_i32_48_r0 : BitVec 32 := 0#32
  let c64_i32_49_r0 : BitVec 32 := 64#32
  let v49_r0 : BitVec 32 := Scalar.addi c0_i32_48_r0 c64_i32_49_r0
  let c1_i32_50_r0 : BitVec 32 := 1#32
  ⟨c0_i32_48_r0, v49_r0, c1_i32_50_r0⟩
def k0_off9 (arg5_r0 : BitVec 32) : Fin 1 → Nat :=
  let c3_i32_154_r0 : BitVec 32 := 3#32
  let v214_r0 : BitVec 32 := Scalar.remui arg5_r0 c3_i32_154_r0
  ![v214_r0.toNat]
def k0_cond3 (k0_t1 : Fin k0_t1_loop.trips) (arg11_r0 : BitVec 32) : BitVec 1 :=
  let true_89_r0 : BitVec 1 := 1#1
  let c1_i32_88_r0 : BitVec 32 := 1#32
  let v91_r0 : BitVec 32 := Scalar.addi arg11_r0 c1_i32_88_r0
  let v92_r0 : BitVec 32 := Scalar.select true_89_r0 v91_r0 arg11_r0
  let c64_i32_90_r0 : BitVec 32 := 64#32
  let v93_r0 : BitVec 1 := Scalar.cmpi .eq v92_r0 c64_i32_90_r0
  let c0_i32_91_r0 : BitVec 32 := 0#32
  let v94_r0 : BitVec 32 := Scalar.select v93_r0 c0_i32_91_r0 v92_r0
  let c0_i32_92_r0 : BitVec 32 := 0#32
  let v95_r0 : BitVec 32 := Scalar.addi v94_r0 c0_i32_92_r0
  let true_94_r0 : BitVec 1 := 1#1
  let c1_i32_93_r0 : BitVec 32 := 1#32
  let v96_r0 : BitVec 32 := Scalar.addi v94_r0 c1_i32_93_r0
  let v97_r0 : BitVec 32 := Scalar.select true_94_r0 v96_r0 v94_r0
  let c64_i32_95_r0 : BitVec 32 := 64#32
  let v98_r0 : BitVec 1 := Scalar.cmpi .eq v97_r0 c64_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v106_r0 : BitVec 1 := Scalar.cmpi .ne v95_r0 v100_r0
  let c0_i32_48_r0 : BitVec 32 := 0#32
  let c1_i32_50_r0 : BitVec 32 := 1#32
  let arg4_r0 : BitVec 32 := Scf.iv c0_i32_48_r0 c1_i32_50_r0 k0_t1
  let c62_i32_r0 : BitVec 32 := 62#32
  let v107_r0 : BitVec 1 := Scalar.cmpi .sge arg4_r0 c62_i32_r0
  let true_103_r0 : BitVec 1 := 1#1
  let v108_r0 : BitVec 1 := Scalar.xori v107_r0 true_103_r0
  let v109_r0 : BitVec 1 := Scalar.andi v106_r0 v108_r0
  let true_104_r0 : BitVec 1 := 1#1
  let v110_r0 : BitVec 1 := Scalar.andi v109_r0 true_104_r0
  let v111_r0 : BitVec 32 := Scalar.extui v110_r0
  let c0_i32_105_r0 : BitVec 32 := 0#32
  let v112_r0 : BitVec 1 := Scalar.cmpi .ne v111_r0 c0_i32_105_r0
  v112_r0

def k0_off10 (arg5_r0 : BitVec 32) : Fin 3 → Nat :=
  let c3_i32_154_r0 : BitVec 32 := 3#32
  let v214_r0 : BitVec 32 := Scalar.remui arg5_r0 c3_i32_154_r0
  let c0_i32_156_r0 : BitVec 32 := 0#32
  let c0_i32_157_r0 : BitVec 32 := 0#32
  ![v214_r0.toNat, 0, 0]
def k0_off11 (arg11_r0 : BitVec 32) : Fin 2 → Nat :=
  let c1024_i32_155_r0 : BitVec 32 := 1024#32
  let true_94_r0 : BitVec 1 := 1#1
  let true_89_r0 : BitVec 1 := 1#1
  let c1_i32_88_r0 : BitVec 32 := 1#32
  let v91_r0 : BitVec 32 := Scalar.addi arg11_r0 c1_i32_88_r0
  let v92_r0 : BitVec 32 := Scalar.select true_89_r0 v91_r0 arg11_r0
  let c64_i32_90_r0 : BitVec 32 := 64#32
  let v93_r0 : BitVec 1 := Scalar.cmpi .eq v92_r0 c64_i32_90_r0
  let c0_i32_91_r0 : BitVec 32 := 0#32
  let v94_r0 : BitVec 32 := Scalar.select v93_r0 c0_i32_91_r0 v92_r0
  let c1_i32_93_r0 : BitVec 32 := 1#32
  let v96_r0 : BitVec 32 := Scalar.addi v94_r0 c1_i32_93_r0
  let v97_r0 : BitVec 32 := Scalar.select true_94_r0 v96_r0 v94_r0
  let c64_i32_95_r0 : BitVec 32 := 64#32
  let v98_r0 : BitVec 1 := Scalar.cmpi .eq v97_r0 c64_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v215_r0 : BitVec 32 := Scalar.muli c1024_i32_155_r0 v100_r0
  let c0_i32_158_r0 : BitVec 32 := 0#32
  ![v215_r0.toNat, 0]
def k0_off12 (arg7_r0 : BitVec 32) : Fin 1 → Nat :=
  let c3_i32_154_r0 : BitVec 32 := 3#32
  let v214_r0 : BitVec 32 := Scalar.remui arg7_r0 c3_i32_154_r0
  ![v214_r0.toNat]
def k0_cond4 (k0_t1 : Fin k0_t1_loop.trips) (arg11_r0 : BitVec 32) : BitVec 1 :=
  let true_89_r0 : BitVec 1 := 1#1
  let c1_i32_88_r0 : BitVec 32 := 1#32
  let v91_r0 : BitVec 32 := Scalar.addi arg11_r0 c1_i32_88_r0
  let v92_r0 : BitVec 32 := Scalar.select true_89_r0 v91_r0 arg11_r0
  let c64_i32_90_r0 : BitVec 32 := 64#32
  let v93_r0 : BitVec 1 := Scalar.cmpi .eq v92_r0 c64_i32_90_r0
  let c0_i32_91_r0 : BitVec 32 := 0#32
  let v94_r0 : BitVec 32 := Scalar.select v93_r0 c0_i32_91_r0 v92_r0
  let c0_i32_92_r0 : BitVec 32 := 0#32
  let v95_r0 : BitVec 32 := Scalar.addi v94_r0 c0_i32_92_r0
  let true_94_r0 : BitVec 1 := 1#1
  let c1_i32_93_r0 : BitVec 32 := 1#32
  let v96_r0 : BitVec 32 := Scalar.addi v94_r0 c1_i32_93_r0
  let v97_r0 : BitVec 32 := Scalar.select true_94_r0 v96_r0 v94_r0
  let c64_i32_95_r0 : BitVec 32 := 64#32
  let v98_r0 : BitVec 1 := Scalar.cmpi .eq v97_r0 c64_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v116_r0 : BitVec 1 := Scalar.cmpi .ne v95_r0 v100_r0
  let c0_i32_48_r0 : BitVec 32 := 0#32
  let c1_i32_50_r0 : BitVec 32 := 1#32
  let arg4_r0 : BitVec 32 := Scf.iv c0_i32_48_r0 c1_i32_50_r0 k0_t1
  let c62_i32_108_r0 : BitVec 32 := 62#32
  let v117_r0 : BitVec 1 := Scalar.cmpi .sge arg4_r0 c62_i32_108_r0
  let true_109_r0 : BitVec 1 := 1#1
  let v118_r0 : BitVec 1 := Scalar.xori v117_r0 true_109_r0
  let v119_r0 : BitVec 1 := Scalar.andi v116_r0 v118_r0
  let true_110_r0 : BitVec 1 := 1#1
  let v120_r0 : BitVec 1 := Scalar.andi v119_r0 true_110_r0
  let v121_r0 : BitVec 32 := Scalar.extui v120_r0
  let c0_i32_111_r0 : BitVec 32 := 0#32
  let v122_r0 : BitVec 1 := Scalar.cmpi .ne v121_r0 c0_i32_111_r0
  v122_r0

def k0_off13 (arg7_r0 : BitVec 32) : Fin 3 → Nat :=
  let c3_i32_154_r0 : BitVec 32 := 3#32
  let v214_r0 : BitVec 32 := Scalar.remui arg7_r0 c3_i32_154_r0
  let c0_i32_156_r0 : BitVec 32 := 0#32
  let c0_i32_157_r0 : BitVec 32 := 0#32
  ![v214_r0.toNat, 0, 0]
def k0_off14 (arg11_r0 : BitVec 32) : Fin 2 → Nat :=
  let c1024_i32_155_r0 : BitVec 32 := 1024#32
  let true_94_r0 : BitVec 1 := 1#1
  let true_89_r0 : BitVec 1 := 1#1
  let c1_i32_88_r0 : BitVec 32 := 1#32
  let v91_r0 : BitVec 32 := Scalar.addi arg11_r0 c1_i32_88_r0
  let v92_r0 : BitVec 32 := Scalar.select true_89_r0 v91_r0 arg11_r0
  let c64_i32_90_r0 : BitVec 32 := 64#32
  let v93_r0 : BitVec 1 := Scalar.cmpi .eq v92_r0 c64_i32_90_r0
  let c0_i32_91_r0 : BitVec 32 := 0#32
  let v94_r0 : BitVec 32 := Scalar.select v93_r0 c0_i32_91_r0 v92_r0
  let c1_i32_93_r0 : BitVec 32 := 1#32
  let v96_r0 : BitVec 32 := Scalar.addi v94_r0 c1_i32_93_r0
  let v97_r0 : BitVec 32 := Scalar.select true_94_r0 v96_r0 v94_r0
  let c64_i32_95_r0 : BitVec 32 := 64#32
  let v98_r0 : BitVec 1 := Scalar.cmpi .eq v97_r0 c64_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v215_r0 : BitVec 32 := Scalar.muli c1024_i32_155_r0 v100_r0
  let c0_i32_158_r0 : BitVec 32 := 0#32
  ![v215_r0.toNat, 0]
def k0_off15 (arg6_r0 : BitVec 32) : Fin 1 → Nat :=
  let c3_i32_155_r0 : BitVec 32 := 3#32
  let v215_r0 : BitVec 32 := Scalar.remui arg6_r0 c3_i32_155_r0
  ![v215_r0.toNat]
def k0_cond5 (k0_t1 : Fin k0_t1_loop.trips) (arg11_r0 : BitVec 32) : BitVec 1 :=
  let c0_i32_82_r0 : BitVec 32 := 0#32
  let v85_r0 : BitVec 32 := Scalar.addi arg11_r0 c0_i32_82_r0
  let true_84_r0 : BitVec 1 := 1#1
  let c1_i32_83_r0 : BitVec 32 := 1#32
  let v86_r0 : BitVec 32 := Scalar.subi arg11_r0 c1_i32_83_r0
  let v87_r0 : BitVec 32 := Scalar.select true_84_r0 v86_r0 arg11_r0
  let c_m1_i32_85_r0 : BitVec 32 := 4294967295#32
  let v88_r0 : BitVec 1 := Scalar.cmpi .eq v87_r0 c_m1_i32_85_r0
  let c63_i32_86_r0 : BitVec 32 := 63#32
  let v89_r0 : BitVec 32 := Scalar.select v88_r0 c63_i32_86_r0 v87_r0
  let c0_i32_87_r0 : BitVec 32 := 0#32
  let v90_r0 : BitVec 32 := Scalar.addi v89_r0 c0_i32_87_r0
  let v130_r0 : BitVec 1 := Scalar.cmpi .ne v85_r0 v90_r0
  let c0_i32_48_r0 : BitVec 32 := 0#32
  let c1_i32_50_r0 : BitVec 32 := 1#32
  let arg4_r0 : BitVec 32 := Scf.iv c0_i32_48_r0 c1_i32_50_r0 k0_t1
  let c0_i32_80_r0 : BitVec 32 := 0#32
  let v83_r0 : BitVec 1 := Scalar.cmpi .eq arg4_r0 c0_i32_80_r0
  let v131_r0 : BitVec 1 := Scalar.ori v130_r0 v83_r0
  let c0_i32_116_r0 : BitVec 32 := 0#32
  let v132_r0 : BitVec 1 := Scalar.cmpi .sge arg4_r0 c0_i32_116_r0
  let v133_r0 : BitVec 1 := Scalar.andi v131_r0 v132_r0
  let v134_r0 : BitVec 32 := Scalar.extui v133_r0
  let c0_i32_117_r0 : BitVec 32 := 0#32
  let v135_r0 : BitVec 1 := Scalar.cmpi .ne v134_r0 c0_i32_117_r0
  v135_r0

def k0_off16 (arg6_r0 : BitVec 32) : Fin 3 → Nat :=
  let c3_i32_155_r0 : BitVec 32 := 3#32
  let v215_r0 : BitVec 32 := Scalar.remui arg6_r0 c3_i32_155_r0
  let c0_i32_156_r0 : BitVec 32 := 0#32
  let c0_i32_157_r0 : BitVec 32 := 0#32
  ![v215_r0.toNat, 0, 0]
def k0_off17 (arg11_r0 : BitVec 32) : Fin 2 → Nat :=
  let c1024_i32_154_r0 : BitVec 32 := 1024#32
  let c0_i32_82_r0 : BitVec 32 := 0#32
  let v85_r0 : BitVec 32 := Scalar.addi arg11_r0 c0_i32_82_r0
  let v214_r0 : BitVec 32 := Scalar.muli c1024_i32_154_r0 v85_r0
  let c0_i32_158_r0 : BitVec 32 := 0#32
  ![v214_r0.toNat, 0]
def k0_off18 (arg8_r0 : BitVec 32) : Fin 1 → Nat :=
  let c3_i32_155_r0 : BitVec 32 := 3#32
  let v215_r0 : BitVec 32 := Scalar.remui arg8_r0 c3_i32_155_r0
  ![v215_r0.toNat]
def k0_cond6 (k0_t1 : Fin k0_t1_loop.trips) (arg11_r0 : BitVec 32) : BitVec 1 :=
  let c0_i32_82_r0 : BitVec 32 := 0#32
  let v85_r0 : BitVec 32 := Scalar.addi arg11_r0 c0_i32_82_r0
  let true_84_r0 : BitVec 1 := 1#1
  let c1_i32_83_r0 : BitVec 32 := 1#32
  let v86_r0 : BitVec 32 := Scalar.subi arg11_r0 c1_i32_83_r0
  let v87_r0 : BitVec 32 := Scalar.select true_84_r0 v86_r0 arg11_r0
  let c_m1_i32_85_r0 : BitVec 32 := 4294967295#32
  let v88_r0 : BitVec 1 := Scalar.cmpi .eq v87_r0 c_m1_i32_85_r0
  let c63_i32_86_r0 : BitVec 32 := 63#32
  let v89_r0 : BitVec 32 := Scalar.select v88_r0 c63_i32_86_r0 v87_r0
  let c0_i32_87_r0 : BitVec 32 := 0#32
  let v90_r0 : BitVec 32 := Scalar.addi v89_r0 c0_i32_87_r0
  let v136_r0 : BitVec 1 := Scalar.cmpi .ne v85_r0 v90_r0
  let c0_i32_48_r0 : BitVec 32 := 0#32
  let c1_i32_50_r0 : BitVec 32 := 1#32
  let arg4_r0 : BitVec 32 := Scf.iv c0_i32_48_r0 c1_i32_50_r0 k0_t1
  let c0_i32_80_r0 : BitVec 32 := 0#32
  let v83_r0 : BitVec 1 := Scalar.cmpi .eq arg4_r0 c0_i32_80_r0
  let v137_r0 : BitVec 1 := Scalar.ori v136_r0 v83_r0
  let c0_i32_118_r0 : BitVec 32 := 0#32
  let v138_r0 : BitVec 1 := Scalar.cmpi .sge arg4_r0 c0_i32_118_r0
  let v139_r0 : BitVec 1 := Scalar.andi v137_r0 v138_r0
  let v140_r0 : BitVec 32 := Scalar.extui v139_r0
  let c0_i32_119_r0 : BitVec 32 := 0#32
  let v141_r0 : BitVec 1 := Scalar.cmpi .ne v140_r0 c0_i32_119_r0
  v141_r0

def k0_off19 (arg8_r0 : BitVec 32) : Fin 3 → Nat :=
  let c3_i32_155_r0 : BitVec 32 := 3#32
  let v215_r0 : BitVec 32 := Scalar.remui arg8_r0 c3_i32_155_r0
  let c0_i32_156_r0 : BitVec 32 := 0#32
  let c0_i32_157_r0 : BitVec 32 := 0#32
  ![v215_r0.toNat, 0, 0]
def k0_off20 (arg11_r0 : BitVec 32) : Fin 2 → Nat :=
  let c1024_i32_154_r0 : BitVec 32 := 1024#32
  let c0_i32_82_r0 : BitVec 32 := 0#32
  let v85_r0 : BitVec 32 := Scalar.addi arg11_r0 c0_i32_82_r0
  let v214_r0 : BitVec 32 := Scalar.muli c1024_i32_154_r0 v85_r0
  let c0_i32_158_r0 : BitVec 32 := 0#32
  ![v214_r0.toNat, 0]
def k0_off21 (arg8_r0 : BitVec 32) : Fin 3 → Nat :=
  let c3_i32_123_r0 : BitVec 32 := 3#32
  let v149_r0 : BitVec 32 := Scalar.remui arg8_r0 c3_i32_123_r0
  let v151_r0 : Index := Scalar.indexCast v149_r0
  let c0_r0 : Index := 0#32
  let c0_125_r0 : Index := 0#32
  ![v151_r0.toNat, 0, 0]

def k0_chk2 (arg8_r0 : BitVec 32) : Prop :=
  (∀ a, (k0_off21 arg8_r0) a + S1x1024x1024.size a ≤ S3x1024x1024.size a)
theorem k0_off21_inb : ∀ (arg8_r0 : BitVec 32) (k0_hw2 : k0_chk2 arg8_r0), ∀ a, (k0_off21 arg8_r0) a + S1x1024x1024.size a ≤ S3x1024x1024.size a := fun arg8_r0 k0_hw2 => k0_hw2

def k0_off22 (arg6_r0 : BitVec 32) : Fin 3 → Nat :=
  let c3_i32_122_r0 : BitVec 32 := 3#32
  let v148_r0 : BitVec 32 := Scalar.remui arg6_r0 c3_i32_122_r0
  let v154_r0 : Index := Scalar.indexCast v148_r0
  let c0_126_r0 : Index := 0#32
  let c0_127_r0 : Index := 0#32
  ![v154_r0.toNat, 0, 0]

def k0_chk3 (arg6_r0 : BitVec 32) : Prop :=
  (∀ a, (k0_off22 arg6_r0) a + S1x1024x1024.size a ≤ S3x1024x1024.size a)
theorem k0_off22_inb : ∀ (arg6_r0 : BitVec 32) (k0_hw3 : k0_chk3 arg6_r0), ∀ a, (k0_off22 arg6_r0) a + S1x1024x1024.size a ≤ S3x1024x1024.size a := fun arg6_r0 k0_hw3 => k0_hw3

def k0_off23 (arg9_r0 : BitVec 32) : Fin 3 → Nat :=
  let c2_i32_124_r0 : BitVec 32 := 2#32
  let v150_r0 : BitVec 32 := Scalar.remui arg9_r0 c2_i32_124_r0
  let v161_r0 : Index := Scalar.indexCast v150_r0
  let c0_130_r0 : Index := 0#32
  let c0_131_r0 : Index := 0#32
  ![v161_r0.toNat, 0, 0]

def k0_chk4 (arg9_r0 : BitVec 32) : Prop :=
  (∀ a, (k0_off23 arg9_r0) a + S1x1024x1024.size a ≤ S2x1024x1024.size a)
theorem k0_off23_inb : ∀ (arg9_r0 : BitVec 32) (k0_hw4 : k0_chk4 arg9_r0), ∀ a, (k0_off23 arg9_r0) a + S1x1024x1024.size a ≤ S2x1024x1024.size a := fun arg9_r0 k0_hw4 => k0_hw4

def k0_off24 (arg9_r0 : BitVec 32) : Fin 1 → Nat :=
  let c2_i32_154_r0 : BitVec 32 := 2#32
  let v214_r0 : BitVec 32 := Scalar.remui arg9_r0 c2_i32_154_r0
  ![v214_r0.toNat]
def k0_cond10 (k0_t1 : Fin k0_t1_loop.trips) (arg11_r0 : BitVec 32) : BitVec 1 :=
  let c0_i32_82_r0 : BitVec 32 := 0#32
  let v85_r0 : BitVec 32 := Scalar.addi arg11_r0 c0_i32_82_r0
  let true_89_r0 : BitVec 1 := 1#1
  let c1_i32_88_r0 : BitVec 32 := 1#32
  let v91_r0 : BitVec 32 := Scalar.addi arg11_r0 c1_i32_88_r0
  let v92_r0 : BitVec 32 := Scalar.select true_89_r0 v91_r0 arg11_r0
  let c64_i32_90_r0 : BitVec 32 := 64#32
  let v93_r0 : BitVec 1 := Scalar.cmpi .eq v92_r0 c64_i32_90_r0
  let c0_i32_91_r0 : BitVec 32 := 0#32
  let v94_r0 : BitVec 32 := Scalar.select v93_r0 c0_i32_91_r0 v92_r0
  let c0_i32_92_r0 : BitVec 32 := 0#32
  let v95_r0 : BitVec 32 := Scalar.addi v94_r0 c0_i32_92_r0
  let v175_r0 : BitVec 1 := Scalar.cmpi .ne v85_r0 v95_r0
  let c0_i32_48_r0 : BitVec 32 := 0#32
  let c1_i32_50_r0 : BitVec 32 := 1#32
  let arg4_r0 : BitVec 32 := Scf.iv c0_i32_48_r0 c1_i32_50_r0 k0_t1
  let c63_i32_81_r0 : BitVec 32 := 63#32
  let v84_r0 : BitVec 1 := Scalar.cmpi .eq arg4_r0 c63_i32_81_r0
  let v176_r0 : BitVec 1 := Scalar.ori v175_r0 v84_r0
  let v177_r0 : BitVec 32 := Scalar.extui v176_r0
  let c0_i32_135_r0 : BitVec 32 := 0#32
  let v178_r0 : BitVec 1 := Scalar.cmpi .ne v177_r0 c0_i32_135_r0
  v178_r0

def k0_off25 (arg11_r0 : BitVec 32) : Fin 2 → Nat :=
  let c1024_i32_155_r0 : BitVec 32 := 1024#32
  let c0_i32_82_r0 : BitVec 32 := 0#32
  let v85_r0 : BitVec 32 := Scalar.addi arg11_r0 c0_i32_82_r0
  let v215_r0 : BitVec 32 := Scalar.muli c1024_i32_155_r0 v85_r0
  let c0_i32_156_r0 : BitVec 32 := 0#32
  ![v215_r0.toNat, 0]
def k0_off26 (arg9_r0 : BitVec 32) : Fin 3 → Nat :=
  let c2_i32_154_r0 : BitVec 32 := 2#32
  let v214_r0 : BitVec 32 := Scalar.remui arg9_r0 c2_i32_154_r0
  let c0_i32_157_r0 : BitVec 32 := 0#32
  let c0_i32_158_r0 : BitVec 32 := 0#32
  ![v214_r0.toNat, 0, 0]
def k0_off27 (arg10_r0 : BitVec 32) : Fin 1 → Nat :=
  let c2_i32_154_r0 : BitVec 32 := 2#32
  let v214_r0 : BitVec 32 := Scalar.remui arg10_r0 c2_i32_154_r0
  ![v214_r0.toNat]
def k0_cond13 (k0_t1 : Fin k0_t1_loop.trips) (arg11_r0 : BitVec 32) : BitVec 1 :=
  let c0_i32_82_r0 : BitVec 32 := 0#32
  let v85_r0 : BitVec 32 := Scalar.addi arg11_r0 c0_i32_82_r0
  let true_84_r0 : BitVec 1 := 1#1
  let c1_i32_83_r0 : BitVec 32 := 1#32
  let v86_r0 : BitVec 32 := Scalar.subi arg11_r0 c1_i32_83_r0
  let v87_r0 : BitVec 32 := Scalar.select true_84_r0 v86_r0 arg11_r0
  let c_m1_i32_85_r0 : BitVec 32 := 4294967295#32
  let v88_r0 : BitVec 1 := Scalar.cmpi .eq v87_r0 c_m1_i32_85_r0
  let c63_i32_86_r0 : BitVec 32 := 63#32
  let v89_r0 : BitVec 32 := Scalar.select v88_r0 c63_i32_86_r0 v87_r0
  let c0_i32_87_r0 : BitVec 32 := 0#32
  let v90_r0 : BitVec 32 := Scalar.addi v89_r0 c0_i32_87_r0
  let v194_r0 : BitVec 1 := Scalar.cmpi .ne v85_r0 v90_r0
  let c0_i32_48_r0 : BitVec 32 := 0#32
  let c1_i32_50_r0 : BitVec 32 := 1#32
  let arg4_r0 : BitVec 32 := Scf.iv c0_i32_48_r0 c1_i32_50_r0 k0_t1
  let c0_i32_80_r0 : BitVec 32 := 0#32
  let v83_r0 : BitVec 1 := Scalar.cmpi .eq arg4_r0 c0_i32_80_r0
  let true_144_r0 : BitVec 1 := 1#1
  let v195_r0 : BitVec 1 := Scalar.xori v83_r0 true_144_r0
  let v196_r0 : BitVec 1 := Scalar.andi v194_r0 v195_r0
  let v197_r0 : BitVec 32 := Scalar.extui v196_r0
  let c0_i32_145_r0 : BitVec 32 := 0#32
  let v198_r0 : BitVec 1 := Scalar.cmpi .ne v197_r0 c0_i32_145_r0
  v198_r0

def k0_off28 (arg11_r0 : BitVec 32) : Fin 2 → Nat :=
  let c1024_i32_155_r0 : BitVec 32 := 1024#32
  let true_84_r0 : BitVec 1 := 1#1
  let c1_i32_83_r0 : BitVec 32 := 1#32
  let v86_r0 : BitVec 32 := Scalar.subi arg11_r0 c1_i32_83_r0
  let v87_r0 : BitVec 32 := Scalar.select true_84_r0 v86_r0 arg11_r0
  let c_m1_i32_85_r0 : BitVec 32 := 4294967295#32
  let v88_r0 : BitVec 1 := Scalar.cmpi .eq v87_r0 c_m1_i32_85_r0
  let c63_i32_86_r0 : BitVec 32 := 63#32
  let v89_r0 : BitVec 32 := Scalar.select v88_r0 c63_i32_86_r0 v87_r0
  let c0_i32_87_r0 : BitVec 32 := 0#32
  let v90_r0 : BitVec 32 := Scalar.addi v89_r0 c0_i32_87_r0
  let v215_r0 : BitVec 32 := Scalar.muli c1024_i32_155_r0 v90_r0
  let c0_i32_156_r0 : BitVec 32 := 0#32
  ![v215_r0.toNat, 0]
def k0_off29 (arg10_r0 : BitVec 32) : Fin 3 → Nat :=
  let c2_i32_154_r0 : BitVec 32 := 2#32
  let v214_r0 : BitVec 32 := Scalar.remui arg10_r0 c2_i32_154_r0
  let c0_i32_157_r0 : BitVec 32 := 0#32
  let c0_i32_158_r0 : BitVec 32 := 0#32
  ![v214_r0.toNat, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) : Prop :=
  (∀ (k0_h3 : k0_cond3 k0_t1 arg11_r0 = 1#1), ∀ a, (k0_off9 arg5_r0) a + S1.size a ≤ S3.size a) ∧
  (∀ (k0_h3 : k0_cond3 k0_t1 arg11_r0 = 1#1), ∀ a, (k0_off10 arg5_r0) a + S1x1024x1024.size a ≤ S3x1024x1024.size a) ∧
  (∀ (k0_h3 : k0_cond3 k0_t1 arg11_r0 = 1#1), ∀ a, (k0_off11 arg11_r0) a + S1024x1024.size a ≤ S65536x1024.size a) ∧
  (∀ (k0_h3 : k0_cond3 k0_t1 arg11_r0 = 1#1), ∀ (hinb : ∀ a, (k0_off11 arg11_r0) a + S1024x1024.size a ≤ S65536x1024.size a), (Rect.unit (s := S65536x1024) (k0_off11 arg11_r0) S1024x1024.size hinb).WholeWords (EltTy.packing .bf16)) ∧
  (∀ (k0_h3 : k0_cond3 k0_t1 arg11_r0 = 1#1), ∀ (hinb : ∀ a, (k0_off10 arg5_r0) a + S1x1024x1024.size a ≤ S3x1024x1024.size a), (Rect.unit (s := S3x1024x1024) (k0_off10 arg5_r0) S1x1024x1024.size hinb).WholeWords (EltTy.packing .bf16)) ∧
  (∀ (k0_h4 : k0_cond4 k0_t1 arg11_r0 = 1#1), ∀ a, (k0_off12 arg7_r0) a + S1.size a ≤ S3.size a) ∧
  (∀ (k0_h4 : k0_cond4 k0_t1 arg11_r0 = 1#1), ∀ a, (k0_off13 arg7_r0) a + S1x1024x1024.size a ≤ S3x1024x1024.size a) ∧
  (∀ (k0_h4 : k0_cond4 k0_t1 arg11_r0 = 1#1), ∀ a, (k0_off14 arg11_r0) a + S1024x1024.size a ≤ S65536x1024.size a) ∧
  (∀ (k0_h5 : k0_cond5 k0_t1 arg11_r0 = 1#1), ∀ a, (k0_off15 arg6_r0) a + S1.size a ≤ S3.size a) ∧
  (∀ (k0_h5 : k0_cond5 k0_t1 arg11_r0 = 1#1), ∀ a, (k0_off16 arg6_r0) a + S1x1024x1024.size a ≤ S3x1024x1024.size a) ∧
  (∀ (k0_h5 : k0_cond5 k0_t1 arg11_r0 = 1#1), ∀ a, (k0_off17 arg11_r0) a + S1024x1024.size a ≤ S65536x1024.size a) ∧
  (∀ (k0_h5 : k0_cond5 k0_t1 arg11_r0 = 1#1), ∀ (hinb : ∀ a, (k0_off17 arg11_r0) a + S1024x1024.size a ≤ S65536x1024.size a), (Rect.unit (s := S65536x1024) (k0_off17 arg11_r0) S1024x1024.size hinb).WholeWords (EltTy.packing .bf16)) ∧
  (∀ (k0_h5 : k0_cond5 k0_t1 arg11_r0 = 1#1), ∀ (hinb : ∀ a, (k0_off16 arg6_r0) a + S1x1024x1024.size a ≤ S3x1024x1024.size a), (Rect.unit (s := S3x1024x1024) (k0_off16 arg6_r0) S1x1024x1024.size hinb).WholeWords (EltTy.packing .bf16)) ∧
  (∀ (k0_h6 : k0_cond6 k0_t1 arg11_r0 = 1#1), ∀ a, (k0_off18 arg8_r0) a + S1.size a ≤ S3.size a) ∧
  (∀ (k0_h6 : k0_cond6 k0_t1 arg11_r0 = 1#1), ∀ a, (k0_off19 arg8_r0) a + S1x1024x1024.size a ≤ S3x1024x1024.size a) ∧
  (∀ (k0_h6 : k0_cond6 k0_t1 arg11_r0 = 1#1), ∀ a, (k0_off20 arg11_r0) a + S1024x1024.size a ≤ S65536x1024.size a) ∧
  (∀ (k0_h10 : k0_cond10 k0_t1 arg11_r0 = 1#1), ∀ a, (k0_off24 arg9_r0) a + S1.size a ≤ S2.size a) ∧
  (∀ (k0_h10 : k0_cond10 k0_t1 arg11_r0 = 1#1), ∀ a, (k0_off25 arg11_r0) a + S1024x1024.size a ≤ S65536x1024.size a) ∧
  (∀ (k0_h10 : k0_cond10 k0_t1 arg11_r0 = 1#1), ∀ a, (k0_off26 arg9_r0) a + S1x1024x1024.size a ≤ S2x1024x1024.size a) ∧
  (∀ (k0_h13 : k0_cond13 k0_t1 arg11_r0 = 1#1), ∀ a, (k0_off27 arg10_r0) a + S1.size a ≤ S2.size a) ∧
  (∀ (k0_h13 : k0_cond13 k0_t1 arg11_r0 = 1#1), ∀ a, (k0_off28 arg11_r0) a + S1024x1024.size a ≤ S65536x1024.size a) ∧
  (∀ (k0_h13 : k0_cond13 k0_t1 arg11_r0 = 1#1), ∀ a, (k0_off29 arg10_r0) a + S1x1024x1024.size a ≤ S2x1024x1024.size a)
theorem k0_off9_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h3 : k0_cond3 k0_t1 arg11_r0 = 1#1), ∀ a, (k0_off9 arg5_r0) a + S1.size a ≤ S3.size a := fun k0_t1 arg5_r0 arg6_r0 arg7_r0 arg8_r0 arg9_r0 arg10_r0 arg11_r0 k0_hw1 k0_h3 => k0_hw1.1 k0_h3
theorem k0_off10_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h3 : k0_cond3 k0_t1 arg11_r0 = 1#1), ∀ a, (k0_off10 arg5_r0) a + S1x1024x1024.size a ≤ S3x1024x1024.size a := fun k0_t1 arg5_r0 arg6_r0 arg7_r0 arg8_r0 arg9_r0 arg10_r0 arg11_r0 k0_hw1 k0_h3 => k0_hw1.2.1 k0_h3
theorem k0_off11_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h3 : k0_cond3 k0_t1 arg11_r0 = 1#1), ∀ a, (k0_off11 arg11_r0) a + S1024x1024.size a ≤ S65536x1024.size a := fun k0_t1 arg5_r0 arg6_r0 arg7_r0 arg8_r0 arg9_r0 arg10_r0 arg11_r0 k0_hw1 k0_h3 => k0_hw1.2.2.1 k0_h3
theorem k0_off11_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h3 : k0_cond3 k0_t1 arg11_r0 = 1#1), (Rect.unit (s := S65536x1024) (k0_off11 arg11_r0) S1024x1024.size (k0_off11_inb k0_t1 arg5_r0 arg6_r0 arg7_r0 arg8_r0 arg9_r0 arg10_r0 arg11_r0 k0_hw1 k0_h3)).WholeWords (EltTy.packing .bf16) := fun k0_t1 arg5_r0 arg6_r0 arg7_r0 arg8_r0 arg9_r0 arg10_r0 arg11_r0 k0_hw1 k0_h3 => k0_hw1.2.2.2.1 k0_h3 (k0_off11_inb k0_t1 arg5_r0 arg6_r0 arg7_r0 arg8_r0 arg9_r0 arg10_r0 arg11_r0 k0_hw1 k0_h3)
theorem k0_off10_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h3 : k0_cond3 k0_t1 arg11_r0 = 1#1), (Rect.unit (s := S3x1024x1024) (k0_off10 arg5_r0) S1x1024x1024.size (k0_off10_inb k0_t1 arg5_r0 arg6_r0 arg7_r0 arg8_r0 arg9_r0 arg10_r0 arg11_r0 k0_hw1 k0_h3)).WholeWords (EltTy.packing .bf16) := fun k0_t1 arg5_r0 arg6_r0 arg7_r0 arg8_r0 arg9_r0 arg10_r0 arg11_r0 k0_hw1 k0_h3 => k0_hw1.2.2.2.2.1 k0_h3 (k0_off10_inb k0_t1 arg5_r0 arg6_r0 arg7_r0 arg8_r0 arg9_r0 arg10_r0 arg11_r0 k0_hw1 k0_h3)
theorem k0_off12_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h4 : k0_cond4 k0_t1 arg11_r0 = 1#1), ∀ a, (k0_off12 arg7_r0) a + S1.size a ≤ S3.size a := fun k0_t1 arg5_r0 arg6_r0 arg7_r0 arg8_r0 arg9_r0 arg10_r0 arg11_r0 k0_hw1 k0_h4 => k0_hw1.2.2.2.2.2.1 k0_h4
theorem k0_off13_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h4 : k0_cond4 k0_t1 arg11_r0 = 1#1), ∀ a, (k0_off13 arg7_r0) a + S1x1024x1024.size a ≤ S3x1024x1024.size a := fun k0_t1 arg5_r0 arg6_r0 arg7_r0 arg8_r0 arg9_r0 arg10_r0 arg11_r0 k0_hw1 k0_h4 => k0_hw1.2.2.2.2.2.2.1 k0_h4
theorem k0_off14_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h4 : k0_cond4 k0_t1 arg11_r0 = 1#1), ∀ a, (k0_off14 arg11_r0) a + S1024x1024.size a ≤ S65536x1024.size a := fun k0_t1 arg5_r0 arg6_r0 arg7_r0 arg8_r0 arg9_r0 arg10_r0 arg11_r0 k0_hw1 k0_h4 => k0_hw1.2.2.2.2.2.2.2.1 k0_h4
theorem k0_off15_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h5 : k0_cond5 k0_t1 arg11_r0 = 1#1), ∀ a, (k0_off15 arg6_r0) a + S1.size a ≤ S3.size a := fun k0_t1 arg5_r0 arg6_r0 arg7_r0 arg8_r0 arg9_r0 arg10_r0 arg11_r0 k0_hw1 k0_h5 => k0_hw1.2.2.2.2.2.2.2.2.1 k0_h5
theorem k0_off16_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h5 : k0_cond5 k0_t1 arg11_r0 = 1#1), ∀ a, (k0_off16 arg6_r0) a + S1x1024x1024.size a ≤ S3x1024x1024.size a := fun k0_t1 arg5_r0 arg6_r0 arg7_r0 arg8_r0 arg9_r0 arg10_r0 arg11_r0 k0_hw1 k0_h5 => k0_hw1.2.2.2.2.2.2.2.2.2.1 k0_h5
theorem k0_off17_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h5 : k0_cond5 k0_t1 arg11_r0 = 1#1), ∀ a, (k0_off17 arg11_r0) a + S1024x1024.size a ≤ S65536x1024.size a := fun k0_t1 arg5_r0 arg6_r0 arg7_r0 arg8_r0 arg9_r0 arg10_r0 arg11_r0 k0_hw1 k0_h5 => k0_hw1.2.2.2.2.2.2.2.2.2.2.1 k0_h5
theorem k0_off17_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h5 : k0_cond5 k0_t1 arg11_r0 = 1#1), (Rect.unit (s := S65536x1024) (k0_off17 arg11_r0) S1024x1024.size (k0_off17_inb k0_t1 arg5_r0 arg6_r0 arg7_r0 arg8_r0 arg9_r0 arg10_r0 arg11_r0 k0_hw1 k0_h5)).WholeWords (EltTy.packing .bf16) := fun k0_t1 arg5_r0 arg6_r0 arg7_r0 arg8_r0 arg9_r0 arg10_r0 arg11_r0 k0_hw1 k0_h5 => k0_hw1.2.2.2.2.2.2.2.2.2.2.2.1 k0_h5 (k0_off17_inb k0_t1 arg5_r0 arg6_r0 arg7_r0 arg8_r0 arg9_r0 arg10_r0 arg11_r0 k0_hw1 k0_h5)
theorem k0_off16_wordsbf16 : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h5 : k0_cond5 k0_t1 arg11_r0 = 1#1), (Rect.unit (s := S3x1024x1024) (k0_off16 arg6_r0) S1x1024x1024.size (k0_off16_inb k0_t1 arg5_r0 arg6_r0 arg7_r0 arg8_r0 arg9_r0 arg10_r0 arg11_r0 k0_hw1 k0_h5)).WholeWords (EltTy.packing .bf16) := fun k0_t1 arg5_r0 arg6_r0 arg7_r0 arg8_r0 arg9_r0 arg10_r0 arg11_r0 k0_hw1 k0_h5 => k0_hw1.2.2.2.2.2.2.2.2.2.2.2.2.1 k0_h5 (k0_off16_inb k0_t1 arg5_r0 arg6_r0 arg7_r0 arg8_r0 arg9_r0 arg10_r0 arg11_r0 k0_hw1 k0_h5)
theorem k0_off18_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h6 : k0_cond6 k0_t1 arg11_r0 = 1#1), ∀ a, (k0_off18 arg8_r0) a + S1.size a ≤ S3.size a := fun k0_t1 arg5_r0 arg6_r0 arg7_r0 arg8_r0 arg9_r0 arg10_r0 arg11_r0 k0_hw1 k0_h6 => k0_hw1.2.2.2.2.2.2.2.2.2.2.2.2.2.1 k0_h6
theorem k0_off19_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h6 : k0_cond6 k0_t1 arg11_r0 = 1#1), ∀ a, (k0_off19 arg8_r0) a + S1x1024x1024.size a ≤ S3x1024x1024.size a := fun k0_t1 arg5_r0 arg6_r0 arg7_r0 arg8_r0 arg9_r0 arg10_r0 arg11_r0 k0_hw1 k0_h6 => k0_hw1.2.2.2.2.2.2.2.2.2.2.2.2.2.2.1 k0_h6
theorem k0_off20_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h6 : k0_cond6 k0_t1 arg11_r0 = 1#1), ∀ a, (k0_off20 arg11_r0) a + S1024x1024.size a ≤ S65536x1024.size a := fun k0_t1 arg5_r0 arg6_r0 arg7_r0 arg8_r0 arg9_r0 arg10_r0 arg11_r0 k0_hw1 k0_h6 => k0_hw1.2.2.2.2.2.2.2.2.2.2.2.2.2.2.2.1 k0_h6
theorem k0_off24_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h10 : k0_cond10 k0_t1 arg11_r0 = 1#1), ∀ a, (k0_off24 arg9_r0) a + S1.size a ≤ S2.size a := fun k0_t1 arg5_r0 arg6_r0 arg7_r0 arg8_r0 arg9_r0 arg10_r0 arg11_r0 k0_hw1 k0_h10 => k0_hw1.2.2.2.2.2.2.2.2.2.2.2.2.2.2.2.2.1 k0_h10
theorem k0_off25_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h10 : k0_cond10 k0_t1 arg11_r0 = 1#1), ∀ a, (k0_off25 arg11_r0) a + S1024x1024.size a ≤ S65536x1024.size a := fun k0_t1 arg5_r0 arg6_r0 arg7_r0 arg8_r0 arg9_r0 arg10_r0 arg11_r0 k0_hw1 k0_h10 => k0_hw1.2.2.2.2.2.2.2.2.2.2.2.2.2.2.2.2.2.1 k0_h10
theorem k0_off26_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h10 : k0_cond10 k0_t1 arg11_r0 = 1#1), ∀ a, (k0_off26 arg9_r0) a + S1x1024x1024.size a ≤ S2x1024x1024.size a := fun k0_t1 arg5_r0 arg6_r0 arg7_r0 arg8_r0 arg9_r0 arg10_r0 arg11_r0 k0_hw1 k0_h10 => k0_hw1.2.2.2.2.2.2.2.2.2.2.2.2.2.2.2.2.2.2.1 k0_h10
theorem k0_off27_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h13 : k0_cond13 k0_t1 arg11_r0 = 1#1), ∀ a, (k0_off27 arg10_r0) a + S1.size a ≤ S2.size a := fun k0_t1 arg5_r0 arg6_r0 arg7_r0 arg8_r0 arg9_r0 arg10_r0 arg11_r0 k0_hw1 k0_h13 => k0_hw1.2.2.2.2.2.2.2.2.2.2.2.2.2.2.2.2.2.2.2.1 k0_h13
theorem k0_off28_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h13 : k0_cond13 k0_t1 arg11_r0 = 1#1), ∀ a, (k0_off28 arg11_r0) a + S1024x1024.size a ≤ S65536x1024.size a := fun k0_t1 arg5_r0 arg6_r0 arg7_r0 arg8_r0 arg9_r0 arg10_r0 arg11_r0 k0_hw1 k0_h13 => k0_hw1.2.2.2.2.2.2.2.2.2.2.2.2.2.2.2.2.2.2.2.2.1 k0_h13
theorem k0_off29_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h13 : k0_cond13 k0_t1 arg11_r0 = 1#1), ∀ a, (k0_off29 arg10_r0) a + S1x1024x1024.size a ≤ S2x1024x1024.size a := fun k0_t1 arg5_r0 arg6_r0 arg7_r0 arg8_r0 arg9_r0 arg10_r0 arg11_r0 k0_hw1 k0_h13 => k0_hw1.2.2.2.2.2.2.2.2.2.2.2.2.2.2.2.2.2.2.2.2.2 k0_h13

def k0_off30 (v50_5_r0 : BitVec 32) : Fin 1 → Nat :=
  let c2_i32_r0 : BitVec 32 := 2#32
  let v76_r0 : BitVec 32 := Scalar.remui v50_5_r0 c2_i32_r0
  ![v76_r0.toNat]

def k0_off31 (v50_6_r0 : BitVec 32) : Fin 2 → Nat :=
  let c1024_i32_r0 : BitVec 32 := 1024#32
  let true_53_r0 : BitVec 1 := 1#1
  let c1_i32_52_r0 : BitVec 32 := 1#32
  let v51_r0 : BitVec 32 := Scalar.subi v50_6_r0 c1_i32_52_r0
  let v52_r0 : BitVec 32 := Scalar.select true_53_r0 v51_r0 v50_6_r0
  let c_m1_i32_54_r0 : BitVec 32 := 4294967295#32
  let v53_r0 : BitVec 1 := Scalar.cmpi .eq v52_r0 c_m1_i32_54_r0
  let c63_i32_55_r0 : BitVec 32 := 63#32
  let v54_r0 : BitVec 32 := Scalar.select v53_r0 c63_i32_55_r0 v52_r0
  let c0_i32_56_r0 : BitVec 32 := 0#32
  let v55_r0 : BitVec 32 := Scalar.addi v54_r0 c0_i32_56_r0
  let v77_r0 : BitVec 32 := Scalar.muli c1024_i32_r0 v55_r0
  let c0_i32_77_r0 : BitVec 32 := 0#32
  ![v77_r0.toNat, 0]

def k0_chk6 (v50_6_r0 : BitVec 32) : Prop :=
  (∀ a, (k0_off31 v50_6_r0) a + S1024x1024.size a ≤ S65536x1024.size a)
theorem k0_off31_inb : ∀ (v50_6_r0 : BitVec 32) (k0_hw6 : k0_chk6 v50_6_r0), ∀ a, (k0_off31 v50_6_r0) a + S1024x1024.size a ≤ S65536x1024.size a := fun v50_6_r0 k0_hw6 => k0_hw6

def k0_off32 (v50_5_r0 : BitVec 32) : Fin 3 → Nat :=
  let c2_i32_r0 : BitVec 32 := 2#32
  let v76_r0 : BitVec 32 := Scalar.remui v50_5_r0 c2_i32_r0
  let c0_i32_78_r0 : BitVec 32 := 0#32
  let c0_i32_79_r0 : BitVec 32 := 0#32
  ![v76_r0.toNat, 0, 0]

def k0_chk5 (v50_5_r0 : BitVec 32) : Prop :=
  (∀ a, (k0_off30 v50_5_r0) a + S1.size a ≤ S2.size a) ∧
  (∀ a, (k0_off32 v50_5_r0) a + S1x1024x1024.size a ≤ S2x1024x1024.size a)
theorem k0_off30_inb : ∀ (v50_5_r0 : BitVec 32) (k0_hw5 : k0_chk5 v50_5_r0), ∀ a, (k0_off30 v50_5_r0) a + S1.size a ≤ S2.size a := fun v50_5_r0 k0_hw5 => k0_hw5.1
theorem k0_off32_inb : ∀ (v50_5_r0 : BitVec 32) (k0_hw5 : k0_chk5 v50_5_r0), ∀ a, (k0_off32 v50_5_r0) a + S1x1024x1024.size a ≤ S2x1024x1024.size a := fun v50_5_r0 k0_hw5 => k0_hw5.2

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32x2048x1024 : Shape := ⟨3, ![32, 2048, 1024]⟩
abbrev S1024x1024 : Shape := ⟨2, ![1024, 1024]⟩
abbrev S65536x1024 : Shape := ⟨2, ![65536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .f32⟩
  | .hbm, ⟨2, _⟩ => ⟨S1024x1024, .f32⟩
  | .hbm, ⟨3, _⟩ => ⟨S32x2048x1024, .f32⟩
  | .hbm, ⟨4, _⟩ => ⟨S32x2048x1024, .f32⟩
  | .hbm, ⟨5, _⟩ => ⟨S32x2048x1024, .f32⟩
  | .hbm, ⟨6, _⟩ => ⟨S65536x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x4096 : Shape := ⟨2, ![1024, 4096]⟩
abbrev S64 : Shape := ⟨1, ![64]⟩
abbrev S65536x1024 : Shape := ⟨2, ![65536, 1024]⟩
abbrev S128 : Shape := ⟨1, ![128]⟩
abbrev S1x128 : Shape := ⟨2, ![1, 128]⟩
abbrev S1x1024 : Shape := ⟨2, ![1, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S4096x48 : Shape := ⟨2, ![4096, 48]⟩
abbrev S4096x64 : Shape := ⟨2, ![4096, 64]⟩
abbrev S1x64 : Shape := ⟨2, ![1, 64]⟩
abbrev S4096x128 : Shape := ⟨2, ![4096, 128]⟩
abbrev S1024x1024 : Shape := ⟨2, ![1024, 1024]⟩
abbrev S1024x128 : Shape := ⟨2, ![1024, 128]⟩
abbrev S1024x1 : Shape := ⟨2, ![1024, 1]⟩
abbrev S1024x256 : Shape := ⟨2, ![1024, 256]⟩
abbrev S1024x512 : Shape := ⟨2, ![1024, 512]⟩

abbrev nBuf : Space → Nat
  | .hbm => 121
  | .vmem => 21
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S65536x1024, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S1x1024, .f32⟩
  | .hbm, ⟨11, _⟩ => ⟨S1024x4096, .bf16⟩
  | .hbm, ⟨12, _⟩ => ⟨S256, .i32⟩
  | .hbm, ⟨13, _⟩ => ⟨S256x1, .i32⟩
  | .hbm, ⟨14, _⟩ => ⟨S_, .i32⟩
  | .hbm, ⟨15, _⟩ => ⟨S_, .i32⟩
  | .hbm, ⟨16, _⟩ => ⟨S256x1, .i32⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i32⟩
  | .hbm, ⟨42, _⟩ => ⟨S1x256, .i32⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x256, .i1⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S256x256, .bf16⟩
  | .hbm, ⟨60, _⟩ => ⟨S4096, .f32⟩
  | .hbm, ⟨61, _⟩ => ⟨S64, .i32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S4096x1, .f32⟩
  | .hbm, ⟨77, _⟩ => ⟨S1x8, .f32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S4096x16, .f32⟩
  | .hbm, ⟨82, _⟩ => ⟨S_, .f32⟩
  | .hbm, ⟨83, _⟩ => ⟨S4096x48, .f32⟩
  | .hbm, ⟨84, _⟩ => ⟨S4096x16, .f32⟩
  | .hbm, ⟨85, _⟩ => ⟨S_, .f32⟩
  | .hbm, ⟨86, _⟩ => ⟨S4096x48, .f32⟩
  | .hbm, ⟨87, _⟩ => ⟨S4096x48, .f32⟩
  | .hbm, ⟨88, _⟩ => ⟨S4096x64, .f32⟩
  | .hbm, ⟨89, _⟩ => ⟨S4096x16, .f32⟩
  | .hbm, ⟨90, _⟩ => ⟨S4096x64, .f32⟩
  | .hbm, ⟨91, _⟩ => ⟨S_, .i32⟩
  | .hbm, ⟨92, _⟩ => ⟨S64, .i32⟩
  | .hbm, ⟨93, _⟩ => ⟨S64, .i1⟩
  | .hbm, ⟨94, _⟩ => ⟨S_, .i32⟩
  | .hbm, ⟨95, _⟩ => ⟨S64, .i32⟩
  | .hbm, ⟨96, _⟩ => ⟨S64, .i1⟩
  | .hbm, ⟨97, _⟩ => ⟨S_, .i32⟩
  | .hbm, ⟨98, _⟩ => ⟨S64, .i32⟩
  | .hbm, ⟨99, _⟩ => ⟨S64, .i1⟩
  | .hbm, ⟨100, _⟩ => ⟨S64, .i1⟩
  | .hbm, ⟨101, _⟩ => ⟨S1x64, .i1⟩
  | .hbm, ⟨102, _⟩ => ⟨S4096x64, .f32⟩
  | .hbm, ⟨103, _⟩ => ⟨S_, .f32⟩
  | .hbm, ⟨104, _⟩ => ⟨S_, .f32⟩
  | .hbm, ⟨105, _⟩ => ⟨S4096x64, .i1⟩
  | .hbm, ⟨106, _⟩ => ⟨S4096x64, .f32⟩
  | .hbm, ⟨107, _⟩ => ⟨S4096x64, .f32⟩
  | .hbm, ⟨108, _⟩ => ⟨S1x64, .i1⟩
  | .hbm, ⟨109, _⟩ => ⟨S_, .f32⟩
  | .hbm, ⟨110, _⟩ => ⟨S_, .f32⟩
  | .hbm, ⟨111, _⟩ => ⟨S4096x64, .i1⟩
  | .hbm, ⟨112, _⟩ => ⟨S4096x64, .f32⟩
  | .hbm, ⟨113, _⟩ => ⟨S4096x64, .f32⟩
  | .hbm, ⟨114, _⟩ => ⟨S4096x128, .f32⟩
  | .hbm, ⟨115, _⟩ => ⟨S4096x128, .f32⟩
  | .hbm, ⟨116, _⟩ => ⟨S4096x128, .f32⟩
  | .hbm, ⟨117, _⟩ => ⟨S65536x1024, .bf16⟩
  | .hbm, ⟨118, _⟩ => ⟨S65536x1024, .bf16⟩
  | .hbm, ⟨119, _⟩ => ⟨S65536x1024, .bf16⟩
  | .hbm, ⟨120, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S256x256, .bf16⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_4 : Ref sig .tc := ⟨.hbm, 70, rfl⟩
abbrev main_v25 : Ref sig .tc := ⟨.hbm, 71, rfl⟩
abbrev main_v26 : Ref sig .tc := ⟨.hbm, 72, rfl⟩
abbrev main_cst_5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_6 : Ref sig .tc := ⟨.hbm, 82, rfl⟩
abbrev main_v35 : Ref sig .tc := ⟨.hbm, 83, rfl⟩
abbrev main_v36 : Ref sig .tc := ⟨.hbm, 84, rfl⟩
abbrev main_cst_7 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_c_8 : Ref sig .tc := ⟨.hbm, 91, rfl⟩
abbrev main_v42 : Ref sig .tc := ⟨.hbm, 92, rfl⟩
abbrev main_v43 : Ref sig .tc := ⟨.hbm, 93, rfl⟩
abbrev main_c_9 : Ref sig .tc := ⟨.hbm, 94, rfl⟩
abbrev main_v44 : Ref sig .tc := ⟨.hbm, 95, rfl⟩
abbrev main_v45 : Ref sig .tc := ⟨.hbm, 96, rfl⟩
abbrev main_c_10 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_11 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v51 : Ref sig .tc := ⟨.hbm, 107, rfl⟩
abbrev main_v52 : Ref sig .tc := ⟨.hbm, 108, rfl⟩
abbrev main_cst_12 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57_0 : Ref sig .tc := ⟨.hbm, 117, rfl⟩
abbrev main_v57_1 : Ref sig .tc := ⟨.hbm, 118, rfl⟩
abbrev main_v57_2 : Ref sig .tc := ⟨.hbm, 119, rfl⟩
abbrev main_v57_3 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32x2048x1024 : Shape := ⟨3, ![32, 2048, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S32x2048x16x64 : Shape := ⟨4, ![32, 2048, 16, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S1x2048x1x16 : Shape := ⟨4, ![1, 2048, 1, 16]⟩
abbrev S32x2048x16x16 : Shape := ⟨4, ![32, 2048, 16, 16]⟩
abbrev S32x2048x16x8 : Shape := ⟨4, ![32, 2048, 16, 8]⟩
abbrev S32x2048x16x48 : Shape := ⟨4, ![32, 2048, 16, 48]⟩
abbrev S65536x1024 : Shape := ⟨2, ![65536, 1024]⟩

abbrev nBuf : Space → Nat
  | .hbm => 152
  | .vmem => 0
  | .smem => 0
  | _ => 0

abbrev hbmTy0_0 (i : Nat) : BufTy := match i % 128 with
  | 0 => ⟨S32x2048x1024, .f32⟩
  | 1 => ⟨S1024, .f32⟩
  | 2 => ⟨S1024x4096, .f32⟩
  | 3 => ⟨S64, .f32⟩
  | 4 => ⟨S64, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1x1x1024, .f32⟩
  | 19 => ⟨S32x2048x1024, .f32⟩
  | 20 => ⟨S32x2048x1024, .f32⟩
  | 21 => ⟨S32x2048x4096, .f32⟩
  | 22 => ⟨S32x2048x1024, .f32⟩
  | 23 => ⟨S32x2048x1024, .f32⟩
  | 24 => ⟨S32x2048x1024, .f32⟩
  | 25 => ⟨S32x2048x1024, .f32⟩
  | 26 => ⟨S32x2048x16x64, .f32⟩
  | 27 => ⟨S32x2048x16x64, .f32⟩
  | 28 => ⟨S_, .f32⟩
  | 29 => ⟨S32x2048x16, .f32⟩
  | 30 => ⟨S32x2048x16x1, .f32⟩
  | 31 => ⟨S_, .f32⟩
  | 32 => ⟨S32x2048x16x1, .f32⟩
  | 33 => ⟨S32x2048x16x1, .f32⟩
  | 34 => ⟨S_, .f32⟩
  | 35 => ⟨S32x2048x16x1, .f32⟩
  | 36 => ⟨S32x2048x16x1, .f32⟩
  | 37 => ⟨S32x2048x16x1, .f32⟩
  | 38 => ⟨S32x2048x16x64, .f32⟩
  | 39 => ⟨S32x2048x16x64, .f32⟩
  | 40 => ⟨S1x1x1x64, .f32⟩
  | 41 => ⟨S32x2048x16x64, .f32⟩
  | 42 => ⟨S32x2048x16x64, .f32⟩
  | 43 => ⟨S2048, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S2048x1, .f32⟩
  | 59 => ⟨S1x8, .f32⟩
  | 60 => ⟨S2048x8, .f32⟩
  | 61 => ⟨S2048x8, .f32⟩
  | 62 => ⟨S2048x8, .f32⟩
  | 63 => ⟨S2048x16, .f32⟩
  | 64 => ⟨S1x2048x1x16, .f32⟩
  | 65 => ⟨S32x2048x16x16, .f32⟩
  | 66 => ⟨S32x2048x16x8, .f32⟩
  | 67 => ⟨S32x2048x16x8, .f32⟩
  | 68 => ⟨S1x2048x1x16, .f32⟩
  | 69 => ⟨S32x2048x16x16, .f32⟩
  | 70 => ⟨S32x2048x16x16, .f32⟩
  | 71 => ⟨S32x2048x16x8, .f32⟩
  | 72 => ⟨S32x2048x16x16, .f32⟩
  | 73 => ⟨S1x2048x1x16, .f32⟩
  | 74 => ⟨S32x2048x16x16, .f32⟩
  | 75 => ⟨S32x2048x16x16, .f32⟩
  | 76 => ⟨S32x2048x16x16, .f32⟩
  | 77 => ⟨S32x2048x16x48, .f32⟩
  | 78 => ⟨S32x2048x16x64, .f32⟩
  | 79 => ⟨S_, .f32⟩
  | 80 => ⟨S32x2048x16x64, .f32⟩
  | 81 => ⟨S32x2048x16x64, .f32⟩
  | 82 => ⟨S32x2048x16x64, .f32⟩
  | 83 => ⟨S32x2048x16x64, .f32⟩
  | 84 => ⟨S_, .f32⟩
  | 85 => ⟨S32x2048x16, .f32⟩
  | 86 => ⟨S32x2048x16x1, .f32⟩
  | 87 => ⟨S_, .f32⟩
  | 88 => ⟨S32x2048x16x1, .f32⟩
  | 89 => ⟨S32x2048x16x1, .f32⟩
  | 90 => ⟨S_, .f32⟩
  | 91 => ⟨S32x2048x16x1, .f32⟩
  | 92 => ⟨S32x2048x16x1, .f32⟩
  | 93 => ⟨S32x2048x16x1, .f32⟩
  | 94 => ⟨S32x2048x16x64, .f32⟩
  | 95 => ⟨S32x2048x16x64, .f32⟩
  | 96 => ⟨S1x1x1x64, .f32⟩
  | 97 => ⟨S32x2048x16x64, .f32⟩
  | 98 => ⟨S32x2048x16x64, .f32⟩
  | 99 => ⟨S2048, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S2048x1, .f32⟩
  | 115 => ⟨S1x8, .f32⟩
  | 116 => ⟨S2048x8, .f32⟩
  | 117 => ⟨S2048x8, .f32⟩
  | 118 => ⟨S2048x8, .f32⟩
  | 119 => ⟨S2048x16, .f32⟩
  | 120 => ⟨S1x2048x1x16, .f32⟩
  | 121 => ⟨S32x2048x16x16, .f32⟩
  | 122 => ⟨S32x2048x16x8, .f32⟩
  | 123 => ⟨S32x2048x16x8, .f32⟩
  | 124 => ⟨S1x2048x1x16, .f32⟩
  | 125 => ⟨S32x2048x16x16, .f32⟩
  | 126 => ⟨S32x2048x16x16, .f32⟩
  | 127 => ⟨S32x2048x16x8, .f32⟩
  | _ => ⟨S32x2048x1024, .f32⟩

abbrev hbmTy0_1 (i : Nat) : BufTy := match i % 128 with
  | 0 => ⟨S32x2048x16x16, .f32⟩
  | 1 => ⟨S1x2048x1x16, .f32⟩
  | 2 => ⟨S32x2048x16x16, .f32⟩
  | 3 => ⟨S32x2048x16x16, .f32⟩
  | 4 => ⟨S32x2048x16x16, .f32⟩
  | 5 => ⟨S32x2048x16x48, .f32⟩
  | 6 => ⟨S32x2048x16x64, .f32⟩
  | 7 => ⟨S32x2048x1024, .f32⟩
  | 8 => ⟨S32x2048x1024, .f32⟩
  | 9 => ⟨S_, .f32⟩
  | 10 => ⟨S32x2048x1024, .f32⟩
  | 11 => ⟨S32x2048x1024, .f32⟩
  | 12 => ⟨S_, .f32⟩
  | 13 => ⟨S32x2048x1024, .f32⟩
  | 14 => ⟨S32x2048x1024, .f32⟩
  | 15 => ⟨S32x2048x1024, .f32⟩
  | 16 => ⟨S65536x1024, .f32⟩
  | 17 => ⟨S65536x1024, .bf16⟩
  | 18 => ⟨S65536x1024, .f32⟩
  | 19 => ⟨S65536x1024, .bf16⟩
  | 20 => ⟨S65536x1024, .f32⟩
  | 21 => ⟨S65536x1024, .bf16⟩
  | 22 => ⟨S65536x1024, .f32⟩
  | 23 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_15 : Ref sig .tc := ⟨.hbm, 108, rfl⟩
abbrev main_v87 : Ref sig .tc := ⟨.hbm, 109, rfl⟩
abbrev main_v88 : Ref sig .tc := ⟨.hbm, 110, rfl⟩
abbrev main_cst_16 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_call0_v0 : Ref sig .tc := ⟨.hbm, 135, rfl⟩
abbrev main_call0_v1 : Ref sig .tc := ⟨.hbm, 136, rfl⟩
abbrev main_call0_cst : Ref sig .tc := ⟨.hbm, 137, rfl⟩
abbrev main_call0_v2 : Ref sig .tc := ⟨.hbm, 138, rfl⟩
abbrev main_call0_v3 : Ref sig .tc := ⟨.hbm, 139, rfl⟩
abbrev main_call0_cst_0 : Ref sig .tc := ⟨.hbm, 140, rfl⟩
abbrev main_call0_v4 : Ref sig .tc := ⟨.hbm, 141, rfl⟩
abbrev main_call0_v5 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩

abbrev nD : Nat := 1
abbrev τ : Topo := Topo.v7x

variable {F : FTy → Type} [FloatOps F]
-- ==== Kernel3.lean ====
abbrev S32x2048x1024 : Shape := ⟨3, ![32, 2048, 1024]⟩
abbrev S65536x512 : Shape := ⟨2, ![65536, 512]⟩
abbrev S65536x128 : Shape := ⟨2, ![65536, 128]⟩
abbrev S65536x1024 : Shape := ⟨2, ![65536, 1024]⟩
abbrev S1024x1024 : Shape := ⟨2, ![1024, 1024]⟩
abbrev S64 : Shape := ⟨1, ![64]⟩
abbrev S128 : Shape := ⟨1, ![128]⟩
abbrev S32x2048x2x64 : Shape := ⟨4, ![32, 2048, 2, 64]⟩
abbrev S32x2x64x2048 : Shape := ⟨4, ![32, 2, 64, 2048]⟩
abbrev S_ : Shape := ⟨0, ![]⟩
abbrev S32x2x128x2048 : Shape := ⟨4, ![32, 2, 128, 2048]⟩
abbrev S32x2048x4x128 : Shape := ⟨4, ![32, 2048, 4, 128]⟩
abbrev S32x4x128x2048 : Shape := ⟨4, ![32, 4, 128, 2048]⟩
abbrev S1x64 : Shape := ⟨2, ![1, 64]⟩
abbrev S1x128 : Shape := ⟨2, ![1, 128]⟩
abbrev S32x2048x512 : Shape := ⟨3, ![32, 2048, 512]⟩
abbrev S32x2048x128 : Shape := ⟨3, ![32, 2048, 128]⟩
abbrev S1x512x512 : Shape := ⟨3, ![1, 512, 512]⟩
abbrev S1x512x1024 : Shape := ⟨3, ![1, 512, 1024]⟩
abbrev S1x2048x128 : Shape := ⟨3, ![1, 2048, 128]⟩
abbrev S1x2x128x2048 : Shape := ⟨4, ![1, 2, 128, 2048]⟩
abbrev S1x2048x512 : Shape := ⟨3, ![1, 2048, 512]⟩
abbrev S1x4x128x2048 : Shape := ⟨4, ![1, 4, 128, 2048]⟩
abbrev S1 : Shape := ⟨1, ![1]⟩
abbrev S1x1 : Shape := ⟨2, ![1, 1]⟩
abbrev S1x2048x64 : Shape := ⟨3, ![1, 2048, 64]⟩
abbrev S2048x64 : Shape := ⟨2, ![2048, 64]⟩
abbrev S1x1x128x2048 : Shape := ⟨4, ![1, 1, 128, 2048]⟩
abbrev S128x2048 : Shape := ⟨2, ![128, 2048]⟩
abbrev S1x512x64 : Shape := ⟨3, ![1, 512, 64]⟩
abbrev S512x64 : Shape := ⟨2, ![512, 64]⟩
abbrev S2048x512 : Shape := ⟨2, ![2048, 512]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1024x512 : Shape := ⟨2, ![1024, 512]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 33
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x128, .bf16⟩
  | .hbm, ⟨3, _⟩ => ⟨S65536x128, .bf16⟩
  | .hbm, ⟨4, _⟩ => ⟨S65536x512, .bf16⟩
  | .hbm, ⟨5, _⟩ => ⟨S65536x512, .bf16⟩
  | .hbm, ⟨6, _⟩ => ⟨S65536x512, .bf16⟩
  | .hbm, ⟨7, _⟩ => ⟨S65536x1024, .bf16⟩
  | .hbm, ⟨8, _⟩ => ⟨S1024x1024, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S32x2048x2x64, .bf16⟩
  | .hbm, ⟨15, _⟩ => ⟨S32x2x64x2048, .bf16⟩
  | .hbm, ⟨16, _⟩ => ⟨S_, .bf16⟩
  | .hbm, ⟨17, _⟩ => ⟨S32x2x64x2048, .bf16⟩
  | .hbm, ⟨18, _⟩ => ⟨S32x2x128x2048, .bf16⟩
  | .hbm, ⟨19, _⟩ => ⟨S32x2048x4x128, .bf16⟩
  | .hbm, ⟨20, _⟩ => ⟨S32x4x128x2048, .bf16⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1024x1024, .bf16⟩
  | .hbm, ⟨26, _⟩ => ⟨S1x128, .f32⟩
  | .hbm, ⟨27, _⟩ => ⟨S32x2048x512, .bf16⟩
  | .hbm, ⟨28, _⟩ => ⟨S32x2048x128, .bf16⟩
  | .hbm, ⟨29, _⟩ => ⟨S32x2048x512, .bf16⟩
  | .hbm, ⟨30, _⟩ => ⟨S32x2048x512, .bf16⟩
  | .hbm, ⟨31, _⟩ => ⟨S32x2048x1024, .bf16⟩
  | .hbm, ⟨32, _⟩ => ⟨S32x2048x1024, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x2048x128, .bf16⟩
  | .local _ .vmem, ⟨14, _⟩ => ⟨S1x2048x128, .bf16⟩
  | .local _ .vmem, ⟨15, _⟩ => ⟨S1x2x128x2048, .bf16⟩
  | .local _ .vmem, ⟨16, _⟩ => ⟨S1x2x128x2048, .bf16⟩
  | .local _ .vmem, ⟨17, _⟩ => ⟨S1x2048x512, .bf16⟩
  | .local _ .vmem, ⟨18, _⟩ => ⟨S1x2048x512, .bf16⟩
  | .local _ .vmem, ⟨19, _⟩ => ⟨S1x4x128x2048, .bf16⟩
  | .local _ .vmem, ⟨20, _⟩ => ⟨S1x4x128x2048, .bf16⟩
  | .local _ .vmem, ⟨21, _⟩ => ⟨S1024x1024, .bf16⟩
  | .local _ .vmem, ⟨22, _⟩ => ⟨S1x512x1024, .f32⟩
  | .local _ .vmem, ⟨23, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S32x2048x1024 : Shape := ⟨3, ![32, 2048, 1024]⟩
abbrev S65536x512 : Shape := ⟨2, ![65536, 512]⟩
abbrev S65536x128 : Shape := ⟨2, ![65536, 128]⟩
abbrev S65536x1024 : Shape := ⟨2, ![65536, 1024]⟩
abbrev S1024x1024 : Shape := ⟨2, ![1024, 1024]⟩
abbrev S64 : Shape := ⟨1, ![64]⟩
abbrev S128 : Shape := ⟨1, ![128]⟩
abbrev S32x2048x2x4x64 : Shape := ⟨5, ![32, 2048, 2, 4, 64]⟩
abbrev S32x2048x2x64 : Shape := ⟨4, ![32, 2048, 2, 64]⟩
abbrev S32x2x2048x2048x4 : Shape := ⟨5, ![32, 2, 2048, 2048, 4]⟩
abbrev S32x2x4x2048x2048 : Shape := ⟨5, ![32, 2, 4, 2048, 2048]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S32x2048x512 : Shape := ⟨3, ![32, 2048, 512]⟩
abbrev S32x2048x4x2x64 : Shape := ⟨5, ![32, 2048, 4, 2, 64]⟩
abbrev S32x2048x4x128 : Shape := ⟨4, ![32, 2048, 4, 128]⟩
abbrev S32x1x4x2048x2048 : Shape := ⟨5, ![32, 1, 4, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x128, .bf16⟩
  | .hbm, ⟨3, _⟩ => ⟨S65536x128, .bf16⟩
  | .hbm, ⟨4, _⟩ => ⟨S65536x512, .bf16⟩
  | .hbm, ⟨5, _⟩ => ⟨S65536x512, .bf16⟩
  | .hbm, ⟨6, _⟩ => ⟨S65536x512, .bf16⟩
  | .hbm, ⟨7, _⟩ => ⟨S65536x1024, .bf16⟩
  | .hbm, ⟨8, _⟩ => ⟨S1024x1024, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S65536x512, .f32⟩
  | .hbm, ⟨15, _⟩ => ⟨S65536x128, .f32⟩
  | .hbm, ⟨16, _⟩ => ⟨S65536x128, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x1024, .f32⟩
  | .hbm, ⟨21, _⟩ => ⟨S32x2048x2x4x64, .f32⟩
  | .hbm, ⟨22, _⟩ => ⟨S32x2048x2x64, .f32⟩
  | .hbm, ⟨23, _⟩ => ⟨S32x2048x2x64, .f32⟩
  | .hbm, ⟨24, _⟩ => ⟨S32x2x2048x2048x4, .f32⟩
  | .hbm, ⟨25, _⟩ => ⟨S32x2x4x2048x2048, .f32⟩
  | .hbm, ⟨26, _⟩ => ⟨S_, .f32⟩
  | .hbm, ⟨27, _⟩ => ⟨S32x2x4x2048, .f32⟩
  | .hbm, ⟨28, _⟩ => ⟨S_, .f32⟩
  | .hbm, ⟨29, _⟩ => ⟨S32x2x4x2048, .f32⟩
  | .hbm, ⟨30, _⟩ => ⟨S32x2x4x2048, .f32⟩
  | .hbm, ⟨31, _⟩ => ⟨S32x2x4x2048x1, .f32⟩
  | .hbm, ⟨32, _⟩ => ⟨S32x2x4x2048x2048, .f32⟩
  | .hbm, ⟨33, _⟩ => ⟨S32x2x4x2048x2048, .f32⟩
  | .hbm, ⟨34, _⟩ => ⟨S32x2x4x2048x2048, .f32⟩
  | .hbm, ⟨35, _⟩ => ⟨S_, .f32⟩
  | .hbm, ⟨36, _⟩ => ⟨S32x2x4x2048, .f32⟩
  | .hbm, ⟨37, _⟩ => ⟨S32x2x4x2048x1, .f32⟩
  | .hbm, ⟨38, _⟩ => ⟨S32x2x4x2048x2048, .f32⟩
  | .hbm, ⟨39, _⟩ => ⟨S32x2x4x2048x2048, .f32⟩
  | .hbm, ⟨40, _⟩ => ⟨S32x2x64x4x2048, .f32⟩
  | .hbm, ⟨41, _⟩ => ⟨S32x2048x2x4x64, .f32⟩
  | .hbm, ⟨42, _⟩ => ⟨S32x2048x512, .f32⟩
  | .hbm, ⟨43, _⟩ => ⟨S32x2048x4x2x64, .f32⟩
  | .hbm, ⟨44, _⟩ => ⟨S32x2048x2x4x64, .f32⟩
  | .hbm, ⟨45, _⟩ => ⟨S32x2048x4x2x64, .f32⟩
  | .hbm, ⟨46, _⟩ => ⟨S32x2048x2x4x64, .f32⟩
  | .hbm, ⟨47, _⟩ => ⟨S32x2048x4x128, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32x2x4x2048x2048, .f32⟩
  | .hbm, ⟨60, _⟩ => ⟨S_, .f32⟩
  | .hbm, ⟨61, _⟩ => ⟨S32x2x4x2048, .f32⟩
  | .hbm, ⟨62, _⟩ => ⟨S_, .f32⟩
  | .hbm, ⟨63, _⟩ => ⟨S32x2x4x2048, .f32⟩
  | .hbm, ⟨64, _⟩ => ⟨S32x2x4x2048, .f32⟩
  | .hbm, ⟨65, _⟩ => ⟨S32x2x4x2048x1, .f32⟩
  | .hbm, ⟨66, _⟩ => ⟨S32x2x4x2048x2048, .f32⟩
  | .hbm, ⟨67, _⟩ => ⟨S32x2x4x2048x2048, .f32⟩
  | .hbm, ⟨68, _⟩ => ⟨S32x2x4x2048x2048, .f32⟩
  | .hbm, ⟨69, _⟩ => ⟨S_, .f32⟩
  | .hbm, ⟨70, _⟩ => ⟨S32x2x4x2048, .f32⟩
  | .hbm, ⟨71, _⟩ => ⟨S32x2x4x2048x1, .f32⟩
  | .hbm, ⟨72, _⟩ => ⟨S32x2x4x2048x2048, .f32⟩
  | .hbm, ⟨73, _⟩ => ⟨S32x2x4x2048x2048, .f32⟩
  | .hbm, ⟨74, _⟩ => ⟨S32x1x4x2048x2048, .f32⟩
  | .hbm, ⟨75, _⟩ => ⟨S32x4x2048x2048, .f32⟩
  | .hbm, ⟨76, _⟩ => ⟨S32x1x4x2048x2048, .f32⟩
  | .hbm, ⟨77, _⟩ => ⟨S32x4x2048x2048, .f32⟩
  | .hbm, ⟨78, _⟩ => ⟨S32x4x2048x2048, .f32⟩
  | .hbm, ⟨79, _⟩ => ⟨S32x4x2048x2048, .f32⟩
  | .hbm, ⟨80, _⟩ => ⟨S32x4x2048x2048, .f32⟩
  | .hbm, ⟨81, _⟩ => ⟨S32x4x128x2048, .f32⟩
  | .hbm, ⟨82, _⟩ => ⟨S32x2048x4x128, .f32⟩
  | .hbm, ⟨83, _⟩ => ⟨S32x2048x4x128, .f32⟩
  | .hbm, ⟨84, _⟩ => ⟨S_, .f32⟩
  | .hbm, ⟨85, _⟩ => ⟨S32x2048x4, .f32⟩
  | .hbm, ⟨86, _⟩ => ⟨S32x2048x4x1, .f32⟩
  | .hbm, ⟨87, _⟩ => ⟨S_, .f32⟩
  | .hbm, ⟨88, _⟩ => ⟨S32x2048x4x1, .f32⟩
  | .hbm, ⟨89, _⟩ => ⟨S32x2048x4x1, .f32⟩
  | .hbm, ⟨90, _⟩ => ⟨S_, .f32⟩
  | .hbm, ⟨91, _⟩ => ⟨S32x2048x4x1, .f32⟩
  | .hbm, ⟨92, _⟩ => ⟨S32x2048x4x1, .f32⟩
  | .hbm, ⟨93, _⟩ => ⟨S32x2048x4x1, .f32⟩
  | .hbm, ⟨94, _⟩ => ⟨S32x2048x4x128, .f32⟩
  | .hbm, ⟨95, _⟩ => ⟨S32x2048x4x128, .f32⟩
  | .hbm, ⟨96, _⟩ => ⟨S1x1x1x128, .f32⟩
  | .hbm, ⟨97, _⟩ => ⟨S32x2048x4x128, .f32⟩
  | .hbm, ⟨98, _⟩ => ⟨S32x2048x4x128, .f32⟩
  | .hbm, ⟨99, _⟩ => ⟨S_, .f32⟩
  | .hbm, ⟨100, _⟩ => ⟨S32x2048x4x128, .f32⟩
  | .hbm, ⟨101, _⟩ => ⟨S32x2048x4x128, .f32⟩
  | .hbm, ⟨102, _⟩ => ⟨S32x2048x512, .f32⟩
  | .hbm, ⟨103, _⟩ => ⟨S32x2048x1024, .f32⟩
  | .hbm, ⟨104, _⟩ => ⟨S32x2048x1024, .f32⟩
  | .hbm, ⟨105, _⟩ => ⟨S32x2048x1024, .f32⟩
  | .hbm, ⟨106, _⟩ => ⟨S32x2048x1024, .f32⟩
  | .hbm, ⟨107, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024 : Shape := ⟨1, ![1024]⟩
abbrev S1024x3328 : Shape := ⟨2, ![1024, 3328]⟩
abbrev S64 : Shape := ⟨1, ![64]⟩
abbrev S128 : Shape := ⟨1, ![128]⟩
abbrev S1x128 : Shape := ⟨2, ![1, 128]⟩
abbrev S65536x1024 : Shape := ⟨2, ![65536, 1024]⟩
abbrev S1x1024 : Shape := ⟨2, ![1, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x64 : Shape := ⟨2, ![1, 64]⟩
abbrev S4096x128 : Shape := ⟨2, ![4096, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S65536x512 : Shape := ⟨2, ![65536, 512]⟩
abbrev S65536x128 : Shape := ⟨2, ![65536, 128]⟩
abbrev S32x2x128x2048 : Shape := ⟨4, ![32, 2, 128, 2048]⟩
abbrev S32x4x128x2048 : Shape := ⟨4, ![32, 4, 128, 2048]⟩
abbrev S1024x1024 : Shape := ⟨2, ![1024, 1024]⟩
abbrev S1024x128 : Shape := ⟨2, ![1024, 128]⟩
abbrev S1024x512 : Shape := ⟨2, ![1024, 512]⟩
abbrev S1x2x128x1024 : Shape := ⟨4, ![1, 2, 128, 1024]⟩
abbrev S1x4x128x1024 : Shape := ⟨4, ![1, 4, 128, 1024]⟩
abbrev S1024x1 : Shape := ⟨2, ![1024, 1]⟩
abbrev S1024x256 : Shape := ⟨2, ![1024, 256]⟩
abbrev S128x1024 : Shape := ⟨2, ![128, 1024]⟩
abbrev S64x1024 : Shape := ⟨2, ![64, 1024]⟩
abbrev S1x1x128x1024 : Shape := ⟨4, ![1, 1, 128, 1024]⟩
abbrev S512x1024 : Shape := ⟨2, ![512, 1024]⟩

abbrev nBuf : Space → Nat
  | .hbm => 227
  | .vmem => 39
  | .smem => 0
  | _ => 0

abbrev hbmTy0_0 (i : Nat) : BufTy := match i % 128 with
  | 0 => ⟨S32x2048x1024, .f32⟩
  | 1 => ⟨S1024, .f32⟩
  | 2 => ⟨S1024x3328, .f32⟩
  | 3 => ⟨S64, .f32⟩
  | 4 => ⟨S64, .f32⟩
  | 5 => ⟨S64, .f32⟩
  | 6 => ⟨S64, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S65536x1024, .f32⟩
  | 16 => ⟨S1x1024, .f32⟩
  | 17 => ⟨S1024x3328, .bf16⟩
  | 18 => ⟨S256, .i32⟩
  | 19 => ⟨S256x1, .i32⟩
  | 20 => ⟨S_, .i32⟩
  | 21 => ⟨S_, .i32⟩
  | 22 => ⟨S256x1, .i32⟩
  | 23 => ⟨S256x1, .i32⟩
  | 24 => ⟨S256x1, .i32⟩
  | 25 => ⟨S_, .i32⟩
  | 26 => ⟨S256x1, .i32⟩
  | 27 => ⟨S256x1, .i1⟩
  | 28 => ⟨S256x1, .i32⟩
  | 29 => ⟨S256x1, .i32⟩
  | 30 => ⟨S_, .i32⟩
  | 31 => ⟨S256x1, .i32⟩
  | 32 => ⟨S256x1, .i1⟩
  | 33 => ⟨S256x1, .i1⟩
  | 34 => ⟨S_, .i32⟩
  | 35 => ⟨S256x1, .i32⟩
  | 36 => ⟨S256x1, .i32⟩
  | 37 => ⟨S256x1, .i32⟩
  | 38 => ⟨S1x256, .i32⟩
  | 39 => ⟨S_, .i32⟩
  | 40 => ⟨S_, .i32⟩
  | 41 => ⟨S1x256, .i32⟩
  | 42 => ⟨S1x256, .i32⟩
  | 43 => ⟨S1x256, .i32⟩
  | 44 => ⟨S_, .i32⟩
  | 45 => ⟨S1x256, .i32⟩
  | 46 => ⟨S1x256, .i1⟩
  | 47 => ⟨S1x256, .i32⟩
  | 48 => ⟨S1x256, .i32⟩
  | 49 => ⟨S_, .i32⟩
  | 50 => ⟨S1x256, .i32⟩
  | 51 => ⟨S1x256, .i1⟩
  | 52 => ⟨S1x256, .i1⟩
  | 53 => ⟨S_, .i32⟩
  | 54 => ⟨S1x256, .i32⟩
  | 55 => ⟨S1x256, .i32⟩
  | 56 => ⟨S1x256, .i32⟩
  | 57 => ⟨S256x256, .i32⟩
  | 58 => ⟨S256x256, .i32⟩
  | 59 => ⟨S256x256, .i1⟩
  | 60 => ⟨S_, .f32⟩
  | 61 => ⟨S_, .f32⟩
  | 62 => ⟨S256x256, .f32⟩
  | 63 => ⟨S256x256, .f32⟩
  | 64 => ⟨S256x256, .f32⟩
  | 65 => ⟨S256x256, .bf16⟩
  | 66 => ⟨S4096, .f32⟩
  | 67 => ⟨S64, .i32⟩
  | 68 => ⟨S_, .f32⟩
  | 69 => ⟨S4096, .f32⟩
  | 70 => ⟨S4096, .f32⟩
  | 71 => ⟨S4096, .f32⟩
  | 72 => ⟨S_, .f32⟩
  | 73 => ⟨S4096, .f32⟩
  | 74 => ⟨S4096, .f32⟩
  | 75 => ⟨S4096, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S4096x1, .f32⟩
  | 91 => ⟨S1x16, .f32⟩
  | 92 => ⟨S4096x16, .f32⟩
  | 93 => ⟨S4096x16, .f32⟩
  | 94 => ⟨S4096x16, .f32⟩
  | 95 => ⟨S4096x32, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S4096x1, .f32⟩
  | 111 => ⟨S1x16, .f32⟩
  | 112 => ⟨S4096x16, .f32⟩
  | 113 => ⟨S4096x16, .f32⟩
  | 114 => ⟨S4096x16, .f32⟩
  | 115 => ⟨S4096x32, .f32⟩
  | 116 => ⟨S4096x64, .f32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S64, .i32⟩
  | 124 => ⟨S64, .i32⟩
  | 125 => ⟨S_, .i32⟩
  | 126 => ⟨S64, .i32⟩
  | 127 => ⟨S64, .i1⟩
  | _ => ⟨S32x2048x1024, .f32⟩

abbrev hbmTy0_1 (i : Nat) : BufTy := match i % 128 with
  | 0 => ⟨S_, .i32⟩
  | 1 => ⟨S64, .i32⟩
  | 2 => ⟨S64, .i1⟩
  | 3 => ⟨S_, .i32⟩
  | 4 => ⟨S_, .i1⟩
  | 5 => ⟨S64, .i1⟩
  | 6 => ⟨S64, .i1⟩
  | 7 => ⟨S64, .i1⟩
  | 8 => ⟨S64, .i32⟩
  | 9 => ⟨S64, .i32⟩
  | 10 => ⟨S64, .i32⟩
  | 11 => ⟨S_, .i32⟩
  | 12 => ⟨S64, .i32⟩
  | 13 => ⟨S64, .i1⟩
  | 14 => ⟨S4096x64, .f32⟩
  | 15 => ⟨S1x64, .i1⟩
  | 16 => ⟨S4096x64, .f32⟩
  | 17 => ⟨S4096x64, .f32⟩
  | 18 => ⟨S_, .f32⟩
  | 19 => ⟨S_, .f32⟩
  | 20 => ⟨S4096x64, .i1⟩
  | 21 => ⟨S4096x64, .f32⟩
  | 22 => ⟨S4096x64, .f32⟩
  | 23 => ⟨S1x64, .i1⟩
  | 24 => ⟨S4096x64, .f32⟩
  | 25 => ⟨S_, .f32⟩
  | 26 => ⟨S_, .f32⟩
  | 27 => ⟨S4096x64, .i1⟩
  | 28 => ⟨S4096x64, .f32⟩
  | 29 => ⟨S4096x64, .f32⟩
  | 30 => ⟨S4096x128, .f32⟩
  | 31 => ⟨S4096x128, .f32⟩
  | 32 => ⟨S4096x128, .f32⟩
  | 33 => ⟨S4096, .f32⟩
  | 34 => ⟨S64, .i32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S4096x1, .f32⟩
  | 50 => ⟨S1x8, .f32⟩
  | 51 => ⟨S4096x8, .f32⟩
  | 52 => ⟨S4096x8, .f32⟩
  | 53 => ⟨S4096x8, .f32⟩
  | 54 => ⟨S4096x16, .f32⟩
  | 55 => ⟨S_, .f32⟩
  | 56 => ⟨S4096x48, .f32⟩
  | 57 => ⟨S4096x16, .f32⟩
  | 58 => ⟨S_, .f32⟩
  | 59 => ⟨S4096x48, .f32⟩
  | 60 => ⟨S4096x48, .f32⟩
  | 61 => ⟨S4096x64, .f32⟩
  | 62 => ⟨S4096x16, .f32⟩
  | 63 => ⟨S4096x64, .f32⟩
  | 64 => ⟨S_, .i32⟩
  | 65 => ⟨S64, .i32⟩
  | 66 => ⟨S64, .i1⟩
  | 67 => ⟨S_, .i32⟩
  | 68 => ⟨S64, .i32⟩
  | 69 => ⟨S64, .i1⟩
  | 70 => ⟨S_, .i32⟩
  | 71 => ⟨S64, .i32⟩
  | 72 => ⟨S64, .i1⟩
  | 73 => ⟨S64, .i1⟩
  | 74 => ⟨S1x64, .i1⟩
  | 75 => ⟨S4096x64, .f32⟩
  | 76 => ⟨S_, .f32⟩
  | 77 => ⟨S_, .f32⟩
  | 78 => ⟨S4096x64, .i1⟩
  | 79 => ⟨S4096x64, .f32⟩
  | 80 => ⟨S4096x64, .f32⟩
  | 81 => ⟨S1x64, .i1⟩
  | 82 => ⟨S_, .f32⟩
  | 83 => ⟨S_, .f32⟩
  | 84 => ⟨S4096x64, .i1⟩
  | 85 => ⟨S4096x64, .f32⟩
  | 86 => ⟨S4096x64, .f32⟩
  | 87 => ⟨S4096x128, .f32⟩
  | 88 => ⟨S4096x128, .f32⟩
  | 89 => ⟨S4096x128, .f32⟩
  | 90 => ⟨S65536x512, .bf16⟩
  | 91 => ⟨S65536x128, .bf16⟩
  | 92 => ⟨S65536x128, .bf16⟩
  | 93 => ⟨S65536x512, .bf16⟩
  | 94 => ⟨S65536x512, .bf16⟩
  | 95 => ⟨S65536x512, .bf16⟩
  | 96 => ⟨S65536x1024, .bf16⟩
  | 97 => ⟨S32x2x128x2048, .bf16⟩
  | 98 => ⟨S32x4x128x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3328, .bf16⟩
  | .local _ .vmem, ⟨4, _⟩ => ⟨S256x256, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x512, .bf16⟩
  | .local _ .vmem, ⟨22, _⟩ => ⟨S1024x512, .bf16⟩
  | .local _ .vmem, ⟨23, _⟩ => ⟨S1024x128, .bf16⟩
  | .local _ .vmem, ⟨24, _⟩ => ⟨S1024x128, .bf16⟩
  | .local _ .vmem, ⟨25, _⟩ => ⟨S1024x128, .bf16⟩
  | .local _ .vmem, ⟨26, _⟩ => ⟨S1024x128, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x1024, .bf16⟩
  | .local _ .vmem, ⟨34, _⟩ => ⟨S1024x1024, .bf16⟩
  | .local _ .vmem, ⟨35, _⟩ => ⟨S1x2x128x1024, .bf16⟩
  | .local _ .vmem, ⟨36, _⟩ => ⟨S1x2x128x1024, .bf16⟩
  | .local _ .vmem, ⟨37, _⟩ => ⟨S1x4x128x1024, .bf16⟩
  | .local _ .vmem, ⟨38, _⟩ => ⟨S1x4x128x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst_4 : Ref sig .tc := ⟨.hbm, 77, rfl⟩
abbrev main_v30 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_6 : Ref sig .tc := ⟨.hbm, 84, rfl⟩
abbrev main_v35 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_8 : Ref sig .tc := ⟨.hbm, 97, rfl⟩
abbrev main_v46 : Ref sig .tc := ⟨.hbm, 98, rfl⟩
abbrev main_v47 : Ref sig .tc := ⟨.hbm, 99, rfl⟩
abbrev main_cst_9 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_10 : Ref sig .tc := ⟨.hbm, 104, rfl⟩
abbrev main_v51 : Ref sig .tc := ⟨.hbm, 105, rfl⟩
abbrev main_v52 : Ref sig .tc := ⟨.hbm, 106, rfl⟩
abbrev main_cst_11 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_c_12 : Ref sig .tc := ⟨.hbm, 117, rfl⟩
abbrev main_call3_v0 : Ref sig .tc := ⟨.hbm, 118, rfl⟩
abbrev main_call3_c : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_c_1 : Ref sig .tc := ⟨.hbm, 125, rfl⟩
abbrev main_call3_v5 : Ref sig .tc := ⟨.hbm, 126, rfl⟩
abbrev main_call3_v6 : Ref sig .tc := ⟨.hbm, 127, rfl⟩
abbrev main_call3_c_2 : Ref sig .tc := ⟨.hbm, 128, rfl⟩
abbrev main_call3_v7 : Ref sig .tc := ⟨.hbm, 129, rfl⟩
abbrev main_call3_v8 : Ref sig .tc := ⟨.hbm, 130, rfl⟩
abbrev main_call3_c_3 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_v12 : Ref sig .tc := ⟨.hbm, 135, rfl⟩
abbrev main_call3_v13 : Ref sig .tc := ⟨.hbm, 136, rfl⟩
abbrev main_call3_v14 : Ref sig .tc := ⟨.hbm, 137, rfl⟩
abbrev main_v62 : Ref sig .tc := ⟨.hbm, 138, rfl⟩
abbrev main_c_13 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_cst_14 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_cst_15 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_cst_16 : Ref sig .tc := ⟨.hbm, 164, rfl⟩
abbrev main_v79 : Ref sig .tc := ⟨.hbm, 165, rfl⟩
abbrev main_v80 : Ref sig .tc := ⟨.hbm, 166, rfl⟩
abbrev main_cst_17 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_cst_18 : Ref sig .tc := ⟨.hbm, 171, rfl⟩
abbrev main_v84 : Ref sig .tc := ⟨.hbm, 172, rfl⟩
abbrev main_v85 : Ref sig .tc := ⟨.hbm, 173, rfl⟩
abbrev main_cst_19 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_cst_20 : Ref sig .tc := ⟨.hbm, 183, rfl⟩
abbrev main_v94 : Ref sig .tc := ⟨.hbm, 184, rfl⟩
abbrev main_v95 : Ref sig .tc := ⟨.hbm, 185, rfl⟩
abbrev main_cst_21 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_c_22 : Ref sig .tc := ⟨.hbm, 192, rfl⟩
abbrev main_v101 : Ref sig .tc := ⟨.hbm, 193, rfl⟩
abbrev main_v102 : Ref sig .tc := ⟨.hbm, 194, rfl⟩
abbrev main_c_23 : Ref sig .tc := ⟨.hbm, 195, rfl⟩
abbrev main_v103 : Ref sig .tc := ⟨.hbm, 196, rfl⟩
abbrev main_v104 : Ref sig .tc := ⟨.hbm, 197, rfl⟩
abbrev main_c_24 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_cst_25 : Ref sig .tc := ⟨.hbm, 204, rfl⟩
abbrev main_call6_v0 : Ref sig .tc := ⟨.hbm, 205, rfl⟩
abbrev main_call6_v1 : Ref sig .tc := ⟨.hbm, 206, rfl⟩
abbrev main_call6_v2 : Ref sig .tc := ⟨.hbm, 207, rfl⟩
abbrev main_v110 : Ref sig .tc := ⟨.hbm, 208, rfl⟩
abbrev main_v111 : Ref sig .tc := ⟨.hbm, 209, rfl⟩
abbrev main_cst_26 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116_0 : Ref sig .tc := ⟨.hbm, 218, rfl⟩
abbrev main_v116_1 : Ref sig .tc := ⟨.hbm, 219, rfl⟩
abbrev main_v116_2 : Ref sig .tc := ⟨.hbm, 220, rfl⟩
abbrev main_v116_3 : Ref sig .tc := ⟨.hbm, 221, rfl⟩
abbrev main_v116_4 : Ref sig .tc := ⟨.hbm, 222, rfl⟩
abbrev main_v116_5 : Ref sig .tc := ⟨.hbm, 223, rfl⟩
abbrev main_v116_6 : Ref sig .tc := ⟨.hbm, 224, rfl⟩
abbrev main_v116_7 : Ref sig .tc := ⟨.hbm, 225, rfl⟩
abbrev main_v116_8 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_22 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x2x128x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x4x128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S32x2048x1024 : Shape := ⟨3, ![32, 2048, 1024]⟩
abbrev S1024 : Shape := ⟨1, ![1024]⟩
abbrev S1024x3328 : Shape := ⟨2, ![1024, 3328]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3328 : Shape := ⟨3, ![32, 2048, 3328]⟩
abbrev S32x2048x512 : Shape := ⟨3, ![32, 2048, 512]⟩
abbrev S32x2048x128 : Shape := ⟨3, ![32, 2048, 128]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S32x2048x8x32 : Shape := ⟨4, ![32, 2048, 8, 32]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S32x2048x8x16 : Shape := ⟨4, ![32, 2048, 8, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S32x2048x2x32 : Shape := ⟨4, ![32, 2048, 2, 32]⟩
abbrev S32x2048x2x16 : Shape := ⟨4, ![32, 2048, 2, 16]⟩
abbrev S8 : Shape := ⟨1, ![8]⟩
abbrev S1x8 : Shape := ⟨2, ![1, 8]⟩
abbrev S2048x8 : Shape := ⟨2, ![2048, 8]⟩
abbrev S1x2048x1x16 : Shape := ⟨4, ![1, 2048, 1, 16]⟩
abbrev S32x2048x8x8 : Shape := ⟨4, ![32, 2048, 8, 8]⟩
abbrev S32x2048x8x48 : Shape := ⟨4, ![32, 2048, 8, 48]⟩
abbrev S32x2x64x2048 : Shape := ⟨4, ![32, 2, 64, 2048]⟩
abbrev S32x2x128x2048 : Shape := ⟨4, ![32, 2, 128, 2048]⟩
abbrev S32x2048x4x128 : Shape := ⟨4, ![32, 2048, 4, 128]⟩
abbrev S32x4x128x2048 : Shape := ⟨4, ![32, 4, 128, 2048]⟩
abbrev S65536x512 : Shape := ⟨2, ![65536, 512]⟩
abbrev S65536x128 : Shape := ⟨2, ![65536, 128]⟩
abbrev S65536x1024 : Shape := ⟨2, ![65536, 1024]⟩

abbrev nBuf : Space → Nat
  | .hbm => 331
  | .vmem => 0
  | .smem => 0
  | _ => 0

abbrev hbmTy0_0 (i : Nat) : BufTy := match i % 128 with
  | 0 => ⟨S32x2048x1024, .f32⟩
  | 1 => ⟨S1024, .f32⟩
  | 2 => ⟨S1024x3328, .f32⟩
  | 3 => ⟨S64, .f32⟩
  | 4 => ⟨S64, .f32⟩
  | 5 => ⟨S64, .f32⟩
  | 6 => ⟨S64, .f32⟩
  | 7 => ⟨S32x2048x1024, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S32x2048x3328, .f32⟩
  | 24 => ⟨S32x2048x512, .f32⟩
  | 25 => ⟨S32x2048x128, .f32⟩
  | 26 => ⟨S32x2048x128, .f32⟩
  | 27 => ⟨S32x2048x512, .f32⟩
  | 28 => ⟨S32x2048x512, .f32⟩
  | 29 => ⟨S32x2048x512, .f32⟩
  | 30 => ⟨S32x2048x1024, .f32⟩
  | 31 => ⟨S32x2048x8x64, .f32⟩
  | 32 => ⟨S32x2048x8x64, .f32⟩
  | 33 => ⟨S_, .f32⟩
  | 34 => ⟨S32x2048x8, .f32⟩
  | 35 => ⟨S32x2048x8x1, .f32⟩
  | 36 => ⟨S_, .f32⟩
  | 37 => ⟨S32x2048x8x1, .f32⟩
  | 38 => ⟨S32x2048x8x1, .f32⟩
  | 39 => ⟨S_, .f32⟩
  | 40 => ⟨S32x2048x8x1, .f32⟩
  | 41 => ⟨S32x2048x8x1, .f32⟩
  | 42 => ⟨S32x2048x8x1, .f32⟩
  | 43 => ⟨S32x2048x8x64, .f32⟩
  | 44 => ⟨S32x2048x8x64, .f32⟩
  | 45 => ⟨S1x1x1x64, .f32⟩
  | 46 => ⟨S32x2048x8x64, .f32⟩
  | 47 => ⟨S32x2048x8x64, .f32⟩
  | 48 => ⟨S32, .f32⟩
  | 49 => ⟨S32x1, .f32⟩
  | 50 => ⟨S32x64, .f32⟩
  | 51 => ⟨S2048, .f32⟩
  | 52 => ⟨S64, .f32⟩
  | 53 => ⟨S1x64, .f32⟩
  | 54 => ⟨S32x64, .f32⟩
  | 55 => ⟨S2048, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S32x2048x8x32, .f32⟩
  | 71 => ⟨S2048x1, .f32⟩
  | 72 => ⟨S1x16, .f32⟩
  | 73 => ⟨S2048x16, .f32⟩
  | 74 => ⟨S2048x16, .f32⟩
  | 75 => ⟨S2048x16, .f32⟩
  | 76 => ⟨S2048x32, .f32⟩
  | 77 => ⟨S1x2048x1x32, .f32⟩
  | 78 => ⟨S32x2048x8x16, .f32⟩
  | 79 => ⟨S32x2048x8x16, .f32⟩
  | 80 => ⟨S1x2048x1x32, .f32⟩
  | 81 => ⟨S32x2048x8x32, .f32⟩
  | 82 => ⟨S32x2048x8x32, .f32⟩
  | 83 => ⟨S32x2048x8x16, .f32⟩
  | 84 => ⟨S32x2048x8x32, .f32⟩
  | 85 => ⟨S1x2048x1x32, .f32⟩
  | 86 => ⟨S32x2048x8x32, .f32⟩
  | 87 => ⟨S32x2048x8x32, .f32⟩
  | 88 => ⟨S32x2048x8x32, .f32⟩
  | 89 => ⟨S32x2048x8x32, .f32⟩
  | 90 => ⟨S2048x1, .f32⟩
  | 91 => ⟨S1x16, .f32⟩
  | 92 => ⟨S2048x16, .f32⟩
  | 93 => ⟨S2048x16, .f32⟩
  | 94 => ⟨S2048x16, .f32⟩
  | 95 => ⟨S2048x32, .f32⟩
  | 96 => ⟨S1x2048x1x32, .f32⟩
  | 97 => ⟨S32x2048x8x16, .f32⟩
  | 98 => ⟨S32x2048x8x16, .f32⟩
  | 99 => ⟨S1x2048x1x32, .f32⟩
  | 100 => ⟨S32x2048x8x32, .f32⟩
  | 101 => ⟨S32x2048x8x32, .f32⟩
  | 102 => ⟨S32x2048x8x16, .f32⟩
  | 103 => ⟨S32x2048x8x32, .f32⟩
  | 104 => ⟨S1x2048x1x32, .f32⟩
  | 105 => ⟨S32x2048x8x32, .f32⟩
  | 106 => ⟨S32x2048x8x32, .f32⟩
  | 107 => ⟨S32x2048x8x32, .f32⟩
  | 108 => ⟨S32x2048x8x64, .f32⟩
  | 109 => ⟨S_, .f32⟩
  | 110 => ⟨S32x2048x8x64, .f32⟩
  | 111 => ⟨S32x2048x8x64, .f32⟩
  | 112 => ⟨S32x2048x2x64, .f32⟩
  | 113 => ⟨S32x2048x2x64, .f32⟩
  | 114 => ⟨S_, .f32⟩
  | 115 => ⟨S32x2048x2, .f32⟩
  | 116 => ⟨S32x2048x2x1, .f32⟩
  | 117 => ⟨S_, .f32⟩
  | 118 => ⟨S32x2048x2x1, .f32⟩
  | 119 => ⟨S32x2048x2x1, .f32⟩
  | 120 => ⟨S_, .f32⟩
  | 121 => ⟨S32x2048x2x1, .f32⟩
  | 122 => ⟨S32x2048x2x1, .f32⟩
  | 123 => ⟨S32x2048x2x1, .f32⟩
  | 124 => ⟨S32x2048x2x64, .f32⟩
  | 125 => ⟨S32x2048x2x64, .f32⟩
  | 126 => ⟨S1x1x1x64, .f32⟩
  | 127 => ⟨S32x2048x2x64, .f32⟩
  | _ => ⟨S32x2048x1024, .f32⟩

abbrev hbmTy0_1 (i : Nat) : BufTy := match i % 128 with
  | 0 => ⟨S32x2048x2x64, .f32⟩
  | 1 => ⟨S32, .f32⟩
  | 2 => ⟨S32x1, .f32⟩
  | 3 => ⟨S32x64, .f32⟩
  | 4 => ⟨S2048, .f32⟩
  | 5 => ⟨S64, .f32⟩
  | 6 => ⟨S1x64, .f32⟩
  | 7 => ⟨S32x64, .f32⟩
  | 8 => ⟨S2048, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S32x2048x2x32, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x32, .f32⟩
  | 30 => ⟨S1x2048x1x32, .f32⟩
  | 31 => ⟨S32x2048x2x16, .f32⟩
  | 32 => ⟨S32x2048x2x16, .f32⟩
  | 33 => ⟨S1x2048x1x32, .f32⟩
  | 34 => ⟨S32x2048x2x32, .f32⟩
  | 35 => ⟨S32x2048x2x32, .f32⟩
  | 36 => ⟨S32x2048x2x16, .f32⟩
  | 37 => ⟨S32x2048x2x32, .f32⟩
  | 38 => ⟨S1x2048x1x32, .f32⟩
  | 39 => ⟨S32x2048x2x32, .f32⟩
  | 40 => ⟨S32x2048x2x32, .f32⟩
  | 41 => ⟨S32x2048x2x32, .f32⟩
  | 42 => ⟨S32x2048x2x32, .f32⟩
  | 43 => ⟨S2048x1, .f32⟩
  | 44 => ⟨S1x16, .f32⟩
  | 45 => ⟨S2048x16, .f32⟩
  | 46 => ⟨S2048x16, .f32⟩
  | 47 => ⟨S2048x16, .f32⟩
  | 48 => ⟨S2048x32, .f32⟩
  | 49 => ⟨S1x2048x1x32, .f32⟩
  | 50 => ⟨S32x2048x2x16, .f32⟩
  | 51 => ⟨S32x2048x2x16, .f32⟩
  | 52 => ⟨S1x2048x1x32, .f32⟩
  | 53 => ⟨S32x2048x2x32, .f32⟩
  | 54 => ⟨S32x2048x2x32, .f32⟩
  | 55 => ⟨S32x2048x2x16, .f32⟩
  | 56 => ⟨S32x2048x2x32, .f32⟩
  | 57 => ⟨S1x2048x1x32, .f32⟩
  | 58 => ⟨S32x2048x2x32, .f32⟩
  | 59 => ⟨S32x2048x2x32, .f32⟩
  | 60 => ⟨S32x2048x2x32, .f32⟩
  | 61 => ⟨S32x2048x2x64, .f32⟩
  | 62 => ⟨S32x2048x8x64, .f32⟩
  | 63 => ⟨S32x2048x8x64, .f32⟩
  | 64 => ⟨S_, .f32⟩
  | 65 => ⟨S32x2048x8, .f32⟩
  | 66 => ⟨S32x2048x8x1, .f32⟩
  | 67 => ⟨S_, .f32⟩
  | 68 => ⟨S32x2048x8x1, .f32⟩
  | 69 => ⟨S32x2048x8x1, .f32⟩
  | 70 => ⟨S_, .f32⟩
  | 71 => ⟨S32x2048x8x1, .f32⟩
  | 72 => ⟨S32x2048x8x1, .f32⟩
  | 73 => ⟨S32x2048x8x1, .f32⟩
  | 74 => ⟨S32x2048x8x64, .f32⟩
  | 75 => ⟨S32x2048x8x64, .f32⟩
  | 76 => ⟨S1x1x1x64, .f32⟩
  | 77 => ⟨S32x2048x8x64, .f32⟩
  | 78 => ⟨S32x2048x8x64, .f32⟩
  | 79 => ⟨S2048, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S2048x1, .f32⟩
  | 95 => ⟨S1x8, .f32⟩
  | 96 => ⟨S2048x8, .f32⟩
  | 97 => ⟨S2048x8, .f32⟩
  | 98 => ⟨S2048x8, .f32⟩
  | 99 => ⟨S2048x16, .f32⟩
  | 100 => ⟨S1x2048x1x16, .f32⟩
  | 101 => ⟨S32x2048x8x16, .f32⟩
  | 102 => ⟨S32x2048x8x8, .f32⟩
  | 103 => ⟨S32x2048x8x8, .f32⟩
  | 104 => ⟨S1x2048x1x16, .f32⟩
  | 105 => ⟨S32x2048x8x16, .f32⟩
  | 106 => ⟨S32x2048x8x16, .f32⟩
  | 107 => ⟨S32x2048x8x8, .f32⟩
  | 108 => ⟨S32x2048x8x16, .f32⟩
  | 109 => ⟨S1x2048x1x16, .f32⟩
  | 110 => ⟨S32x2048x8x16, .f32⟩
  | 111 => ⟨S32x2048x8x16, .f32⟩
  | 112 => ⟨S32x2048x8x16, .f32⟩
  | 113 => ⟨S32x2048x8x48, .f32⟩
  | 114 => ⟨S32x2048x8x64, .f32⟩
  | 115 => ⟨S_, .f32⟩
  | 116 => ⟨S32x2048x8x64, .f32⟩
  | 117 => ⟨S32x2048x8x64, .f32⟩
  | 118 => ⟨S32x2048x8x64, .f32⟩
  | 119 => ⟨S32x2048x8x64, .f32⟩
  | 120 => ⟨S_, .f32⟩
  | 121 => ⟨S32x2048x8, .f32⟩
  | 122 => ⟨S32x2048x8x1, .f32⟩
  | 123 => ⟨S_, .f32⟩
  | 124 => ⟨S32x2048x8x1, .f32⟩
  | 125 => ⟨S32x2048x8x1, .f32⟩
  | 126 => ⟨S_, .f32⟩
  | 127 => ⟨S32x2048x8x1, .f32⟩
  | _ => ⟨S32x2048x1024, .f32⟩

abbrev hbmTy0_2 (i : Nat) : BufTy := match i % 128 with
  | 0 => ⟨S32x2048x8x1, .f32⟩
  | 1 => ⟨S32x2048x8x1, .f32⟩
  | 2 => ⟨S32x2048x8x64, .f32⟩
  | 3 => ⟨S32x2048x8x64, .f32⟩
  | 4 => ⟨S1x1x1x64, .f32⟩
  | 5 => ⟨S32x2048x8x64, .f32⟩
  | 6 => ⟨S32x2048x8x64, .f32⟩
  | 7 => ⟨S2048, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S2048x1, .f32⟩
  | 23 => ⟨S1x8, .f32⟩
  | 24 => ⟨S2048x8, .f32⟩
  | 25 => ⟨S2048x8, .f32⟩
  | 26 => ⟨S2048x8, .f32⟩
  | 27 => ⟨S2048x16, .f32⟩
  | 28 => ⟨S1x2048x1x16, .f32⟩
  | 29 => ⟨S32x2048x8x16, .f32⟩
  | 30 => ⟨S32x2048x8x8, .f32⟩
  | 31 => ⟨S32x2048x8x8, .f32⟩
  | 32 => ⟨S1x2048x1x16, .f32⟩
  | 33 => ⟨S32x2048x8x16, .f32⟩
  | 34 => ⟨S32x2048x8x16, .f32⟩
  | 35 => ⟨S32x2048x8x8, .f32⟩
  | 36 => ⟨S32x2048x8x16, .f32⟩
  | 37 => ⟨S1x2048x1x16, .f32⟩
  | 38 => ⟨S32x2048x8x16, .f32⟩
  | 39 => ⟨S32x2048x8x16, .f32⟩
  | 40 => ⟨S32x2048x8x16, .f32⟩
  | 41 => ⟨S32x2048x8x48, .f32⟩
  | 42 => ⟨S32x2048x8x64, .f32⟩
  | 43 => ⟨S32x2048x2x64, .f32⟩
  | 44 => ⟨S32x2x64x2048, .f32⟩
  | 45 => ⟨S_, .f32⟩
  | 46 => ⟨S32x2x64x2048, .f32⟩
  | 47 => ⟨S32x2x128x2048, .f32⟩
  | 48 => ⟨S32x2048x4x128, .f32⟩
  | 49 => ⟨S32x4x128x2048, .f32⟩
  | 50 => ⟨S32x2048x1024, .f32⟩
  | 51 => ⟨S32x2048x1024, .f32⟩
  | 52 => ⟨S_, .f32⟩
  | 53 => ⟨S32x2048x1024, .f32⟩
  | 54 => ⟨S32x2048x1024, .f32⟩
  | 55 => ⟨S_, .f32⟩
  | 56 => ⟨S32x2048x1024, .f32⟩
  | 57 => ⟨S32x2048x1024, .f32⟩
  | 58 => ⟨S32x2048x1024, .f32⟩
  | 59 => ⟨S65536x512, .f32⟩
  | 60 => ⟨S65536x512, .bf16⟩
  | 61 => ⟨S65536x128, .f32⟩
  | 62 => ⟨S65536x128, .bf16⟩
  | 63 => ⟨S65536x128, .f32⟩
  | 64 => ⟨S65536x128, .bf16⟩
  | 65 => ⟨S65536x512, .f32⟩
  | 66 => ⟨S65536x512, .bf16⟩
  | 67 => ⟨S65536x512, .f32⟩
  | 68 => ⟨S65536x512, .bf16⟩
  | 69 => ⟨S65536x512, .f32⟩
  | 70 => ⟨S65536x512, .bf16⟩
  | 71 => ⟨S65536x1024, .f32⟩
  | 72 => ⟨S65536x1024, .bf16⟩
  | 73 => ⟨S32x2x128x2048, .bf16⟩
  | 74 => ⟨S32x4x128x2048, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_9 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_cst_11 : Ref sig .tc := ⟨.hbm, 117, rfl⟩
abbrev main_v98 : Ref sig .tc := ⟨.hbm, 118, rfl⟩
abbrev main_v99 : Ref sig .tc := ⟨.hbm, 119, rfl⟩
abbrev main_cst_12 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_13 : Ref sig .tc := ⟨.hbm, 138, rfl⟩
abbrev main_v117 : Ref sig .tc := ⟨.hbm, 139, rfl⟩
abbrev main_v118 : Ref sig .tc := ⟨.hbm, 140, rfl⟩
abbrev main_cst_14 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_15 : Ref sig .tc := ⟨.hbm, 145, rfl⟩
abbrev main_v122 : Ref sig .tc := ⟨.hbm, 146, rfl⟩
abbrev main_v123 : Ref sig .tc := ⟨.hbm, 147, rfl⟩
abbrev main_cst_16 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_cst_17 : Ref sig .tc := ⟨.hbm, 192, rfl⟩
abbrev main_v167 : Ref sig .tc := ⟨.hbm, 193, rfl⟩
abbrev main_v168 : Ref sig .tc := ⟨.hbm, 194, rfl⟩
abbrev main_cst_18 : Ref sig .tc := ⟨.hbm, 195, rfl⟩
abbrev main_v169 : Ref sig .tc := ⟨.hbm, 196, rfl⟩
abbrev main_v170 : Ref sig .tc := ⟨.hbm, 197, rfl⟩
abbrev main_cst_19 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_cst_20 : Ref sig .tc := ⟨.hbm, 209, rfl⟩
abbrev main_v181 : Ref sig .tc := ⟨.hbm, 210, rfl⟩
abbrev main_v182 : Ref sig .tc := ⟨.hbm, 211, rfl⟩
abbrev main_cst_21 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_cst_22 : Ref sig .tc := ⟨.hbm, 216, rfl⟩
abbrev main_v186 : Ref sig .tc := ⟨.hbm, 217, rfl⟩
abbrev main_v187 : Ref sig .tc := ⟨.hbm, 218, rfl⟩
abbrev main_cst_23 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_cst_24 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_cst_25 : Ref sig .tc := ⟨.hbm, 248, rfl⟩
abbrev main_v215 : Ref sig .tc := ⟨.hbm, 249, rfl⟩
abbrev main_v216 : Ref sig .tc := ⟨.hbm, 250, rfl⟩
abbrev main_cst_26 : Ref sig .tc := ⟨.hbm, 251, rfl⟩
abbrev main_v217 : Ref sig .tc := ⟨.hbm, 252, rfl⟩
abbrev main_v218 : Ref sig .tc := ⟨.hbm, 253, rfl⟩
abbrev main_cst_27 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_cst_28 : Ref sig .tc := ⟨.hbm, 265, rfl⟩
abbrev main_v229 : Ref sig .tc := ⟨.hbm, 266, rfl⟩
abbrev main_v230 : Ref sig .tc := ⟨.hbm, 267, rfl⟩
abbrev main_cst_29 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_cst_30 : Ref sig .tc := ⟨.hbm, 272, rfl⟩
abbrev main_v234 : Ref sig .tc := ⟨.hbm, 273, rfl⟩
abbrev main_v235 : Ref sig .tc := ⟨.hbm, 274, rfl⟩
abbrev main_cst_31 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_cst_32 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_call0_v0 : Ref sig .tc := ⟨.hbm, 306, rfl⟩
abbrev main_call0_v1 : Ref sig .tc := ⟨.hbm, 307, rfl⟩
abbrev main_call0_cst : Ref sig .tc := ⟨.hbm, 308, rfl⟩
abbrev main_call0_v2 : Ref sig .tc := ⟨.hbm, 309, rfl⟩
abbrev main_call0_v3 : Ref sig .tc := ⟨.hbm, 310, rfl⟩
abbrev main_call0_cst_0 : Ref sig .tc := ⟨.hbm, 311, rfl⟩
abbrev main_call0_v4 : Ref sig .tc := ⟨.hbm, 312, rfl⟩
abbrev main_call0_v5 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩

abbrev nD : Nat := 1
abbrev τ : Topo := Topo.v7x

variable {F : FTy → Type} [FloatOps F]
-- ==== Proof.Words.lean ====
/-
  The pipeline's counters in closed form. The streamed projection walks 64 blocks of rows; its loop carries seven
  words (two issue counters, two wait counters, the output's two counters and the block number). This module states
  what these words are before each of the 64 trips, and what the printed offsets, conditions and checks come to at
  those words. Everything is a finite statement over the trips, decided by evaluation.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.WriteBehind
public import Idealize.ShloMosaic.Lib.Ring.Trips
public import Idealize.ShloMosaic.Lib.Tactic

@[expose] public section

namespace Cert.Proof.Stream

open Cert.KernelIdeal Cert.KernelIdeal.Gen
open Idealize.ShloMosaic

/-- The issue counter of an input before trip `k`: two blocks ahead, and no further than 64. -/
def wA (k : ℕ) : BitVec 32 := BitVec.ofNat 32 (min (k + 2) 64)
/-- The wait counter of an input, and the output's issue counter, before trip `k`. -/
def wK (k : ℕ) : BitVec 32 := BitVec.ofNat 32 k
/-- The output's wait counter before trip `k`: one block behind. -/
def wP (k : ℕ) : BitVec 32 := BitVec.ofNat 32 (k - 1)
/-- The block number before trip `k`: it returns to 0 after the last. -/
def wB (k : ℕ) : BitVec 32 := BitVec.ofNat 32 (k % 64)

/-- The loop's seven words before trip `k`. -/
def accAt (k : ℕ) : BitVec 32 × BitVec 32 × BitVec 32 × BitVec 32 × BitVec 32 × BitVec 32 × BitVec 32 :=
  (wA k, wK k, wA k, wK k, wK k, wP k, wB k)

theorem trips_eq : k0_t1_loop.trips = 64 := by decide +kernel

theorem trip_lt (k : Fin k0_t1_loop.trips) : k.val < 64 := Nat.lt_of_lt_of_eq k.isLt trips_eq

/-! ## Offsets of the blocks, the slots and the cells -/

abbrev blkOff (b : Fin 64) : Fin 2 → Nat := ![1024 * b.val, 0]
theorem blkOff_inb (b : Fin 64) : ∀ a, blkOff b a + S1024x1024.size a ≤ S65536x1024.size a := by
  have := b.isLt; intro a; fin_cases a
  · show 1024 * b.val + 1024 ≤ 65536; omega
  · show 0 + 1024 ≤ 1024; omega
abbrev slot3Off (s : Fin 3) : Fin 3 → Nat := ![s.val, 0, 0]
theorem slot3Off_inb (s : Fin 3) : ∀ a, slot3Off s a + S1x1024x1024.size a ≤ S3x1024x1024.size a := by
  have := s.isLt; intro a; fin_cases a
  · show s.val + 1 ≤ 3; omega
  · show 0 + 1024 ≤ 1024; omega
  · show 0 + 1024 ≤ 1024; omega
abbrev slot2Off (s : Fin 2) : Fin 3 → Nat := ![s.val, 0, 0]
theorem slot2Off_inb (s : Fin 2) : ∀ a, slot2Off s a + S1x1024x1024.size a ≤ S2x1024x1024.size a := by
  have := s.isLt; intro a; fin_cases a
  · show s.val + 1 ≤ 2; omega
  · show 0 + 1024 ≤ 1024; omega
  · show 0 + 1024 ≤ 1024; omega
abbrev sem3Off (s : Fin 3) : Fin 1 → Nat := ![s.val]
theorem sem3Off_inb (s : Fin 3) : ∀ a, sem3Off s a + S1.size a ≤ S3.size a := by
  have := s.isLt; intro a; fin_cases a; show s.val + 1 ≤ 3; omega
abbrev sem2Off (s : Fin 2) : Fin 1 → Nat := ![s.val]
theorem sem2Off_inb (s : Fin 2) : ∀ a, sem2Off s a + S1.size a ≤ S2.size a := by
  have := s.isLt; intro a; fin_cases a; show s.val + 1 ≤ 2; omega

/-! ## The printed offsets at the words of trip `k` -/

section Offsets

theorem off9_eq : ∀ k : Fin k0_t1_loop.trips, k.val < 62 → k0_off9 (wA k) = sem3Off (Ring.sl 3 (k.val + 2)) := by decide +kernel
theorem off10_eq : ∀ k : Fin k0_t1_loop.trips, k.val < 62 → k0_off10 (wA k) = slot3Off (Ring.sl 3 (k.val + 2)) := by decide +kernel
theorem off11_eq : ∀ k : Fin k0_t1_loop.trips, k.val < 62 → k0_off11 (wB k) = blkOff (Ring.bk 64 (k.val + 2)) := by decide +kernel
theorem off12_eq : ∀ k : Fin k0_t1_loop.trips, k.val < 62 → k0_off12 (wA k) = sem3Off (Ring.sl 3 (k.val + 2)) := by decide +kernel
theorem off13_eq : ∀ k : Fin k0_t1_loop.trips, k.val < 62 → k0_off13 (wA k) = slot3Off (Ring.sl 3 (k.val + 2)) := by decide +kernel
theorem off14_eq : ∀ k : Fin k0_t1_loop.trips, k.val < 62 → k0_off14 (wB k) = blkOff (Ring.bk 64 (k.val + 2)) := by decide +kernel
theorem off15_eq : ∀ k : Fin k0_t1_loop.trips, k0_off15 (wK k) = sem3Off (Ring.sl 3 k.val) := by decide +kernel
theorem off16_eq : ∀ k : Fin k0_t1_loop.trips, k0_off16 (wK k) = slot3Off (Ring.sl 3 k.val) := by decide +kernel
theorem off17_eq : ∀ k : Fin k0_t1_loop.trips, k0_off17 (wB k) = blkOff (Ring.bk 64 k.val) := by decide +kernel
theorem off18_eq : ∀ k : Fin k0_t1_loop.trips, k0_off18 (wK k) = sem3Off (Ring.sl 3 k.val) := by decide +kernel
theorem off19_eq : ∀ k : Fin k0_t1_loop.trips, k0_off19 (wK k) = slot3Off (Ring.sl 3 k.val) := by decide +kernel
theorem off20_eq : ∀ k : Fin k0_t1_loop.trips, k0_off20 (wB k) = blkOff (Ring.bk 64 k.val) := by decide +kernel
theorem off21_eq : ∀ k : Fin k0_t1_loop.trips, k0_off21 (wK k) = slot3Off (Ring.sl 3 k.val) := by decide +kernel
theorem off22_eq : ∀ k : Fin k0_t1_loop.trips, k0_off22 (wK k) = slot3Off (Ring.sl 3 k.val) := by decide +kernel
theorem off23_eq : ∀ k : Fin k0_t1_loop.trips, k0_off23 (wK k) = slot2Off (Ring.sl 2 k.val) := by decide +kernel
theorem off24_eq : ∀ k : Fin k0_t1_loop.trips, k0_off24 (wK k) = sem2Off (Ring.sl 2 k.val) := by decide +kernel
theorem off25_eq : ∀ k : Fin k0_t1_loop.trips, k0_off25 (wB k) = blkOff (Ring.bk 64 k.val) := by decide +kernel
theorem off26_eq : ∀ k : Fin k0_t1_loop.trips, k0_off26 (wK k) = slot2Off (Ring.sl 2 k.val) := by decide +kernel
theorem off27_eq : ∀ k : Fin k0_t1_loop.trips, 1 ≤ k.val → k0_off27 (wP k) = sem2Off (Ring.sl 2 (k.val + 1)) := by decide +kernel
theorem off28_eq : ∀ k : Fin k0_t1_loop.trips, 1 ≤ k.val → k0_off28 (wB k) = blkOff (Ring.bk 64 (k.val - 1)) := by decide +kernel
theorem off29_eq : ∀ k : Fin k0_t1_loop.trips, 1 ≤ k.val → k0_off29 (wP k) = slot2Off (Ring.sl 2 (k.val + 1)) := by decide +kernel
theorem off30_eq : k0_off30 (wP 64) = sem2Off 1 := by decide +kernel
theorem off31_eq : k0_off31 (wB 64) = blkOff 63 := by decide +kernel
theorem off32_eq : k0_off32 (wP 64) = slot2Off 1 := by decide +kernel

end Offsets

/-! ## The printed conditions and checks at the words of trip `k` -/

theorem cond1_true : k0_cond1 = 1#1 := by decide +kernel
theorem cond2_true : k0_cond2 = 1#1 := by decide +kernel
theorem cond3_true : ∀ k : Fin k0_t1_loop.trips, k.val < 62 → k0_cond3 k (wB k) = 1#1 := by decide +kernel
theorem cond3_false : ∀ k : Fin k0_t1_loop.trips, 62 ≤ k.val → ¬ k0_cond3 k (wB k) = 1#1 := by decide +kernel
theorem cond4_true : ∀ k : Fin k0_t1_loop.trips, k.val < 62 → k0_cond4 k (wB k) = 1#1 := by decide +kernel
theorem cond4_false : ∀ k : Fin k0_t1_loop.trips, 62 ≤ k.val → ¬ k0_cond4 k (wB k) = 1#1 := by decide +kernel
theorem cond5_true : ∀ k : Fin k0_t1_loop.trips, k0_cond5 k (wB k) = 1#1 := by decide +kernel
theorem cond6_true : ∀ k : Fin k0_t1_loop.trips, k0_cond6 k (wB k) = 1#1 := by decide +kernel
theorem cond10_true : ∀ k : Fin k0_t1_loop.trips, k0_cond10 k (wB k) = 1#1 := by decide +kernel
theorem cond13_true : ∀ k : Fin k0_t1_loop.trips, 1 ≤ k.val → k0_cond13 k (wB k) = 1#1 := by decide +kernel
theorem cond13_false : ∀ k : Fin k0_t1_loop.trips, k.val = 0 → ¬ k0_cond13 k (wB k) = 1#1 := by decide +kernel

theorem chk2_ok : ∀ k : Fin k0_t1_loop.trips, k0_chk2 (wK k) := fun k => by
  show ∀ a, (k0_off21 (wK k)) a + S1x1024x1024.size a ≤ S3x1024x1024.size a
  rw [off21_eq]; exact slot3Off_inb _
theorem chk3_ok : ∀ k : Fin k0_t1_loop.trips, k0_chk3 (wK k) := fun k => by
  unfold k0_chk3; rw [off22_eq]; exact slot3Off_inb _
theorem chk4_ok : ∀ k : Fin k0_t1_loop.trips, k0_chk4 (wK k) := fun k => by
  unfold k0_chk4; rw [off23_eq]; exact slot2Off_inb _
theorem chk5_ok : k0_chk5 (wP 64) := by unfold k0_chk5; decide +kernel
theorem chk6_ok : k0_chk6 (wB 64) := by unfold k0_chk6; decide +kernel
theorem chk1_ok : ∀ k : Fin k0_t1_loop.trips, k0_chk1 k (wA k) (wK k) (wA k) (wK k) (wK k) (wP k) (wB k) := by
  decide +kernel

/-! ## The words after a trip, as the trip computes them -/

section Next

theorem nextA (k : Fin k0_t1_loop.trips) :
    Scalar.select (Scalar.andi (Scalar.andi 1#1 (Scalar.xori (Scalar.cmpi .sge (Scf.iv 0#32 1#32 k.val) 62#32) 1#1)) 1#1)
      (Scalar.addi (wA k.val) 1#32) (wA k.val) = wA (k.val + 1) := by revert k; decide +kernel
theorem nextK (k : Fin k0_t1_loop.trips) :
    Scalar.select 1#1 (Scalar.addi (wK k.val) 1#32) (wK k.val) = wK (k.val + 1) := by revert k; decide +kernel
theorem nextP (k : Fin k0_t1_loop.trips) :
    Scalar.select (Scalar.andi (Scalar.andi 1#1 (Scalar.xori (Scalar.cmpi .eq (Scf.iv 0#32 1#32 k.val) 0#32) 1#1)) 1#1)
      (Scalar.addi (wP k.val) 1#32) (wP k.val) = wP (k.val + 1) := by revert k; decide +kernel
theorem nextB (k : Fin k0_t1_loop.trips) :
    Scalar.select (Scalar.cmpi .eq (Scalar.select 1#1 (Scalar.addi (wB k.val) 1#32) (wB k.val)) 64#32) 0#32
      (Scalar.select 1#1 (Scalar.addi (wB k.val) 1#32) (wB k.val)) = wB (k.val + 1) := by revert k; decide +kernel

end Next

end Cert.Proof.Stream

end
-- ==== Proof.Names.lean ====
/-
  The kernel's buffers by name: block `b` of the three arrays in HBM, slot `s` of the three rings in VMEM, the slots'
  semaphores, and for each of them the printed slices it is equal to.
-/
module

public import proofs.«01_k».proof.Proof.Words

@[expose] public section

noncomputable section

namespace Cert.Proof.Stream

open Cert.KernelIdeal Cert.KernelIdeal.Gen
open Idealize.ShloMosaic
open Idealize.ShloMosaic.TcCoe Idealize.ShloMosaic.Tactic

abbrev mM : Memref sig .tc .hbm S65536x1024 .bf16 := Memref.whole main_v1
abbrev xM : Memref sig .tc .hbm S65536x1024 .f32 := Memref.whole main_v0
abbrev yM : Memref sig .tc .hbm S65536x1024 .f32 := Memref.whole main_v3
abbrev mR : Memref sig .tc .vmem S3x1024x1024 .bf16 := Memref.whole cc0_scoped0
abbrev xR : Memref sig .tc .vmem S3x1024x1024 .f32 := Memref.whole cc0_scoped2
abbrev yR : Memref sig .tc .vmem S2x1024x1024 .f32 := Memref.whole cc0_scoped4

/-- Block `b` of `mix`, of `x` and of the result. -/
def mblk (b : Fin 64) : Memref sig .tc .hbm S1024x1024 .bf16 :=
  mM.slice (Rect.unit (s := S65536x1024) (blkOff b) S1024x1024.size (blkOff_inb b)) (fun _ => rfl)
def xblk (b : Fin 64) : Memref sig .tc .hbm S1024x1024 .f32 :=
  xM.slice (Rect.unit (s := S65536x1024) (blkOff b) S1024x1024.size (blkOff_inb b)) (fun _ => rfl)
def yblk (b : Fin 64) : Memref sig .tc .hbm S1024x1024 .f32 :=
  yM.slice (Rect.unit (s := S65536x1024) (blkOff b) S1024x1024.size (blkOff_inb b)) (fun _ => rfl)

/-- Slot `s` of the rings of `mix`, of `x` and of the result. -/
def mslot (s : Fin 3) : Memref sig .tc .vmem S1024x1024 .bf16 :=
  (mR.slice (Rect.unit (s := S3x1024x1024) (slot3Off s) S1x1024x1024.size (slot3Off_inb s)) (fun _ => rfl)).squeeze S1024x1024 squeezes_S1x1024x1024_S1024x1024
def xslot (s : Fin 3) : Memref sig .tc .vmem S1024x1024 .f32 :=
  (xR.slice (Rect.unit (s := S3x1024x1024) (slot3Off s) S1x1024x1024.size (slot3Off_inb s)) (fun _ => rfl)).squeeze S1024x1024 squeezes_S1x1024x1024_S1024x1024
def yslot (s : Fin 2) : Memref sig .tc .vmem S1024x1024 .f32 :=
  (yR.slice (Rect.unit (s := S2x1024x1024) (slot2Off s) S1x1024x1024.size (slot2Off_inb s)) (fun _ => rfl)).squeeze S1024x1024 squeezes_S1x1024x1024_S1024x1024

/-- The slots' semaphores. -/
def mcell (s : Fin 3) : DmaSems sig S_ := (cc0_scoped1.slice (Rect.unit (s := S3) (sem3Off s) S1.size (sem3Off_inb s))).squeeze S_ squeezes_S1_S_
def xcell (s : Fin 3) : DmaSems sig S_ := (cc0_scoped3.slice (Rect.unit (s := S3) (sem3Off s) S1.size (sem3Off_inb s))).squeeze S_ squeezes_S1_S_
def ycell (s : Fin 2) : DmaSems sig S_ := (cc0_scoped5.slice (Rect.unit (s := S2) (sem2Off s) S1.size (sem2Off_inb s))).squeeze S_ squeezes_S1_S_

instance (s : Fin 3) : ClosedOff (slot3Off s) := ⟨slot3Off s, rfl⟩
instance (s : Fin 2) : ClosedOff (slot2Off s) := ⟨slot2Off s, rfl⟩
instance (b : Fin 64) : ClosedOff (blkOff b) := ⟨blkOff b, rfl⟩
instance (k : Fin k0_t1_loop.trips) : ClosedOff (k0_off21 (wK k.val)) := ⟨slot3Off (Ring.sl 3 k.val), off21_eq k⟩
instance (k : Fin k0_t1_loop.trips) : ClosedOff (k0_off22 (wK k.val)) := ⟨slot3Off (Ring.sl 3 k.val), off22_eq k⟩
instance (k : Fin k0_t1_loop.trips) : ClosedOff (k0_off23 (wK k.val)) := ⟨slot2Off (Ring.sl 2 k.val), off23_eq k⟩

section Congr

private theorem mcell_congr {off : Fin 1 → Nat} {s : Fin 3} (e : off = sem3Off s) (hh) :
    (cc0_scoped1.slice (Rect.unit (s := S3) off S1.size hh)).squeeze S_ squeezes_S1_S_ = mcell s :=
  congrArg (fun A : DmaSems sig S1 => A.squeeze S_ squeezes_S1_S_) (SemArray.slice_unit_congr _ e _ _)
private theorem xcell_congr {off : Fin 1 → Nat} {s : Fin 3} (e : off = sem3Off s) (hh) :
    (cc0_scoped3.slice (Rect.unit (s := S3) off S1.size hh)).squeeze S_ squeezes_S1_S_ = xcell s :=
  congrArg (fun A : DmaSems sig S1 => A.squeeze S_ squeezes_S1_S_) (SemArray.slice_unit_congr _ e _ _)
private theorem ycell_congr {off : Fin 1 → Nat} {s : Fin 2} (e : off = sem2Off s) (hh) :
    (cc0_scoped5.slice (Rect.unit (s := S2) off S1.size hh)).squeeze S_ squeezes_S1_S_ = ycell s :=
  congrArg (fun A : DmaSems sig S1 => A.squeeze S_ squeezes_S1_S_) (SemArray.slice_unit_congr _ e _ _)
private theorem mslot_congr {off : Fin 3 → Nat} {s : Fin 3} (e : off = slot3Off s) (hh hs) :
    (mR.slice (Rect.unit (s := S3x1024x1024) off S1x1024x1024.size hh) hs).squeeze S1024x1024 squeezes_S1x1024x1024_S1024x1024 = mslot s :=
  congrArg (fun M : Memref sig .tc .vmem S1x1024x1024 .bf16 => M.squeeze S1024x1024 squeezes_S1x1024x1024_S1024x1024) (Memref.slice_unit_congr _ e _ _ _ _)
private theorem xslot_congr {off : Fin 3 → Nat} {s : Fin 3} (e : off = slot3Off s) (hh hs) :
    (xR.slice (Rect.unit (s := S3x1024x1024) off S1x1024x1024.size hh) hs).squeeze S1024x1024 squeezes_S1x1024x1024_S1024x1024 = xslot s :=
  congrArg (fun M : Memref sig .tc .vmem S1x1024x1024 .f32 => M.squeeze S1024x1024 squeezes_S1x1024x1024_S1024x1024) (Memref.slice_unit_congr _ e _ _ _ _)
private theorem yslot_congr {off : Fin 3 → Nat} {s : Fin 2} (e : off = slot2Off s) (hh hs) :
    (yR.slice (Rect.unit (s := S2x1024x1024) off S1x1024x1024.size hh) hs).squeeze S1024x1024 squeezes_S1x1024x1024_S1024x1024 = yslot s :=
  congrArg (fun M : Memref sig .tc .vmem S1x1024x1024 .f32 => M.squeeze S1024x1024 squeezes_S1x1024x1024_S1024x1024) (Memref.slice_unit_congr _ e _ _ _ _)
private theorem mblk_congr {off : Fin 2 → Nat} {b : Fin 64} (e : off = blkOff b) (hh hs) :
    mM.slice (Rect.unit (s := S65536x1024) off S1024x1024.size hh) hs = mblk b := Memref.slice_unit_congr _ e _ _ _ (fun _ => rfl)
private theorem xblk_congr {off : Fin 2 → Nat} {b : Fin 64} (e : off = blkOff b) (hh hs) :
    xM.slice (Rect.unit (s := S65536x1024) off S1024x1024.size hh) hs = xblk b := Memref.slice_unit_congr _ e _ _ _ (fun _ => rfl)
private theorem yblk_congr {off : Fin 2 → Nat} {b : Fin 64} (e : off = blkOff b) (hh hs) :
    yM.slice (Rect.unit (s := S65536x1024) off S1024x1024.size hh) hs = yblk b := Memref.slice_unit_congr _ e _ _ _ (fun _ => rfl)

end Congr

/-! ## The slices before the loop: blocks 0 and 1 into slots 0 and 1 -/

section Prologue

theorem off1_eq : k0_off1 = sem3Off 0 := by decide +kernel
theorem off2_eq : k0_off2 = slot3Off 0 := by decide +kernel
theorem off3_eq : k0_off3 = sem3Off 1 := by decide +kernel
theorem off4_eq : k0_off4 = slot3Off 1 := by decide +kernel
theorem off5_eq : k0_off5 = blkOff 1 := by decide +kernel
theorem off6_eq : k0_off6 = sem3Off 1 := by decide +kernel
theorem off7_eq : k0_off7 = slot3Off 1 := by decide +kernel
theorem off8_eq : k0_off8 = blkOff 1 := by decide +kernel

@[sl_canon] theorem mcell_p0 (hh) : (cc0_scoped1.slice (Rect.unit (s := S3) k0_off1 S1.size hh)).squeeze S_ squeezes_S1_S_ = mcell 0 := mcell_congr off1_eq _
@[sl_canon] theorem xcell_p0 (hh) : (cc0_scoped3.slice (Rect.unit (s := S3) k0_off1 S1.size hh)).squeeze S_ squeezes_S1_S_ = xcell 0 := xcell_congr off1_eq _
@[sl_canon] theorem mslot_p0 (hh hs) : (mR.slice (Rect.unit (s := S3x1024x1024) k0_off2 S1x1024x1024.size hh) hs).squeeze S1024x1024 squeezes_S1x1024x1024_S1024x1024 = mslot 0 := mslot_congr off2_eq _ _
@[sl_canon] theorem xslot_p0 (hh hs) : (xR.slice (Rect.unit (s := S3x1024x1024) k0_off2 S1x1024x1024.size hh) hs).squeeze S1024x1024 squeezes_S1x1024x1024_S1024x1024 = xslot 0 := xslot_congr off2_eq _ _
@[sl_canon] theorem mblk_p0 (hh hs) : mM.slice (Rect.unit (s := S65536x1024) ![0, 0] S1024x1024.size hh) hs = mblk 0 := mblk_congr (by decide) _ _
@[sl_canon] theorem xblk_p0 (hh hs) : xM.slice (Rect.unit (s := S65536x1024) ![0, 0] S1024x1024.size hh) hs = xblk 0 := xblk_congr (by decide) _ _
@[sl_canon] theorem mcell_p1 (hh) : (cc0_scoped1.slice (Rect.unit (s := S3) k0_off3 S1.size hh)).squeeze S_ squeezes_S1_S_ = mcell 1 := mcell_congr off3_eq _
@[sl_canon] theorem mslot_p1 (hh hs) : (mR.slice (Rect.unit (s := S3x1024x1024) k0_off4 S1x1024x1024.size hh) hs).squeeze S1024x1024 squeezes_S1x1024x1024_S1024x1024 = mslot 1 := mslot_congr off4_eq _ _
@[sl_canon] theorem mblk_p1 (hh hs) : mM.slice (Rect.unit (s := S65536x1024) k0_off5 S1024x1024.size hh) hs = mblk 1 := mblk_congr off5_eq _ _
@[sl_canon] theorem xcell_p1 (hh) : (cc0_scoped3.slice (Rect.unit (s := S3) k0_off6 S1.size hh)).squeeze S_ squeezes_S1_S_ = xcell 1 := xcell_congr off6_eq _
@[sl_canon] theorem xslot_p1 (hh hs) : (xR.slice (Rect.unit (s := S3x1024x1024) k0_off7 S1x1024x1024.size hh) hs).squeeze S1024x1024 squeezes_S1x1024x1024_S1024x1024 = xslot 1 := xslot_congr off7_eq _ _
@[sl_canon] theorem xblk_p1 (hh hs) : xM.slice (Rect.unit (s := S65536x1024) k0_off8 S1024x1024.size hh) hs = xblk 1 := xblk_congr off8_eq _ _

end Prologue

/-! ## The slices of trip `k` -/

section TripNames

variable (k : Fin k0_t1_loop.trips)

@[sl_canon] theorem mcell_i (hk : k.val < 62) (hh) : (cc0_scoped1.slice (Rect.unit (s := S3) (k0_off9 (wA k.val)) S1.size hh)).squeeze S_ squeezes_S1_S_ = mcell (Ring.sl 3 (k.val + 2)) := mcell_congr (off9_eq k hk) _
@[sl_canon] theorem mslot_i (hk : k.val < 62) (hh hs) : (mR.slice (Rect.unit (s := S3x1024x1024) (k0_off10 (wA k.val)) S1x1024x1024.size hh) hs).squeeze S1024x1024 squeezes_S1x1024x1024_S1024x1024 = mslot (Ring.sl 3 (k.val + 2)) := mslot_congr (off10_eq k hk) _ _
@[sl_canon] theorem mblk_i (hk : k.val < 62) (hh hs) : mM.slice (Rect.unit (s := S65536x1024) (k0_off11 (wB k.val)) S1024x1024.size hh) hs = mblk (Ring.bk 64 (k.val + 2)) := mblk_congr (off11_eq k hk) _ _
@[sl_canon] theorem xcell_i (hk : k.val < 62) (hh) : (cc0_scoped3.slice (Rect.unit (s := S3) (k0_off12 (wA k.val)) S1.size hh)).squeeze S_ squeezes_S1_S_ = xcell (Ring.sl 3 (k.val + 2)) := xcell_congr (off12_eq k hk) _
@[sl_canon] theorem xslot_i (hk : k.val < 62) (hh hs) : (xR.slice (Rect.unit (s := S3x1024x1024) (k0_off13 (wA k.val)) S1x1024x1024.size hh) hs).squeeze S1024x1024 squeezes_S1x1024x1024_S1024x1024 = xslot (Ring.sl 3 (k.val + 2)) := xslot_congr (off13_eq k hk) _ _
@[sl_canon] theorem xblk_i (hk : k.val < 62) (hh hs) : xM.slice (Rect.unit (s := S65536x1024) (k0_off14 (wB k.val)) S1024x1024.size hh) hs = xblk (Ring.bk 64 (k.val + 2)) := xblk_congr (off14_eq k hk) _ _

@[sl_canon] theorem mcell_w (hh) : (cc0_scoped1.slice (Rect.unit (s := S3) (k0_off15 (wK k.val)) S1.size hh)).squeeze S_ squeezes_S1_S_ = mcell (Ring.sl 3 k.val) := mcell_congr (off15_eq k) _
@[sl_canon] theorem mslot_w (hh hs) : (mR.slice (Rect.unit (s := S3x1024x1024) (k0_off16 (wK k.val)) S1x1024x1024.size hh) hs).squeeze S1024x1024 squeezes_S1x1024x1024_S1024x1024 = mslot (Ring.sl 3 k.val) := mslot_congr (off16_eq k) _ _
@[sl_canon] theorem mblk_w (hh hs) : mM.slice (Rect.unit (s := S65536x1024) (k0_off17 (wB k.val)) S1024x1024.size hh) hs = mblk (Ring.bk 64 k.val) := mblk_congr (off17_eq k) _ _
@[sl_canon] theorem xcell_w (hh) : (cc0_scoped3.slice (Rect.unit (s := S3) (k0_off18 (wK k.val)) S1.size hh)).squeeze S_ squeezes_S1_S_ = xcell (Ring.sl 3 k.val) := xcell_congr (off18_eq k) _
@[sl_canon] theorem xslot_w (hh hs) : (xR.slice (Rect.unit (s := S3x1024x1024) (k0_off19 (wK k.val)) S1x1024x1024.size hh) hs).squeeze S1024x1024 squeezes_S1x1024x1024_S1024x1024 = xslot (Ring.sl 3 k.val) := xslot_congr (off19_eq k) _ _
@[sl_canon] theorem xblk_w (hh hs) : xM.slice (Rect.unit (s := S65536x1024) (k0_off20 (wB k.val)) S1024x1024.size hh) hs = xblk (Ring.bk 64 k.val) := xblk_congr (off20_eq k) _ _

@[sl_canon] theorem ycell_i (hh) : (cc0_scoped5.slice (Rect.unit (s := S2) (k0_off24 (wK k.val)) S1.size hh)).squeeze S_ squeezes_S1_S_ = ycell (Ring.sl 2 k.val) := ycell_congr (off24_eq k) _
@[sl_canon] theorem yblk_i (hh hs) : yM.slice (Rect.unit (s := S65536x1024) (k0_off25 (wB k.val)) S1024x1024.size hh) hs = yblk (Ring.bk 64 k.val) := yblk_congr (off25_eq k) _ _
@[sl_canon] theorem yslot_i (hh hs) : (yR.slice (Rect.unit (s := S2x1024x1024) (k0_off26 (wK k.val)) S1x1024x1024.size hh) hs).squeeze S1024x1024 squeezes_S1x1024x1024_S1024x1024 = yslot (Ring.sl 2 k.val) := yslot_congr (off26_eq k) _ _
@[sl_canon] theorem ycell_w (hk : 1 ≤ k.val) (hh) : (cc0_scoped5.slice (Rect.unit (s := S2) (k0_off27 (wP k.val)) S1.size hh)).squeeze S_ squeezes_S1_S_ = ycell (Ring.sl 2 (k.val + 1)) := ycell_congr (off27_eq k hk) _
@[sl_canon] theorem yblk_w (hk : 1 ≤ k.val) (hh hs) : yM.slice (Rect.unit (s := S65536x1024) (k0_off28 (wB k.val)) S1024x1024.size hh) hs = yblk (Ring.bk 64 (k.val - 1)) := yblk_congr (off28_eq k hk) _ _
@[sl_canon] theorem yslot_w (hk : 1 ≤ k.val) (hh hs) : (yR.slice (Rect.unit (s := S2x1024x1024) (k0_off29 (wP k.val)) S1x1024x1024.size hh) hs).squeeze S1024x1024 squeezes_S1x1024x1024_S1024x1024 = yslot (Ring.sl 2 (k.val + 1)) := yslot_congr (off29_eq k hk) _ _

end TripNames

/-! ## The last wait: block 63 of the result from slot 1 -/

@[sl_canon] theorem ycell_e (hh) : (cc0_scoped5.slice (Rect.unit (s := S2) (k0_off30 (wP 64)) S1.size hh)).squeeze S_ squeezes_S1_S_ = ycell 1 := ycell_congr off30_eq _
@[sl_canon] theorem yblk_e (hh hs) : yM.slice (Rect.unit (s := S65536x1024) (k0_off31 (wB 64)) S1024x1024.size hh) hs = yblk 63 := yblk_congr off31_eq _ _
@[sl_canon] theorem yslot_e (hh hs) : (yR.slice (Rect.unit (s := S2x1024x1024) (k0_off32 (wP 64)) S1x1024x1024.size hh) hs).squeeze S1024x1024 squeezes_S1x1024x1024_S1024x1024 = yslot 1 := yslot_congr off32_eq _ _

end Cert.Proof.Stream

end
-- ==== Proof.Pieces.lean ====
/-
  What the loop holds before trip `k`: each block of the arrays at home or inside a transfer, each slot of the rings
  free or the end of a transfer.
-/
module

public import proofs.«01_k».proof.Proof.Names

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the counters the kernel's own transfers use. -/
abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

section Pieces

variable (c : Dev nD) (MX : Buf (Elt F) (mM.view.loc (c : Thread nD τ))) (X : Buf (Elt F) (xM.view.loc (c : Thread nD τ)))
  (Y : Buf (Elt F) (yM.view.loc (c : Thread nD τ)))

/-! ## A ring of three slots filled from `mix` -/

abbrev mcellP (s : Fin 3) : sProp 𝕄 := semVal ((c : Thread nD τ), SemLoc.dma (mcell s).sem) 0
abbrev mslotP (s : Fin 3) (f : Buf (Elt F) ((mslot s).view.loc (c : Thread nD τ))) : sProp 𝕄 :=
  (mslot s).view.loc (c : Thread nD τ) ↦[(mslot s).view.set]{fullShare} f
/-- Block `b` of `mix`, held at the array's contents. -/
abbrev mhomeP (b : Fin 64) : sProp 𝕄 := (mblk b).view.loc (c : Thread nD τ) ↦[(mblk b).view.set]{fullShare} MX
/-- Slot `s` over `f` once block `b` has landed in it. -/
abbrev mlanded (s : Fin 3) (b : Fin 64) (f : Buf (Elt F) ((mslot s).view.loc (c : Thread nD τ))) : Buf (Elt F) ((mslot s).view.loc (c : Thread nD τ)) :=
  (mslot s).view.writes (Elt F) f [⟨Rect.whole S1024x1024, ReadAs.same.apply ((mblk b).view.read (Elt F) MX)⟩]
/-- Block `b` on its way into slot `s`. -/
abbrev mflightP (s : Fin 3) (b : Fin 64) (f : Buf (Elt F) ((mslot s).view.loc (c : Thread nD τ))) : sProp 𝕄 :=
  Transfers.Flight countersEmb (c : Thread nD τ) (SemLoc.dma (mcell s).sem) () 65536 iprop(mslotP c s (mlanded c MX s b f) ∗ mhomeP c MX b)
def mfree (s : Fin 3) : sProp 𝕄 := iprop(mcellP c s ∗ ∃ f, mslotP c s f)
def minfl (s : Fin 3) (b : Fin 64) : sProp 𝕄 := iprop(∃ f, mflightP c MX s b f)
/-- Slot `p % 3`'s part before the block numbered `p` is waited for. -/
abbrev mrole (p : ℕ) : sProp 𝕄 := Ring.roleAt (mfree c (Ring.sl 3 p)) (minfl c MX (Ring.sl 3 p)) p

/-! ## A ring of three slots filled from `x` -/

abbrev xcellP (s : Fin 3) : sProp 𝕄 := semVal ((c : Thread nD τ), SemLoc.dma (xcell s).sem) 0
abbrev xslotP (s : Fin 3) (f : Buf (Elt F) ((xslot s).view.loc (c : Thread nD τ))) : sProp 𝕄 :=
  (xslot s).view.loc (c : Thread nD τ) ↦[(xslot s).view.set]{fullShare} f
abbrev xhomeP (b : Fin 64) : sProp 𝕄 := (xblk b).view.loc (c : Thread nD τ) ↦[(xblk b).view.set]{fullShare} X
abbrev xlanded (s : Fin 3) (b : Fin 64) (f : Buf (Elt F) ((xslot s).view.loc (c : Thread nD τ))) : Buf (Elt F) ((xslot s).view.loc (c : Thread nD τ)) :=
  (xslot s).view.writes (Elt F) f [⟨Rect.whole S1024x1024, ReadAs.same.apply ((xblk b).view.read (Elt F) X)⟩]
abbrev xflightP (s : Fin 3) (b : Fin 64) (f : Buf (Elt F) ((xslot s).view.loc (c : Thread nD τ))) : sProp 𝕄 :=
  Transfers.Flight countersEmb (c : Thread nD τ) (SemLoc.dma (xcell s).sem) () 131072 iprop(xslotP c s (xlanded c X s b f) ∗ xhomeP c X b)
def xfree (s : Fin 3) : sProp 𝕄 := iprop(xcellP c s ∗ ∃ f, xslotP c s f)
def xinfl (s : Fin 3) (b : Fin 64) : sProp 𝕄 := iprop(∃ f, xflightP c X s b f)
abbrev xrole (p : ℕ) : sProp 𝕄 := Ring.roleAt (xfree c (Ring.sl 3 p)) (xinfl c X (Ring.sl 3 p)) p

/-! ## A ring of two slots drained into the result -/

abbrev ycellP (s : Fin 2) : sProp 𝕄 := semVal ((c : Thread nD τ), SemLoc.dma (ycell s).sem) 0
abbrev yslotP (s : Fin 2) (g : Buf (Elt F) ((yslot s).view.loc (c : Thread nD τ))) : sProp 𝕄 :=
  (yslot s).view.loc (c : Thread nD τ) ↦[(yslot s).view.set]{fullShare} g
abbrev yhomeP (b : Fin 64) (f : Buf (Elt F) ((yblk b).view.loc (c : Thread nD τ))) : sProp 𝕄 :=
  (yblk b).view.loc (c : Thread nD τ) ↦[(yblk b).view.set]{fullShare} f
abbrev yflightP (s : Fin 2) (b : Fin 64) (f : Buf (Elt F) ((yblk b).view.loc (c : Thread nD τ))) (g : Buf (Elt F) ((yslot s).view.loc (c : Thread nD τ))) : sProp 𝕄 :=
  Transfers.Flight countersEmb (c : Thread nD τ) (SemLoc.dma (ycell s).sem) () 131072
    iprop(yhomeP c b ((yblk b).view.writes (Elt F) f [⟨Rect.whole S1024x1024, ReadAs.same.apply ((yslot s).view.read (Elt F) g)⟩]) ∗ yslotP c s g)
def yfree (s : Fin 2) : sProp 𝕄 := iprop(ycellP c s ∗ ∃ f, yslotP c s f)
/-- Slot `s` on its way into block `b`, holding that block of `Y`. -/
def yinfl (s : Fin 2) (b : Fin 64) : sProp 𝕄 :=
  iprop(∃ f g, ⌜(yslot s).view.read (Elt F) g = (yblk b).view.read (Elt F) Y⌝ ∗ yflightP c s b f g)
/-- A block not yet written holds anything; -/
def yahead (b : Fin 64) : sProp 𝕄 := iprop(∃ f, yhomeP c b f)
/-- a block written holds `Y`. -/
abbrev ybehind (b : Fin 64) : sProp 𝕄 := yhomeP c b Y
abbrev yrole (p : ℕ) : sProp 𝕄 := Ring.roleBAt 1 (yfree c (Ring.sl 2 (p + 1))) (yinfl c Y (Ring.sl 2 (p + 1))) p

/-! ## Before trip `k` -/

/-- The two rings filled from the inputs, and the inputs' blocks at home. -/
def insAt (k : ℕ) : sProp 𝕄 :=
  iprop(bigSep (Ring.homeSet 2 k) (mhomeP c MX) ∗ bigSep (Ring.homeSet 2 k) (xhomeP c X)
    ∗ mrole c MX k ∗ mrole c MX (k + 1) ∗ mfree c (Ring.sl 3 (k + 2))
    ∗ xrole c X k ∗ xrole c X (k + 1) ∗ xfree c (Ring.sl 3 (k + 2)))
/-- The ring drained into the result, and the result's blocks. -/
def outAt (k : ℕ) : sProp 𝕄 :=
  iprop(bigSep (Ring.aheadSet k) (yahead c) ∗ bigSep (Ring.behindSet 1 k) (ybehind c Y)
    ∗ yfree c (Ring.sl 2 k) ∗ yrole c Y k)

theorem mrole_lt (p : ℕ) (h : p < 64) : mrole c MX p = minfl c MX (Ring.sl 3 p) (Ring.bk 64 p) := Ring.roleAt_of_lt _ _ p h
theorem mrole_le (p : ℕ) (h : 64 ≤ p) : mrole c MX p = mfree c (Ring.sl 3 p) := Ring.roleAt_of_le _ _ p h
theorem xrole_lt (p : ℕ) (h : p < 64) : xrole c X p = xinfl c X (Ring.sl 3 p) (Ring.bk 64 p) := Ring.roleAt_of_lt _ _ p h
theorem xrole_le (p : ℕ) (h : 64 ≤ p) : xrole c X p = xfree c (Ring.sl 3 p) := Ring.roleAt_of_le _ _ p h
theorem yrole_lt (p : ℕ) (h : p < 1) : yrole c Y p = yfree c (Ring.sl 2 (p + 1)) := Ring.roleBAt_of_lt 1 _ _ p h
theorem yrole_le (p : ℕ) (h : 1 ≤ p) : yrole c Y p = yinfl c Y (Ring.sl 2 (p + 1)) (Ring.bk 64 (p - 1)) := Ring.roleBAt_of_le 1 _ _ p h

/-! ## Opening and closing a trip -/

omit [FloatOps F] in
theorem bigSep_homes_here (P : Fin 64 → sProp 𝕄) (k : ℕ) (hk : k < 62) :
    bigSep (Ring.homeSet 2 k) P = iprop(P (Ring.bk 64 (k + 2)) ∗ bigSep ((Ring.homeSet 2 k).erase (Ring.bk 64 (k + 2))) P) := by
  conv_lhs => rw [Ring.homeSet_out 2 k (by omega), bigSep_insert (Ring.bkL_not_mem_erase 2 k)]
  rfl
omit [FloatOps F] in
theorem bigSep_homes_next (P : Fin 64 → sProp 𝕄) (k : ℕ) (hk : k < 62) :
    bigSep (Ring.homeSet 2 (k + 1)) P = iprop(P (Ring.bk 64 k) ∗ bigSep ((Ring.homeSet 2 k).erase (Ring.bk 64 (k + 2))) P) := by
  conv_lhs => rw [Ring.homeSet_succ 2 k (by omega), bigSep_insert (Ring.bk_not_mem_erase 2 k (by omega) (by decide))]
  rfl
omit [FloatOps F] in
theorem bigSep_homes_tail (P : Fin 64 → sProp 𝕄) (k : ℕ) (hk : 62 ≤ k) (h64 : k < 64) :
    bigSep (Ring.homeSet 2 (k + 1)) P = iprop(P (Ring.bk 64 k) ∗ bigSep (Ring.homeSet 2 k) P) := by
  conv_lhs => rw [Ring.homeSet_succ_tail 2 k (by omega) h64, bigSep_insert (Ring.bk_not_mem_homeSet 2 k h64 (by decide))]
  rfl

omit [FloatOps F] in
theorem bigSep_ahead (P : Fin 64 → sProp 𝕄) (k : ℕ) (h : k < 64) :
    bigSep (Ring.aheadSet k) P = iprop(P (Ring.bk 64 k) ∗ bigSep (Ring.aheadSet (k + 1)) P) := by
  conv_lhs => rw [Ring.aheadSet_open k h, bigSep_insert (Ring.bk_not_mem_aheadSet_succ k h)]
  rfl
omit [FloatOps F] in
theorem bigSep_behind (P : Fin 64 → sProp 𝕄) (k : ℕ) (h1 : 1 ≤ k) (h : k < 64) :
    bigSep (Ring.behindSet 1 (k + 1)) P = iprop(P (Ring.bk 64 (k - 1)) ∗ bigSep (Ring.behindSet 1 k) P) := by
  conv_lhs => rw [Ring.behindSet_close 1 k h1 h, bigSep_insert (Ring.bk_not_mem_behindSet 1 k h1 h)]
  rfl

/-- What trip `k` leaves alone of the inputs' part, while blocks are still issued; -/
def insRest (k : ℕ) : sProp 𝕄 :=
  iprop(bigSep ((Ring.homeSet 2 k).erase (Ring.bk 64 (k + 2))) (mhomeP c MX) ∗ bigSep ((Ring.homeSet 2 k).erase (Ring.bk 64 (k + 2))) (xhomeP c X)
    ∗ mrole c MX (k + 1) ∗ xrole c X (k + 1))
/-- and in the last two trips. -/
def insRestTail (k : ℕ) : sProp 𝕄 :=
  iprop(bigSep (Ring.homeSet 2 k) (mhomeP c MX) ∗ bigSep (Ring.homeSet 2 k) (xhomeP c X)
    ∗ mrole c MX (k + 1) ∗ mfree c (Ring.sl 3 (k + 2)) ∗ xrole c X (k + 1) ∗ xfree c (Ring.sl 3 (k + 2)))
/-- What trip `k` leaves alone of the result's part. -/
def outRest (k : ℕ) : sProp 𝕄 :=
  iprop(bigSep (Ring.aheadSet (k + 1)) (yahead c) ∗ bigSep (Ring.behindSet 1 k) (ybehind c Y))

theorem ins_open (k : ℕ) (hk : k < 62) :
    insAt c MX X k ⊢ iprop(minfl c MX (Ring.sl 3 k) (Ring.bk 64 k) ∗ mhomeP c MX (Ring.bk 64 (k + 2)) ∗ mfree c (Ring.sl 3 (k + 2))
      ∗ xinfl c X (Ring.sl 3 k) (Ring.bk 64 k) ∗ xhomeP c X (Ring.bk 64 (k + 2)) ∗ xfree c (Ring.sl 3 (k + 2)) ∗ insRest c MX X k) := by
  unfold insAt insRest
  rw [bigSep_homes_here _ k hk, bigSep_homes_here _ k hk]
  rw [mrole_lt c MX k (by omega), xrole_lt c X k (by omega)]
  iintro ⟨⟨Hm, HM⟩, ⟨Hx, HX⟩, Hm0, Hm1, Hm2, Hx0, Hx1, Hx2⟩
  isplitl [Hm0]; · iexact Hm0
  isplitl [Hm]; · iexact Hm
  isplitl [Hm2]; · iexact Hm2
  isplitl [Hx0]; · iexact Hx0
  isplitl [Hx]; · iexact Hx
  isplitl [Hx2]; · iexact Hx2
  isplitl [HM]; · iexact HM
  isplitl [HX]; · iexact HX
  isplitl [Hm1]; · iexact Hm1
  iexact Hx1

theorem ins_close (k : ℕ) (hk : k < 62) :
    iprop(minfl c MX (Ring.sl 3 (k + 2)) (Ring.bk 64 (k + 2)) ∗ mhomeP c MX (Ring.bk 64 k) ∗ mfree c (Ring.sl 3 k)
      ∗ xinfl c X (Ring.sl 3 (k + 2)) (Ring.bk 64 (k + 2)) ∗ xhomeP c X (Ring.bk 64 k) ∗ xfree c (Ring.sl 3 k) ∗ insRest c MX X k)
      ⊢ insAt c MX X (k + 1) := by
  unfold insAt insRest
  rw [bigSep_homes_next _ k hk, bigSep_homes_next _ k hk]
  rw [show k + 1 + 1 = k + 2 from rfl,
    mrole_lt c MX (k + 2) (by omega), xrole_lt c X (k + 2) (by omega),
    show k + 1 + 2 = k + 3 from rfl, Ring.sl_add]
  iintro ⟨Hm2, Hm, Hm0, Hx2, Hx, Hx0, HM, HX, Hm1, Hx1⟩
  isplitl [Hm HM]
  · isplitl [Hm]; · iexact Hm
    iexact HM
  isplitl [Hx HX]
  · isplitl [Hx]; · iexact Hx
    iexact HX
  isplitl [Hm1]; · iexact Hm1
  isplitl [Hm2]; · iexact Hm2
  isplitl [Hm0]; · iexact Hm0
  isplitl [Hx1]; · iexact Hx1
  isplitl [Hx2]; · iexact Hx2
  iexact Hx0

theorem ins_open_tail (k : ℕ) (h64 : k < 64) :
    insAt c MX X k ⊢ iprop(minfl c MX (Ring.sl 3 k) (Ring.bk 64 k) ∗ xinfl c X (Ring.sl 3 k) (Ring.bk 64 k) ∗ insRestTail c MX X k) := by
  unfold insAt insRestTail
  rw [mrole_lt c MX k (by omega), xrole_lt c X k (by omega)]
  iintro ⟨HM, HX, Hm0, Hm1, Hm2, Hx0, Hx1, Hx2⟩
  isplitl [Hm0]; · iexact Hm0
  isplitl [Hx0]; · iexact Hx0
  isplitl [HM]; · iexact HM
  isplitl [HX]; · iexact HX
  isplitl [Hm1]; · iexact Hm1
  isplitl [Hm2]; · iexact Hm2
  isplitl [Hx1]; · iexact Hx1
  iexact Hx2

theorem ins_close_tail (k : ℕ) (hk : 62 ≤ k) (h64 : k < 64) :
    iprop(mhomeP c MX (Ring.bk 64 k) ∗ mfree c (Ring.sl 3 k) ∗ xhomeP c X (Ring.bk 64 k) ∗ xfree c (Ring.sl 3 k) ∗ insRestTail c MX X k)
      ⊢ insAt c MX X (k + 1) := by
  unfold insAt insRestTail
  rw [bigSep_homes_tail _ k hk h64, bigSep_homes_tail _ k hk h64]
  rw [show k + 1 + 1 = k + 2 from rfl,
    mrole_le c MX (k + 2) (by omega), xrole_le c X (k + 2) (by omega),
    show k + 1 + 2 = k + 3 from rfl, Ring.sl_add]
  iintro ⟨Hm, Hm0, Hx, Hx0, HM, HX, Hm1, Hm2, Hx1, Hx2⟩
  isplitl [Hm HM]
  · isplitl [Hm]; · iexact Hm
    iexact HM
  isplitl [Hx HX]
  · isplitl [Hx]; · iexact Hx
    iexact HX
  isplitl [Hm1]; · iexact Hm1
  isplitl [Hm2]; · iexact Hm2
  isplitl [Hm0]; · iexact Hm0
  isplitl [Hx1]; · iexact Hx1
  isplitl [Hx2]; · iexact Hx2
  iexact Hx0

theorem out_open (k : ℕ) (h1 : 1 ≤ k) (h64 : k < 64) :
    outAt c Y k ⊢ iprop(yfree c (Ring.sl 2 k) ∗ yahead c (Ring.bk 64 k) ∗ yinfl c Y (Ring.sl 2 (k + 1)) (Ring.bk 64 (k - 1)) ∗ outRest c Y k) := by
  unfold outAt outRest
  rw [bigSep_ahead _ k h64, yrole_le c Y k h1]
  iintro ⟨⟨HA, HA'⟩, HB, Hf, Hi⟩
  isplitl [Hf]; · iexact Hf
  isplitl [HA]; · iexact HA
  isplitl [Hi]; · iexact Hi
  isplitl [HA']; · iexact HA'
  iexact HB

theorem out_close (k : ℕ) (h1 : 1 ≤ k) (h64 : k < 64) :
    iprop(yinfl c Y (Ring.sl 2 k) (Ring.bk 64 k) ∗ yfree c (Ring.sl 2 (k + 1)) ∗ ybehind c Y (Ring.bk 64 (k - 1)) ∗ outRest c Y k) ⊢ outAt c Y (k + 1) := by
  unfold outAt outRest
  rw [bigSep_behind _ k h1 h64, yrole_le c Y (k + 1) (by omega),
    show k + 1 + 1 = k + 2 from rfl, Ring.sl_add, Nat.add_sub_cancel]
  iintro ⟨Hi, Hf, HB, HA', HB'⟩
  isplitl [HA']; · iexact HA'
  isplitl [HB HB']
  · isplitl [HB]; · iexact HB
    iexact HB'
  isplitl [Hf]; · iexact Hf
  iexact Hi

theorem out_open_first (k : ℕ) (h0 : k = 0) :
    outAt c Y k ⊢ iprop(yfree c (Ring.sl 2 k) ∗ yahead c (Ring.bk 64 k) ∗ yfree c (Ring.sl 2 (k + 1)) ∗ outRest c Y k) := by
  subst h0
  unfold outAt outRest
  rw [bigSep_ahead _ 0 (by decide), yrole_lt c Y 0 (by decide)]
  iintro ⟨⟨HA, HA'⟩, HB, Hf, Hi⟩
  isplitl [Hf]; · iexact Hf
  isplitl [HA]; · iexact HA
  isplitl [Hi]; · iexact Hi
  isplitl [HA']; · iexact HA'
  iexact HB

theorem out_close_first (k : ℕ) (h0 : k = 0) :
    iprop(yinfl c Y (Ring.sl 2 k) (Ring.bk 64 k) ∗ yfree c (Ring.sl 2 (k + 1)) ∗ outRest c Y k) ⊢ outAt c Y (k + 1) := by
  subst h0
  unfold outAt outRest
  rw [Ring.behindSet_boot 1 0 (by decide), Ring.behindSet_boot 1 (0 + 1) (by decide), yrole_le c Y (0 + 1) (by omega),
    show 0 + 1 + 1 = 0 + 2 from rfl, Ring.sl_add]
  iintro ⟨Hi, Hf, HA', HB'⟩
  isplitl [HA']; · iexact HA'
  isplitl [HB']; · iexact HB'
  isplitl [Hf]; · iexact Hf
  iexact Hi

end Pieces

end Cert.Proof.Stream

end
-- ==== Proof.Payload.lean ====
/-
  What one trip computes: the block it stores is `x`'s block plus `mix`'s block times the weights, read through the slots the
  copies landed in.
-/
module

public import proofs.«01_k».proof.Proof.Pieces
public import Idealize.ShloMosaic.Lib.Pipeline.Value
public import Idealize.ShloMosaic.Lib.VecWindow

@[expose] public section

noncomputable section

namespace Cert.Proof.Stream

open Cert.KernelIdeal Cert.KernelIdeal.Gen
open Idealize.ShloMosaic
open Idealize.ShloMosaic.TcCoe Idealize.ShloMosaic.Tactic

variable {F : FTy → Type} [FloatOps F]

/-- One block of the result from a block of `x`, a block of `mix` and the weights. -/
def blockOf (x : FVec F S1024x1024 .f32) (m : FVec F S1024x1024 .bf16) (w : FVec F S1024x1024 .bf16) : FVec F S1024x1024 .f32 :=
  addf x (matmul dot_S1024x1024_S1024x1024_S1024x1024_1_0_0_1_n_n none m w (constant (F := F) S1024x1024 .f32 0x00000000#32))

section Slots

variable (c : Dev nD)

/-- A load of slot `s` is a read of the slot, -/
theorem mslot_load {off : Fin 3 → Nat} {s : Fin 3} (e : off = slot3Off s) (hh) (f : Buf (Elt F) (mR.view.loc (c : Thread nD τ))) :
    shapeCast S1024x1024 (View.readAt (Elt F) mR.view (Rect.unit (s := S3x1024x1024) off S1x1024x1024.size hh).toLoadRect f) shapeCasts_S1x1024x1024_S1024x1024
      = (mslot s).view.read (Elt F) f := by
  subst e; rfl
theorem xslot_load {off : Fin 3 → Nat} {s : Fin 3} (e : off = slot3Off s) (hh) (f : Buf (Elt F) (xR.view.loc (c : Thread nD τ))) :
    shapeCast S1024x1024 (View.readAt (Elt F) xR.view (Rect.unit (s := S3x1024x1024) off S1x1024x1024.size hh).toLoadRect f) shapeCasts_S1x1024x1024_S1024x1024
      = (xslot s).view.read (Elt F) f := by
  subst e; rfl
/-- and what a store of slot `s` leaves there is what was stored. -/
theorem yslot_store {off : Fin 3 → Nat} {s : Fin 2} (e : off = slot2Off s) (hh) (f : Buf (Elt F) (yR.view.loc (c : Thread nD τ)))
    (p : FVec F S1x1024x1024 .f32) :
    (yslot s).view.read (Elt F) (View.write (Elt F) (yR.access (Rect.unit (s := S2x1024x1024) off S1x1024x1024.size hh)) f p Finset.univ)
      = shapeCast S1024x1024 p shapeCasts_S1x1024x1024_S1024x1024 := by
  subst e
  funext i
  exact congrFun (View.read_write_univ (v := yR.access (Rect.unit (s := S2x1024x1024) (slot2Off s) S1x1024x1024.size hh)) (Val := Elt F) f p) _

/-- The weights' load is a read of the whole buffer. -/
theorem w_load (arg2 : Memref sig .tc .vmem S1024x1024 .bf16) (hh) (f : Buf (Elt F) (arg2.view.loc (c : Thread nD τ))) :
    View.readAt (Elt F) arg2.view (Rect.unit (s := S1024x1024) ![0, 0] S1024x1024.size hh).toLoadRect f = arg2.view.read (Elt F) f :=
  View.readAt_full arg2.view f hh

/-- What a trip stores, from what its loads read. -/
theorem pay_eq (vx : FVec F S1x1024x1024 .f32) (vm : FVec F S1x1024x1024 .bf16) (vw : FVec F S1024x1024 .bf16) :
    shapeCast S1024x1024 (k0_pay1 vx vm vw) shapeCasts_S1x1024x1024_S1024x1024
      = blockOf (shapeCast S1024x1024 vx shapeCasts_S1x1024x1024_S1024x1024) (shapeCast S1024x1024 vm shapeCasts_S1x1024x1024_S1024x1024) vw := by
  unfold k0_pay1 blockOf
  dsimp only
  rw [shapeCast_shapeCast, shapeCast_self vw]

/-- Two contents read alike through a view agree on the elements it covers. -/
theorem eq_on_of_read_eq {sp : Space} {s : Shape} {t : EltTy} (v : View sig .tc sp s t) (f g : Buf (Elt F) (v.loc (c : Thread nD τ)))
    (h : v.read (Elt F) f = v.read (Elt F) g) : ∀ i ∈ v.set, f i = g i := by
  intro i hi
  obtain ⟨x, -, rfl⟩ := Finset.mem_map.mp hi
  exact (cast_inj _).mp (congrFun h x)

/-- The block a trip leaves in the slot it stored. -/
theorem stored (MX : Buf (Elt F) (mM.view.loc (c : Thread nD τ))) (X : Buf (Elt F) (xM.view.loc (c : Thread nD τ)))
    (arg2 : Memref sig .tc .vmem S1024x1024 .bf16) (gw : Buf (Elt F) (arg2.view.loc (c : Thread nD τ)))
    (k : Fin k0_t1_loop.trips) (hx hm hy hw) (fx : Buf (Elt F) ((xslot (Ring.sl 3 k.val)).view.loc (c : Thread nD τ))) (fm : Buf (Elt F) ((mslot (Ring.sl 3 k.val)).view.loc (c : Thread nD τ)))
    (fy : Buf (Elt F) (yR.view.loc (c : Thread nD τ))) (rx : FVec F S1024x1024 .f32) (rm : FVec F S1024x1024 .bf16) :
    (yslot (Ring.sl 2 k.val)).view.read (Elt F)
      (View.write (Elt F) (yR.access (Rect.unit (s := S2x1024x1024) (k0_off23 (wK k.val)) S1x1024x1024.size hy)) fy
        (k0_pay1
          (View.readAt (Elt F) xR.view (Rect.unit (s := S3x1024x1024) (k0_off21 (wK k.val)) S1x1024x1024.size hx).toLoadRect
            ((xslot (Ring.sl 3 k.val)).view.writes (Elt F) fx [⟨Rect.whole S1024x1024, rx⟩]))
          (View.readAt (Elt F) mR.view (Rect.unit (s := S3x1024x1024) (k0_off22 (wK k.val)) S1x1024x1024.size hm).toLoadRect
            ((mslot (Ring.sl 3 k.val)).view.writes (Elt F) fm [⟨Rect.whole S1024x1024, rm⟩]))
          (View.readAt (Elt F) arg2.view (Rect.unit (s := S1024x1024) ![0, 0] S1024x1024.size hw).toLoadRect gw)) Finset.univ)
      = blockOf rx rm (arg2.view.read (Elt F) gw) := by
  rw [yslot_store c (off23_eq k), pay_eq, w_load]
  exact congrArg₂ (fun a b => blockOf a b (arg2.view.read (Elt F) gw))
    ((xslot_load c (off21_eq k) _ _).trans (View.read_writes_whole _ _ _))
    ((mslot_load c (off22_eq k) _ _).trans (View.read_writes_whole _ _ _))

/-- A block of the result that a copy filled holds `Y`, when the copy carried that block of `Y`. -/
theorem landed (Y : Buf (Elt F) (yM.view.loc (c : Thread nD τ))) (b : Fin 64) (f : Buf (Elt F) ((yblk b).view.loc (c : Thread nD τ)))
    (r : FVec F S1024x1024 .f32) (h : r = (yblk b).view.read (Elt F) Y) :
    ∀ i ∈ (yblk b).view.set, ((yblk b).view.writes (Elt F) f [⟨Rect.whole S1024x1024, r⟩] : Buf (Elt F) ((yblk b).view.loc (c : Thread nD τ))) i = Y i := by
  subst h
  exact eq_on_of_read_eq c (yblk b).view _ Y (View.read_writes_whole _ _ _)

end Slots

end Cert.Proof.Stream

end
-- ==== Proof.Trip.lean ====
/-
  One trip of the loop, in its three cases: the first, the last two and those between.
-/
module

public import proofs.«01_k».proof.Proof.Payload

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (MX : Buf (Elt F) (mM.view.loc (c : Thread nD τ))) (X : Buf (Elt F) (xM.view.loc (c : Thread nD τ)))
  (Y : Buf (Elt F) (yM.view.loc (c : Thread nD τ)))
  (arg2 : Memref sig .tc .vmem S1024x1024 .bf16) (harg2 : arg2.IsWhole) (gw : Buf (Elt F) (arg2.view.loc (c : Thread nD τ)))
  (v10 v27 : BitVec 32)

abbrev wHeld : sProp 𝕄 := arg2.view.loc (c : Thread nD τ) ↦[arg2.view.set]{fullShare} gw

abbrev tripG (k : Fin k0_t1_loop.trips) :=
  k0_t1_body (F := F) mM (Memref.isWhole_whole _) xM (Memref.isWhole_whole _) arg2 harg2 yM (Memref.isWhole_whole _)
    mR (Memref.isWhole_whole _) cc0_scoped1 xR (Memref.isWhole_whole _) cc0_scoped3 yR (Memref.isWhole_whole _) cc0_scoped5 v10 v27 k (accAt k.val)

variable (hY : ∀ b, (yblk b).view.read (Elt F) Y = blockOf ((xblk b).view.read (Elt F) X) ((mblk b).view.read (Elt F) MX) (arg2.view.read (Elt F) gw))

/-- What is held before trip `k`. -/
def heldAt (k : ℕ) : sProp 𝕄 :=
  iprop((∃ W, owes (c : Thread nD τ) 0 W) ∗ wHeld c arg2 gw ∗ insAt c MX X k ∗ outAt c Y k)

include hY in
/-- A trip in the middle: both inputs' next blocks go out, and the block before is waited for. -/
theorem tripMid (k : Fin k0_t1_loop.trips) (h1 : 1 ≤ k.val) (h62 : k.val < 62) :
   heldAt c MX X Y arg2 gw k.val
   ⊢ wp frame (wpE (defs₀ (F := F)) 𝒱₀ (c : Thread nD τ) none) Set.univ (tripG arg2 harg2 v10 v27 k)
      (fun r => iprop(⌜r = accAt (k.val + 1)⌝ ∗ heldAt c MX X Y arg2 gw (k.val + 1))) := by
  have hc3 := cond3_true k h62
  have hc4 := cond4_true k h62
  have hc5 := cond5_true k
  have hc6 := cond6_true k
  have hc10 := cond10_true k
  have hc13 := cond13_true k h1
  have hk1 := chk1_ok k
  have hk2 := chk2_ok k
  have hk3 := chk3_ok k
  have hk4 := chk4_ok k
  have hO := ins_open c MX X k.val h62
  have hU := out_open c Y k.val h1 (by omega)
  have hO' := ins_close c MX X k.val h62
  have hU' := out_close c Y k.val h1 (by omega)
  unfold minfl mfree xinfl xfree at hO hO'
  unfold yfree yinfl at hU hU'
  unfold yahead at hU
  unfold heldAt
  iintro ⟨⟨%W, HW⟩, Hw, HI, HO⟩
  ihave ⟨⟨%f0, HM0⟩, HMb, ⟨HMc, ⟨%f2, HMs⟩⟩, ⟨%g0, HX0⟩, HXb, ⟨HXc, ⟨%g2, HXs⟩⟩, HR⟩ := hO $$ HI
  ihave ⟨⟨HYc, ⟨%h0, HYs⟩⟩, ⟨%h2, HYb⟩, ⟨%h3, ⟨%h4, ⟨%h5, HYf⟩⟩⟩, HO⟩ := hU $$ HO
  dsimp only [tripG, accAt]
  sl_unfold [k0_t1_body]
  sl_exec
  sl_step
  sl_unfold_run_names
  isplitr
  · ipureintro
    exact Prod.ext (nextA k) (Prod.ext (nextK k) (Prod.ext (nextA k) (Prod.ext (nextK k) (Prod.ext (nextK k) (Prod.ext (nextP k) (nextB k))))))
  isplitl [HW]; · iexists _; iexact HW
  isplitl [Hw]; · iexact Hw
  isplitl [HMc HM0_src HM0 HM0_dst HXc HX0_src HX0 HX0_dst HR]
  · iapply hO'
    isplitl [HMc]; · iexists _; iexact HMc
    isplitl [HM0_src]; · iexact HM0_src
    isplitl [HM0 HM0_dst]
    · isplitl [HM0]; · iexact HM0
      iexists _; iexact HM0_dst
    isplitl [HXc]; · iexists _; iexact HXc
    isplitl [HX0_src]; · iexact HX0_src
    isplitl [HX0 HX0_dst]
    · isplitl [HX0]; · iexact HX0
      iexists _; iexact HX0_dst
    iexact HR
  · iapply hU'
    isplitl [HYc]
    · iexists _; iexists _
      isplitr
      swap
      · iexact HYc
      · ipureintro
        exact (stored c MX X arg2 gw k _ _ _ _ _ _ _ _ _).trans (hY _).symm
    isplitl [HYf HYf_src]
    · isplitl [HYf]; · iexact HYf
      iexists _; iexact HYf_src
    isplitl [HYf_dst]
    · iapply (Entails.of_eq (pointsTo_congr (landed c Y (Ring.bk 64 (k.val - 1)) h3 _ h5)))
      iexact HYf_dst
    iexact HO

include hY in
/-- The first trip: no block of the result is in flight yet. -/
theorem tripFirst (k : Fin k0_t1_loop.trips) (h1 : k.val = 0) :
   heldAt c MX X Y arg2 gw k.val
   ⊢ wp frame (wpE (defs₀ (F := F)) 𝒱₀ (c : Thread nD τ) none) Set.univ (tripG arg2 harg2 v10 v27 k)
      (fun r => iprop(⌜r = accAt (k.val + 1)⌝ ∗ heldAt c MX X Y arg2 gw (k.val + 1))) := by
  have h62 : k.val < 62 := by omega
  have hc3 := cond3_true k h62
  have hc4 := cond4_true k h62
  have hc5 := cond5_true k
  have hc6 := cond6_true k
  have hc10 := cond10_true k
  have hc13 := cond13_false k h1
  have hk1 := chk1_ok k
  have hk2 := chk2_ok k
  have hk3 := chk3_ok k
  have hk4 := chk4_ok k
  have hO := ins_open c MX X k.val h62
  have hU := out_open_first c Y k.val h1
  have hO' := ins_close c MX X k.val h62
  have hU' := out_close_first c Y k.val h1
  unfold minfl mfree xinfl xfree at hO hO'
  unfold yfree at hU hU'
  unfold yinfl at hU'
  unfold yahead at hU
  unfold heldAt
  iintro ⟨⟨%W, HW⟩, Hw, HI, HO⟩
  ihave ⟨⟨%f0, HM0⟩, HMb, ⟨HMc, ⟨%f2, HMs⟩⟩, ⟨%g0, HX0⟩, HXb, ⟨HXc, ⟨%g2, HXs⟩⟩, HR⟩ := hO $$ HI
  ihave ⟨⟨HYc, ⟨%h0, HYs⟩⟩, ⟨%h2, HYb⟩, ⟨HYf, ⟨%h4, HYf_src⟩⟩, HO⟩ := hU $$ HO
  dsimp only [tripG, accAt]
  sl_unfold [k0_t1_body]
  sl_exec
  sl_step
  sl_unfold_run_names
  isplitr
  · ipureintro
    exact Prod.ext (nextA k) (Prod.ext (nextK k) (Prod.ext (nextA k) (Prod.ext (nextK k) (Prod.ext (nextK k) (Prod.ext (nextP k) (nextB k))))))
  isplitl [HW]; · iexists _; iexact HW
  isplitl [Hw]; · iexact Hw
  isplitl [HMc HM0_src HM0 HM0_dst HXc HX0_src HX0 HX0_dst HR]
  · iapply hO'
    isplitl [HMc]; · iexists _; iexact HMc
    isplitl [HM0_src]; · iexact HM0_src
    isplitl [HM0 HM0_dst]
    · isplitl [HM0]; · iexact HM0
      iexists _; iexact HM0_dst
    isplitl [HXc]; · iexists _; iexact HXc
    isplitl [HX0_src]; · iexact HX0_src
    isplitl [HX0 HX0_dst]
    · isplitl [HX0]; · iexact HX0
      iexists _; iexact HX0_dst
    iexact HR
  · iapply hU'
    isplitl [HYc]
    · iexists _; iexists _
      isplitr
      swap
      · iexact HYc
      · ipureintro
        exact (stored c MX X arg2 gw k _ _ _ _ _ _ _ _ _).trans (hY _).symm
    isplitl [HYf HYf_src]
    · isplitl [HYf]; · iexact HYf
      iexists _; iexact HYf_src
    iexact HO

include hY in
/-- The last two trips: no block is left to fetch. -/
theorem tripLast (k : Fin k0_t1_loop.trips) (h1 : 1 ≤ k.val) (h62 : 62 ≤ k.val) :
   heldAt c MX X Y arg2 gw k.val
   ⊢ wp frame (wpE (defs₀ (F := F)) 𝒱₀ (c : Thread nD τ) none) Set.univ (tripG arg2 harg2 v10 v27 k)
      (fun r => iprop(⌜r = accAt (k.val + 1)⌝ ∗ heldAt c MX X Y arg2 gw (k.val + 1))) := by
  have h64 : k.val < 64 := trip_lt k
  have hc3 := cond3_false k h62
  have hc4 := cond4_false k h62
  have hc5 := cond5_true k
  have hc6 := cond6_true k
  have hc10 := cond10_true k
  have hc13 := cond13_true k h1
  have hk1 := chk1_ok k
  have hk2 := chk2_ok k
  have hk3 := chk3_ok k
  have hk4 := chk4_ok k
  have hO := ins_open_tail c MX X k.val h64
  have hU := out_open c Y k.val h1 (by omega)
  have hO' := ins_close_tail c MX X k.val h62 h64
  have hU' := out_close c Y k.val h1 (by omega)
  unfold mfree xfree at hO'
  unfold minfl xinfl at hO
  unfold yfree yinfl at hU hU'
  unfold yahead at hU
  unfold heldAt
  iintro ⟨⟨%W, HW⟩, Hw, HI, HO⟩
  ihave ⟨⟨%f0, HM0⟩, ⟨%g0, HX0⟩, HR⟩ := hO $$ HI
  ihave ⟨⟨HYc, ⟨%h0, HYs⟩⟩, ⟨%h2, HYb⟩, ⟨%h3, ⟨%h4, ⟨%h5, HYf⟩⟩⟩, HO⟩ := hU $$ HO
  dsimp only [tripG, accAt]
  sl_unfold [k0_t1_body]
  sl_exec
  sl_step
  sl_unfold_run_names
  isplitr
  · ipureintro
    exact Prod.ext (nextA k) (Prod.ext (nextK k) (Prod.ext (nextA k) (Prod.ext (nextK k) (Prod.ext (nextK k) (Prod.ext (nextP k) (nextB k))))))
  isplitl [HW]; · iexists _; iexact HW
  isplitl [Hw]; · iexact Hw
  isplitl [HM0_src HM0 HM0_dst HX0_src HX0 HX0_dst HR]
  · iapply hO'
    isplitl [HM0_src]; · iexact HM0_src
    isplitl [HM0 HM0_dst]
    · isplitl [HM0]; · iexact HM0
      iexists _; iexact HM0_dst
    isplitl [HX0_src]; · iexact HX0_src
    isplitl [HX0 HX0_dst]
    · isplitl [HX0]; · iexact HX0
      iexists _; iexact HX0_dst
    iexact HR
  · iapply hU'
    isplitl [HYc]
    · iexists _; iexists _
      isplitr
      swap
      · iexact HYc
      · ipureintro
        exact (stored c MX X arg2 gw k _ _ _ _ _ _ _ _ _).trans (hY _).symm
    isplitl [HYf HYf_src]
    · isplitl [HYf]; · iexact HYf
      iexists _; iexact HYf_src
    isplitl [HYf_dst]
    · iapply (Entails.of_eq (pointsTo_congr (landed c Y (Ring.bk 64 (k.val - 1)) h3 _ h5)))
      iexact HYf_dst
    iexact HO

include hY in
/-- Every trip takes what is held before it to what is held before the next. -/
theorem trip (k : Fin k0_t1_loop.trips) :
   heldAt c MX X Y arg2 gw k.val
   ⊢ wp frame (wpE (defs₀ (F := F)) 𝒱₀ (c : Thread nD τ) none) Set.univ (tripG arg2 harg2 v10 v27 k)
      (fun r => iprop(⌜r = accAt (k.val + 1)⌝ ∗ heldAt c MX X Y arg2 gw (k.val + 1))) := by
  by_cases h0 : k.val = 0
  · exact tripFirst c MX X Y arg2 harg2 gw v10 v27 hY k h0
  by_cases h62 : k.val < 62
  · exact tripMid c MX X Y arg2 harg2 gw v10 v27 hY k (by omega) h62
  · exact tripLast c MX X Y arg2 harg2 gw v10 v27 hY k (by omega) (by omega)

end Trip

end Cert.Proof.Stream

end
-- ==== Proof.Body.lean ====
/-
  The call's body: blocks 0 and 1 of both inputs issued, the loop of 64 trips by its invariant, the last block of the result
  waited for.
-/
module

public import proofs.«01_k».proof.Proof.Trip

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body

variable (c : Dev nD) (MX : Buf (Elt F) (mM.view.loc (c : Thread nD τ))) (X : Buf (Elt F) (xM.view.loc (c : Thread nD τ)))
  (Y : Buf (Elt F) (yM.view.loc (c : Thread nD τ)))
  (arg2 : Memref sig .tc .vmem S1024x1024 .bf16) (harg2 : arg2.IsWhole) (gw : Buf (Elt F) (arg2.view.loc (c : Thread nD τ)))
  (hY : ∀ b, (yblk b).view.read (Elt F) Y = blockOf ((xblk b).view.read (Elt F) X) ((mblk b).view.read (Elt F) MX) (arg2.view.read (Elt F) gw))

/-- The call's body over the named buffers. -/
abbrev bodyG : Prog (TpuEff nD τ sig (Elt F) Λ₀ .tc) PUnit :=
  cc0_out1 mM (Memref.isWhole_whole _) xM (Memref.isWhole_whole _) arg2 harg2 yM (Memref.isWhole_whole _)
    mR (Memref.isWhole_whole _) cc0_scoped1 xR (Memref.isWhole_whole _) cc0_scoped3 yR (Memref.isWhole_whole _) cc0_scoped5

/-- What the body is handed: every block at home, every slot free. -/
abbrev PRE : sProp 𝕄 :=
  iprop((∃ W, owes (c : Thread nD τ) 0 W) ∗ wHeld c arg2 gw
    ∗ mhomeP c MX 0 ∗ mhomeP c MX 1 ∗ bigSep (Ring.homeSet 2 0) (mhomeP c MX)
    ∗ xhomeP c X 0 ∗ xhomeP c X 1 ∗ bigSep (Ring.homeSet 2 0) (xhomeP c X)
    ∗ bigSep (Ring.aheadSet 0) (yahead c)
    ∗ (mfree c 0 ∗ mfree c 1 ∗ mfree c 2) ∗ (xfree c 0 ∗ xfree c 1 ∗ xfree c 2) ∗ (yfree c 0 ∗ yfree c 1))
/-- What it gives back: the same, with the result's blocks at `Y`. -/
abbrev POST : sProp 𝕄 :=
  iprop((∃ W, owes (c : Thread nD τ) 0 W) ∗ wHeld c arg2 gw
    ∗ bigSep Finset.univ (mhomeP c MX) ∗ bigSep Finset.univ (xhomeP c X) ∗ bigSep Finset.univ (ybehind c Y)
    ∗ (mfree c 0 ∗ mfree c 1 ∗ mfree c 2) ∗ (xfree c 0 ∗ xfree c 1 ∗ xfree c 2) ∗ (yfree c 0 ∗ yfree c 1))

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem sl2_0 : Ring.sl 2 0 = 0 := Fin.ext (by rfl)
theorem sl2_1 : Ring.sl 2 (0 + 1) = 1 := Fin.ext (by rfl)
theorem bk_0 : Ring.bk 64 0 = 0 := Fin.ext (by rfl)
theorem bk_1 : Ring.bk 64 (0 + 1) = 1 := Fin.ext (by rfl)

/-- Blocks 0 and 1 issued, what is held is what the first trip takes. -/
theorem held_zero :
    iprop((∃ W, owes (c : Thread nD τ) 0 W) ∗ wHeld c arg2 gw
      ∗ minfl c MX 0 0 ∗ minfl c MX 1 1 ∗ mfree c 2 ∗ bigSep (Ring.homeSet 2 0) (mhomeP c MX)
      ∗ xinfl c X 0 0 ∗ xinfl c X 1 1 ∗ xfree c 2 ∗ bigSep (Ring.homeSet 2 0) (xhomeP c X)
      ∗ bigSep (Ring.aheadSet 0) (yahead c) ∗ yfree c 0 ∗ yfree c 1) ⊢ heldAt c MX X Y arg2 gw 0 := by
  unfold heldAt insAt outAt
  rw [mrole_lt c MX 0 (by decide), mrole_lt c MX (0 + 1) (by decide), xrole_lt c X 0 (by decide), xrole_lt c X (0 + 1) (by decide),
    yrole_lt c Y 0 (by decide), sl3_0, sl3_1, sl3_2, sl2_0, sl2_1, bk_0, bk_1, Ring.behindSet_boot 1 0 (by decide), bigSep_empty]
  iintro ⟨HW, Hw, Hm0, Hm1, Hm2, HM, Hx0, Hx1, Hx2, HX, HY, Hy0, Hy1⟩
  isplitl [HW]; · iexact HW
  isplitl [Hw]; · iexact Hw
  isplitl [Hm0 Hm1 Hm2 HM Hx0 Hx1 Hx2 HX]
  · isplitl [HM]; · iexact HM
    isplitl [HX]; · iexact HX
    isplitl [Hm0]; · iexact Hm0
    isplitl [Hm1]; · iexact Hm1
    isplitl [Hm2]; · iexact Hm2
    isplitl [Hx0]; · iexact Hx0
    isplitl [Hx1]; · iexact Hx1
    iexact Hx2
  isplitl [HY]; · iexact HY
  isplitr; · iempintro
  isplitl [Hy0]; · iexact Hy0
  iexact Hy1

theorem sl2_64 : Ring.sl 2 64 = 0 := Fin.ext (by rfl)
theorem sl2_65 : Ring.sl 2 (64 + 1) = 1 := Fin.ext (by rfl)
theorem sl3_64 : Ring.sl 3 64 = 1 := Fin.ext (by rfl)
theorem sl3_65 : Ring.sl 3 (64 + 1) = 2 := Fin.ext (by rfl)
theorem sl3_66 : Ring.sl 3 (64 + 2) = 0 := Fin.ext (by rfl)
theorem bk_63 : Ring.bk 64 (64 - 1) = 63 := Fin.ext (by rfl)

/-- After the last trip everything is home but the result's last block, still in flight. -/
theorem held_last :
    heldAt c MX X Y arg2 gw 64 ⊢
    iprop((∃ W, owes (c : Thread nD τ) 0 W) ∗ wHeld c arg2 gw
      ∗ bigSep Finset.univ (mhomeP c MX) ∗ bigSep Finset.univ (xhomeP c X) ∗ bigSep (Ring.behindSet 1 64) (ybehind c Y)
      ∗ (mfree c 0 ∗ mfree c 1 ∗ mfree c 2) ∗ (xfree c 0 ∗ xfree c 1 ∗ xfree c 2) ∗ yfree c 0 ∗ yinfl c Y 1 63) := by
  unfold heldAt insAt outAt
  rw [mrole_le c MX 64 (by decide), mrole_le c MX (64 + 1) (by decide), xrole_le c X 64 (by decide), xrole_le c X (64 + 1) (by decide),
    yrole_le c Y 64 (by decide), sl3_64, sl3_65, sl3_66, sl2_64, sl2_65, bk_63, Ring.homeSet_last (NB := 64) (L := 2) 64 (by decide), Ring.aheadSet_end 64 (by decide), bigSep_empty]
  iintro ⟨HW, Hw, ⟨HM, HX, Hm1, Hm2, Hm0, Hx1, Hx2, Hx0⟩, ⟨-, HY, Hy0, Hy1⟩⟩
  isplitl [HW]; · iexact HW
  isplitl [Hw]; · iexact Hw
  isplitl [HM]; · iexact HM
  isplitl [HX]; · iexact HX
  isplitl [HY]; · iexact HY
  isplitl [Hm0 Hm1 Hm2]
  · isplitl [Hm0]; · iexact Hm0
    isplitl [Hm1]; · iexact Hm1
    iexact Hm2
  isplitl [Hx0 Hx1 Hx2]
  · isplitl [Hx0]; · iexact Hx0
    isplitl [Hx1]; · iexact Hx1
    iexact Hx2
  isplitl [Hy0]; · iexact Hy0
  iexact Hy1

omit [FloatOps F] in
/-- The last block back, every block of the result is written. -/
theorem bigSep_all_behind (P : Fin 64 → sProp 𝕄) :
    iprop(P 63 ∗ bigSep (Ring.behindSet 1 64) P) = bigSep Finset.univ P := by
  have e : (Finset.univ : Finset (Fin 64)) = insert 63 (Ring.behindSet 1 64) := by decide +kernel
  conv_rhs => rw [e, bigSep_insert (by decide +kernel)]
  rfl

include hY in
/-- The body, from every block at home to the result's blocks at `Y`. -/
theorem bodyRun (Q : PUnit → sProp 𝕄) :
    iprop(PRE c MX X arg2 gw ∗ (POST c MX X Y arg2 gw -∗ Q ⟨⟩))
      ⊢ wp frame (wpE (defs₀ (F := F)) 𝒱₀ (c : Thread nD τ) none) Set.univ (bodyG arg2 harg2) Q := by
  unfold PRE mfree xfree yfree
  iintro ⟨⟨⟨%W, HW⟩, Hw, HM0, HM1, HMh, HX0, HX1, HXh, HYh, ⟨⟨Hmc0, ⟨%f0, Hm0⟩⟩, ⟨Hmc1, ⟨%f1, Hm1⟩⟩, Hm2⟩, ⟨⟨Hxc0, ⟨%g0, Hx0⟩⟩, ⟨Hxc1, ⟨%g1, Hx1⟩⟩, Hx2⟩, ⟨Hy0, Hy1⟩⟩, Hk⟩
  have hc1 : k0_cond1 = 1#1 := by decide +kernel
  have hc2 : k0_cond2 = 1#1 := by decide +kernel
  sl_exec
  ihave H := (held_zero c MX X Y arg2 gw) $$ [HW Hw HMh HXh HYh Hm2 Hx2 Hy0 Hy1 Hmc0 Hxc0 Hmc1 Hxc1]
  · isplitl [HW]; · iexists _; iexact HW
    isplitl [Hw]; · iexact Hw
    isplitl [Hmc0]; · unfold minfl; iexists _; iexact Hmc0
    isplitl [Hmc1]; · unfold minfl; iexists _; iexact Hmc1
    isplitl [Hm2]; · unfold mfree; iexact Hm2
    isplitl [HMh]; · iexact HMh
    isplitl [Hxc0]; · unfold xinfl; iexists _; iexact Hxc0
    isplitl [Hxc1]; · unfold xinfl; iexists _; iexact Hxc1
    isplitl [Hx2]; · unfold xfree; iexact Hx2
    isplitl [HXh]; · iexact HXh
    isplitl [HYh]; · iexact HYh
    isplitl [Hy0]; · unfold yfree; iexact Hy0
    unfold yfree; iexact Hy1
  sl_for (fun k acc => iprop(⌜acc = accAt k⌝ ∗ heldAt c MX X Y arg2 gw k)) $$ [H]
  · intro k acc
    iintro ⟨%h, H⟩
    subst h
    iapply (trip c MX X Y arg2 harg2 gw _ _ hY k)
    iexact H
  · isplitr
    · ipureintro; rfl
    · iexact H
  iintro %acc ⟨%h, H⟩
  rw [show Scf.trips k0_t1_loop.lb k0_t1_loop.ub k0_t1_loop.st = 64 from trips_eq] at h
  subst h
  have hk5 := chk5_ok
  have hk6 := chk6_ok
  ihave ⟨HW, Hw, HM, HX, HY, Hm, Hx, Hy0, Hy1⟩ := ((Entails.of_eq (congrArg (heldAt c MX X Y arg2 gw) trips_eq)).trans (held_last c MX X Y arg2 gw)) $$ H
  unfold yinfl
  icases HW with ⟨%W', HW⟩
  icases Hy1 with ⟨%f, ⟨%g, ⟨%h5, Hy1⟩⟩⟩
  dsimp only [accAt]
  sl_exec
  sl_step
  iapply Hk
  isplitl [HW]; · iexists _; iexact HW
  isplitl [Hw]; · iexact Hw
  isplitl [HM]; · iexact HM
  isplitl [HX]; · iexact HX
  isplitl [HY Hy1_dst]
  · iapply (Entails.of_eq (bigSep_all_behind (ybehind c Y)))
    isplitl [Hy1_dst]
    · iapply (Entails.of_eq (pointsTo_congr (landed c Y 63 f _ h5)))
      iexact Hy1_dst
    iexact HY
  isplitl [Hm]; · iexact Hm
  isplitl [Hx]; · iexact Hx
  isplitl [Hy0]; · iexact Hy0
  unfold yfree
  isplitl [Hy1]; · iexact Hy1
  iexists _; iexact Hy1_src

end Body

end Cert.Proof.Stream

end
-- ==== Proof.Split.lean ====
/-
  The call's buffers as their parts: an array in HBM is its 64 blocks, a ring is its slots, and the kernel's own
  semaphores are the slots' semaphores.
-/
module

public import proofs.«01_k».proof.Proof.Body
public import Idealize.ShloMosaic.Lib.Pipeline.Routed

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Element sets -/

abbrev BS (b : Fin 64) : Finset S65536x1024.Idx := (Rect.unit (s := S65536x1024) (blkOff b) S1024x1024.size (blkOff_inb b)).set
abbrev S3S (s : Fin 3) : Finset S3x1024x1024.Idx := (Rect.unit (s := S3x1024x1024) (slot3Off s) S1x1024x1024.size (slot3Off_inb s)).set
abbrev S2S (s : Fin 2) : Finset S2x1024x1024.Idx := (Rect.unit (s := S2x1024x1024) (slot2Off s) S1x1024x1024.size (slot2Off_inb s)).set

theorem mblk_set (b : Fin 64) : (mblk b).view.set = BS b := View.set_slice_whole _ _
theorem xblk_set (b : Fin 64) : (xblk b).view.set = BS b := View.set_slice_whole _ _
theorem yblk_set (b : Fin 64) : (yblk b).view.set = BS b := View.set_slice_whole _ _
theorem mslot_set (s : Fin 3) : (mslot s).view.set = S3S s := (View.set_reshape _ _).trans (View.set_slice_whole _ _)
theorem xslot_set (s : Fin 3) : (xslot s).view.set = S3S s := (View.set_reshape _ _).trans (View.set_slice_whole _ _)
theorem yslot_set (s : Fin 2) : (yslot s).view.set = S2S s := (View.set_reshape _ _).trans (View.set_slice_whole _ _)

theorem BS_disjoint : ∀ b b' : Fin 64, b ≠ b' → Disjoint (BS b) (BS b') :=
  Ring.lead_disjoint (s := S65536x1024) 0 1024 blkOff S1024x1024.size blkOff_inb (by intro b; show 1024 * b.val = _; rfl) rfl
theorem BS_cover : (Finset.univ : Finset (Fin 64)).biUnion BS = Finset.univ :=
  Ring.lead_cover (s := S65536x1024) 0 1024 blkOff S1024x1024.size blkOff_inb (by intro b; show 1024 * b.val = _; rfl)
    (by intro b a ha; fin_cases a; exact absurd rfl ha; rfl) rfl (by intro a ha; fin_cases a; exact absurd rfl ha; rfl) rfl
theorem S3S_disjoint : ∀ s s' : Fin 3, s ≠ s' → Disjoint (S3S s) (S3S s') :=
  Ring.lead_disjoint (s := S3x1024x1024) 0 1 slot3Off S1x1024x1024.size slot3Off_inb (by decide) rfl
theorem S3S_cover : (Finset.univ : Finset (Fin 3)).biUnion S3S = Finset.univ :=
  Ring.lead_cover (s := S3x1024x1024) 0 1 slot3Off S1x1024x1024.size slot3Off_inb (by decide) (by decide) rfl (by decide) rfl
theorem S2S_disjoint : ∀ s s' : Fin 2, s ≠ s' → Disjoint (S2S s) (S2S s') :=
  Ring.lead_disjoint (s := S2x1024x1024) 0 1 slot2Off S1x1024x1024.size slot2Off_inb (by decide) rfl
theorem S2S_cover : (Finset.univ : Finset (Fin 2)).biUnion S2S = Finset.univ :=
  Ring.lead_cover (s := S2x1024x1024) 0 1 slot2Off S1x1024x1024.size slot2Off_inb (by decide) (by decide) rfl (by decide) rfl

/-! ## Arrays -/

section Arrays

variable (c : Dev nD)

theorem mhomeP_eq (b : Fin 64) (f : Buf (Elt F) ((c : Thread nD τ).loc main_v1)) :
    (mhomeP c f b : sProp 𝕄) = (((c : Thread nD τ).loc main_v1) ↦[BS b]{fullShare} f : sProp 𝕄) :=
  congrArg (fun S => (_ ↦[S]{fullShare} f : sProp 𝕄)) (mblk_set b)
theorem xhomeP_eq (b : Fin 64) (f : Buf (Elt F) ((c : Thread nD τ).loc main_v0)) :
    (xhomeP c f b : sProp 𝕄) = (((c : Thread nD τ).loc main_v0) ↦[BS b]{fullShare} f : sProp 𝕄) :=
  congrArg (fun S => (_ ↦[S]{fullShare} f : sProp 𝕄)) (xblk_set b)
theorem yhomeP_eq (b : Fin 64) (f : Buf (Elt F) ((c : Thread nD τ).loc main_v3)) :
    (yhomeP c b f : sProp 𝕄) = (((c : Thread nD τ).loc main_v3) ↦[BS b]{fullShare} f : sProp 𝕄) :=
  congrArg (fun S => (_ ↦[S]{fullShare} f : sProp 𝕄)) (yblk_set b)

theorem m_eq (f : Buf (Elt F) ((c : Thread nD τ).loc main_v1)) :
    (((c : Thread nD τ).loc main_v1) ↦{fullShare} f : sProp 𝕄) = bigSep Finset.univ (mhomeP c f) := by
  rw [Ring.pointsTo_blocks (ℓ := (c : Thread nD τ).loc main_v1) BS BS_disjoint BS_cover]
  exact bigSep_congr fun b _ => (mhomeP_eq c b f).symm
theorem x_eq (f : Buf (Elt F) ((c : Thread nD τ).loc main_v0)) :
    (((c : Thread nD τ).loc main_v0) ↦{fullShare} f : sProp 𝕄) = bigSep Finset.univ (xhomeP c f) := by
  rw [Ring.pointsTo_blocks (ℓ := (c : Thread nD τ).loc main_v0) BS BS_disjoint BS_cover]
  exact bigSep_congr fun b _ => (xhomeP_eq c b f).symm
theorem y_eq (f : Buf (Elt F) ((c : Thread nD τ).loc main_v3)) :
    (((c : Thread nD τ).loc main_v3) ↦{fullShare} f : sProp 𝕄) = bigSep Finset.univ (ybehind c f) := by
  rw [Ring.pointsTo_blocks (ℓ := (c : Thread nD τ).loc main_v3) BS BS_disjoint BS_cover]
  exact bigSep_congr fun b _ => (yhomeP_eq c b f).symm
/-- The result's array at anything is its blocks not yet written. -/
theorem y_split (f : Buf (Elt F) ((c : Thread nD τ).loc main_v3)) :
    (((c : Thread nD τ).loc main_v3) ↦{fullShare} f : sProp 𝕄) ⊢ bigSep (Ring.aheadSet 0) (yahead c) := by
  rw [y_eq c f, Ring.aheadSet_zero]
  refine BI.bigSep_mono fun b _ => ?_
  show (yhomeP c b f : sProp 𝕄) ⊢ iprop(∃ f, yhomeP c b f)
  iintro H; iexists f; iexact H

/-- Blocks 0 and 1 apart from the rest. -/
theorem homes_zero (P : Fin 64 → sProp 𝕄) :
    bigSep Finset.univ P = iprop(P 0 ∗ P 1 ∗ bigSep (Ring.homeSet 2 0) P) := by
  have e : (Finset.univ : Finset (Fin 64)) = insert 0 (insert 1 (Ring.homeSet (NB := 64) 2 0)) := by
    ext b; simp only [Finset.mem_univ, Finset.mem_insert, Ring.mem_homeSet, true_iff, Fin.ext_iff]; have := b.isLt; omega
  conv_lhs => rw [e, bigSep_insert (by simp [Ring.mem_homeSet, Fin.ext_iff]), bigSep_insert (by simp [Ring.mem_homeSet])]
  rfl

end Arrays

/-! ## Rings -/

section Slots

variable (c : Dev nD)

theorem mslotP_eq (s : Fin 3) (f) : mslotP c s f = (((c : Thread nD τ).loc cc0_scoped0) ↦[S3S s]{fullShare} f : sProp 𝕄) :=
  congrArg (fun S => (_ ↦[S]{fullShare} f : sProp 𝕄)) (mslot_set s)
theorem xslotP_eq (s : Fin 3) (f) : xslotP c s f = (((c : Thread nD τ).loc cc0_scoped2) ↦[S3S s]{fullShare} f : sProp 𝕄) :=
  congrArg (fun S => (_ ↦[S]{fullShare} f : sProp 𝕄)) (xslot_set s)
theorem yslotP_eq (s : Fin 2) (f) : yslotP c s f = (((c : Thread nD τ).loc cc0_scoped4) ↦[S2S s]{fullShare} f : sProp 𝕄) :=
  congrArg (fun S => (_ ↦[S]{fullShare} f : sProp 𝕄)) (yslot_set s)

theorem mring_split : iprop(∃ f : Buf (Elt F) ((c : Thread nD τ).loc cc0_scoped0), ((c : Thread nD τ).loc cc0_scoped0) ↦{fullShare} f)
    ⊢ (iprop((∃ f, mslotP c 0 f) ∗ (∃ f, mslotP c 1 f) ∗ ∃ f, mslotP c 2 f) : sProp 𝕄) :=
  Ring.slots3_split (ℓ := (c : Thread nD τ).loc cc0_scoped0) S3S S3S_disjoint S3S_cover _ _ _ (mslotP_eq c 0) (mslotP_eq c 1) (mslotP_eq c 2)
theorem mring_join : iprop((∃ f, mslotP c 0 f) ∗ (∃ f, mslotP c 1 f) ∗ ∃ f, mslotP c 2 f)
    ⊢ (iprop(∃ f : Buf (Elt F) ((c : Thread nD τ).loc cc0_scoped0), ((c : Thread nD τ).loc cc0_scoped0) ↦{fullShare} f) : sProp 𝕄) :=
  Ring.slots3_join (ℓ := (c : Thread nD τ).loc cc0_scoped0) S3S S3S_disjoint S3S_cover _ _ _ (mslotP_eq c 0) (mslotP_eq c 1) (mslotP_eq c 2)
theorem xring_split : iprop(∃ f : Buf (Elt F) ((c : Thread nD τ).loc cc0_scoped2), ((c : Thread nD τ).loc cc0_scoped2) ↦{fullShare} f)
    ⊢ (iprop((∃ f, xslotP c 0 f) ∗ (∃ f, xslotP c 1 f) ∗ ∃ f, xslotP c 2 f) : sProp 𝕄) :=
  Ring.slots3_split (ℓ := (c : Thread nD τ).loc cc0_scoped2) S3S S3S_disjoint S3S_cover _ _ _ (xslotP_eq c 0) (xslotP_eq c 1) (xslotP_eq c 2)
theorem xring_join : iprop((∃ f, xslotP c 0 f) ∗ (∃ f, xslotP c 1 f) ∗ ∃ f, xslotP c 2 f)
    ⊢ (iprop(∃ f : Buf (Elt F) ((c : Thread nD τ).loc cc0_scoped2), ((c : Thread nD τ).loc cc0_scoped2) ↦{fullShare} f) : sProp 𝕄) :=
  Ring.slots3_join (ℓ := (c : Thread nD τ).loc cc0_scoped2) S3S S3S_disjoint S3S_cover _ _ _ (xslotP_eq c 0) (xslotP_eq c 1) (xslotP_eq c 2)
theorem yring_split : iprop(∃ f : Buf (Elt F) ((c : Thread nD τ).loc cc0_scoped4), ((c : Thread nD τ).loc cc0_scoped4) ↦{fullShare} f)
    ⊢ (iprop((∃ f, yslotP c 0 f) ∗ ∃ f, yslotP c 1 f) : sProp 𝕄) :=
  Ring.slots2_split (ℓ := (c : Thread nD τ).loc cc0_scoped4) S2S S2S_disjoint S2S_cover _ _ (yslotP_eq c 0) (yslotP_eq c 1)
theorem yring_join : iprop((∃ f, yslotP c 0 f) ∗ ∃ f, yslotP c 1 f)
    ⊢ (iprop(∃ f : Buf (Elt F) ((c : Thread nD τ).loc cc0_scoped4), ((c : Thread nD τ).loc cc0_scoped4) ↦{fullShare} f) : sProp 𝕄) :=
  Ring.slots2_join (ℓ := (c : Thread nD τ).loc cc0_scoped4) S2S S2S_disjoint S2S_cover _ _ (yslotP_eq c 0) (yslotP_eq c 1)

/-! ## The kernel's own semaphores -/

/-- The eight semaphores of the slots. -/
def osem : Fin 8 → SemLoc sig := fun i => .dma ⟨i.val + 1, by have := i.isLt; show _ < 9; omega⟩

theorem ownSemFacts : Pipeline.OwnSemFacts spec0 osem := by decide

theorem ownSems_eq : (Pipeline.ownSems0 (Ix := Unit) (Name := ℕ) (U := UU nD τ) (Lvl := ℕ) (Val := Elt F) (τ := τ) osem c : sProp 𝕄)
    = iprop(mcellP c 0 ∗ mcellP c 1 ∗ mcellP c 2 ∗ xcellP c 0 ∗ xcellP c 1 ∗ xcellP c 2 ∗ ycellP c 0 ∗ ycellP c 1) := by
  rw [Pipeline.ownSems0_eq_of_list c osem [0, 1, 2, 3, 4, 5, 6, 7] (by decide) (by decide)]
  rfl

end Slots

end Cert.Proof.Stream

end
-- ==== Proof.Launch.lean ====
/-
  The launch: @main's host operations, then the call, whose result's array ends at `outArr`.
-/
module

public import proofs.«01_k».proof.Proof.Split
public import proofs.«01_k».proof.Proof.Gen.KernelIdeal.Frame
public import Idealize.ShloMosaic.Lib.Pipeline.ValueKit.Geometry

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The result's array -/

/-- The block an element of the result lies in, and its place there. -/
def blkIx (i : S65536x1024.Idx) : Fin 64 := ⟨(i 0).val / 1024, by have h : (i 0).val < 65536 := (i 0).isLt; omega⟩
def inBlk (i : S65536x1024.Idx) : S1024x1024.Idx := fun
  | ⟨0, _⟩ => ⟨(i 0).val % 1024, Nat.mod_lt _ (by decide)⟩
  | ⟨1, _⟩ => ⟨(i 1).val, (i 1).isLt⟩

/-- The result: at each element, the block of `x` plus the block of `mix` times the weights. -/
def outArr (X : FVec F S65536x1024 .f32) (MX : FVec F S65536x1024 .bf16) (W : FVec F S1024x1024 .bf16) : FVec F S65536x1024 .f32 :=
  fun i => blockOf ((xblk (blkIx i)).view.read (Elt F) X) ((mblk (blkIx i)).view.read (Elt F) MX) W (inBlk i)

/-- The element of the array that element `j` of block `b` is. -/
def yAt (b : Fin 64) (j : S1024x1024.Idx) : S65536x1024.Idx := (yblk b).view.emb j
theorem yAt_val (b : Fin 64) (j : S1024x1024.Idx) (a : Fin 2) : (yAt b j a).val = blkOff b a + (j a).val := by
  unfold yAt yblk
  exact ValueKit.view_emb_slice_whole_unit_val main_v3 (blkOff b) S1024x1024.size (blkOff_inb b) j a

/-- Block `b` of the result is what the body computes of block `b` of the inputs. -/
theorem outArr_blk (X : FVec F S65536x1024 .f32) (MX : FVec F S65536x1024 .bf16) (W : FVec F S1024x1024 .bf16) (b : Fin 64) :
    (yblk b).view.read (Elt F) (outArr X MX W) = blockOf ((xblk b).view.read (Elt F) X) ((mblk b).view.read (Elt F) MX) W := by
  funext j
  show outArr X MX W (yAt b j) = _
  have h0 : (j 0).val < 1024 := (j 0).isLt
  have e0 : (yAt b j 0).val = 1024 * b.val + (j 0).val := yAt_val b j 0
  have e1 : (yAt b j 1).val = 0 + (j 1).val := yAt_val b j 1
  have eb : blkIx (yAt b j) = b := Fin.ext (by show (yAt b j 0).val / 1024 = b.val; omega)
  have ej : inBlk (yAt b j) = j := by
    funext a; fin_cases a
    · exact Fin.ext (by show (yAt b j 0).val % 1024 = (j 0).val; omega)
    · exact Fin.ext (by show (yAt b j 1).val = (j 1).val; omega)
  unfold outArr; rw [eb, ej]

section Launch

variable (m : (ℓ : Loc nD τ sig) → Buf (Elt F) ℓ) (ρ : Dev nD → PrngReg)

/-- The buffers the body owns whole: the two inputs' arrays and the result's. -/
def R0 : Finset (Ref sig .tc) := {main_v0, main_v1, main_v3}
theorem R0_sub : R0 ⊆ Pipeline.restRefs sig spec0 := by decide

/-- The result's array at the run's end. -/
def outV (c : Dev nD) : FVec F S65536x1024 .f32 := outArr (V m c main_v0) (V m c main_v1) (iblk m c 0 t0_0)
/-- The owned buffers' contents at the run's end. -/
def Yv (c : Dev nD) : (b : Ref sig .tc) → Buf (Elt F) ((c : Thread nD τ).loc b) := Function.update (V m c) main_v3 (outV m c)

theorem Yv_v0 (c : Dev nD) : Yv m c main_v0 = V m c main_v0 := Function.update_of_ne (by decide) _ _
theorem Yv_v1 (c : Dev nD) : Yv m c main_v1 = V m c main_v1 := Function.update_of_ne (by decide) _ _
theorem Yv_v3 (c : Dev nD) : Yv m c main_v3 = outV m c := Function.update_self _ _ _

abbrev st0 (t : Fin cfg0.N) : Memref sig .tc .vmem S1024x1024 .bf16 := win0_0.stage (cfg0.slots t 0)
abbrev hst0 (t : Fin cfg0.N) : (st0 t).IsWhole := hstage0_0 0

/-- The invariant: the owned buffers at `W`, the kernel's semaphores, its scoped buffers. -/
def endsAt (c : Dev nD) (W : (b : Ref sig .tc) → Buf (Elt F) ((c : Thread nD τ).loc b)) : sProp 𝕄 :=
  Pipeline.Ends (Val := Elt F) (nD := nD) (τ := τ) spec0 osem R0 c W

theorem endsAt_eq (c : Dev nD) (W : (b : Ref sig .tc) → Buf (Elt F) ((c : Thread nD τ).loc b)) :
    endsAt c W = iprop(((((c : Thread nD τ).loc main_v0) ↦{fullShare} W main_v0) ∗ (((c : Thread nD τ).loc main_v1) ↦{fullShare} W main_v1)
        ∗ (((c : Thread nD τ).loc main_v3) ↦{fullShare} W main_v3))
      ∗ (mcellP c 0 ∗ mcellP c 1 ∗ mcellP c 2 ∗ xcellP c 0 ∗ xcellP c 1 ∗ xcellP c 2 ∗ ycellP c 0 ∗ ycellP c 1)
      ∗ ((∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f)
        ∗ (∃ f : Buf (Elt F) ((c : Thread nD τ).loc cc0_scoped4), ((c : Thread nD τ).loc cc0_scoped4) ↦{fullShare} f))
      ∗ ∃ r, prngReg c r) := by
  unfold endsAt Pipeline.Ends Pipeline.routed
  rw [BI.bigSep_eq_bigSepL_of_eq [main_v0, main_v1, main_v3] (by decide) (by decide), ownSems_eq, scopedRest0_eq]
  rfl

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := if t.val = 0 then endsAt c (V m c) else endsAt c (Yv m c)
  q _ := fullShare
  owed _ := 0

theorem A_eq (c : Dev nD) (w : Fin cfg0.W) : (dats m 0 c).A w = V m c (Pipeline.arrRef spec0 w) := by
  dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem phi_entry (c : Dev nD) (t : Fin cfg0.N) : (dats m 0 c).Φ t.castSucc = endsAt c (V m c) := by
  have h : t.val = 0 := by rw [fin_N0 t]; rfl
  dsimp only [dats]; rw [if_pos (by exact h)]
theorem phi_exit (c : Dev nD) (t : Fin cfg0.N) : (dats m 0 c).Φ t.succ = endsAt c (Yv m c) := by
  dsimp only [dats]; rw [if_neg (by simp)]

theorem defs₀_row (t : Fin cfg0.N) :
    defs₀ (F := F) .tc cfg0.body (cfg0.bodyArgs t (cfg0.slots t)) = bodyG (st0 t) (hst0 t) := by
  unfold defs₀; rw [Defs.onTc_tc]

/-- What the body is handed, cut into its blocks and slots. -/
theorem entry_open (c : Dev nD) (arg2 : Memref sig .tc .vmem S1024x1024 .bf16) (gw : Buf (Elt F) (arg2.view.loc (c : Thread nD τ))) :
    iprop(endsAt c (V m c) ∗ (∃ W, owes (c : Thread nD τ) 0 W) ∗ wHeld c arg2 gw)
      ⊢ (iprop(PRE c (V m c main_v1) (V m c main_v0) arg2 gw ∗ ∃ r, prngReg c r) : sProp 𝕄) := by
  rw [endsAt_eq, m_eq, x_eq, homes_zero, homes_zero]
  iintro ⟨⟨⟨⟨Hx0, Hx1, HX⟩, ⟨Hm0, Hm1, HM⟩, HY⟩, ⟨Cm0, Cm1, Cm2, Cx0, Cx1, Cx2, Cy0, Cy1⟩, ⟨Rm, Rx, Ry⟩, Hp⟩, HW, Hw⟩
  ihave Sm := (mring_split c) $$ Rm
  icases Sm with ⟨Sm0, Sm1, Sm2⟩
  ihave Sx := (xring_split c) $$ Rx
  icases Sx with ⟨Sx0, Sx1, Sx2⟩
  ihave Sy := (yring_split c) $$ Ry
  icases Sy with ⟨Sy0, Sy1⟩
  ihave HA := (y_split c (V m c main_v3)) $$ HY
  unfold PRE mfree xfree yfree
  isplitr [Hp]
  · isplitl [HW]; · iexact HW
    isplitl [Hw]; · iexact Hw
    isplitl [Hm0]; · iexact Hm0
    isplitl [Hm1]; · iexact Hm1
    isplitl [HM]; · iexact HM
    isplitl [Hx0]; · iexact Hx0
    isplitl [Hx1]; · iexact Hx1
    isplitl [HX]; · iexact HX
    isplitl [HA]; · iexact HA
    isplitl [Cm0 Cm1 Cm2 Sm0 Sm1 Sm2]
    · isplitl [Cm0 Sm0]; · isplitl [Cm0] <;> iassumption
      isplitl [Cm1 Sm1]; · isplitl [Cm1] <;> iassumption
      isplitl [Cm2] <;> iassumption
    isplitl [Cx0 Cx1 Cx2 Sx0 Sx1 Sx2]
    · isplitl [Cx0 Sx0]; · isplitl [Cx0] <;> iassumption
      isplitl [Cx1 Sx1]; · isplitl [Cx1] <;> iassumption
      isplitl [Cx2] <;> iassumption
    isplitl [Cy0 Sy0]; · isplitl [Cy0] <;> iassumption
    isplitl [Cy1] <;> iassumption
  · iexact Hp

/-- What it gives back, joined. -/
theorem exit_close (c : Dev nD) (arg2 : Memref sig .tc .vmem S1024x1024 .bf16) (gw : Buf (Elt F) (arg2.view.loc (c : Thread nD τ))) :
    iprop(POST c (V m c main_v1) (V m c main_v0) (outV m c) arg2 gw ∗ ∃ r, prngReg c r)
      ⊢ (iprop(endsAt c (Yv m c) ∗ (∃ W, owes (c : Thread nD τ) 0 W) ∗ wHeld c arg2 gw) : sProp 𝕄) := by
  rw [endsAt_eq, Yv_v0, Yv_v1, Yv_v3, m_eq, x_eq, y_eq]
  unfold POST mfree xfree yfree
  iintro ⟨⟨HW, Hw, HM, HX, HY, ⟨⟨Cm0, Sm0⟩, ⟨Cm1, Sm1⟩, ⟨Cm2, Sm2⟩⟩, ⟨⟨Cx0, Sx0⟩, ⟨Cx1, Sx1⟩, ⟨Cx2, Sx2⟩⟩, ⟨⟨Cy0, Sy0⟩, ⟨Cy1, Sy1⟩⟩⟩, Hp⟩
  isplitr [HW Hw]
  · isplitl [HM HX HY]
    · isplitl [HX]; · iexact HX
      isplitl [HM]; · iexact HM
      iexact HY
    isplitl [Cm0 Cm1 Cm2 Cx0 Cx1 Cx2 Cy0 Cy1]
    · isplitl [Cm0]; · iexact Cm0
      isplitl [Cm1]; · iexact Cm1
      isplitl [Cm2]; · iexact Cm2
      isplitl [Cx0]; · iexact Cx0
      isplitl [Cx1]; · iexact Cx1
      isplitl [Cx2]; · iexact Cx2
      isplitl [Cy0]; · iexact Cy0
      iexact Cy1
    isplitr [Hp]
    · isplitl [Sm0 Sm1 Sm2]
      · iapply (mring_join c)
        isplitl [Sm0]; · iexact Sm0
        isplitl [Sm1]; · iexact Sm1
        iexact Sm2
      isplitl [Sx0 Sx1 Sx2]
      · iapply (xring_join c)
        isplitl [Sx0]; · iexact Sx0
        isplitl [Sx1]; · iexact Sx1
        iexact Sx2
      iapply (yring_join c)
      isplitl [Sy0]; · iexact Sy0
      iexact Sy1
    iexact Hp
  isplitl [HW]; · iexact HW
  iexact Hw

set_option backward.isDefEq.respectTransparency.types false in
theorem body_obligation (c : Dev nD) : BodyObligation (dats (F := F) m 0 c) (defs₀ (F := F)) 𝒱₀ () Set.univ := fun t => by
  rw [bigSep_W0, bigSep_W0, phi_entry, phi_exit]
  dsimp only
  simp only [before_w0, after_w0]
  unfold Dat.owesAt Pipeline.owesWithin
  rw [show (dats m 0 c).owed t.castSucc = 0 from rfl, show (dats m 0 c).owed t.succ = 0 from rfl]
  unfold owns
  iintro ⟨HE, ⟨%W, -, HW⟩, ⟨%d0, %g0, %hg0, Hng⟩⟩
  ihave Hw := (pointsTo_rep_entails (c : Thread nD τ) (st0 t) g0 fullShare) $$ Hng
  rw [hg0]
  ihave HP := (entry_open m c (st0 t) ((st0 t).view.rep (iblk m c 0 t))) $$ [HE HW Hw]
  · isplitl [HE]; · iexact HE
    isplitl [HW]; · iexists W; iexact HW
    iexact Hw
  icases HP with ⟨HP, Hp⟩
  sl_rw [defs₀_row t]
  iapply (bodyRun c (V m c main_v1) (V m c main_v0) (outV m c) (st0 t) (hst0 t) ((st0 t).view.rep (iblk m c 0 t)) (fun b => by
    rw [View.read_rep]; unfold outV; rw [← fin_N0 t]; exact outArr_blk _ _ _ b))
  isplitl [HP]; · iexact HP
  iintro HQ
  ihave HR := (exit_close m c (st0 t) ((st0 t).view.rep (iblk m c 0 t))) $$ [HQ Hp]
  · isplitl [HQ]; · iexact HQ
    iexact Hp
  icases HR with ⟨HE, ⟨%W', HW⟩, Hw⟩
  isplitl [HE]; · iexact HE
  isplitl [HW]
  · iexists W'; isplitr; · ipureintro; exact fun _ _ => Or.inl trivial
    iexact HW
  iexists _; isplitr; · ipureintro; exact View.read_rep _ _
  iexact Hw

/-- @main up to the region. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- From any memory with zero counters every weakly fair execution of @main terminates with every counter at zero, the
    result's array at `outV`, and every buffer the call does not own as the call found it. -/
theorem run_main : θ_run defs (onTc (τ := τ) (main (F := F))) (s₀ m ρ)
    (fun r => Pipeline.RoutedPost cfgs (dats m) 0 R0 (V m) (Yv m) r ∧ r.2.sem = fun _ => 0) :=
  Pipeline.θ_run_frame_routed (Q' := _) cfgs (dats m) (0 : Fin 1) launch0 ownSemFacts defs₀ 𝒱₀ m ρ main
    (hbody := fun c => (body_obligation m c).loose) (hshare := fun c => (dats m 0 c).share_full fun _ => rfl)
    (howed := fun _ _ => rfl) (V := V m) (hmain := hmainU m) (hA := A_eq m)
    (R := R0) (hR := R0_sub) (Y := Yv m)
    (hin := fun c => Entails.of_eq (show _ = (dats m 0 c).Φ 0 from (phi_entry m c t0_0).symm))
    (hout := fun c => Entails.of_eq (show (dats m 0 c).Φ (Fin.last cfg0.N) = _ from phi_exit m c t0_0))
    (hQ' := fun _ h => h)

/-- The same, read at the result's array and the arguments. -/
theorem run : θ_run defs (onTc (τ := τ) (main (F := F))) ⟨m, fun _ => 0, ρ⟩ (fun r => (∀ c : Dev nD,
      r.2.mem ((c.tc : Thread nD τ).loc main_v3) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2.1 main_v3 (by decide)).trans (Yv_v3 m c),
    ((h.1 c).2.2 main_arg0 (by decide)).trans (V_main_arg0 m c),
    ((h.1 c).2.2 main_arg1 (by decide)).trans (V_main_arg1 m c),
    ((h.1 c).2.2 main_arg2 (by decide)).trans (V_main_arg2 m c)⟩, h.2⟩) (run_main m ρ)

end Launch

end Cert.Proof.Stream

end
-- ==== Proof.Value.lean ====
/-
  The result's array over the extended reals: at each element the activation plus the sum of products the reference
  writes, read at the same element.
-/
module

public import proofs.«01_k».proof.Proof.Launch
public import proofs.«01_k».proof.Proof.Gen.ReferenceIdeal.Run
public import Idealize.ShloMosaic.Lib.Pointwise
public import Idealize.ShloMosaic.Lib.StableHlo.Run

@[expose] public section

noncomputable section

namespace Cert.Proof.Stream

open Cert.KernelIdeal Cert.KernelIdeal.Gen
open Idealize.ShloMosaic
open Idealize.ShloMosaic.TcCoe Idealize.ShloMosaic.StableHlo

/-- A block's value at an element: the activation plus the row of `mix` times the column of the weights. -/
theorem blockOf_apply (x : FVec Ideal S1024x1024 .f32) (mx w : FVec Ideal S1024x1024 .bf16) (j : S1024x1024.Idx) :
    blockOf x mx w j = x j + ∑ k : Fin 1024, mx (ix2 (j 0) k) * w (ix2 k (j 1)) := by
  pointwise [blockOf]

section Reads

variable {F : FTy → Type} [FloatOps F] (m : (ℓ : Loc nD τ sig) → Buf (Elt F) ℓ) (c : Dev nD)

/-- The call finds `x` flattened to rows, -/
theorem V_x : V m c main_v0 = shapeCast S65536x1024 (m ((c : Thread nD τ).loc main_arg1)) shapeCasts_S32x2048x1024_S65536x1024 := by
  show StableHlo.after hostOps0 (fun b => m (c, b)) main_v0 = _
  after_results <;> rfl
/-- `mix` flattened to rows, -/
theorem V_mix : V m c main_v1 = shapeCast S65536x1024 (m ((c : Thread nD τ).loc main_arg0)) shapeCasts_S32x2048x1024_S65536x1024 := by
  show StableHlo.after hostOps0 (fun b => m (c, b)) main_v1 = _
  after_results <;> rfl
/-- and the weights in the narrower format. -/
theorem V_w : V m c main_v2 = truncf .bf16 (m ((c : Thread nD τ).loc main_arg2)) bitsLt_bf16_f32 := by
  show StableHlo.after hostOps0 (fun b => m (c, b)) main_v2 = _
  after_results <;> rfl
/-- The weights' one block is the whole array. -/
theorem iblk_w : (iblk m c 0 t0_0 : FVec F S1024x1024 .bf16) = V m c main_v2 := by
  unfold iblk
  funext j
  show (V m c main_v2 : FVec F S1024x1024 .bf16) _ = _
  congr 1
  funext a
  fin_cases a <;> exact Fin.ext (by simp [win0_0]; rfl)

end Reads

/-- Block `b` of an array of rows reads the array `1024 * b` rows down. -/
theorem xblk_read {F : FTy → Type} (X : FVec F S65536x1024 .f32) (b : Fin 64) (j : S1024x1024.Idx) :
    (xblk b).view.read (Elt F) X j = X (yAt b j) := rfl
theorem mblk_read {F : FTy → Type} (MX : FVec F S65536x1024 .bf16) (b : Fin 64) (j : S1024x1024.Idx) :
    (mblk b).view.read (Elt F) MX j = MX (yAt b j) := rfl
theorem yAt_ix (r : Fin 65536) (q k : Fin 1024) : yAt (blkIx (ix2 r q)) (ix2 (inBlk (ix2 r q) 0) k) = ix2 r k := by
  funext a; fin_cases a
  · refine Fin.ext ((yAt_val _ _ 0).trans ?_)
    show 1024 * (r.val / 1024) + r.val % 1024 = r.val
    omega
  · refine Fin.ext ((yAt_val _ _ 1).trans ?_)
    show 0 + k.val = k.val
    omega

/-- The result at row `r`, column `q`. -/
theorem outArr_apply (X : FVec Ideal S65536x1024 .f32) (MX : FVec Ideal S65536x1024 .bf16) (W : FVec Ideal S1024x1024 .bf16)
    (r : Fin 65536) (q : Fin 1024) :
    outArr X MX W (ix2 r q) = X (ix2 r q) + ∑ k : Fin 1024, MX (ix2 r k) * W (ix2 k q) := by
  have eq : inBlk (ix2 r q) = ix2 (inBlk (ix2 r q) 0) q := by funext a; fin_cases a <;> rfl
  show blockOf ((xblk (blkIx (ix2 r q))).view.read (Elt Ideal) X) ((mblk (blkIx (ix2 r q))).view.read (Elt Ideal) MX) W (inBlk (ix2 r q)) = _
  rw [blockOf_apply, eq]
  refine congrArg₂ (· + ·) ((xblk_read X _ _).trans (congrArg X (yAt_ix r q q))) (Finset.sum_congr rfl fun k _ => ?_)
  exact congrArg (· * W (ix2 k q)) ((mblk_read MX _ _).trans (congrArg MX (yAt_ix r q k)))

/-- The kernel's result is the reference's. -/
theorem value (A : FVec Ideal S32x2048x1024 .bf16) (Y : FVec Ideal S32x2048x1024 .f32) (W : FVec Ideal S1024x1024 .f32) :
    outArr (shapeCast S65536x1024 Y shapeCasts_S32x2048x1024_S65536x1024) (shapeCast S65536x1024 A shapeCasts_S32x2048x1024_S65536x1024)
      (truncf .bf16 W bitsLt_bf16_f32)
      = shapeCast S65536x1024 (addf Y (Host.dotGeneral Cert.ReferenceIdeal.dot_S32x2048x1024_S1024x1024_S32x2048x1024_2_0_01_1_n_n none
          (extf .f32 A Cert.ReferenceIdeal.Gen.bitsLt_bf16_f32) W)) Cert.ReferenceIdeal.Gen.shapeCasts_S32x2048x1024_S65536x1024 := by
  funext i
  obtain ⟨r, q, rfl⟩ : ∃ (r : Fin 65536) (q : Fin 1024), i = ix2 r q := ⟨i 0, i 1, by funext a; fin_cases a <;> rfl⟩
  rw [outArr_apply]
  pointwise

end Cert.Proof.Stream

end
-- ==== Proof.ProjMath.lean ====
/-
  Sums and scales over the extended reals: a factor that is a nonnegative real moves through a sum, the reciprocal root of
  a mean of squares is such a factor, and the mean of a head is a sum against the matrix of head means.
-/
module

public import Idealize.ShloMosaic.Lib.Pointwise
public import Mathlib.Data.EReal.Inv
public import Mathlib.Algebra.BigOperators.Fin

@[expose] public section

noncomputable section

namespace Cert.Proof.Proj

open Idealize.ShloMosaic

theorem ofBits_eps : Ideal.ofBits .f32 897988541#32 = ((8796093 / 2 ^ 43 : ℝ) : EReal) := by
  simp [Ideal.ofBits, Ideal.ieee, -EReal.coe_mul]; norm_num
theorem ofBits_1024 : Ideal.ofBits .f32 1149239296#32 = ((1024 : ℝ) : EReal) := by
  simp [Ideal.ofBits, Ideal.ieee, -EReal.coe_mul]; norm_num
theorem ofBits_64 : Ideal.ofBits .f32 1115684864#32 = ((64 : ℝ) : EReal) := by
  simp [Ideal.ofBits, Ideal.ieee, -EReal.coe_mul]; norm_num
theorem ofBits_64th : Ideal.ofBits .f32 1015021568#32 = ((1 / 64 : ℝ) : EReal) := by
  simp [Ideal.ofBits, Ideal.ieee, -EReal.coe_mul]; norm_num

/-- A nonnegative real factor moves into a sum. -/
theorem sum_mul_real {ι : Type*} (s : Finset ι) (f : ι → EReal) (c : EReal) (h0 : 0 ≤ c) (ht : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The reciprocal root of a nonnegative number plus the norms' small constant is a nonnegative real. -/
theorem rsqrt_real (t : EReal) (h : 0 ≤ t) :
    0 ≤ Ideal.rsqrt (t + Ideal.ofBits .f32 897988541#32) ∧ Ideal.rsqrt (t + Ideal.ofBits .f32 897988541#32) ≠ ⊤ := by
  rw [ofBits_eps]
  induction t using EReal.rec with
  | bot => exact absurd h (by simp)
  | top => rw [EReal.top_add_coe]; simp
  | coe r =>
    have hr : (0 : ℝ) ≤ r := EReal.coe_nonneg.mp h
    have hp : (0 : ℝ) < r + 8796093 / 2 ^ 43 := by positivity
    rw [← EReal.coe_add, Ideal.rsqrt_coe, if_neg (not_lt.mpr hp.le), if_neg hp.ne']
    exact ⟨EReal.coe_nonneg.mpr (inv_nonneg.mpr (Real.sqrt_nonneg _)), EReal.coe_ne_top _⟩

/-- The scale of a row is one. -/
theorem rowScale_real {ι : Type*} [Fintype ι] (x : ι → EReal) :
    0 ≤ Ideal.rsqrt (Ideal.div (∑ k, x k * x k) (Ideal.ofBits .f32 1149239296#32) + Ideal.ofBits .f32 897988541#32)
      ∧ Ideal.rsqrt (Ideal.div (∑ k, x k * x k) (Ideal.ofBits .f32 1149239296#32) + Ideal.ofBits .f32 897988541#32) ≠ ⊤ := by
  refine rsqrt_real _ ?_
  rw [ofBits_1024, Ideal.div_coe (by norm_num)]
  exact mul_nonneg (Finset.sum_nonneg fun k _ => sq_nonneg _) (EReal.coe_nonneg.mpr (by norm_num))

/-- Scaling a row before or after its product with a column is the same. -/
theorem scaled_row {n : ℕ} (x g w : Fin n → EReal) (c : EReal) (h0 : 0 ≤ c) (ht : c ≠ ⊤) :
    (∑ k, x k * g k * w k) * c = ∑ k, x k * c * g k * w k := by
  rw [sum_mul_real _ _ _ h0 ht]
  refine Finset.sum_congr rfl fun k _ => ?_
  rw [mul_assoc (x k * g k), mul_comm (w k) c, ← mul_assoc, mul_assoc (x k), mul_comm (g k) c, ← mul_assoc]

/-- The lanes of the head of lane `q` in a stripe of four heads. -/
def lane (q : Fin 256) (d : Fin 64) : Fin 256 := ⟨64 * (q.val / 64) + d.val, by omega⟩

/-- A sum against the matrix of head means is the mean over the head. -/
theorem head_mean (s : Fin 256 → EReal) (q : Fin 256) :
    ∑ x, s x * (if x.val / 64 = q.val / 64 then Ideal.ofBits .f32 1015021568#32 else 0)
      = Ideal.div (∑ d : Fin 64, s (lane q d)) (Ideal.ofBits .f32 1115684864#32) := by
  rw [ofBits_64, Ideal.div_coe (by norm_num), ofBits_64th]
  rw [sum_mul_real _ _ _ (EReal.coe_nonneg.mpr (by norm_num)) (EReal.coe_ne_top _)]
  have hq : q.val / 64 < 4 := by omega
  rw [← Equiv.sum_comp (finProdFinEquiv (m := 4) (n := 64)), Fintype.sum_prod_type,
    Finset.sum_eq_single (⟨q.val / 64, hq⟩ : Fin 4)]
  · refine Finset.sum_congr rfl fun d _ => ?_
    have e : finProdFinEquiv ((⟨q.val / 64, hq⟩ : Fin 4), d) = lane q d := by
      apply Fin.ext; simp [finProdFinEquiv, lane]; omega
    rw [e, if_pos]
    show (64 * (q.val / 64) + d.val) / 64 = _
    omega
  · intro a _ hne
    refine Finset.sum_eq_zero fun d _ => ?_
    rw [if_neg, mul_zero]
    intro h
    apply hne
    apply Fin.ext
    show a.val = q.val / 64
    rw [← h]
    show a.val = (d.val + 64 * a.val) / 64
    omega
  · exact fun h => absurd (Finset.mem_univ _) h

/-- A frequency of the rotary, -/
def frq (d : Fin 8) : EReal :=
  Ideal.pow (Ideal.ofBits FTy.f32 1223959552#32)
      (Ideal.div (-(Ideal.ofBits FTy.f32 1073741824#32 * FloatOps.sitofp (F := Ideal) FTy.f32 (BitVec.ofNat 32 d.val))) (Ideal.ofBits FTy.f32 1098907648#32))
/-- the angle of position `s` at one of a head's first sixteen lanes. -/
def ang (s : ℕ) (d : Fin 16) : EReal :=
  FloatOps.sitofp (F := Ideal) FTy.f32 (BitVec.ofNat 32 s) * frq ⟨d.val % 8, by omega⟩

/-- The norm of a head with its gain, -/
def normAt (z g : Fin 64 → EReal) (d : Fin 64) : EReal :=
  z d * Ideal.rsqrt (Ideal.div (∑ x, z x * z x) (Ideal.ofBits .f32 1115684864#32) + Ideal.ofBits .f32 897988541#32) * g d
/-- and the rotary of a head at position `s`: the first eight lanes turn with the next eight, the rest stay. -/
def ropeAt (y : Fin 64 → EReal) (s : ℕ) (d : Fin 64) : EReal :=
  if h : d.val < 16 then y d * Ideal.cos (ang s ⟨d, h⟩)
    + (if h8 : d.val < 8 then -y ⟨8 + d.val, by omega⟩ else y ⟨d.val - 8, by omega⟩) * Ideal.sin (ang s ⟨d, h⟩)
  else y d

end Cert.Proof.Proj

end
-- ==== Proof.ProjBody.lean ====
/-
  What the kernel's body of the odd layer's input projection leaves in each output block, read at an element: a column
  stripe at a time, the normed row times a column of the weights, then the norm of its head and the rotary.
-/
module

public import proofs.«01_k».proof.Proof.Gen.Kernel2Ideal.Value
public import proofs.«01_k».proof.Proof.ProjMath
public import Idealize.ShloMosaic.Lib.Pointwise
public import Idealize.ShloMosaic.Lib.Pipeline.ValueKit

@[expose] public section

noncomputable section

namespace Cert.Proof.Proj

open Cert.Kernel2Ideal Cert.Kernel2Ideal.Gen
open Idealize.ShloMosaic
open Idealize.ShloMosaic.TcCoe Idealize.ShloMosaic.StableHlo

section Terms

variable {F : FTy → Type} [FloatOps F]

/-- The head norm of a stripe of four heads, from the matrix of head means, -/
def headNorm (gm : FVec F S256x256 .bf16) (g : FVec F S1x256 .f32) (z : FVec F S1024x256 .f32) : FVec F S1024x256 .f32 :=
  mulf (mulf z (rsqrt (addf (matmul dot_S1024x256_S256x256_S1024x256_1_0_0_1_n_n none (truncf .bf16 (mulf z z) bitsLt_bf16_f32) gm (constant S1024x256 .f32 0x00000000#32))
    (broadcast S1024x256 (Scalar.ofBits .f32 0x358637BD#32 : F .f32))))) (broadcastTo S1024x256 g broadcasts_S1x256_S1024x256)
/-- and its rotary, from the three tables. -/
def headRope (c sa sb : FVec F S1024x256 .f32) (y : FVec F S1024x256 .f32) : FVec F S1024x256 .f32 :=
  addf (addf (mulf y c) (mulf (dynamicRotate 1 248#32 none y rotates_S1024x256_d1) sa)) (mulf (dynamicRotate 1 8#32 none y rotates_S1024x256_d1) sb)
/-- Half the columns of a quarter of the projection: the scaled rows' product, times the row's scale. -/
def projHalf (x : FVec F S1024x1024 .f32) (g : FVec F S1x1024 .f32) (w : FVec F S1024x512 .bf16) : FVec F S1024x512 .f32 :=
  k0_pay22 (k0_pay4 x g) (k0_pay5 x) w

section Pieces

variable (x0 : Vec F S1024x1024 .f32) (x1 : Vec F S1x1024 .f32) (x2 : Vec F S1024x4096 .bf16) (x3 : Vec F S256x256 .bf16) (x4 x5 : Vec F S1x128 .f32) (x6 x7 x8 : Vec F S1024x128 .f32)

/-- A stripe of the queries, -/
def qStripe (z : FVec F S1024x256 .f32) : FVec F S1024x256 .bf16 :=
  truncf .bf16 (mulf (headRope (k0_pay7 (View.ld x6 r0_3)) (k0_pay8 (View.ld x7 r0_3)) (k0_pay9 (View.ld x8 r0_3)) (headNorm (k0_pay6 (View.ld x3 r0_2)) (k0_pay10 (View.ld x4 r0_4)) z)) (broadcast S1024x256 (Scalar.ofBits .f32 0x3E000000#32 : F .f32))) bitsLt_bf16_f32
/-- and of the keys. -/
def kStripe (z : FVec F S1024x256 .f32) : FVec F S1024x256 .bf16 :=
  truncf .bf16 (headRope (k0_pay7 (View.ld x6 r0_3)) (k0_pay8 (View.ld x7 r0_3)) (k0_pay9 (View.ld x8 r0_3)) (headNorm (k0_pay6 (View.ld x3 r0_2)) (k0_pay21 (View.ld x5 r0_4)) z)) bitsLt_bf16_f32

/-- The block of the queries is four stripes, -/
theorem out9_eq : out0_9 x0 x1 x2 x3 x4 x5 x6 x7 x8 = View.canon
    [⟨r0_10, qStripe x3 x4 x6 x7 x8 (extractStridedSlice S1024x256 ![0, 256] (projHalf (View.ld x0 r0_0) (View.ld x1 r0_1) (View.ld x2 r0_8)) slices_S1024x512_o0_256_S1024x256)⟩,
     ⟨r0_9, qStripe x3 x4 x6 x7 x8 (extractStridedSlice S1024x256 ![0, 0] (projHalf (View.ld x0 r0_0) (View.ld x1 r0_1) (View.ld x2 r0_8)) slices_S1024x512_o0_0_S1024x256)⟩,
     ⟨r0_7, qStripe x3 x4 x6 x7 x8 (extractStridedSlice S1024x256 ![0, 256] (projHalf (View.ld x0 r0_0) (View.ld x1 r0_1) (View.ld x2 r0_5)) slices_S1024x512_o0_256_S1024x256)⟩,
     ⟨r0_6, qStripe x3 x4 x6 x7 x8 (extractStridedSlice S1024x256 ![0, 0] (projHalf (View.ld x0 r0_0) (View.ld x1 r0_1) (View.ld x2 r0_5)) slices_S1024x512_o0_0_S1024x256)⟩] := by
  unfold_out out0_9
  rfl
/-- and so is the block of the keys. -/
theorem out10_eq : out0_10 x0 x1 x2 x3 x4 x5 x6 x7 x8 = View.canon
    [⟨r0_10, kStripe x3 x5 x6 x7 x8 (extractStridedSlice S1024x256 ![0, 256] (projHalf (View.ld x0 r0_0) (View.ld x1 r0_1) (View.ld x2 r0_12)) slices_S1024x512_o0_256_S1024x256)⟩,
     ⟨r0_9, kStripe x3 x5 x6 x7 x8 (extractStridedSlice S1024x256 ![0, 0] (projHalf (View.ld x0 r0_0) (View.ld x1 r0_1) (View.ld x2 r0_12)) slices_S1024x512_o0_0_S1024x256)⟩,
     ⟨r0_7, kStripe x3 x5 x6 x7 x8 (extractStridedSlice S1024x256 ![0, 256] (projHalf (View.ld x0 r0_0) (View.ld x1 r0_1) (View.ld x2 r0_11)) slices_S1024x512_o0_256_S1024x256)⟩,
     ⟨r0_6, kStripe x3 x5 x6 x7 x8 (extractStridedSlice S1024x256 ![0, 0] (projHalf (View.ld x0 r0_0) (View.ld x1 r0_1) (View.ld x2 r0_11)) slices_S1024x512_o0_0_S1024x256)⟩] := by
  unfold_out out0_10
  rfl
/-- The block of the values is one store, -/
theorem out11_eq : out0_11 x0 x1 x2 x3 x4 x5 x6 x7 x8 = k0_pay1 (k0_pay4 (View.ld x0 r0_0) (View.ld x1 r0_1)) (k0_pay5 (View.ld x0 r0_0)) (View.ld x2 r0_13) := by
  unfold_out out0_11
  exact View.canon_cons_unit_lit _ _ _ (fun a => by fin_cases a <;> rfl)
/-- and so is the block of the gate. -/
theorem out12_eq : out0_12 x0 x1 x2 x3 x4 x5 x6 x7 x8 = k0_pay2 (k0_pay4 (View.ld x0 r0_0) (View.ld x1 r0_1)) (k0_pay5 (View.ld x0 r0_0)) (View.ld x2 r0_14) := by
  unfold_out out0_12
  exact View.canon_cons_unit_lit _ _ _ (fun a => by fin_cases a <;> rfl)

end Pieces
end Terms

theorem projHalf_apply (x : FVec Ideal S1024x1024 .f32) (g : FVec Ideal S1x1024 .f32) (w : FVec Ideal S1024x512 .bf16) (r : Fin 1024) (q : Fin 512) :
    projHalf x g w (ix2 r q) = (∑ k, x (ix2 r k) * g (ix2 0 k) * w (ix2 k q))
      * Ideal.rsqrt (Ideal.div (∑ k, x (ix2 r k) * x (ix2 r k)) (Ideal.ofBits .f32 1149239296#32) + Ideal.ofBits .f32 897988541#32) := by
  pointwise [projHalf, k0_pay22, k0_pay3, k0_pay4, k0_pay5]
theorem headNorm_apply (gm : FVec Ideal S256x256 .bf16) (g : FVec Ideal S1x256 .f32) (z : FVec Ideal S1024x256 .f32) (r : Fin 1024) (q : Fin 256) :
    headNorm gm g z (ix2 r q) = z (ix2 r q) * Ideal.rsqrt (∑ x, z (ix2 r x) * z (ix2 r x) * gm (ix2 x q) + Ideal.ofBits .f32 897988541#32) * g (ix2 0 q) := by
  pointwise [headNorm]
theorem headRope_apply (c sa sb : FVec Ideal S1024x256 .f32) (z : FVec Ideal S1024x256 .f32) (r : Fin 1024) (q : Fin 256) :
    headRope c sa sb z (ix2 r q) = z (ix2 r q) * c (ix2 r q) + z (ix2 r ⟨(q.val + 256 - 248) % 256, by omega⟩) * sa (ix2 r q)
      + z (ix2 r ⟨(q.val + 256 - 8) % 256, by omega⟩) * sb (ix2 r q) := by
  pointwise [headRope]
/-- The loads of whole blocks, and of a stripe of the weights' columns, at an element. -/
theorem ld_x (x : Vec Ideal S1024x1024 .f32) : View.ld x r0_0 = x := View.ld_unit_lit _ _ (fun a => by fin_cases a <;> rfl)
theorem ld_g (x : Vec Ideal S1x1024 .f32) : View.ld x r0_1 = x := View.ld_unit_lit _ _ (fun a => by fin_cases a <;> rfl)
theorem ld_mean (x : Vec Ideal S256x256 .bf16) : View.ld x r0_2 = x := View.ld_unit_lit _ _ (fun a => by fin_cases a <;> rfl)
theorem ld_tab (x : Vec Ideal S1024x128 .f32) : View.ld x r0_3 = x := View.ld_unit_lit _ _ (fun a => by fin_cases a <;> rfl)
theorem ld_gain (x : Vec Ideal S1x128 .f32) : View.ld x r0_4 = x := View.ld_unit_lit _ _ (fun a => by fin_cases a <;> rfl)

/-- A table of two heads' lanes, and a gain, over a stripe of four heads. -/
theorem pay7_apply (t : Vec Ideal S1024x128 .f32) (r : Fin 1024) (q : Fin 256) : k0_pay7 t (ix2 r q) = t (ix2 r ⟨q.val % 128, by omega⟩) := by
  have e : k0_pay7 t (ix2 r q) = if h : (q : ℕ) < 128 then t (ix2 r ⟨q, h⟩) else t (ix2 r ⟨q - 128, by omega⟩) := by pointwise [k0_pay7]
  rw [e]
  split <;> congr 2 <;> exact Fin.ext (by dsimp only; omega)
theorem pay8_apply (t : Vec Ideal S1024x128 .f32) (r : Fin 1024) (q : Fin 256) : k0_pay8 t (ix2 r q) = t (ix2 r ⟨q.val % 128, by omega⟩) := pay7_apply t r q
theorem pay9_apply (t : Vec Ideal S1024x128 .f32) (r : Fin 1024) (q : Fin 256) : k0_pay9 t (ix2 r q) = t (ix2 r ⟨q.val % 128, by omega⟩) := pay7_apply t r q
theorem pay10_apply (t : Vec Ideal S1x128 .f32) (q : Fin 256) : k0_pay10 t (ix2 0 q) = t (ix2 0 ⟨q.val % 128, by omega⟩) := by
  have e : k0_pay10 t (ix2 0 q) = if h : (q : ℕ) < 128 then t (ix2 0 ⟨q, h⟩) else t (ix2 0 ⟨q - 128, by omega⟩) := by pointwise [k0_pay10]
  rw [e]
  split <;> congr 2 <;> exact Fin.ext (by dsimp only; omega)
theorem pay21_apply (t : Vec Ideal S1x128 .f32) (q : Fin 256) : k0_pay21 t (ix2 0 q) = t (ix2 0 ⟨q.val % 128, by omega⟩) := pay10_apply t q

theorem pay6_apply (t : Vec Ideal S256x256 .bf16) (i j : Fin 256) : k0_pay6 t (ix2 i j) = t (ix2 i j) := by pointwise [k0_pay6]

/-- A row's product with a column, times the row's scale. -/
def projAt (x g w : Fin 1024 → EReal) : EReal :=
  (∑ k, x k * g k * w k) * Ideal.rsqrt (Ideal.div (∑ k, x k * x k) (Ideal.ofBits .f32 1149239296#32) + Ideal.ofBits .f32 897988541#32)
/-- Scaling the row first is the same. -/
theorem projAt_eq (x g w : Fin 1024 → EReal) : projAt x g w = ∑ k, x k
    * Ideal.rsqrt (Ideal.div (∑ k', x k' * x k') (Ideal.ofBits .f32 1149239296#32) + Ideal.ofBits .f32 897988541#32) * g k * w k :=
  scaled_row x g w _ (rowScale_real x).1 (rowScale_real x).2

/-- The two halves of half a quarter, at an element. -/
theorem half0_apply (x : FVec Ideal S1024x1024 .f32) (g : FVec Ideal S1x1024 .f32) (w : FVec Ideal S1024x512 .bf16) (r : Fin 1024) (q : Fin 256) :
    extractStridedSlice S1024x256 ![0, 0] (projHalf x g w) slices_S1024x512_o0_0_S1024x256 (ix2 r q)
      = projAt (fun k => x (ix2 r k)) (fun k => g (ix2 0 k)) (fun k => w (ix2 k ⟨0 + q.val, by omega⟩)) := by
  refine Eq.trans ?_ (projHalf_apply x g w r ⟨0 + q.val, by omega⟩)
  generalize projHalf x g w = z
  pointwise
theorem half256_apply (x : FVec Ideal S1024x1024 .f32) (g : FVec Ideal S1x1024 .f32) (w : FVec Ideal S1024x512 .bf16) (r : Fin 1024) (q : Fin 256) :
    extractStridedSlice S1024x256 ![0, 256] (projHalf x g w) slices_S1024x512_o0_256_S1024x256 (ix2 r q)
      = projAt (fun k => x (ix2 r k)) (fun k => g (ix2 0 k)) (fun k => w (ix2 k ⟨256 + q.val, by omega⟩)) := by
  refine Eq.trans ?_ (projHalf_apply x g w r ⟨256 + q.val, by omega⟩)
  generalize projHalf x g w = z
  pointwise

theorem pay1_apply (x : Vec Ideal S1024x1024 .f32) (g : Vec Ideal S1x1024 .f32) (w : Vec Ideal S1024x1024 .bf16) (r : Fin 1024) (q : Fin 1024) :
    k0_pay1 (k0_pay4 x g) (k0_pay5 x) w (ix2 r q) = projAt (fun k => x (ix2 r k)) (fun k => g (ix2 0 k)) (fun k => w (ix2 k q)) := by
  unfold projAt
  pointwise [k0_pay1, k0_pay3, k0_pay4, k0_pay5]
theorem pay2_apply (x : Vec Ideal S1024x1024 .f32) (g : Vec Ideal S1x1024 .f32) (w : Vec Ideal S1024x1024 .bf16) (r : Fin 1024) (q : Fin 1024) :
    k0_pay2 (k0_pay4 x g) (k0_pay5 x) w (ix2 r q) = projAt (fun k => x (ix2 r k)) (fun k => g (ix2 0 k)) (fun k => w (ix2 k q))
      * Ideal.logistic (projAt (fun k => x (ix2 r k)) (fun k => g (ix2 0 k)) (fun k => w (ix2 k q))) := by
  unfold projAt
  pointwise [k0_pay2, k0_pay3, k0_pay4, k0_pay5]

/-- The norm of a stripe, over the matrix of head means, is the norm of each head. -/
theorem headNorm_head (gm : FVec Ideal S256x256 .bf16) (gr : FVec Ideal S1x256 .f32) (z : FVec Ideal S1024x256 .f32) (g : Fin 64 → EReal)
    (hm : ∀ i j : Fin 256, gm (ix2 i j) = if i.val / 64 = j.val / 64 then Ideal.ofBits .f32 1015021568#32 else 0)
    (hg : ∀ q : Fin 256, gr (ix2 0 q) = g ⟨q.val % 64, by omega⟩) (r : Fin 1024) (q : Fin 256) :
    headNorm gm gr z (ix2 r q) = normAt (fun d => z (ix2 r (lane q d))) g ⟨q.val % 64, by omega⟩ := by
  have hq : lane q ⟨q.val % 64, by omega⟩ = q := Fin.ext (by simp only [lane]; omega)
  rw [headNorm_apply, hg]
  simp only [hm]
  rw [head_mean (fun x => z (ix2 r x) * z (ix2 r x)) q]
  unfold normAt
  dsimp only
  rw [hq]

/-- The rotary of a stripe, from tables of cosines and signed sines, is the rotary of each head. -/
theorem headRope_head (c sa sb : FVec Ideal S1024x256 .f32) (y : FVec Ideal S1024x256 .f32) (r : Fin 1024) (s : ℕ) (q : Fin 256)
    (hc : c (ix2 r q) = if h : q.val % 64 < 16 then Ideal.cos (ang s ⟨q.val % 64, h⟩) else 1)
    (ha : sa (ix2 r q) = if h : q.val % 64 < 8 then -Ideal.sin (ang s ⟨q.val % 64, by omega⟩) else 0)
    (hb : sb (ix2 r q) = if h : 8 ≤ q.val % 64 ∧ q.val % 64 < 16 then Ideal.sin (ang s ⟨q.val % 64, h.2⟩) else 0) :
    headRope c sa sb y (ix2 r q) = ropeAt (fun d => y (ix2 r (lane q d))) s ⟨q.val % 64, by omega⟩ := by
  have hq : lane q ⟨q.val % 64, by omega⟩ = q := Fin.ext (by simp only [lane]; omega)
  rw [headRope_apply, hc, ha, hb]
  unfold ropeAt
  dsimp only
  rw [hq]
  by_cases h16 : q.val % 64 < 16
  · rw [dif_pos h16, dif_pos h16]
    by_cases h8 : q.val % 64 < 8
    · have e : (⟨(q.val + 256 - 248) % 256, by omega⟩ : Fin 256) = lane q ⟨8 + q.val % 64, by omega⟩ := Fin.ext (by simp only [lane]; omega)
      rw [dif_pos h8, dif_pos h8, dif_neg (by omega), mul_zero, add_zero, e, mul_neg, neg_mul]
    · have e : (⟨(q.val + 256 - 8) % 256, by omega⟩ : Fin 256) = lane q ⟨q.val % 64 - 8, by omega⟩ := Fin.ext (by simp only [lane]; omega)
      rw [dif_neg h8, dif_neg h8, dif_pos ⟨by omega, h16⟩, mul_zero, add_zero, e]
  · rw [dif_neg h16, dif_neg h16, dif_neg (by omega), dif_neg (by omega), mul_one, mul_zero, mul_zero, add_zero, add_zero]

end Cert.Proof.Proj

end
-- ==== Proof.ProjHost.lean ====
/-
  What the call's host code prepares for the input projection of the odd layer: the rows, the doubled gains, the weights
  in the narrower format, the head-mean matrix and the rotary's tables.
-/
module

public import proofs.«01_k».proof.Proof.Gen.Kernel2Ideal.Value
public import proofs.«01_k».proof.Proof.ProjMath
public import Idealize.ShloMosaic.Lib.Pointwise
public import Idealize.ShloMosaic.Lib.StableHlo.Run
public import Idealize.ShloMosaic.Lib.StableHlo.RunRead

@[expose] public section

noncomputable section

namespace Cert.Proof.Proj

open Cert.Kernel2Ideal Cert.Kernel2Ideal.Gen
open Idealize.ShloMosaic
open Idealize.ShloMosaic.TcCoe Idealize.ShloMosaic.StableHlo

section Terms

variable {F : FTy → Type} [FloatOps F]

/-- A gain of one head, written twice in a row of 128. -/
def gainRow (g : FVec F S64 .f32) : FVec F S1x128 .f32 :=
  shapeCast S1x128 (concatenate S128 0 [⟨S64, g⟩, ⟨S64, g⟩] concatenates_S64_S64_S128_d0) shapeCasts_S128_S1x128

/-- Integer division by 64, down a column, -/
def divCol : IVec S256x1 32 :=
  let a : IVec S256x1 32 := broadcastInDim S256x1 ![0] bcast_S256_S256x1_0 (iotaInDim S256 32 0)
  let d : IVec S256x1 32 := broadcastInDim S256x1 ![] bcast_S_S256x1 (constantI S_ 32 64#32)
  select (andi (cmpi .ne (signi a) (broadcastInDim S256x1 ![] bcast_S_S256x1 (signi (constantI S_ 32 64#32))))
      (cmpi .ne (Host.remsi a d) (broadcastInDim S256x1 ![] bcast_S_S256x1 (constantI S_ 32 0#32))))
    (subi (Host.divsi a d) (broadcastInDim S256x1 ![] bcast_S_S256x1 (constantI S_ 32 1#32))) (Host.divsi a d)
/-- and along a row. -/
def divRow : IVec S1x256 32 :=
  let a : IVec S1x256 32 := broadcastInDim S1x256 ![1] bcast_S256_S1x256_1 (iotaInDim S256 32 0)
  let d : IVec S1x256 32 := broadcastInDim S1x256 ![] bcast_S_S1x256 (constantI S_ 32 64#32)
  select (andi (cmpi .ne (signi a) (broadcastInDim S1x256 ![] bcast_S_S1x256 (signi (constantI S_ 32 64#32))))
      (cmpi .ne (Host.remsi a d) (broadcastInDim S1x256 ![] bcast_S_S1x256 (constantI S_ 32 0#32))))
    (subi (Host.divsi a d) (broadcastInDim S1x256 ![] bcast_S_S1x256 (constantI S_ 32 1#32))) (Host.divsi a d)
/-- The matrix that takes the mean of each head's 64 lanes. -/
def meanMat : FVec F S256x256 .bf16 :=
  truncf .bf16 (select (cmpi .eq (broadcastInDim S256x256 ![0, 1] bcast_S256x1_S256x256_0_1 divCol) (broadcastInDim S256x256 ![0, 1] bcast_S1x256_S256x256_0_1 divRow))
    (broadcastInDim S256x256 ![] bcast_S_S256x256 (constant S_ .f32 0x3C800000#32 : FVec F S_ .f32))
    (broadcastInDim S256x256 ![] bcast_S_S256x256 (constant S_ .f32 0x00000000#32 : FVec F S_ .f32))) bitsLt_bf16_f32

/-- The rotary's frequencies, -/
def freq : FVec F S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))
/-- and its angles. -/
def angs : FVec F S4096x16 .f32 :=
  let a : FVec F S4096x8 .f32 := mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 freq))
  concatenate S4096x16 1 [⟨S4096x8, a⟩, ⟨S4096x8, a⟩] concatenates_S4096x8_S4096x8_S4096x16_d1
/-- Zeros beside the angles, -/
def pad : FVec F S4096x48 .f32 := broadcastInDim S4096x48 ![] bcast_S_S4096x48 (constant S_ .f32 0x00000000#32)
/-- the cosines of a head's lanes, with ones on the lanes that are not turned, -/
def cosT : FVec F S4096x64 .f32 :=
  concatenate S4096x64 1 [⟨S4096x16, Host.cos (angs : FVec F S4096x16 .f32)⟩, ⟨S4096x48, addf pad (broadcastInDim S4096x48 ![] bcast_S_S4096x48 (constant S_ .f32 0x3F800000#32 : FVec F S_ .f32))⟩] concatenates_S4096x16_S4096x48_S4096x64_d1
/-- the sines, with zeros there, -/
def sinT : FVec F S4096x64 .f32 :=
  concatenate S4096x64 1 [⟨S4096x16, Host.sin (angs : FVec F S4096x16 .f32)⟩, ⟨S4096x48, (pad : FVec F S4096x48 .f32)⟩] concatenates_S4096x16_S4096x48_S4096x64_d1
/-- minus the sines on the first eight lanes, -/
def sinA : FVec F S4096x64 .f32 :=
  select (broadcastInDim S4096x64 ![0, 1] bcast_S1x64_S4096x64_0_1 (broadcastInDim S1x64 ![1] bcast_S64_S1x64_1
      (cmpi .slt (iotaInDim S64 32 0) (broadcastInDim S64 ![] bcast_S_S64 (constantI S_ 32 8#32)))))
    (Host.negf (sinT : FVec F S4096x64 .f32)) (broadcastInDim S4096x64 ![] bcast_S_S4096x64 (constant S_ .f32 0x00000000#32 : FVec F S_ .f32))
/-- and the sines on the next eight. -/
def sinB : FVec F S4096x64 .f32 :=
  select (broadcastInDim S4096x64 ![0, 1] bcast_S1x64_S4096x64_0_1 (broadcastInDim S1x64 ![1] bcast_S64_S1x64_1
      (andi (cmpi .sge (iotaInDim S64 32 0) (broadcastInDim S64 ![] bcast_S_S64 (constantI S_ 32 8#32)))
        (cmpi .slt (iotaInDim S64 32 0) (broadcastInDim S64 ![] bcast_S_S64 (constantI S_ 32 16#32))))))
    (sinT : FVec F S4096x64 .f32) (broadcastInDim S4096x64 ![] bcast_S_S4096x64 (constant S_ .f32 0x00000000#32 : FVec F S_ .f32))
/-- A table of one head's lanes, written twice. -/
def two (t : FVec F S4096x64 .f32) : FVec F S4096x128 .f32 :=
  concatenate S4096x128 1 [⟨S4096x64, t⟩, ⟨S4096x64, t⟩] concatenates_S4096x64_S4096x64_S4096x128_d1

variable (m : (ℓ : Loc nD τ sig) → Buf (Elt F) ℓ) (c : Dev nD)

/-- The call finds `x` flattened to rows, -/
theorem V_x : V m c main_v0 = shapeCast S65536x1024 (m ((c : Thread nD τ).loc main_arg0)) shapeCasts_S32x2048x1024_S65536x1024 := by
  simp only [V, List.flatten_cons, List.flatten_nil, List.append_nil]
  after_reads_simp <;> rfl
/-- the gains of the head norms, -/
theorem V_gq : V m c main_v2 = gainRow (m ((c : Thread nD τ).loc main_arg3)) := by
  simp only [V, List.flatten_cons, List.flatten_nil, List.append_nil]
  after_reads_simp <;> rfl
theorem V_gk : V m c main_v4 = gainRow (m ((c : Thread nD τ).loc main_arg4)) := by
  simp only [V, List.flatten_cons, List.flatten_nil, List.append_nil]
  after_reads_simp <;> rfl
/-- the gain of the row norm, -/
theorem V_g : V m c main_v5 = shapeCast S1x1024 (m ((c : Thread nD τ).loc main_arg1)) shapeCasts_S1024_S1x1024 := by
  simp only [V, List.flatten_cons, List.flatten_nil, List.append_nil]
  after_reads_simp <;> rfl
/-- the weights in the narrower format, -/
theorem V_w : V m c main_v6 = truncf .bf16 (m ((c : Thread nD τ).loc main_arg2)) bitsLt_bf16_f32 := by
  simp only [V, List.flatten_cons, List.flatten_nil, List.append_nil]
  after_reads_simp <;> rfl
/-- the matrix of head means, -/
theorem V_mean : V m c main_v16 = (meanMat : FVec F S256x256 .bf16) := by
  simp only [V, List.flatten_cons, List.flatten_nil, List.append_nil]
  after_reads_simp <;> rfl
end Terms

/-- A doubled gain at a lane, -/
theorem gainRow_apply (g : FVec Ideal S64 .f32) (l : Fin 128) : gainRow g (ix2 0 l) = g (ix1 ⟨l.val % 64, by omega⟩) := by
  have e : gainRow g (ix2 0 l) = if h : (l : ℕ) < 64 then g (ix1 ⟨l, h⟩) else g (ix1 ⟨l - 64, by omega⟩) := by pointwise [gainRow]
  rw [e]
  split <;> congr 2 <;> exact Fin.ext (by dsimp only; omega)

/-- Quotients of the lanes by 64. -/
theorem div_lane : ∀ i : Fin 256, Scalar.select (α := BitVec 32)
      (IntOp.andi
        (IntOp.cmpi CmpIPredicate.ne
          (if BitVec.ofNat 32 i.val = 0 then (0 : BitVec 32) else if (BitVec.ofNat 32 i.val).msb = true then -1 else 1)
          (if 64#32 = 0 then (0 : BitVec 32) else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by decide +kernel
theorem divCol_apply (i : Fin 256) : divCol (ix2 i 0) = BitVec.ofNat 32 (i.val / 64) := by
  refine Eq.trans ?_ (div_lane i)
  pointwise [divCol]
theorem divRow_apply (i : Fin 256) : divRow (ix2 0 i) = BitVec.ofNat 32 (i.val / 64) := by
  refine Eq.trans ?_ (div_lane i)
  pointwise [divRow]
theorem eq_lane : ∀ i j : Fin 4, IntOp.cmpi CmpIPredicate.eq (BitVec.ofNat 32 i.val) (BitVec.ofNat 32 j.val) = if i.val = j.val then 1 else 0 := by decide +kernel
/-- the matrix of head means at an element, -/
theorem meanMat_apply (i j : Fin 256) :
    (meanMat : FVec Ideal S256x256 .bf16) (ix2 i j) = if i.val / 64 = j.val / 64 then Ideal.ofBits .f32 1015021568#32 else 0 := by
  have e : (meanMat : FVec Ideal S256x256 .bf16) (ix2 i j)
      = Scalar.select (IntOp.cmpi CmpIPredicate.eq (divCol (ix2 i 0)) (divRow (ix2 0 j))) (Ideal.ofBits FTy.f32 1015021568#32) 0 := by pointwise [meanMat]
  rw [e, divCol_apply, divRow_apply, eq_lane ⟨i.val / 64, by omega⟩ ⟨j.val / 64, by omega⟩]
  split <;> rfl
/-- the frequencies and the angles, -/
theorem freq_apply (d : Fin 8) : (freq : FVec Ideal S8 .f32) (ix1 d) = frq d := by
  unfold frq
  pointwise [freq]
theorem angs_apply (s : Fin 4096) (d : Fin 16) : (angs : FVec Ideal S4096x16 .f32) (ix2 s d) = ang s d := by
  have e : (angs : FVec Ideal S4096x16 .f32) (ix2 s d)
      = if h : (d : ℕ) < 8 then (FloatOps.sitofp (F := Ideal) FTy.f32 (BitVec.ofNat 32 ↑s) : EReal) * freq (F := Ideal) (ix1 ⟨d, h⟩)
        else (FloatOps.sitofp (F := Ideal) FTy.f32 (BitVec.ofNat 32 ↑s) : EReal) * freq (F := Ideal) (ix1 ⟨d - 8, by omega⟩) := by pointwise [angs]
  rw [e]
  unfold ang
  split <;> rw [freq_apply] <;> congr 2 <;> exact Fin.ext (by dsimp only; omega)
/-- and the tables at a lane. -/
theorem cosT_apply (s : Fin 4096) (d : Fin 64) :
    (cosT : FVec Ideal S4096x64 .f32) (ix2 s d) = if h : (d : ℕ) < 16 then Ideal.cos (ang s ⟨d, h⟩) else 1 := by
  simp only [← angs_apply]
  pointwise [cosT, pad]
theorem sinT_apply (s : Fin 4096) (d : Fin 64) :
    (sinT : FVec Ideal S4096x64 .f32) (ix2 s d) = if h : (d : ℕ) < 16 then Ideal.sin (ang s ⟨d, h⟩) else 0 := by
  simp only [← angs_apply]
  pointwise [sinT, pad]
theorem lt8 : ∀ d : Fin 64, IntOp.cmpi CmpIPredicate.slt (BitVec.ofNat 32 d.val) 8#32 = if d.val < 8 then 1 else 0 := by decide +kernel
theorem ge8 : ∀ d : Fin 64, IntOp.andi (IntOp.cmpi CmpIPredicate.sge (BitVec.ofNat 32 d.val) 8#32)
    (IntOp.cmpi CmpIPredicate.slt (BitVec.ofNat 32 d.val) 16#32) = if 8 ≤ d.val ∧ d.val < 16 then 1 else 0 := by decide +kernel
theorem sinA_apply (s : Fin 4096) (d : Fin 64) :
    (sinA : FVec Ideal S4096x64 .f32) (ix2 s d) = if h : (d : ℕ) < 8 then -Ideal.sin (ang s ⟨d, by omega⟩) else 0 := by
  have e : (sinA : FVec Ideal S4096x64 .f32) (ix2 s d)
      = Scalar.select (IntOp.cmpi CmpIPredicate.slt (BitVec.ofNat 32 ↑d) 8#32) (-(sinT (F := Ideal) (ix2 s d) : EReal)) (0 : EReal) := by pointwise [sinA]
  rw [e, lt8, sinT_apply]
  by_cases h : (d : ℕ) < 8
  · rw [if_pos h, dif_pos h, dif_pos (show (d : ℕ) < 16 by omega)]; rfl
  · rw [if_neg h, dif_neg h]; rfl
theorem sinB_apply (s : Fin 4096) (d : Fin 64) :
    (sinB : FVec Ideal S4096x64 .f32) (ix2 s d) = if h : 8 ≤ (d : ℕ) ∧ (d : ℕ) < 16 then Ideal.sin (ang s ⟨d, h.2⟩) else 0 := by
  have e : (sinB : FVec Ideal S4096x64 .f32) (ix2 s d)
      = Scalar.select (IntOp.andi (IntOp.cmpi CmpIPredicate.sge (BitVec.ofNat 32 ↑d) 8#32)
        (IntOp.cmpi CmpIPredicate.slt (BitVec.ofNat 32 ↑d) 16#32)) (sinT (F := Ideal) (ix2 s d) : EReal) (0 : EReal) := by pointwise [sinB]
  rw [e, ge8, sinT_apply]
  by_cases h : 8 ≤ (d : ℕ) ∧ (d : ℕ) < 16
  · rw [if_pos h, dif_pos h, dif_pos h.2]; rfl
  · rw [if_neg h, dif_neg h]; rfl
theorem two_apply (t : FVec Ideal S4096x64 .f32) (s : Fin 4096) (l : Fin 128) : two t (ix2 s l) = t (ix2 s ⟨l.val % 64, by omega⟩) := by
  have e : two t (ix2 s l) = if h : (l : ℕ) < 64 then t (ix2 s ⟨l, h⟩) else t (ix2 s ⟨l - 64, by omega⟩) := by pointwise [two]
  rw [e]
  split <;> congr 2 <;> exact Fin.ext (by dsimp only; omega)

end Cert.Proof.Proj

end
-- ==== Proof.ProjTables.lean ====
/-
  The rotary's tables as the call finds them: the host line that computes them is read one stretch at a time.
-/
module

public import proofs.«01_k».proof.Proof.ProjHost

@[expose] public section

noncomputable section

namespace Cert.Proof.Proj

open Cert.Kernel2Ideal Cert.Kernel2Ideal.Gen
open Idealize.ShloMosaic
open Idealize.ShloMosaic.TcCoe Idealize.ShloMosaic.StableHlo

section Reads

variable {F : FTy → Type} [FloatOps F]

/-- The table of minus sines, from the sines and the lanes it keeps, -/
def sinAOf (l : IVec S1x64 1) (t : FVec F S4096x64 .f32) (z : FVec F S_ .f32) : FVec F S4096x64 .f32 :=
  select (broadcastInDim S4096x64 ![0, 1] bcast_S1x64_S4096x64_0_1 l) t (broadcastInDim S4096x64 ![] bcast_S_S4096x64 z)

variable (X : Idealize.ShloMosaic.Valuation τ sig (Elt F))

theorem line6_v34 : after hostOps0_6 X (Proc.devRef .tc main_v34) = (angs : FVec F S4096x16 .f32) := by
  after_reads_simp; rfl
theorem line6_v39 : after hostOps0_6 X (Proc.devRef .tc main_v39) = (cosT : FVec F S4096x64 .f32) := by
  after_reads_simp; sl_kernel_rfl
theorem line6_v41 : after hostOps0_6 X (Proc.devRef .tc main_v41) = (sinT : FVec F S4096x64 .f32) := by
  after_reads_simp; sl_kernel_rfl
theorem line6_v50 : after hostOps0_6 X (Proc.devRef .tc main_v50) = Host.negf (sinT : FVec F S4096x64 .f32) := by
  after_reads_simp; sl_kernel_rfl
theorem line6_v49 : after hostOps0_6 X (Proc.devRef .tc main_v49) = broadcastInDim S1x64 ![1] bcast_S64_S1x64_1
      (cmpi .slt (iotaInDim S64 32 0) (broadcastInDim S64 ![] bcast_S_S64 (constantI S_ 32 8#32))) := by
  after_reads_simp
theorem line6_v48 : after hostOps0_6 X (Proc.devRef .tc main_v48) = andi (cmpi .sge (iotaInDim S64 32 0) (broadcastInDim S64 ![] bcast_S_S64 (constantI S_ 32 8#32)))
        (cmpi .slt (iotaInDim S64 32 0) (broadcastInDim S64 ![] bcast_S_S64 (constantI S_ 32 16#32))) := by
  after_reads_simp
theorem line6_cst11 : after hostOps0_6 X (Proc.devRef .tc main_cst_11) = (constant S_ .f32 0x00000000#32 : FVec F S_ .f32) := by
  after_reads_simp

theorem line7_v51 : after hostOps0_7 X (Proc.devRef .tc main_v51) = sinAOf (F := F) (X (Proc.devRef .tc main_v49)) (X (Proc.devRef .tc main_v50)) (X (Proc.devRef .tc main_cst_11)) := by
  after_reads_simp; rfl
theorem line7_v39 : after hostOps0_7 X (Proc.devRef .tc main_v39) = X (Proc.devRef .tc main_v39) := by
  after_reads_simp
theorem line7_v41 : after hostOps0_7 X (Proc.devRef .tc main_v41) = X (Proc.devRef .tc main_v41) := by
  after_reads_simp
theorem line7_v48 : after hostOps0_7 X (Proc.devRef .tc main_v48) = X (Proc.devRef .tc main_v48) := by
  after_reads_simp

theorem line8_v52 : after hostOps0_8 X (Proc.devRef .tc main_v52) = broadcastInDim S1x64 ![1] bcast_S64_S1x64_1 (X (Proc.devRef .tc main_v48) : IVec S64 1) := by
  after_reads_simp
theorem line8_cst12 : after hostOps0_8 X (Proc.devRef .tc main_cst_12) = (constant S_ .f32 0x00000000#32 : FVec F S_ .f32) := by
  after_reads_simp
theorem line8_v39 : after hostOps0_8 X (Proc.devRef .tc main_v39) = X (Proc.devRef .tc main_v39) := by
  after_reads_simp
theorem line8_v41 : after hostOps0_8 X (Proc.devRef .tc main_v41) = X (Proc.devRef .tc main_v41) := by
  after_reads_simp
theorem line8_v51 : after hostOps0_8 X (Proc.devRef .tc main_v51) = X (Proc.devRef .tc main_v51) := by
  after_reads_simp

theorem line9_v53 : after hostOps0_9 X (Proc.devRef .tc main_v53) = sinAOf (F := F) (X (Proc.devRef .tc main_v52)) (X (Proc.devRef .tc main_v41)) (X (Proc.devRef .tc main_cst_12)) := by
  after_reads_simp; rfl
theorem line9_v39 : after hostOps0_9 X (Proc.devRef .tc main_v39) = X (Proc.devRef .tc main_v39) := by
  after_reads_simp
theorem line9_v51 : after hostOps0_9 X (Proc.devRef .tc main_v51) = X (Proc.devRef .tc main_v51) := by
  after_reads_simp

theorem line10_v54 : after hostOps0_10 X (Proc.devRef .tc main_v54) = two (F := F) (X (Proc.devRef .tc main_v39)) := by
  after_reads_simp; rfl
theorem line10_v55 : after hostOps0_10 X (Proc.devRef .tc main_v55) = two (F := F) (X (Proc.devRef .tc main_v51)) := by
  after_reads_simp; rfl
theorem line10_v56 : after hostOps0_10 X (Proc.devRef .tc main_v56) = two (F := F) (X (Proc.devRef .tc main_v53)) := by
  after_reads_simp; rfl

variable (m : (ℓ : Loc nD τ sig) → Buf (Elt F) ℓ) (c : Dev nD)

/-- The buffers before the stretch that computes the angles. -/
def before6 : Idealize.ShloMosaic.Valuation τ sig (Elt F) :=
  StableHlo.after (List.flatten [hostOps0, hostOps0_1, hostOps0_2, hostOps0_3, hostOps0_4, hostOps0_5]) (fun b => m (c, b))
/-- The whole line, stretch by stretch from there. -/
theorem V_split (b : Ref sig .tc) : V m c b
    = after hostOps0_10 (after hostOps0_9 (after hostOps0_8 (after hostOps0_7 (after hostOps0_6 (before6 m c))))) (Proc.devRef .tc b) := by
  unfold before6
  simp only [← StableHlo.after_append]
  rfl

/-- The call finds the table of cosines, -/
theorem V_cos : V m c main_v54 = two (cosT : FVec F S4096x64 .f32) := by
  rw [V_split, line10_v54, line9_v39, line8_v39, line7_v39, line6_v39]
/-- minus the sines on the first eight lanes of each head, -/
theorem V_sinA : V m c main_v55 = two (sinA : FVec F S4096x64 .f32) := by
  rw [V_split, line10_v55, line9_v51, line8_v51, line7_v51, line6_v49, line6_v50, line6_cst11]
  rfl
/-- and the sines on the next eight. -/
theorem V_sinB : V m c main_v56 = two (sinB : FVec F S4096x64 .f32) := by
  rw [V_split, line10_v56, line9_v53, line8_v52, line8_v41, line8_cst12, line7_v48, line7_v41, line6_v48, line6_v41]
  rfl

end Reads

end Cert.Proof.Proj

end
-- ==== Proof.ProjRef.lean ====
/-
  What the reference's input projection of the odd layer computes, read at an element: the normed row times a column of
  the weights; the norm of a head with its gain; the rotary of a head; the gate.
-/
module

public import proofs.«01_k».proof.Proof.Gen.Reference2Ideal.Run
public import proofs.«01_k».proof.Proof.ProjMath
public import Idealize.ShloMosaic.Lib.Pointwise
public import Idealize.ShloMosaic.Lib.StableHlo.Run

@[expose] public section

noncomputable section

namespace Cert.Proof.Proj

open Cert.Reference2Ideal Cert.Reference2Ideal.Gen
open Idealize.ShloMosaic
open Idealize.ShloMosaic.TcCoe Idealize.ShloMosaic.StableHlo

section Terms

variable {F : FTy → Type} [FloatOps F]

/-- The projection of the normed activations. -/
def refZ (x : FVec F S32x2048x1024 .f32) (g : FVec F S1024 .f32) (w : FVec F S1024x4096 .f32) : FVec F S32x2048x4096 .f32 :=
  Host.dotGeneral dot_S32x2048x1024_S1024x4096_S32x2048x4096_2_0_01_1_n_n none
    (mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g))) w

/-- The norm of every head, with its gain. -/
def refNorm (z : FVec F S32x2048x16x64 .f32) (g : FVec F S64 .f32) : FVec F S32x2048x16x64 .f32 :=
  mulf (mulf z (broadcastInDim S32x2048x16x64 ![0, 1, 2, 3] bcast_S32x2048x16x1_S32x2048x16x64_0_1_2_3
      (Host.rsqrt (addf (Host.divf (broadcastInDim S32x2048x16x1 ![0, 1, 2] bcast_S32x2048x16_S32x2048x16x1_0_1_2
          (Host.reduceAdd (mulf z z) (constant S_ .f32 0x00000000#32) reducesTo_S32x2048x16x64_S32x2048x16_d3 h_S_))
        (broadcastInDim S32x2048x16x1 ![] bcast_S_S32x2048x16x1 (constant S_ .f32 0x42800000#32)))
        (broadcastInDim S32x2048x16x1 ![] bcast_S_S32x2048x16x1 (constant S_ .f32 0x358637BD#32))))))
    (broadcastInDim S32x2048x16x64 ![0, 1, 2, 3] bcast_S1x1x1x64_S32x2048x16x64_0_1_2_3 (broadcastInDim S1x1x1x64 ![3] bcast_S64_S1x1x1x64_3 g))

/-- The rotary's frequencies, -/
def refFreq : FVec F S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))
/-- and its angles at every position. -/
def refAng : FVec F S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 refFreq))
def refAngs : FVec F S1x2048x1x16 .f32 :=
  broadcastInDim S1x2048x1x16 ![1, 3] bcast_S2048x16_S1x2048x1x16_1_3
    (concatenate S2048x16 1 [⟨S2048x8, (refAng : FVec F S2048x8 .f32)⟩, ⟨S2048x8, (refAng : FVec F S2048x8 .f32)⟩] concatenates_S2048x8_S2048x8_S2048x16_d1)

/-- The rotary of the first sixteen lanes of every head. -/
def refRope (y : FVec F S32x2048x16x64 .f32) : FVec F S32x2048x16x64 .f32 :=
  concatenate S32x2048x16x64 3 [⟨S32x2048x16x16,
      (addf (mulf (extractStridedSlice S32x2048x16x16 ![0, 0, 0, 0] y slices_S32x2048x16x64_S32x2048x16x16_0_0_0_0)
          (broadcastInDim S32x2048x16x16 ![0, 1, 2, 3] bcast_S1x2048x1x16_S32x2048x16x16_0_1_2_3 (Host.cos refAngs)))
        (mulf (concatenate S32x2048x16x16 3 [⟨S32x2048x16x8, (Host.negf (extractStridedSlice S32x2048x16x8 ![0, 0, 0, 8]
              (extractStridedSlice S32x2048x16x16 ![0, 0, 0, 0] y slices_S32x2048x16x64_S32x2048x16x16_0_0_0_0) slices_S32x2048x16x16_S32x2048x16x8_0_0_0_8))⟩,
            ⟨S32x2048x16x8, (extractStridedSlice S32x2048x16x8 ![0, 0, 0, 0]
              (extractStridedSlice S32x2048x16x16 ![0, 0, 0, 0] y slices_S32x2048x16x64_S32x2048x16x16_0_0_0_0) slices_S32x2048x16x16_S32x2048x16x8_0_0_0_0)⟩]
            concatenates_S32x2048x16x8_S32x2048x16x8_S32x2048x16x16_d3)
          (broadcastInDim S32x2048x16x16 ![0, 1, 2, 3] bcast_S1x2048x1x16_S32x2048x16x16_0_1_2_3 (Host.sin refAngs))) : FVec F S32x2048x16x16 .f32)⟩,
    ⟨S32x2048x16x48, (extractStridedSlice S32x2048x16x48 ![0, 0, 0, 16] y slices_S32x2048x16x64_S32x2048x16x48_0_0_0_16)⟩]
    concatenates_S32x2048x16x16_S32x2048x16x48_S32x2048x16x64_d3

section Results

variable (x : FVec F S32x2048x1024 .f32) (g : FVec F S1024 .f32) (w : FVec F S1024x4096 .f32) (gh : FVec F S64 .f32)

/-- The reference's queries: the scaled rotary of the normed first quarter of the projection, -/
def refQ : FVec F S65536x1024 .bf16 :=
  truncf .bf16 (shapeCast S65536x1024 (mulf (refRope (refNorm (shapeCast S32x2048x16x64
      (extractStridedSlice S32x2048x1024 ![0, 0, 0] (refZ x g w)
        slices_S32x2048x4096_S32x2048x1024_0_0_0) shapeCasts_S32x2048x1024_S32x2048x16x64) gh))
      (broadcastInDim S32x2048x16x64 ![] bcast_S_S32x2048x16x64 (constant S_ .f32 0x3E000000#32))) shapeCasts_S32x2048x16x64_S65536x1024) bitsLt_bf16_f32
/-- its keys, the rotary of the normed second quarter, -/
def refK : FVec F S65536x1024 .bf16 :=
  truncf .bf16 (shapeCast S65536x1024 (refRope (refNorm (shapeCast S32x2048x16x64
      (extractStridedSlice S32x2048x1024 ![0, 0, 1024] (refZ x g w)
        slices_S32x2048x4096_S32x2048x1024_0_0_1024) shapeCasts_S32x2048x1024_S32x2048x16x64) gh)) shapeCasts_S32x2048x16x64_S65536x1024) bitsLt_bf16_f32
/-- its values, the third quarter, -/
def refV : FVec F S65536x1024 .bf16 :=
  truncf .bf16 (shapeCast S65536x1024 (extractStridedSlice S32x2048x1024 ![0, 0, 2048] (refZ x g w) slices_S32x2048x4096_S32x2048x1024_0_0_2048)
    shapeCasts_S32x2048x1024_S65536x1024) bitsLt_bf16_f32
/-- and its gate, the last quarter times its logistic. -/
def refGate : FVec F S65536x1024 .bf16 :=
  truncf .bf16 (shapeCast S65536x1024 (mulf (extractStridedSlice S32x2048x1024 ![0, 0, 3072] (refZ x g w) slices_S32x2048x4096_S32x2048x1024_0_0_3072)
    (Host.divf (broadcastInDim S32x2048x1024 ![] bcast_S_S32x2048x1024 (constant S_ .f32 0x3F800000#32))
      (addf (broadcastInDim S32x2048x1024 ![] bcast_S_S32x2048x1024 (constant S_ .f32 0x3F800000#32))
        (Host.exp (Host.negf (extractStridedSlice S32x2048x1024 ![0, 0, 3072] (refZ x g w) slices_S32x2048x4096_S32x2048x1024_0_0_3072))))))
    shapeCasts_S32x2048x1024_S65536x1024) bitsLt_bf16_f32

end Results

section Run

variable (m : (ℓ : Loc nD τ sig) → Buf (Elt F) ℓ) (ρ : Dev nD → PrngReg)

/-- The reference's run leaves those four arrays and its arguments unchanged. -/
theorem ref_run : θ_run defs (onTc (τ := τ) (main (F := F))) ⟨m, fun _ => 0, ρ⟩ fun r => ∀ c : Dev nD,
      r.2.mem ((c.tc : Thread nD τ).loc main_v114) = refQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v116) = refK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v118) = refV (m ((c.tc : Thread nD τ).loc main_arg0)) (m ((c.tc : Thread nD τ).loc main_arg1)) (m ((c.tc : Thread nD τ).loc main_arg2))
      ∧ r.2.mem ((c.tc : Thread nD τ).loc main_v120) = refGate (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4⟩ := h c
    exact ⟨h0.trans rfl, h1.trans rfl, h2.trans rfl, h3.trans rfl, h4⟩) (Value.run m ρ)

end Run

end Terms

/-- The projection at an element, -/
theorem refZ_apply (x : FVec Ideal S32x2048x1024 .f32) (g : FVec Ideal S1024 .f32) (w : FVec Ideal S1024x4096 .f32)
    (b : Fin 32) (s : Fin 2048) (q : Fin 4096) :
    refZ x g w (ix3 b s q) = ∑ k, x (ix3 b s k)
      * Ideal.rsqrt (Ideal.div (∑ k', x (ix3 b s k') * x (ix3 b s k')) (Ideal.ofBits .f32 1149239296#32) + Ideal.ofBits .f32 897988541#32)
      * g (ix1 k) * w (ix2 k q) := by
  pointwise [refZ]
/-- the head norm, -/
theorem refNorm_apply (z : FVec Ideal S32x2048x16x64 .f32) (g : FVec Ideal S64 .f32)
    (b : Fin 32) (s : Fin 2048) (h : Fin 16) (d : Fin 64) :
    refNorm z g (ix4 b s h d) = normAt (fun d => z (ix4 b s h d)) (fun d => g (ix1 d)) d := by
  unfold normAt
  pointwise [refNorm]
/-- the frequencies, the angles, -/
theorem refFreq_apply (d : Fin 8) : (refFreq : FVec Ideal S8 .f32) (ix1 d) = frq d := by
  unfold frq
  pointwise [refFreq]
theorem refAngs_apply (s : Fin 2048) (d : Fin 16) : (refAngs : FVec Ideal S1x2048x1x16 .f32) (ix4 0 s 0 d) = ang s d := by
  have e : (refAngs : FVec Ideal S1x2048x1x16 .f32) (ix4 0 s 0 d)
      = if h : (d : ℕ) < 8 then (FloatOps.sitofp (F := Ideal) FTy.f32 (BitVec.ofNat 32 ↑s) : EReal) * refFreq (F := Ideal) (ix1 ⟨d, h⟩)
        else (FloatOps.sitofp (F := Ideal) FTy.f32 (BitVec.ofNat 32 ↑s) : EReal) * refFreq (F := Ideal) (ix1 ⟨d - 8, by omega⟩) := by pointwise [refAngs, refAng]
  rw [e]
  unfold ang
  split <;> rw [refFreq_apply] <;> congr 2 <;> exact Fin.ext (by dsimp only; omega)
/-- and the rotary. -/
theorem refRope_apply (y : FVec Ideal S32x2048x16x64 .f32)
    (b : Fin 32) (s : Fin 2048) (h : Fin 16) (d : Fin 64) :
    refRope y (ix4 b s h d) = ropeAt (fun d => y (ix4 b s h d)) s d := by
  have e : refRope y (ix4 b s h d) = if h' : (d : ℕ) < 16 then y (ix4 b s h d) * Ideal.cos (refAngs (F := Ideal) (ix4 0 s 0 ⟨d, h'⟩))
        + (if h8 : (d : ℕ) < 8 then -y (ix4 b s h ⟨8 + d, by omega⟩) else y (ix4 b s h ⟨d - 8, by omega⟩)) * Ideal.sin (refAngs (F := Ideal) (ix4 0 s 0 ⟨d, h'⟩))
      else y (ix4 b s h ⟨16 + (d - 16), by omega⟩) := by pointwise [refRope]
  rw [e]
  unfold ropeAt
  split
  · rw [refAngs_apply]
  · congr 2; exact Fin.ext (by dsimp only; omega)

section Apply

variable (x : FVec Ideal S32x2048x1024 .f32) (g : FVec Ideal S1024 .f32) (w : FVec Ideal S1024x4096 .f32) (gh : FVec Ideal S64 .f32)
  (b : Fin 32) (s : Fin 2048) (h : Fin 16) (d : Fin 64) (q : Fin 1024)

/-- The reference's queries at row `2048 b + s` and lane `d` of head `h`, -/
theorem refQ_apply : refQ x g w gh (ix2 ⟨2048 * b.val + s.val, by omega⟩ ⟨64 * h.val + d.val, by omega⟩)
    = ropeAt (normAt (fun d => refZ x g w (ix3 b s ⟨64 * h.val + d.val, by omega⟩)) (fun d => gh (ix1 d))) s d * Ideal.ofBits .f32 0x3E000000#32 := by
  unfold refQ
  generalize refZ x g w = z
  pointwise
  rw [refRope_apply]
  refine congrArg (fun y => ropeAt y s d * _) (funext fun d => ?_)
  rw [refNorm_apply]
  refine congrArg (fun y => normAt y _ d) (funext fun d => ?_)
  pointwise
  exact congrArg (fun l => z (ix3 b s l)) (Fin.ext (by dsimp only; omega))
/-- its keys there, -/
theorem refK_apply : refK x g w gh (ix2 ⟨2048 * b.val + s.val, by omega⟩ ⟨64 * h.val + d.val, by omega⟩)
    = ropeAt (normAt (fun d => refZ x g w (ix3 b s ⟨1024 + (64 * h.val + d.val), by omega⟩)) (fun d => gh (ix1 d))) s d := by
  unfold refK
  generalize refZ x g w = z
  pointwise
  rw [refRope_apply]
  refine congrArg (fun y => ropeAt y s d) (funext fun d => ?_)
  rw [refNorm_apply]
  refine congrArg (fun y => normAt y _ d) (funext fun d => ?_)
  pointwise
  exact congrArg (fun l => z (ix3 b s l)) (Fin.ext (by dsimp only; omega))
/-- its values at column `q` -/
theorem refV_apply : refV x g w (ix2 ⟨2048 * b.val + s.val, by omega⟩ q) = refZ x g w (ix3 b s ⟨2048 + q.val, by omega⟩) := by
  unfold refV
  generalize refZ x g w = z
  pointwise
/-- and its gate. -/
theorem refGate_apply : refGate x g w (ix2 ⟨2048 * b.val + s.val, by omega⟩ q)
    = refZ x g w (ix3 b s ⟨3072 + q.val, by omega⟩) * Ideal.logistic (refZ x g w (ix3 b s ⟨3072 + q.val, by omega⟩)) := by
  unfold refGate Ideal.logistic
  generalize refZ x g w = z
  pointwise

end Apply

end Cert.Proof.Proj

end
-- ==== Proof.ProjValue.lean ====
/-
  The four arrays the input projection of the odd layer leaves, read at an element, and that they are the reference's.
-/
module

public import proofs.«01_k».proof.Proof.ProjBody
public import proofs.«01_k».proof.Proof.ProjTables
public import proofs.«01_k».proof.Proof.ProjRef

@[expose] public section

noncomputable section

namespace Cert.Proof.Proj

open Cert.Kernel2Ideal Cert.Kernel2Ideal.Gen
open Idealize.ShloMosaic
open Idealize.ShloMosaic.TcCoe Idealize.ShloMosaic.StableHlo

section Blocks

variable {F : FTy → Type} [FloatOps F] (m : (ℓ : Loc nD τ sig) → Buf (Elt F) ℓ) (c : Dev nD)

/-- Point `t` of the grid reads block `t` of the rows, -/
theorem idx_x : ∀ t : Fin cfg0.N, win0_0.index t 0 = t.val := (by decide +kernel : ∀ t : Fin grid0.N, win0_0.index t 0 = t.val)
/-- block `t mod 2` of each table, -/
theorem idx_c : ∀ t : Fin cfg0.N, win0_6.index t 0 = t.val % 2 := (by decide +kernel : ∀ t : Fin grid0.N, win0_6.index t 0 = t.val % 2)
theorem idx_a : ∀ t : Fin cfg0.N, win0_7.index t 0 = t.val % 2 := (by decide +kernel : ∀ t : Fin grid0.N, win0_7.index t 0 = t.val % 2)
theorem idx_b : ∀ t : Fin cfg0.N, win0_8.index t 0 = t.val % 2 := (by decide +kernel : ∀ t : Fin grid0.N, win0_8.index t 0 = t.val % 2)
/-- and writes block `t` of each result. -/
theorem idx_q : ∀ t : Fin cfg0.N, win0_9.index t 0 = t.val := (by decide +kernel : ∀ t : Fin grid0.N, win0_9.index t 0 = t.val)
theorem idx_k : ∀ t : Fin cfg0.N, win0_10.index t 0 = t.val := (by decide +kernel : ∀ t : Fin grid0.N, win0_10.index t 0 = t.val)
theorem idx_v : ∀ t : Fin cfg0.N, win0_11.index t 0 = t.val := (by decide +kernel : ∀ t : Fin grid0.N, win0_11.index t 0 = t.val)
theorem idx_g : ∀ t : Fin cfg0.N, win0_12.index t 0 = t.val := (by decide +kernel : ∀ t : Fin grid0.N, win0_12.index t 0 = t.val)
theorem pt_lt (t : Fin cfg0.N) : t.val < 64 := N_0 ▸ t.isLt

/-- The blocks that are whole arrays. -/
theorem iblk_g (t : Fin cfg0.N) : (iblk m c 1 t : FVec F S1x1024 .f32) = V m c main_v5 := by
  unfold iblk
  funext j
  show (V m c main_v5 : FVec F S1x1024 .f32) _ = _
  congr 1
  funext a
  fin_cases a <;> exact Fin.ext (by simp [win0_1]; rfl)
theorem iblk_w (t : Fin cfg0.N) : (iblk m c 2 t : FVec F S1024x4096 .bf16) = V m c main_v6 := by
  unfold iblk
  funext j
  show (V m c main_v6 : FVec F S1024x4096 .bf16) _ = _
  congr 1
  funext a
  fin_cases a <;> exact Fin.ext (by simp [win0_2]; rfl)
theorem iblk_mean (t : Fin cfg0.N) : (iblk m c 3 t : FVec F S256x256 .bf16) = V m c main_v16 := by
  unfold iblk
  funext j
  show (V m c main_v16 : FVec F S256x256 .bf16) _ = _
  congr 1
  funext a
  fin_cases a <;> exact Fin.ext (by simp [win0_3]; rfl)
theorem iblk_gq (t : Fin cfg0.N) : (iblk m c 4 t : FVec F S1x128 .f32) = V m c main_v2 := by
  unfold iblk
  funext j
  show (V m c main_v2 : FVec F S1x128 .f32) _ = _
  congr 1
  funext a
  fin_cases a <;> exact Fin.ext (by simp [win0_4]; rfl)
theorem iblk_gk (t : Fin cfg0.N) : (iblk m c 5 t : FVec F S1x128 .f32) = V m c main_v4 := by
  unfold iblk
  funext j
  show (V m c main_v4 : FVec F S1x128 .f32) _ = _
  congr 1
  funext a
  fin_cases a <;> exact Fin.ext (by simp [win0_5]; rfl)

/-- The rows of a block, -/
theorem iblk_x (t : Fin cfg0.N) (r k : Fin 1024) : (iblk m c 0 t : FVec F S1024x1024 .f32) (ix2 r k)
    = (V m c main_v0 : FVec F S65536x1024 .f32) (ix2 ⟨1024 * t.val + r.val, by have := pt_lt t; omega⟩ k) := by
  unfold iblk
  show (V m c main_v0 : FVec F S65536x1024 .f32) _ = _
  congr 1
  funext a
  fin_cases a
  · refine Fin.ext ?_
    show win0_0.index t 0 * 1024 + 1 * r.val = 1024 * t.val + r.val
    rw [idx_x]; omega
  · refine Fin.ext ?_
    show 0 * 1024 + 1 * k.val = k.val
    omega
/-- and of a block of a table. -/
theorem iblk_c (t : Fin cfg0.N) (r : Fin 1024) (k : Fin 128) : (iblk m c 6 t : FVec F S1024x128 .f32) (ix2 r k)
    = (V m c main_v54 : FVec F S4096x128 .f32) (ix2 ⟨1024 * (t.val % 2) + r.val, by omega⟩ k) := by
  unfold iblk
  show (V m c main_v54 : FVec F S4096x128 .f32) _ = _
  congr 1
  funext a
  fin_cases a
  · refine Fin.ext ?_
    show win0_6.index t 0 * 1024 + 1 * r.val = 1024 * (t.val % 2) + r.val
    rw [idx_c]; omega
  · refine Fin.ext ?_
    show 0 * 128 + 1 * k.val = k.val
    omega
theorem iblk_a (t : Fin cfg0.N) (r : Fin 1024) (k : Fin 128) : (iblk m c 7 t : FVec F S1024x128 .f32) (ix2 r k)
    = (V m c main_v55 : FVec F S4096x128 .f32) (ix2 ⟨1024 * (t.val % 2) + r.val, by omega⟩ k) := by
  unfold iblk
  show (V m c main_v55 : FVec F S4096x128 .f32) _ = _
  congr 1
  funext a
  fin_cases a
  · refine Fin.ext ?_
    show win0_7.index t 0 * 1024 + 1 * r.val = 1024 * (t.val % 2) + r.val
    rw [idx_a]; omega
  · refine Fin.ext ?_
    show 0 * 128 + 1 * k.val = k.val
    omega
theorem iblk_b (t : Fin cfg0.N) (r : Fin 1024) (k : Fin 128) : (iblk m c 8 t : FVec F S1024x128 .f32) (ix2 r k)
    = (V m c main_v56 : FVec F S4096x128 .f32) (ix2 ⟨1024 * (t.val % 2) + r.val, by omega⟩ k) := by
  unfold iblk
  show (V m c main_v56 : FVec F S4096x128 .f32) _ = _
  congr 1
  funext a
  fin_cases a
  · refine Fin.ext ?_
    show win0_8.index t 0 * 1024 + 1 * r.val = 1024 * (t.val % 2) + r.val
    rw [idx_b]; omega
  · refine Fin.ext ?_
    show 0 * 128 + 1 * k.val = k.val
    omega

/-- Each result's array, in the rows of block `t`, is what point `t` computes. -/
theorem arr9 (t : Fin cfg0.N) (r q : Fin 1024) : ((dats m 0 c).arrAt 9 cfg0.N : FVec F S65536x1024 .bf16) (ix2 ⟨1024 * t.val + r.val, by have := pt_lt t; omega⟩ q)
    = out0_9 (iblk m c 0 t) (iblk m c 1 t) (iblk m c 2 t) (iblk m c 3 t) (iblk m c 4 t) (iblk m c 5 t) (iblk m c 6 t) (iblk m c 7 t) (iblk m c 8 t) (ix2 r q) := by
  have e := congrFun ((Value.blocks9 m c t (flush0_9 t)).trans (Value.flushed9 m c t)) (ix2 r q)
  refine Eq.trans ?_ (e.trans rfl)
  show _ = ((dats m 0 c).arrAt 9 cfg0.N : FVec F S65536x1024 .bf16) _
  congr 1
  funext a
  fin_cases a
  · refine Fin.ext ?_
    show 1024 * t.val + r.val = win0_9.index t 0 * 1024 + 1 * r.val
    rw [idx_q]; omega
  · refine Fin.ext ?_
    show q.val = 0 * 1024 + 1 * q.val
    omega
theorem arr10 (t : Fin cfg0.N) (r q : Fin 1024) : ((dats m 0 c).arrAt 10 cfg0.N : FVec F S65536x1024 .bf16) (ix2 ⟨1024 * t.val + r.val, by have := pt_lt t; omega⟩ q)
    = out0_10 (iblk m c 0 t) (iblk m c 1 t) (iblk m c 2 t) (iblk m c 3 t) (iblk m c 4 t) (iblk m c 5 t) (iblk m c 6 t) (iblk m c 7 t) (iblk m c 8 t) (ix2 r q) := by
  have e := congrFun ((Value.blocks10 m c t (flush0_10 t)).trans (Value.flushed10 m c t)) (ix2 r q)
  refine Eq.trans ?_ (e.trans rfl)
  show _ = ((dats m 0 c).arrAt 10 cfg0.N : FVec F S65536x1024 .bf16) _
  congr 1
  funext a
  fin_cases a
  · refine Fin.ext ?_
    show 1024 * t.val + r.val = win0_10.index t 0 * 1024 + 1 * r.val
    rw [idx_k]; omega
  · refine Fin.ext ?_
    show q.val = 0 * 1024 + 1 * q.val
    omega
theorem arr11 (t : Fin cfg0.N) (r q : Fin 1024) : ((dats m 0 c).arrAt 11 cfg0.N : FVec F S65536x1024 .bf16) (ix2 ⟨1024 * t.val + r.val, by have := pt_lt t; omega⟩ q)
    = out0_11 (iblk m c 0 t) (iblk m c 1 t) (iblk m c 2 t) (iblk m c 3 t) (iblk m c 4 t) (iblk m c 5 t) (iblk m c 6 t) (iblk m c 7 t) (iblk m c 8 t) (ix2 r q) := by
  have e := congrFun ((Value.blocks11 m c t (flush0_11 t)).trans (Value.flushed11 m c t)) (ix2 r q)
  refine Eq.trans ?_ (e.trans rfl)
  show _ = ((dats m 0 c).arrAt 11 cfg0.N : FVec F S65536x1024 .bf16) _
  congr 1
  funext a
  fin_cases a
  · refine Fin.ext ?_
    show 1024 * t.val + r.val = win0_11.index t 0 * 1024 + 1 * r.val
    rw [idx_v]; omega
  · refine Fin.ext ?_
    show q.val = 0 * 1024 + 1 * q.val
    omega
theorem arr12 (t : Fin cfg0.N) (r q : Fin 1024) : ((dats m 0 c).arrAt 12 cfg0.N : FVec F S65536x1024 .bf16) (ix2 ⟨1024 * t.val + r.val, by have := pt_lt t; omega⟩ q)
    = out0_12 (iblk m c 0 t) (iblk m c 1 t) (iblk m c 2 t) (iblk m c 3 t) (iblk m c 4 t) (iblk m c 5 t) (iblk m c 6 t) (iblk m c 7 t) (iblk m c 8 t) (ix2 r q) := by
  have e := congrFun ((Value.blocks12 m c t (flush0_12 t)).trans (Value.flushed12 m c t)) (ix2 r q)
  refine Eq.trans ?_ (e.trans rfl)
  show _ = ((dats m 0 c).arrAt 12 cfg0.N : FVec F S65536x1024 .bf16) _
  congr 1
  funext a
  fin_cases a
  · refine Fin.ext ?_
    show 1024 * t.val + r.val = win0_12.index t 0 * 1024 + 1 * r.val
    rw [idx_g]; omega
  · refine Fin.ext ?_
    show q.val = 0 * 1024 + 1 * q.val
    omega

end Blocks

section Stripes

variable (x0 : Vec Ideal S1024x1024 .f32) (x1 : Vec Ideal S1x1024 .f32) (x2 : Vec Ideal S1024x4096 .bf16) (x3 : Vec Ideal S256x256 .bf16) (x4 x5 : Vec Ideal S1x128 .f32) (x6 x7 x8 : Vec Ideal S1024x128 .f32)
  (g : Fin 64 → EReal) (s : ℕ) (r : Fin 1024)
  (h3 : ∀ i j : Fin 256, x3 (ix2 i j) = if i.val / 64 = j.val / 64 then Ideal.ofBits .f32 1015021568#32 else 0)
  (h6 : ∀ l : Fin 128, x6 (ix2 r l) = if h : l.val % 64 < 16 then Ideal.cos (ang s ⟨l.val % 64, h⟩) else 1)
  (h7 : ∀ l : Fin 128, x7 (ix2 r l) = if h : l.val % 64 < 8 then -Ideal.sin (ang s ⟨l.val % 64, by omega⟩) else 0)
  (h8 : ∀ l : Fin 128, x8 (ix2 r l) = if h : 8 ≤ l.val % 64 ∧ l.val % 64 < 16 then Ideal.sin (ang s ⟨l.val % 64, h.2⟩) else 0)

include h3 h6 h7 h8

/-- A stripe's norm and rotary, at an element: those of the element's head. -/
theorem stripe_apply (gr : FVec Ideal S1x256 .f32) (hg : ∀ q : Fin 256, gr (ix2 0 q) = g ⟨q.val % 64, by omega⟩) (z : FVec Ideal S1024x256 .f32) (q : Fin 256) :
    headRope (k0_pay7 (View.ld x6 r0_3)) (k0_pay8 (View.ld x7 r0_3)) (k0_pay9 (View.ld x8 r0_3)) (headNorm (k0_pay6 (View.ld x3 r0_2)) gr z) (ix2 r q)
      = ropeAt (normAt (fun d => z (ix2 r (lane q d))) g) s ⟨q.val % 64, by omega⟩ := by
  have hm : q.val % 128 % 64 = q.val % 64 := by omega
  rw [ld_tab, ld_tab, ld_tab, ld_mean, headRope_head _ _ _ _ r s q
    (by rw [pay7_apply, h6]; simp only [hm]) (by rw [pay8_apply, h7]; simp only [hm]) (by rw [pay9_apply, h8]; simp only [hm])]
  refine congrArg (fun y => ropeAt y s _) (funext fun d => ?_)
  rw [headNorm_head (k0_pay6 x3) gr z g (fun i j => (pay6_apply x3 i j).trans (h3 i j)) hg]
  have e : (lane q d).val % 64 = d.val := by simp only [lane]; omega
  have e' : lane (lane q d) = lane q := funext fun d' => Fin.ext (by simp only [lane]; omega)
  rw [e']
  exact congrArg _ (Fin.ext e)

/-- A stripe of the queries at an element, when the stripe's column `q` is column `col` of the block and the weights' columns
    under it start at the stripe's: the scaled rotary of the normed head of `col`. -/
theorem qStripe_apply (h4 : ∀ l : Fin 128, x4 (ix2 0 l) = g ⟨l.val % 64, by omega⟩) (z : FVec Ideal S1024x256 .f32)
    (x : S1024x256.Idx) (col : Fin 1024) (o : ℕ) (ho : col.val = 256 * o + (x 1).val) (hr : (x 0 : Fin 1024) = r)
    (hz : ∀ q : Fin 256, ∀ l : Fin 4096, l.val = 0 + (256 * o + q.val) → z (ix2 r q) = projAt (fun k => x0 (ix2 r k)) (fun k => x1 (ix2 0 k)) (fun k => x2 (ix2 k l))) :
    qStripe x3 x4 x6 x7 x8 z x
      = ropeAt (normAt (fun d => projAt (fun k => x0 (ix2 r k)) (fun k => x1 (ix2 0 k)) (fun k => x2 (ix2 k ⟨64 * (col.val / 64) + d.val, by omega⟩))) g) s ⟨col.val % 64, by omega⟩
        * Ideal.ofBits .f32 0x3E000000#32 := by
  obtain ⟨q, rfl⟩ : ∃ q : Fin 256, x = ix2 r q := ⟨x 1, by subst hr; funext a; fin_cases a <;> rfl⟩
  have ho : col.val = 256 * o + q.val := ho
  have e := stripe_apply x3 x6 x7 x8 g s r h3 h6 h7 h8 (k0_pay10 (View.ld x4 r0_4)) (fun q => by
    rw [ld_gain, pay10_apply, h4]; exact congrArg g (Fin.ext (by dsimp only; omega))) z q
  refine Eq.trans (congrArg (· * Ideal.ofBits .f32 0x3E000000#32) e) ?_
  refine congrArg (· * Ideal.ofBits .f32 0x3E000000#32) ?_
  have e1 : (⟨q.val % 64, by omega⟩ : Fin 64) = ⟨col.val % 64, by omega⟩ := Fin.ext (by dsimp only; omega)
  rw [e1]
  refine congrArg (fun y => ropeAt (normAt y g) s _) (funext fun d => ?_)
  exact hz _ _ (by simp only [lane]; omega)
/-- A stripe of the keys, likewise. -/
theorem kStripe_apply (h5 : ∀ l : Fin 128, x5 (ix2 0 l) = g ⟨l.val % 64, by omega⟩) (z : FVec Ideal S1024x256 .f32)
    (x : S1024x256.Idx) (col : Fin 1024) (o : ℕ) (ho : col.val = 256 * o + (x 1).val) (hr : (x 0 : Fin 1024) = r)
    (hz : ∀ q : Fin 256, ∀ l : Fin 4096, l.val = 1024 + (256 * o + q.val) → z (ix2 r q) = projAt (fun k => x0 (ix2 r k)) (fun k => x1 (ix2 0 k)) (fun k => x2 (ix2 k l))) :
    kStripe x3 x5 x6 x7 x8 z x
      = ropeAt (normAt (fun d => projAt (fun k => x0 (ix2 r k)) (fun k => x1 (ix2 0 k)) (fun k => x2 (ix2 k ⟨1024 + (64 * (col.val / 64) + d.val), by omega⟩))) g) s ⟨col.val % 64, by omega⟩ := by
  obtain ⟨q, rfl⟩ : ∃ q : Fin 256, x = ix2 r q := ⟨x 1, by subst hr; funext a; fin_cases a <;> rfl⟩
  have ho : col.val = 256 * o + q.val := ho
  have e := stripe_apply x3 x6 x7 x8 g s r h3 h6 h7 h8 (k0_pay21 (View.ld x5 r0_4)) (fun q => by
    rw [ld_gain, pay21_apply, h5]; exact congrArg g (Fin.ext (by dsimp only; omega))) z q
  refine Eq.trans e ?_
  have e1 : (⟨q.val % 64, by omega⟩ : Fin 64) = ⟨col.val % 64, by omega⟩ := Fin.ext (by dsimp only; omega)
  rw [e1]
  refine congrArg (fun y => ropeAt (normAt y g) s _) (funext fun d => ?_)
  exact hz _ _ (by simp only [lane]; omega)

/-- The block of the queries at an element. -/
theorem out9_apply (h4 : ∀ l : Fin 128, x4 (ix2 0 l) = g ⟨l.val % 64, by omega⟩) (col : Fin 1024) :
    out0_9 x0 x1 x2 x3 x4 x5 x6 x7 x8 (ix2 r col)
      = ropeAt (normAt (fun d => projAt (fun k => x0 (ix2 r k)) (fun k => x1 (ix2 0 k)) (fun k => x2 (ix2 k ⟨64 * (col.val / 64) + d.val, by omega⟩))) g) s ⟨col.val % 64, by omega⟩
        * Ideal.ofBits .f32 0x3E000000#32 := by
  rw [out9_eq]
  canon_tiles x h
  · refine qStripe_apply x0 x1 x2 x3 x4 x6 x7 x8 g s r h3 h6 h7 h8 h4 _ x col 3 (by simpa using h1) (Fin.ext (by simpa using h0.symm)) fun q l hl => ?_
    rw [half256_apply, ld_x, ld_g]
    exact congrArg (projAt _ _) (funext fun k => View.ld_unit_apply_of _ _ _ _ _ _ (fun a => by fin_cases a <;> simp <;> omega))
  · refine qStripe_apply x0 x1 x2 x3 x4 x6 x7 x8 g s r h3 h6 h7 h8 h4 _ x col 2 (by simpa using h1) (Fin.ext (by simpa using h0.symm)) fun q l hl => ?_
    rw [half0_apply, ld_x, ld_g]
    exact congrArg (projAt _ _) (funext fun k => View.ld_unit_apply_of _ _ _ _ _ _ (fun a => by fin_cases a <;> simp <;> omega))
  · refine qStripe_apply x0 x1 x2 x3 x4 x6 x7 x8 g s r h3 h6 h7 h8 h4 _ x col 1 (by simpa using h1) (Fin.ext (by simpa using h0.symm)) fun q l hl => ?_
    rw [half256_apply, ld_x, ld_g]
    exact congrArg (projAt _ _) (funext fun k => View.ld_unit_apply_of _ _ _ _ _ _ (fun a => by fin_cases a <;> simp <;> omega))
  · refine qStripe_apply x0 x1 x2 x3 x4 x6 x7 x8 g s r h3 h6 h7 h8 h4 _ x col 0 (by simpa using h1) (Fin.ext (by simpa using h0.symm)) fun q l hl => ?_
    rw [half0_apply, ld_x, ld_g]
    exact congrArg (projAt _ _) (funext fun k => View.ld_unit_apply_of _ _ _ _ _ _ (fun a => by fin_cases a <;> simp <;> omega))
/-- The block of the keys at an element. -/
theorem out10_apply (h5 : ∀ l : Fin 128, x5 (ix2 0 l) = g ⟨l.val % 64, by omega⟩) (col : Fin 1024) :
    out0_10 x0 x1 x2 x3 x4 x5 x6 x7 x8 (ix2 r col)
      = ropeAt (normAt (fun d => projAt (fun k => x0 (ix2 r k)) (fun k => x1 (ix2 0 k)) (fun k => x2 (ix2 k ⟨1024 + (64 * (col.val / 64) + d.val), by omega⟩))) g) s ⟨col.val % 64, by omega⟩ := by
  rw [out10_eq]
  canon_tiles x h
  · refine kStripe_apply x0 x1 x2 x3 x5 x6 x7 x8 g s r h3 h6 h7 h8 h5 _ x col 3 (by simpa using h1) (Fin.ext (by simpa using h0.symm)) fun q l hl => ?_
    rw [half256_apply, ld_x, ld_g]
    exact congrArg (projAt _ _) (funext fun k => View.ld_unit_apply_of _ _ _ _ _ _ (fun a => by fin_cases a <;> simp <;> omega))
  · refine kStripe_apply x0 x1 x2 x3 x5 x6 x7 x8 g s r h3 h6 h7 h8 h5 _ x col 2 (by simpa using h1) (Fin.ext (by simpa using h0.symm)) fun q l hl => ?_
    rw [half0_apply, ld_x, ld_g]
    exact congrArg (projAt _ _) (funext fun k => View.ld_unit_apply_of _ _ _ _ _ _ (fun a => by fin_cases a <;> simp <;> omega))
  · refine kStripe_apply x0 x1 x2 x3 x5 x6 x7 x8 g s r h3 h6 h7 h8 h5 _ x col 1 (by simpa using h1) (Fin.ext (by simpa using h0.symm)) fun q l hl => ?_
    rw [half256_apply, ld_x, ld_g]
    exact congrArg (projAt _ _) (funext fun k => View.ld_unit_apply_of _ _ _ _ _ _ (fun a => by fin_cases a <;> simp <;> omega))
  · refine kStripe_apply x0 x1 x2 x3 x5 x6 x7 x8 g s r h3 h6 h7 h8 h5 _ x col 0 (by simpa using h1) (Fin.ext (by simpa using h0.symm)) fun q l hl => ?_
    rw [half0_apply, ld_x, ld_g]
    exact congrArg (projAt _ _) (funext fun k => View.ld_unit_apply_of _ _ _ _ _ _ (fun a => by fin_cases a <;> simp <;> omega))

omit h3 h6 h7 h8 in
/-- The block of the values, -/
theorem out11_apply (col : Fin 1024) : out0_11 x0 x1 x2 x3 x4 x5 x6 x7 x8 (ix2 r col)
    = projAt (fun k => x0 (ix2 r k)) (fun k => x1 (ix2 0 k)) (fun k => x2 (ix2 k ⟨2048 + col.val, by omega⟩)) := by
  rw [out11_eq, pay1_apply, ld_x, ld_g]
  exact congrArg (projAt _ _) (funext fun k => View.ld_unit_apply_of _ _ _ _ _ _ (fun a => by fin_cases a <;> simp))
omit h3 h6 h7 h8 in
/-- and of the gate. -/
theorem out12_apply (col : Fin 1024) : out0_12 x0 x1 x2 x3 x4 x5 x6 x7 x8 (ix2 r col)
    = projAt (fun k => x0 (ix2 r k)) (fun k => x1 (ix2 0 k)) (fun k => x2 (ix2 k ⟨3072 + col.val, by omega⟩))
      * Ideal.logistic (projAt (fun k => x0 (ix2 r k)) (fun k => x1 (ix2 0 k)) (fun k => x2 (ix2 k ⟨3072 + col.val, by omega⟩))) := by
  have e : ∀ k : Fin 1024, View.ld x2 r0_14 (ix2 k col) = x2 (ix2 k ⟨3072 + col.val, by omega⟩) :=
    fun k => View.ld_unit_apply_of _ _ _ _ _ _ (fun a => by fin_cases a <;> simp)
  rw [out12_eq, pay2_apply, ld_x, ld_g]
  simp only [e]

end Stripes

/-- An array flattened to rows, at row `2048 b + s`. -/
theorem shapeCast_row (X : FVec Ideal S32x2048x1024 .f32) (b : Fin 32) (s : Fin 2048) (k : Fin 1024) :
    shapeCast S65536x1024 X shapeCasts_S32x2048x1024_S65536x1024 (ix2 ⟨2048 * b.val + s.val, by omega⟩ k) = X (ix3 b s k) := by
  pointwise

section Results

variable (m : (ℓ : Loc nD τ sig) → Buf (Elt Ideal) ℓ) (c : Dev nD)

/-- The blocks at point `t`, read from the arguments: the rows, -/
theorem blk_x (t : Fin cfg0.N) (r k : Fin 1024) : (iblk m c 0 t : FVec Ideal S1024x1024 .f32) (ix2 r k)
    = (m ((c : Thread nD τ).loc main_arg0) : FVec Ideal S32x2048x1024 .f32)
        (ix3 ⟨t.val / 2, by have := pt_lt t; omega⟩ ⟨1024 * (t.val % 2) + r.val, by omega⟩ k) := by
  have ht := pt_lt t
  rw [iblk_x, V_x]
  have e : (⟨1024 * t.val + r.val, by omega⟩ : Fin 65536) = ⟨2048 * (t.val / 2) + (1024 * (t.val % 2) + r.val), by omega⟩ :=
    Fin.ext (by dsimp only; omega)
  rw [e]
  generalize (m ((c : Thread nD τ).loc main_arg0) : FVec Ideal S32x2048x1024 .f32) = X
  exact shapeCast_row X ⟨t.val / 2, by omega⟩ ⟨1024 * (t.val % 2) + r.val, by omega⟩ k
/-- the gain, the weights, -/
theorem blk_g (t : Fin cfg0.N) (k : Fin 1024) : (iblk m c 1 t : FVec Ideal S1x1024 .f32) (ix2 0 k)
    = (m ((c : Thread nD τ).loc main_arg1) : FVec Ideal S1024 .f32) (ix1 k) := by
  rw [iblk_g, V_g]
  generalize (m ((c : Thread nD τ).loc main_arg1) : FVec Ideal S1024 .f32) = X
  pointwise
theorem blk_w (t : Fin cfg0.N) (k : Fin 1024) (l : Fin 4096) : (iblk m c 2 t : FVec Ideal S1024x4096 .bf16) (ix2 k l)
    = (m ((c : Thread nD τ).loc main_arg2) : FVec Ideal S1024x4096 .f32) (ix2 k l) := by
  rw [iblk_w, V_w]; rfl
/-- the head-mean matrix, the doubled gains -/
theorem blk_mean (t : Fin cfg0.N) (i j : Fin 256) : (iblk m c 3 t : FVec Ideal S256x256 .bf16) (ix2 i j)
    = if i.val / 64 = j.val / 64 then Ideal.ofBits .f32 1015021568#32 else 0 := by
  rw [iblk_mean, V_mean, meanMat_apply]
theorem blk_gq (t : Fin cfg0.N) (l : Fin 128) : (iblk m c 4 t : FVec Ideal S1x128 .f32) (ix2 0 l)
    = (m ((c : Thread nD τ).loc main_arg3) : FVec Ideal S64 .f32) (ix1 ⟨l.val % 64, by omega⟩) := by
  rw [iblk_gq, V_gq, gainRow_apply]
theorem blk_gk (t : Fin cfg0.N) (l : Fin 128) : (iblk m c 5 t : FVec Ideal S1x128 .f32) (ix2 0 l)
    = (m ((c : Thread nD τ).loc main_arg4) : FVec Ideal S64 .f32) (ix1 ⟨l.val % 64, by omega⟩) := by
  rw [iblk_gk, V_gk, gainRow_apply]
/-- and the tables at the rows' positions. -/
theorem blk_c (t : Fin cfg0.N) (r : Fin 1024) (l : Fin 128) : (iblk m c 6 t : FVec Ideal S1024x128 .f32) (ix2 r l)
    = if h : l.val % 64 < 16 then Ideal.cos (ang (1024 * (t.val % 2) + r.val) ⟨l.val % 64, h⟩) else 1 := by
  rw [iblk_c, V_cos, two_apply, cosT_apply]
theorem blk_a (t : Fin cfg0.N) (r : Fin 1024) (l : Fin 128) : (iblk m c 7 t : FVec Ideal S1024x128 .f32) (ix2 r l)
    = if h : l.val % 64 < 8 then -Ideal.sin (ang (1024 * (t.val % 2) + r.val) ⟨l.val % 64, by omega⟩) else 0 := by
  rw [iblk_a, V_sinA, two_apply, sinA_apply]
theorem blk_b (t : Fin cfg0.N) (r : Fin 1024) (l : Fin 128) : (iblk m c 8 t : FVec Ideal S1024x128 .f32) (ix2 r l)
    = if h : 8 ≤ l.val % 64 ∧ l.val % 64 < 16 then Ideal.sin (ang (1024 * (t.val % 2) + r.val) ⟨l.val % 64, h.2⟩) else 0 := by
  rw [iblk_b, V_sinB, two_apply, sinB_apply]

/-- The projection of a row of block `t` is the reference's. -/
theorem blk_proj (t : Fin cfg0.N) (r : Fin 1024) (l : Fin 4096) :
    projAt (fun k => (iblk m c 0 t : FVec Ideal S1024x1024 .f32) (ix2 r k)) (fun k => (iblk m c 1 t : FVec Ideal S1x1024 .f32) (ix2 0 k))
        (fun k => (iblk m c 2 t : FVec Ideal S1024x4096 .bf16) (ix2 k l))
      = refZ (F := Ideal) (m ((c : Thread nD τ).loc main_arg0)) (m ((c : Thread nD τ).loc main_arg1)) (m ((c : Thread nD τ).loc main_arg2))
          (ix3 ⟨t.val / 2, by have := pt_lt t; omega⟩ ⟨1024 * (t.val % 2) + r.val, by omega⟩ l) := by
  rw [refZ_apply, projAt_eq]
  simp only [blk_x, blk_g, blk_w]

/-- Every row is a row of a block. -/
theorem row_cases (P : Fin 65536 → Prop) (h : ∀ (t : Fin cfg0.N) (r : Fin 1024), P ⟨1024 * t.val + r.val, by have := pt_lt t; omega⟩) (i : Fin 65536) : P i := by
  have e := h ⟨i.val / 1024, by have := i.isLt; show _ < grid0.N; rw [N_0]; omega⟩ ⟨i.val % 1024, by omega⟩
  have e' : (⟨1024 * (i.val / 1024) + i.val % 1024, by omega⟩ : Fin 65536) = i := Fin.ext (by dsimp only; omega)
  rwa [e'] at e
theorem row_eq (t : Fin cfg0.N) (r : Fin 1024) : (⟨1024 * t.val + r.val, by have := pt_lt t; omega⟩ : Fin 65536)
    = ⟨2048 * (t.val / 2) + (1024 * (t.val % 2) + r.val), by have := pt_lt t; omega⟩ := Fin.ext (by dsimp only; omega)
theorem ix2_cases {n k : ℕ} (i : (⟨2, ![n, k]⟩ : Shape).Idx) : ∃ (r : Fin n) (q : Fin k), i = ix2 r q :=
  ⟨i 0, i 1, by funext a; fin_cases a <;> rfl⟩

/-- The kernel's queries are the reference's, -/
theorem q_eq : @Eq (FVec Ideal S65536x1024 .bf16) ((dats m 0 c).arrAt 9 cfg0.N)
    (refQ (F := Ideal) (m ((c : Thread nD τ).loc main_arg0)) (m ((c : Thread nD τ).loc main_arg1)) (m ((c : Thread nD τ).loc main_arg2)) (m ((c : Thread nD τ).loc main_arg3))) := by
  funext i
  obtain ⟨R, col, rfl⟩ := ix2_cases i
  refine row_cases (fun R => ((dats m 0 c).arrAt 9 cfg0.N : FVec Ideal S65536x1024 .bf16) (ix2 R col) = refQ (F := Ideal) _ _ _ _ (ix2 R col)) (fun t r => ?_) R
  have ht := pt_lt t
  have e := refQ_apply (m ((c : Thread nD τ).loc main_arg0)) (m ((c : Thread nD τ).loc main_arg1)) (m ((c : Thread nD τ).loc main_arg2)) (m ((c : Thread nD τ).loc main_arg3))
    ⟨t.val / 2, by omega⟩ ⟨1024 * (t.val % 2) + r.val, by omega⟩ ⟨col.val / 64, by omega⟩ ⟨col.val % 64, by omega⟩
  have ec : (⟨64 * (col.val / 64) + col.val % 64, by omega⟩ : Fin 1024) = col := Fin.ext (by dsimp only; omega)
  dsimp only at e
  rw [ec] at e
  rw [arr9, out9_apply _ _ _ _ _ _ _ _ _ (fun d => (m ((c : Thread nD τ).loc main_arg3) : FVec Ideal S64 .f32) (ix1 d)) (1024 * (t.val % 2) + r.val) r
    (blk_mean m c t) (blk_c m c t r) (blk_a m c t r) (blk_b m c t r) (blk_gq m c t) col]
  simp only [blk_proj]
  rw [row_eq]
  exact e.symm
/-- so are its keys, -/
theorem k_eq : @Eq (FVec Ideal S65536x1024 .bf16) ((dats m 0 c).arrAt 10 cfg0.N)
    (refK (F := Ideal) (m ((c : Thread nD τ).loc main_arg0)) (m ((c : Thread nD τ).loc main_arg1)) (m ((c : Thread nD τ).loc main_arg2)) (m ((c : Thread nD τ).loc main_arg4))) := by
  funext i
  obtain ⟨R, col, rfl⟩ := ix2_cases i
  refine row_cases (fun R => ((dats m 0 c).arrAt 10 cfg0.N : FVec Ideal S65536x1024 .bf16) (ix2 R col) = refK (F := Ideal) _ _ _ _ (ix2 R col)) (fun t r => ?_) R
  have ht := pt_lt t
  have e := refK_apply (m ((c : Thread nD τ).loc main_arg0)) (m ((c : Thread nD τ).loc main_arg1)) (m ((c : Thread nD τ).loc main_arg2)) (m ((c : Thread nD τ).loc main_arg4))
    ⟨t.val / 2, by omega⟩ ⟨1024 * (t.val % 2) + r.val, by omega⟩ ⟨col.val / 64, by omega⟩ ⟨col.val % 64, by omega⟩
  have ec : (⟨64 * (col.val / 64) + col.val % 64, by omega⟩ : Fin 1024) = col := Fin.ext (by dsimp only; omega)
  dsimp only at e
  rw [ec] at e
  rw [arr10, out10_apply _ _ _ _ _ _ _ _ _ (fun d => (m ((c : Thread nD τ).loc main_arg4) : FVec Ideal S64 .f32) (ix1 d)) (1024 * (t.val % 2) + r.val) r
    (blk_mean m c t) (blk_c m c t r) (blk_a m c t r) (blk_b m c t r) (blk_gk m c t) col]
  simp only [blk_proj]
  rw [row_eq]
  exact e.symm
/-- its values -/
theorem v_eq : @Eq (FVec Ideal S65536x1024 .bf16) ((dats m 0 c).arrAt 11 cfg0.N)
    (refV (F := Ideal) (m ((c : Thread nD τ).loc main_arg0)) (m ((c : Thread nD τ).loc main_arg1)) (m ((c : Thread nD τ).loc main_arg2))) := by
  funext i
  obtain ⟨R, col, rfl⟩ := ix2_cases i
  refine row_cases (fun R => ((dats m 0 c).arrAt 11 cfg0.N : FVec Ideal S65536x1024 .bf16) (ix2 R col) = refV (F := Ideal) _ _ _ (ix2 R col)) (fun t r => ?_) R
  have ht := pt_lt t
  rw [arr11, out11_apply, blk_proj, row_eq]
  exact (refV_apply _ _ _ ⟨t.val / 2, by omega⟩ ⟨1024 * (t.val % 2) + r.val, by omega⟩ col).symm
/-- and its gate. -/
theorem gate_eq : @Eq (FVec Ideal S65536x1024 .bf16) ((dats m 0 c).arrAt 12 cfg0.N)
    (refGate (F := Ideal) (m ((c : Thread nD τ).loc main_arg0)) (m ((c : Thread nD τ).loc main_arg1)) (m ((c : Thread nD τ).loc main_arg2))) := by
  funext i
  obtain ⟨R, col, rfl⟩ := ix2_cases i
  refine row_cases (fun R => ((dats m 0 c).arrAt 12 cfg0.N : FVec Ideal S65536x1024 .bf16) (ix2 R col) = refGate (F := Ideal) _ _ _ (ix2 R col)) (fun t r => ?_) R
  have ht := pt_lt t
  rw [arr12, out12_apply, blk_proj, row_eq]
  exact (refGate_apply _ _ _ ⟨t.val / 2, by omega⟩ ⟨1024 * (t.val % 2) + r.val, by omega⟩ col).symm

end Results

end Cert.Proof.Proj

end
-- ==== Proof.AttnMath.lean ====
/-
  Softmax over the extended reals with real scores: subtracting a row's greatest score changes nothing, and the division
  by the sum may be made once, after the values are averaged.
-/
module

public import proofs.«01_k».proof.Proof.ProjMath

@[expose] public section

noncomputable section

namespace Cert.Proof.Attn

open Idealize.ShloMosaic
open Cert.Proof.Proj (sum_mul_real)

theorem ofBits_bot : Ideal.ofBits .f32 0xFF800000#32 = (⊥ : EReal) := by
  simp [Ideal.ofBits, Ideal.ieee]
theorem ofBits_one : Ideal.ofBits .f32 0x3F800000#32 = (1 : EReal) := by
  have e : Ideal.ofBits .f32 0x3F800000#32 = ((1 : ℝ) : EReal) := by simp [Ideal.ofBits, Ideal.ieee, -EReal.coe_mul, -EReal.coe_one]; norm_num
  exact e
theorem ofBits_one16 : Ideal.ofBits .bf16 0x3F80#16 = (1 : EReal) := by
  have e : Ideal.ofBits .bf16 0x3F80#16 = ((1 : ℝ) : EReal) := by simp [Ideal.ofBits, Ideal.ieee, -EReal.coe_mul, -EReal.coe_one]; norm_num
  exact e

/-- A number that is a real. -/
def IsReal (x : EReal) : Prop := ∃ r : ℝ, x = (r : EReal)

theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_sum {ι : Type*} (s : Finset ι) (f : ι → EReal) (h : ∀ i, IsReal (f i)) : IsReal (∑ i ∈ s, f i) := by
  choose g hg using h
  refine ⟨∑ i ∈ s, g i, ?_⟩
  rw [Finset.sum_congr rfl fun i _ => hg i]
  classical
  induction s using Finset.induction_on with
  | empty => simp
  | insert a s ha ih => rw [Finset.sum_insert ha, Finset.sum_insert ha, ih, EReal.coe_add]
theorem coe_sum {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The greatest of a nonempty family of reals is a real. -/
theorem top_real {n : ℕ} (s : Fin (n + 1) → EReal) (h : ∀ i, IsReal (s i)) :
    IsReal (max (Ideal.ofBits .f32 0xFF800000#32) (Finset.univ.fold max (Ideal.ofBits .f32 0xFF800000#32) s)) := by
  rw [ofBits_bot, max_eq_right bot_le]
  have key : ∀ S : Finset (Fin (n + 1)), S = ∅ ∨ IsReal (S.fold max ⊥ s) := by
    classical
    intro S
    induction S using Finset.induction_on with
    | empty => exact Or.inl rfl
    | insert a S ha ih =>
      right
      rw [Finset.fold_insert ha]
      rcases ih with rfl | ih
      · rw [Finset.fold_empty, max_eq_left bot_le]; exact h a
      · rcases max_choice (s a) (S.fold max ⊥ s) with e | e
        · rw [e]; exact h a
        · rw [e]; exact ih
  exact (key _).resolve_left (Finset.univ_nonempty.ne_empty)

/-- The weight that a softmax gives to score `j`. -/
def soft {n : ℕ} (s : Fin (n + 1) → EReal) (j : Fin (n + 1)) : EReal :=
  Ideal.exp (s j) * Ideal.div 1 (∑ k, Ideal.exp (s k))

section

variable {n : ℕ} (s : Fin (n + 1) → EReal) (h : ∀ i, IsReal (s i))
include h

/-- The sum of the exponentials is a positive real. -/
theorem sum_exp : ∃ l : ℝ, 0 < l ∧ ∑ k, Ideal.exp (s k) = (l : EReal) := by
  choose g hg using h
  refine ⟨∑ k, Real.exp (g k), Finset.sum_pos (fun k _ => Real.exp_pos _) Finset.univ_nonempty, ?_⟩
  rw [← coe_sum]
  exact Finset.sum_congr rfl fun k _ => by rw [hg k, Ideal.exp_coe]

/-- A real subtracted from every score leaves the weights as they are. -/
theorem soft_shift (m : EReal) (hm : IsReal m) (j : Fin (n + 1)) :
    Ideal.div (Ideal.exp (s j - m)) (∑ k, Ideal.exp (s k - m)) = soft s j := by
  unfold soft
  obtain ⟨l, hl, e⟩ := sum_exp s h
  rw [e]
  choose g hg using h
  obtain ⟨r, rfl⟩ := hm
  have hk : ∀ k, Ideal.exp (s k - (r : EReal)) = ((Real.exp (g k) * Real.exp (-r) : ℝ) : EReal) := fun k => by
    rw [hg k, ← EReal.coe_sub, Ideal.exp_coe, sub_eq_add_neg, Real.exp_add]
  have el : ∑ k, Real.exp (g k) = l := by
    apply EReal.coe_injective
    rw [← coe_sum, ← e]
    exact Finset.sum_congr rfl fun k _ => by rw [hg k, Ideal.exp_coe]
  rw [Finset.sum_congr rfl fun k _ => hk k, coe_sum, ← Finset.sum_mul, el, hk j, hg j, Ideal.exp_coe,
    Ideal.div_coe (mul_pos hl (Real.exp_pos _)).ne', Ideal.div_coe hl.ne', one_mul, ← EReal.coe_mul, ← EReal.coe_mul]
  congr 1
  have := (Real.exp_pos (-r)).ne'
  field_simp

/-- The average divided once is the average of the weights. -/
theorem average (v : Fin (n + 1) → EReal) :
    (∑ j, v j * Ideal.exp (s j)) * Ideal.div 1 (∑ k, Ideal.exp (s k)) = ∑ j, v j * soft s j := by
  obtain ⟨l, hl, e⟩ := sum_exp s h
  have e0 : 0 ≤ ((1 / l : ℝ) : EReal) := EReal.coe_nonneg.mpr (by positivity)
  unfold soft
  rw [e, Ideal.div_coe hl.ne', one_mul, sum_mul_real _ _ _ e0 (EReal.coe_ne_top _)]
  exact Finset.sum_congr rfl fun j _ => mul_assoc _ _ _

omit h in
/-- So is that of the difference of two, however the second is weighted. -/
theorem difference (s' : Fin (n + 1) → EReal) (h : ∀ i, IsReal (s i)) (h' : ∀ i, IsReal (s' i)) (lam : EReal)
    (v : Fin (n + 1) → EReal) :
    (∑ j, v j * (Ideal.exp (s j) - Ideal.exp (s' j) * Ideal.div (lam * ∑ k, Ideal.exp (s k)) (∑ k, Ideal.exp (s' k))))
        * Ideal.div 1 (∑ k, Ideal.exp (s k))
      = ∑ j, v j * (soft s j - lam * soft s' j) := by
  obtain ⟨l, hl, e⟩ := sum_exp s h
  obtain ⟨l', hl', e'⟩ := sum_exp s' h'
  have e0 : 0 ≤ ((1 / l : ℝ) : EReal) := EReal.coe_nonneg.mpr (by positivity)
  have el : (l : EReal) * ((1 / l : ℝ) : EReal) = 1 := by
    rw [← EReal.coe_mul, mul_one_div_cancel hl.ne', EReal.coe_one]
  unfold soft
  rw [e, e', Ideal.div_coe hl.ne', Ideal.div_coe hl'.ne', Ideal.div_coe hl'.ne', one_mul, one_mul,
    sum_mul_real _ _ _ e0 (EReal.coe_ne_top _)]
  refine Finset.sum_congr rfl fun j _ => ?_
  rw [mul_assoc, sub_eq_add_neg, EReal.right_distrib_of_nonneg_of_ne_top e0 (EReal.coe_ne_top _), sub_eq_add_neg]
  congr 2
  rw [EReal.neg_mul]
  congr 1
  generalize ((1 / l : ℝ) : EReal) = u at *
  generalize ((1 / l' : ℝ) : EReal) = u'
  calc Ideal.exp (s' j) * (lam * l * u') * u = lam * (Ideal.exp (s' j) * u') * (l * u) := by ac_rfl
    _ = _ := by rw [el, mul_one]

end

end Cert.Proof.Attn

end
-- ==== Proof.AttnBody.lean ====
/-
  What the kernel's body of the even layer's attention leaves in its output block: the eight heads of the grouped
  attention and the four of the differential one, laid side by side as the columns of one block, the norm of each
  differential head, the gate, and the output product, each read at an element.
-/
module

public import proofs.«01_k».proof.Proof.Gen.Kernel3Ideal.Value
public import proofs.«01_k».proof.Proof.AttnMath
public import Idealize.ShloMosaic.Lib.Pointwise
public import Idealize.ShloMosaic.Lib.Pipeline.ValueKit

@[expose] public section

noncomputable section

namespace Cert.Proof.Attn

open Cert.Kernel3Ideal Cert.Kernel3Ideal.Gen
open Idealize.ShloMosaic
open Idealize.ShloMosaic.TcCoe Idealize.ShloMosaic.StableHlo

section Terms

variable {F : FTy → Type} [FloatOps F]

/-- The exponentials of a block of scores, keys by queries. -/
def expScore (k : FVec F S1x2048x64 .bf16) (q : FVec F S1x512x64 .bf16) : FVec F S2048x512 .f32 :=
  exp (matmul dot_S2048x64_S512x64_S2048x512_1_1_0_0_n_n none (shapeCast S2048x64 k shapeCasts_S1x2048x64_S2048x64)
    (shapeCast S512x64 q shapeCasts_S1x512x64_S512x64) (constant S2048x512 .f32 0x00000000#32))
/-- A grouped head: the values over the exponentials, divided by the row of sums the ones give. -/
def gqaHead (e : FVec F S2048x512 .f32) (v : FVec F S1x1x128x2048 .bf16) : FVec F S64x512 .f32 :=
  k0_pay8 (k0_pay4 v) e
/-- The sums of the exponentials, a query each. -/
def expSum (e : FVec F S2048x512 .f32) : FVec F S1x512 .f32 :=
  shapeCast S1x512 (multiReduction .add [0] S512 e 0x00000000#32 reduces_S2048x512_S512 (.inl rfl) rfl) shapeCasts_S512_S1x512
/-- The difference of two blocks of exponentials, the second brought to the first's sums, -/
def expDiff (lam : FVec F S1x1 .f32) (e e' : FVec F S2048x512 .f32) : FVec F S2048x512 .bf16 :=
  subf (truncf .bf16 e bitsLt_bf16_f32) (mulf (truncf .bf16 e' bitsLt_bf16_f32) (broadcastTo S2048x512
    (truncf .bf16 (divf (mulf (broadcastTo S1x512 lam broadcasts_S1x1_S1x512) (expSum e)) (expSum e')) bitsLt_bf16_f32) broadcasts_S1x512_S2048x512))
/-- and the differential head it gives. -/
def diffHead (p : FVec F S2048x512 .bf16) (l : FVec F S1x512 .f32) (v : FVec F S1x1x128x2048 .bf16) : FVec F S128x512 .f32 :=
  mulf (matmul dot_S128x2048_S2048x512_S128x512_1_0_0_1_n_n none (shapeCast S128x2048 v shapeCasts_S1x1x128x2048_S128x2048) p (constant S128x512 .f32 0x00000000#32))
    (broadcastTo S128x512 (divf (broadcast S1x512 (Scalar.ofBits .f32 0x3F800000#32 : F .f32)) l) broadcasts_S1x512_S128x512)
/-- The twelve heads side by side. -/
def heads (a : Fin 8 → FVec F S64x512 .f32) (b : Fin 4 → FVec F S128x512 .f32) : FVec F S512x1024 .f32 :=
  transpose S512x1024 [1, 0] (concatenate S1024x512 0 [⟨S64x512, a 0⟩, ⟨S64x512, a 1⟩, ⟨S64x512, a 2⟩, ⟨S64x512, a 3⟩, ⟨S64x512, a 4⟩, ⟨S64x512, a 5⟩, ⟨S64x512, a 6⟩, ⟨S64x512, a 7⟩,
    ⟨S128x512, b 0⟩, ⟨S128x512, b 1⟩, ⟨S128x512, b 2⟩, ⟨S128x512, b 3⟩]
    concatenates_S64x512_S64x512_S64x512_S64x512_S64x512_S64x512_S64x512_S64x512_S128x512_S128x512_S128x512_S128x512_S1024x512_d0) transposes_S1024x512_p1_0_S512x1024
/-- The norm of a differential head, scaled. -/
def headNorm (g : FVec F S1x128 .f32) (z : FVec F S512x128 .f32) : FVec F S512x128 .f32 :=
  mulf (mulf (mulf z (broadcastTo S512x128 (rsqrt (addf (divf
    (shapeCast S512x1 (multiReduction .add [1] S512 (mulf z z) 0x00000000#32 reduces_S512x128_S512 (.inl rfl) rfl) shapeCasts_S512_S512x1)
      (broadcast S512x1 (Scalar.ofBits .f32 0x43000000#32 : F .f32))) (broadcast S512x1 (Scalar.ofBits .f32 0x358637BD#32 : F .f32)))) broadcasts_S512x1_S512x128))
    (broadcastTo S512x128 g broadcasts_S1x128_S512x128)) (broadcast S512x128 (Scalar.ofBits .f32 0x3F4CCCCD#32 : F .f32))
/-- The heads with the differential ones normed. -/
def normed (g : FVec F S1x128 .f32) (z : FVec F S512x1024 .f32) : FVec F S512x1024 .f32 :=
  concatenate S512x1024 1 [⟨S512x512, extractStridedSlice S512x512 ![0, 0] z slices_S512x1024_o0_0_S512x512⟩,
    ⟨S512x128, headNorm g (extractStridedSlice S512x128 ![0, 512] z slices_S512x1024_o0_512_S512x128)⟩,
    ⟨S512x128, headNorm g (extractStridedSlice S512x128 ![0, 640] z slices_S512x1024_o0_640_S512x128)⟩,
    ⟨S512x128, headNorm g (extractStridedSlice S512x128 ![0, 768] z slices_S512x1024_o0_768_S512x128)⟩,
    ⟨S512x128, headNorm g (extractStridedSlice S512x128 ![0, 896] z slices_S512x1024_o0_896_S512x128)⟩]
    concatenates_S512x512_S512x128_S512x128_S512x128_S512x128_S512x1024_d1
/-- The gated heads' product with the output weights, added to the residual. -/
def outBlock (n : FVec F S512x1024 .f32) (sg : FVec F S1x512x1024 .bf16) (x : FVec F S1x512x1024 .f32) (w : FVec F S1024x1024 .bf16) : FVec F S1x512x1024 .f32 :=
  shapeCast S1x512x1024 (addf (shapeCast S512x1024 x shapeCasts_S1x512x1024_S512x1024)
    (matmul dot_S512x1024_S1024x1024_S512x1024_1_0_0_1_n_n none
      (truncf .bf16 (mulf n (extf .f32 (shapeCast S512x1024 sg shapeCasts_S1x512x1024_S512x1024) bitsLt_bf16_f32)) bitsLt_bf16_f32)
      (shapeCast S1024x1024 w shapeCasts_S1024x1024_S1024x1024) (constant S512x1024 .f32 0x00000000#32))) shapeCasts_S512x1024_S1x512x1024

section Pieces

variable (x0 x1 x2 x3 : Vec F S1x64 .f32) (x4 : Vec F S1x128 .f32) (x5 x6 : Vec F S1x512x512 .bf16) (x7 : Vec F S1x512x1024 .bf16) (x8 : Vec F S1x512x1024 .f32)
  (x9 : Vec F S1x2048x128 .bf16) (x10 : Vec F S1x2x128x2048 .bf16) (x11 : Vec F S1x2048x512 .bf16) (x12 : Vec F S1x4x128x2048 .bf16) (x13 : Vec F S1024x1024 .bf16)

/-- The eight grouped heads of a block, -/
def gqaOf (h : Fin 8) : FVec F S64x512 .f32 :=
  ![gqaHead (expScore (View.ld x9 r0_1) (View.ld x5 r0_3)) (View.ld x10 r0_2),
    gqaHead (expScore (View.ld x9 r0_1) (View.ld x5 r0_4)) (View.ld x10 r0_2),
    gqaHead (expScore (View.ld x9 r0_1) (View.ld x5 r0_5)) (View.ld x10 r0_2),
    gqaHead (expScore (View.ld x9 r0_1) (View.ld x5 r0_6)) (View.ld x10 r0_2),
    gqaHead (expScore (View.ld x9 r0_7) (View.ld x5 r0_9)) (View.ld x10 r0_8),
    gqaHead (expScore (View.ld x9 r0_7) (View.ld x5 r0_10)) (View.ld x10 r0_8),
    gqaHead (expScore (View.ld x9 r0_7) (View.ld x5 r0_11)) (View.ld x10 r0_8),
    gqaHead (expScore (View.ld x9 r0_7) (View.ld x5 r0_12)) (View.ld x10 r0_8)] h
/-- a differential head from the exponentials of its two scores, -/
def diffPair (lam : FVec F S1x1 .f32) (e e' : FVec F S2048x512 .f32) (v : FVec F S1x1x128x2048 .bf16) : FVec F S128x512 .f32 :=
  diffHead (expDiff lam e e') (expSum e) v
/-- the four of them, -/
def diffOf (h : Fin 4) : FVec F S128x512 .f32 :=
  ![diffPair (k0_pay2 (View.ld x0 r0_0) (View.ld x1 r0_0) (View.ld x2 r0_0) (View.ld x3 r0_0)) (expScore (View.ld x11 r0_13) (View.ld x6 r0_3)) (expScore (View.ld x11 r0_14) (View.ld x6 r0_4)) (View.ld x12 r0_17),
    diffPair (k0_pay2 (View.ld x0 r0_0) (View.ld x1 r0_0) (View.ld x2 r0_0) (View.ld x3 r0_0)) (expScore (View.ld x11 r0_15) (View.ld x6 r0_5)) (expScore (View.ld x11 r0_16) (View.ld x6 r0_6)) (View.ld x12 r0_18),
    diffPair (k0_pay2 (View.ld x0 r0_0) (View.ld x1 r0_0) (View.ld x2 r0_0) (View.ld x3 r0_0)) (expScore (View.ld x11 r0_19) (View.ld x6 r0_9)) (expScore (View.ld x11 r0_20) (View.ld x6 r0_10)) (View.ld x12 r0_23),
    diffPair (k0_pay2 (View.ld x0 r0_0) (View.ld x1 r0_0) (View.ld x2 r0_0) (View.ld x3 r0_0)) (expScore (View.ld x11 r0_21) (View.ld x6 r0_11)) (expScore (View.ld x11 r0_22) (View.ld x6 r0_12)) (View.ld x12 r0_24)] h
/-- and the block the body leaves. -/
def blockOf : FVec F S1x512x1024 .f32 :=
  outBlock (normed (shapeCast S1x128 (View.ld x4 r0_25) shapeCasts_S1x128_S1x128) (heads (gqaOf x5 x9 x10) (diffOf x0 x1 x2 x3 x6 x11 x12)))
    (View.ld x7 r0_26) (View.ld x8 r0_26) (View.ld x13 r0_27)

theorem heads_eq : k0_pay63 x0 x1 x2 x3 x4 x5 x6 x7 x8 x9 x10 x11 x12 x13 = heads (gqaOf x5 x9 x10) (diffOf x0 x1 x2 x3 x6 x11 x12) := rfl

theorem out14_eq : out0_14 x0 x1 x2 x3 x4 x5 x6 x7 x8 x9 x10 x11 x12 x13 = blockOf x0 x1 x2 x3 x4 x5 x6 x7 x8 x9 x10 x11 x12 x13 := by
  unfold_out out0_14
  exact View.canon_cons_unit_lit _ _ _ (fun a => by fin_cases a <;> rfl)

end Pieces
end Terms

theorem expScore_apply (k : FVec Ideal S1x2048x64 .bf16) (q : FVec Ideal S1x512x64 .bf16) (j : Fin 2048) (r : Fin 512) :
    expScore k q (ix2 j r) = Ideal.exp (∑ c, k (ix3 0 j c) * q (ix3 0 r c)) := by
  pointwise [expScore]
theorem gqaHead_apply (e : FVec Ideal S2048x512 .f32) (v : FVec Ideal S1x1x128x2048 .bf16) (d : Fin 64) (r : Fin 512) :
    gqaHead e v (ix2 d r) = (∑ j, v (ix4 0 0 ⟨d.val, by omega⟩ j) * e (ix2 j r)) * Ideal.div (Ideal.ofBits .f32 0x3F800000#32) (∑ j, v (ix4 0 0 ⟨64 + d.val, by omega⟩ j) * e (ix2 j r)) := by
  pointwise [gqaHead, k0_pay8, k0_pay4]
theorem expSum_apply (e : FVec Ideal S2048x512 .f32) (r : Fin 512) : expSum e (ix2 0 r) = ∑ j, e (ix2 j r) := by
  pointwise [expSum]
theorem expDiff_apply (lam : FVec Ideal S1x1 .f32) (e e' : FVec Ideal S2048x512 .f32) (j : Fin 2048) (r : Fin 512) :
    expDiff lam e e' (ix2 j r) = e (ix2 j r) - e' (ix2 j r) * Ideal.div (lam (ix2 0 0) * expSum e (ix2 0 r)) (expSum e' (ix2 0 r)) := by
  generalize hl : expSum e = l
  generalize hl' : expSum e' = l'
  unfold expDiff
  rw [hl, hl']
  pointwise []
theorem diffHead_apply (p : FVec Ideal S2048x512 .bf16) (l : FVec Ideal S1x512 .f32) (v : FVec Ideal S1x1x128x2048 .bf16) (d : Fin 128) (r : Fin 512) :
    diffHead p l v (ix2 d r) = (∑ j, v (ix4 0 0 d j) * p (ix2 j r)) * Ideal.div (Ideal.ofBits .f32 0x3F800000#32) (l (ix2 0 r)) := by
  pointwise [diffHead]
theorem lam_apply (a b c d : FVec Ideal S1x64 .f32) : k0_pay2 (F := Ideal) a b c d (ix2 0 0)
    = Ideal.exp (∑ k, a (ix2 0 k) * b (ix2 0 k)) - Ideal.exp (∑ k, c (ix2 0 k) * d (ix2 0 k)) + Ideal.ofBits .f32 0x3E4CCCCD#32 := by
  pointwise [k0_pay2]
theorem headNorm_apply (g : FVec Ideal S1x128 .f32) (z : FVec Ideal S512x128 .f32) (r : Fin 512) (d : Fin 128) :
    headNorm g z (ix2 r d) = z (ix2 r d) * Ideal.rsqrt (Ideal.div (∑ d', z (ix2 r d') * z (ix2 r d')) (Ideal.ofBits .f32 0x43000000#32) + Ideal.ofBits .f32 0x358637BD#32)
      * g (ix2 0 d) * Ideal.ofBits .f32 0x3F4CCCCD#32 := by
  pointwise [headNorm]
theorem outBlock_apply (n : FVec Ideal S512x1024 .f32) (sg : FVec Ideal S1x512x1024 .bf16) (x : FVec Ideal S1x512x1024 .f32) (w : FVec Ideal S1024x1024 .bf16) (r : Fin 512) (q : Fin 1024) :
    outBlock n sg x w (ix3 0 r q) = x (ix3 0 r q) + ∑ k, n (ix2 r k) * sg (ix3 0 r k) * w (ix2 k q) := by
  pointwise [outBlock]

/-- The twelve heads, -/
def headList (a : Fin 8 → FVec Ideal S64x512 .f32) (b : Fin 4 → FVec Ideal S128x512 .f32) : List ((s : Shape) × (s.Idx → EReal)) :=
  [⟨S64x512, a 0⟩, ⟨S64x512, a 1⟩, ⟨S64x512, a 2⟩, ⟨S64x512, a 3⟩, ⟨S64x512, a 4⟩, ⟨S64x512, a 5⟩, ⟨S64x512, a 6⟩, ⟨S64x512, a 7⟩,
    ⟨S128x512, b 0⟩, ⟨S128x512, b 1⟩, ⟨S128x512, b 2⟩, ⟨S128x512, b 3⟩]
/-- stacked as rows. -/
def headRows (a : Fin 8 → FVec Ideal S64x512 .f32) (b : Fin 4 → FVec Ideal S128x512 .f32) : FVec Ideal S1024x512 .f32 :=
  concatenate S1024x512 0 (headList a b)
    concatenates_S64x512_S64x512_S64x512_S64x512_S64x512_S64x512_S64x512_S64x512_S128x512_S128x512_S128x512_S128x512_S1024x512_d0
theorem heads_rows (a : Fin 8 → FVec Ideal S64x512 .f32) (b : Fin 4 → FVec Ideal S128x512 .f32) (r : Fin 512) (q : Fin 1024) :
    heads a b (ix2 r q) = headRows a b (ix2 q r) := by
  show transpose S512x1024 [1, 0] (headRows a b) transposes_S1024x512_p1_0_S512x1024 (ix2 r q) = _
  generalize headRows a b = z
  pointwise []
/-- A grouped head's columns, -/
theorem heads_lo (a : Fin 8 → FVec Ideal S64x512 .f32) (b : Fin 4 → FVec Ideal S128x512 .f32) (r : Fin 512) (g : Fin 2) (h : Fin 4) (d : Fin 64) :
    heads a b (ix2 r ⟨g.val * 256 + h.val * 64 + d.val, by omega⟩) = a ⟨g.val * 4 + h.val, by omega⟩ (ix2 d r) := by
  rw [heads_rows]
  have off : ∀ k : Fin 2, k.cast (rfl : 2 = 2) ≠ 0 → ∀ q : Fin 1024, ((ix2 d r : S64x512.Idx) k).val = ((ix2 q r : S1024x512.Idx) k).val := by
    intro k hk q; fin_cases k
    · exact absurd rfl hk
    · rfl
  fin_cases g <;> fin_cases h
  · exact concatenate_apply_piece (t := S1024x512) 0 (headList a b) _ (ix2 ⟨0 + d.val, by omega⟩ r) 0 (by show 0 < 12; decide) S64x512 (a 0) rfl rfl 0 rfl (ix2 d r) (fun k hk => off k hk _) rfl
  · exact concatenate_apply_piece (t := S1024x512) 0 (headList a b) _ (ix2 ⟨64 + d.val, by omega⟩ r) 1 (by show 1 < 12; decide) S64x512 (a 1) rfl rfl 64 rfl (ix2 d r) (fun k hk => off k hk _) rfl
  · exact concatenate_apply_piece (t := S1024x512) 0 (headList a b) _ (ix2 ⟨128 + d.val, by omega⟩ r) 2 (by show 2 < 12; decide) S64x512 (a 2) rfl rfl 128 rfl (ix2 d r) (fun k hk => off k hk _) rfl
  · exact concatenate_apply_piece (t := S1024x512) 0 (headList a b) _ (ix2 ⟨192 + d.val, by omega⟩ r) 3 (by show 3 < 12; decide) S64x512 (a 3) rfl rfl 192 rfl (ix2 d r) (fun k hk => off k hk _) rfl
  · exact concatenate_apply_piece (t := S1024x512) 0 (headList a b) _ (ix2 ⟨256 + d.val, by omega⟩ r) 4 (by show 4 < 12; decide) S64x512 (a 4) rfl rfl 256 rfl (ix2 d r) (fun k hk => off k hk _) rfl
  · exact concatenate_apply_piece (t := S1024x512) 0 (headList a b) _ (ix2 ⟨320 + d.val, by omega⟩ r) 5 (by show 5 < 12; decide) S64x512 (a 5) rfl rfl 320 rfl (ix2 d r) (fun k hk => off k hk _) rfl
  · exact concatenate_apply_piece (t := S1024x512) 0 (headList a b) _ (ix2 ⟨384 + d.val, by omega⟩ r) 6 (by show 6 < 12; decide) S64x512 (a 6) rfl rfl 384 rfl (ix2 d r) (fun k hk => off k hk _) rfl
  · exact concatenate_apply_piece (t := S1024x512) 0 (headList a b) _ (ix2 ⟨448 + d.val, by omega⟩ r) 7 (by show 7 < 12; decide) S64x512 (a 7) rfl rfl 448 rfl (ix2 d r) (fun k hk => off k hk _) rfl
set_option maxHeartbeats 1000000 in
/-- a differential head's, -/
theorem heads_hi (a : Fin 8 → FVec Ideal S64x512 .f32) (b : Fin 4 → FVec Ideal S128x512 .f32) (r : Fin 512) (h : Fin 4) (d : Fin 128) :
    heads a b (ix2 r ⟨512 + h.val * 128 + d.val, by omega⟩) = b h (ix2 d r) := by
  rw [heads_rows]
  have off : ∀ k : Fin 2, k.cast (rfl : 2 = 2) ≠ 0 → ∀ q : Fin 1024, ((ix2 d r : S128x512.Idx) k).val = ((ix2 q r : S1024x512.Idx) k).val := by
    intro k hk q; fin_cases k
    · exact absurd rfl hk
    · rfl
  fin_cases h
  · exact concatenate_apply_piece (t := S1024x512) 0 (headList a b) _ (ix2 ⟨512 + d.val, by omega⟩ r) 8 (by show 8 < 12; decide) S128x512 (b 0) rfl rfl 512 rfl (ix2 d r) (fun k hk => off k hk _) rfl
  · exact concatenate_apply_piece (t := S1024x512) 0 (headList a b) _ (ix2 ⟨640 + d.val, by omega⟩ r) 9 (by show 9 < 12; decide) S128x512 (b 1) rfl rfl 640 rfl (ix2 d r) (fun k hk => off k hk _) rfl
  · exact concatenate_apply_piece (t := S1024x512) 0 (headList a b) _ (ix2 ⟨768 + d.val, by omega⟩ r) 10 (by show 10 < 12; decide) S128x512 (b 2) rfl rfl 768 rfl (ix2 d r) (fun k hk => off k hk _) rfl
  · exact concatenate_apply_piece (t := S1024x512) 0 (headList a b) _ (ix2 ⟨896 + d.val, by omega⟩ r) 11 (by show 11 < 12; decide) S128x512 (b 3) rfl rfl 896 rfl (ix2 d r) (fun k hk => off k hk _) rfl
/-- and what the norms make of each. -/
theorem normed_lo (g : FVec Ideal S1x128 .f32) (z : FVec Ideal S512x1024 .f32) (r : Fin 512) (k : Fin 512) :
    normed g z (ix2 r ⟨k.val, by omega⟩) = z (ix2 r ⟨k.val, by omega⟩) := by
  unfold normed
  generalize headNorm g (extractStridedSlice S512x128 ![0, 512] z slices_S512x1024_o0_512_S512x128) = y0
  generalize headNorm g (extractStridedSlice S512x128 ![0, 640] z slices_S512x1024_o0_640_S512x128) = y1
  generalize headNorm g (extractStridedSlice S512x128 ![0, 768] z slices_S512x1024_o0_768_S512x128) = y2
  generalize headNorm g (extractStridedSlice S512x128 ![0, 896] z slices_S512x1024_o0_896_S512x128) = y3
  pointwise []
theorem normed_at (g : FVec Ideal S1x128 .f32) (z : FVec Ideal S512x1024 .f32) (r : Fin 512) (h : Fin 4) (d : Fin 128) :
    normed g z (ix2 r ⟨512 + h.val * 128 + d.val, by omega⟩)
      = ![headNorm g (extractStridedSlice S512x128 ![0, 512] z slices_S512x1024_o0_512_S512x128), headNorm g (extractStridedSlice S512x128 ![0, 640] z slices_S512x1024_o0_640_S512x128),
        headNorm g (extractStridedSlice S512x128 ![0, 768] z slices_S512x1024_o0_768_S512x128), headNorm g (extractStridedSlice S512x128 ![0, 896] z slices_S512x1024_o0_896_S512x128)] h (ix2 r d) := by
  unfold normed
  generalize headNorm g (extractStridedSlice S512x128 ![0, 512] z slices_S512x1024_o0_512_S512x128) = y0
  generalize headNorm g (extractStridedSlice S512x128 ![0, 640] z slices_S512x1024_o0_640_S512x128) = y1
  generalize headNorm g (extractStridedSlice S512x128 ![0, 768] z slices_S512x1024_o0_768_S512x128) = y2
  generalize headNorm g (extractStridedSlice S512x128 ![0, 896] z slices_S512x1024_o0_896_S512x128) = y3
  fin_cases h
  · show _ = y0 (ix2 r d)
    pointwise []
  · show _ = y1 (ix2 r d)
    pointwise []
    rw [dif_neg (by omega), dif_neg (by omega), dif_pos (by omega)]
    exact congrArg (fun u => y1 (ix2 r u)) (Fin.ext (by dsimp only; omega))
  · show _ = y2 (ix2 r d)
    pointwise []
    rw [dif_neg (by omega), dif_neg (by omega), dif_neg (by omega), dif_pos (by omega)]
    exact congrArg (fun u => y2 (ix2 r u)) (Fin.ext (by dsimp only; omega))
  · show _ = y3 (ix2 r d)
    pointwise []
    rw [dif_neg (by omega), dif_neg (by omega), dif_neg (by omega), dif_neg (by omega)]
    exact congrArg (fun u => y3 (ix2 r u)) (Fin.ext (by dsimp only; omega))
theorem normed_hi (g : FVec Ideal S1x128 .f32) (z : FVec Ideal S512x1024 .f32) (r : Fin 512) (h : Fin 4) (d : Fin 128) :
    normed g z (ix2 r ⟨512 + h.val * 128 + d.val, by omega⟩)
      = z (ix2 r ⟨512 + h.val * 128 + d.val, by omega⟩)
        * Ideal.rsqrt (Ideal.div (∑ d' : Fin 128, z (ix2 r ⟨512 + h.val * 128 + d'.val, by omega⟩) * z (ix2 r ⟨512 + h.val * 128 + d'.val, by omega⟩)) (Ideal.ofBits .f32 0x43000000#32) + Ideal.ofBits .f32 0x358637BD#32)
      * g (ix2 0 d) * Ideal.ofBits .f32 0x3F4CCCCD#32 := by
  rw [normed_at]
  fin_cases h
  · refine (headNorm_apply _ _ _ _).trans ?_
    pointwise []
  · refine (headNorm_apply _ _ _ _).trans ?_
    pointwise []
  · refine (headNorm_apply _ _ _ _).trans ?_
    pointwise []
  · refine (headNorm_apply _ _ _ _).trans ?_
    pointwise []

/-- A grouped head's value from its scores `s`, the values `v` and the ones `n`; -/
def gqaVal (s v n : Fin 2048 → EReal) : EReal :=
  (∑ j, v j * Ideal.exp (s j)) * Ideal.div (Ideal.ofBits .f32 0x3F800000#32) (∑ j, n j * Ideal.exp (s j))
/-- a differential head's from its two scores and the values. -/
def diffVal (lam : EReal) (s s' v : Fin 2048 → EReal) : EReal :=
  (∑ j, v j * (Ideal.exp (s j) - Ideal.exp (s' j) * Ideal.div (lam * ∑ k, Ideal.exp (s k)) (∑ k, Ideal.exp (s' k))))
    * Ideal.div (Ideal.ofBits .f32 0x3F800000#32) (∑ k, Ideal.exp (s k))

theorem gqaHead_read (k : FVec Ideal S1x2048x64 .bf16) (q : FVec Ideal S1x512x64 .bf16) (v : FVec Ideal S1x1x128x2048 .bf16) (d : Fin 64) (r : Fin 512) :
    gqaHead (expScore k q) v (ix2 d r) = gqaVal (fun j => ∑ c, k (ix3 0 j c) * q (ix3 0 r c))
      (fun j => v (ix4 0 0 ⟨d.val, by omega⟩ j)) (fun j => v (ix4 0 0 ⟨64 + d.val, by omega⟩ j)) := by
  rw [gqaHead_apply]
  simp only [expScore_apply]
  rfl
theorem diffPair_read (lam : FVec Ideal S1x1 .f32) (k k' : FVec Ideal S1x2048x64 .bf16) (q q' : FVec Ideal S1x512x64 .bf16) (v : FVec Ideal S1x1x128x2048 .bf16) (d : Fin 128) (r : Fin 512) :
    diffPair (F := Ideal) lam (expScore k q) (expScore k' q') v (ix2 d r) = diffVal (lam (ix2 0 0)) (fun j => ∑ c, k (ix3 0 j c) * q (ix3 0 r c))
      (fun j => ∑ c, k' (ix3 0 j c) * q' (ix3 0 r c)) (fun j => v (ix4 0 0 d j)) := by
  unfold diffPair
  rw [diffHead_apply]
  simp only [expDiff_apply, expSum_apply, expScore_apply]
  rfl

/-- Reading a stripe of 64 columns of the queries, -/
theorem ld_q (x : Vec Ideal S1x512x512 .bf16) (o : Nat) (ho : o + 64 ≤ 512) (inb) (r : Fin 512) (c : Fin 64) :
    View.ld x (Rect.unit (s := S1x512x512) ![0, 0, o] S1x512x64.size inb) (ix3 0 r c) = x (ix3 0 r ⟨o + c.val, by omega⟩) :=
  View.ld_unit_apply_of _ _ _ _ _ _ (fun a => by fin_cases a <;> simp)
/-- of the grouped keys, -/
theorem ld_ka (x : Vec Ideal S1x2048x128 .bf16) (o : Nat) (ho : o + 64 ≤ 128) (inb) (r : Fin 2048) (c : Fin 64) :
    View.ld x (Rect.unit (s := S1x2048x128) ![0, 0, o] S1x2048x64.size inb) (ix3 0 r c) = x (ix3 0 r ⟨o + c.val, by omega⟩) :=
  View.ld_unit_apply_of _ _ _ _ _ _ (fun a => by fin_cases a <;> simp)
/-- of the differential ones, -/
theorem ld_kb (x : Vec Ideal S1x2048x512 .bf16) (o : Nat) (ho : o + 64 ≤ 512) (inb) (r : Fin 2048) (c : Fin 64) :
    View.ld x (Rect.unit (s := S1x2048x512) ![0, 0, o] S1x2048x64.size inb) (ix3 0 r c) = x (ix3 0 r ⟨o + c.val, by omega⟩) :=
  View.ld_unit_apply_of _ _ _ _ _ _ (fun a => by fin_cases a <;> simp)
/-- and one head of the values. -/
theorem ld_va (x : Vec Ideal S1x2x128x2048 .bf16) (g : Nat) (hg : g < 2) (inb) (d : Fin 128) (j : Fin 2048) :
    View.ld x (Rect.unit (s := S1x2x128x2048) ![0, g, 0, 0] S1x1x128x2048.size inb) (ix4 0 0 d j) = x (ix4 0 ⟨g, hg⟩ d j) :=
  View.ld_unit_apply_of _ _ _ _ _ _ (fun a => by fin_cases a <;> simp)
theorem ld_vb (x : Vec Ideal S1x4x128x2048 .bf16) (g : Nat) (hg : g < 4) (inb) (d : Fin 128) (j : Fin 2048) :
    View.ld x (Rect.unit (s := S1x4x128x2048) ![0, g, 0, 0] S1x1x128x2048.size inb) (ix4 0 0 d j) = x (ix4 0 ⟨g, hg⟩ d j) :=
  View.ld_unit_apply_of _ _ _ _ _ _ (fun a => by fin_cases a <;> simp)

/-- A grouped head from the stripes it reads, -/
theorem gqa_ld (x5 : Vec Ideal S1x512x512 .bf16) (x9 : Vec Ideal S1x2048x128 .bf16) (x10 : Vec Ideal S1x2x128x2048 .bf16) (oq ok g : Nat) (hq : oq + 64 ≤ 512) (hk : ok + 64 ≤ 128) (hg : g < 2) (iq ik iv)
    (d : Fin 64) (r : Fin 512) :
    gqaHead (F := Ideal) (expScore (View.ld x9 (Rect.unit (s := S1x2048x128) ![0, 0, ok] S1x2048x64.size ik)) (View.ld x5 (Rect.unit (s := S1x512x512) ![0, 0, oq] S1x512x64.size iq)))
      (View.ld x10 (Rect.unit (s := S1x2x128x2048) ![0, g, 0, 0] S1x1x128x2048.size iv)) (ix2 d r)
    = gqaVal (fun j => ∑ c : Fin 64, x9 (ix3 0 j ⟨ok + c.val, by omega⟩) * x5 (ix3 0 r ⟨oq + c.val, by omega⟩))
      (fun j => x10 (ix4 0 ⟨g, hg⟩ ⟨d.val, by omega⟩ j)) (fun j => x10 (ix4 0 ⟨g, hg⟩ ⟨64 + d.val, by omega⟩ j)) := by
  refine (gqaHead_read _ _ _ _ _).trans ?_
  congr 1
  · exact funext fun j => Finset.sum_congr rfl fun c _ => congrArg₂ (· * ·) (ld_ka _ _ hk _ _ _) (ld_q _ _ hq _ _ _)
  · exact funext fun j => ld_va _ _ hg _ _ _
  · exact funext fun j => ld_va _ _ hg _ _ _
/-- and a differential one. -/
theorem diff_ld (lam : FVec Ideal S1x1 .f32) (x6 : Vec Ideal S1x512x512 .bf16) (x11 : Vec Ideal S1x2048x512 .bf16) (x12 : Vec Ideal S1x4x128x2048 .bf16) (o o' g : Nat) (ho : o + 64 ≤ 512) (ho' : o' + 64 ≤ 512)
    (hg : g < 4) (iq ik iq' ik' iv) (d : Fin 128) (r : Fin 512) :
    diffPair (F := Ideal) lam (expScore (View.ld x11 (Rect.unit (s := S1x2048x512) ![0, 0, o] S1x2048x64.size ik)) (View.ld x6 (Rect.unit (s := S1x512x512) ![0, 0, o] S1x512x64.size iq)))
      (expScore (View.ld x11 (Rect.unit (s := S1x2048x512) ![0, 0, o'] S1x2048x64.size ik')) (View.ld x6 (Rect.unit (s := S1x512x512) ![0, 0, o'] S1x512x64.size iq')))
      (View.ld x12 (Rect.unit (s := S1x4x128x2048) ![0, g, 0, 0] S1x1x128x2048.size iv)) (ix2 d r)
    = diffVal (lam (ix2 0 0)) (fun j => ∑ c : Fin 64, x11 (ix3 0 j ⟨o + c.val, by omega⟩) * x6 (ix3 0 r ⟨o + c.val, by omega⟩))
      (fun j => ∑ c : Fin 64, x11 (ix3 0 j ⟨o' + c.val, by omega⟩) * x6 (ix3 0 r ⟨o' + c.val, by omega⟩)) (fun j => x12 (ix4 0 ⟨g, hg⟩ d j)) := by
  refine (diffPair_read _ _ _ _ _ _ _ _).trans ?_
  congr 1
  · exact funext fun j => Finset.sum_congr rfl fun c _ => congrArg₂ (· * ·) (ld_kb _ _ ho _ _ _) (ld_q _ _ ho _ _ _)
  · exact funext fun j => Finset.sum_congr rfl fun c _ => congrArg₂ (· * ·) (ld_kb _ _ ho' _ _ _) (ld_q _ _ ho' _ _ _)
  · exact funext fun j => ld_vb _ _ hg _ _ _

/-- Grouped head `h` of key head `g`, -/
theorem gqaOf_apply (x5 : Vec Ideal S1x512x512 .bf16) (x9 : Vec Ideal S1x2048x128 .bf16) (x10 : Vec Ideal S1x2x128x2048 .bf16) (g : Fin 2) (h : Fin 4) (d : Fin 64) (r : Fin 512) :
    gqaOf (F := Ideal) x5 x9 x10 ⟨g.val * 4 + h.val, by omega⟩ (ix2 d r)
    = gqaVal (fun j => ∑ c : Fin 64, x9 (ix3 0 j ⟨g.val * 64 + c.val, by omega⟩) * x5 (ix3 0 r ⟨g.val * 256 + h.val * 64 + c.val, by omega⟩))
      (fun j => x10 (ix4 0 g ⟨d.val, by omega⟩ j)) (fun j => x10 (ix4 0 g ⟨64 + d.val, by omega⟩ j)) := by
  fin_cases g <;> fin_cases h <;> exact gqa_ld x5 x9 x10 _ _ _ (by decide) (by decide) (by decide) _ _ _ d r
/-- and differential head `h`. -/
theorem diffOf_apply (x0 x1 x2 x3 : Vec Ideal S1x64 .f32) (x6 : Vec Ideal S1x512x512 .bf16) (x11 : Vec Ideal S1x2048x512 .bf16) (x12 : Vec Ideal S1x4x128x2048 .bf16) (h : Fin 4) (d : Fin 128) (r : Fin 512) :
    diffOf (F := Ideal) x0 x1 x2 x3 x6 x11 x12 h (ix2 d r)
    = diffVal (k0_pay2 (F := Ideal) (View.ld x0 r0_0) (View.ld x1 r0_0) (View.ld x2 r0_0) (View.ld x3 r0_0) (ix2 0 0))
      (fun j => ∑ c : Fin 64, x11 (ix3 0 j ⟨h.val * 128 + c.val, by omega⟩) * x6 (ix3 0 r ⟨h.val * 128 + c.val, by omega⟩))
      (fun j => ∑ c : Fin 64, x11 (ix3 0 j ⟨h.val * 128 + 64 + c.val, by omega⟩) * x6 (ix3 0 r ⟨h.val * 128 + 64 + c.val, by omega⟩))
      (fun j => x12 (ix4 0 h d j)) := by
  fin_cases h <;> exact diff_ld _ x6 x11 x12 _ _ _ (by decide) (by decide) (by decide) _ _ _ _ _ d r

/-- Whole blocks are read as they are. -/
theorem ld_lam (x : Vec Ideal S1x64 .f32) : View.ld x r0_0 = x := View.ld_unit_lit _ _ (fun a => by fin_cases a <;> rfl)
theorem ld_gain (x : Vec Ideal S1x128 .f32) : View.ld x r0_25 = x := View.ld_unit_lit _ _ (fun a => by fin_cases a <;> rfl)
theorem ld_gate (x : Vec Ideal S1x512x1024 .bf16) : View.ld x r0_26 = x := View.ld_unit_lit _ _ (fun a => by fin_cases a <;> rfl)
theorem ld_x (x : Vec Ideal S1x512x1024 .f32) : View.ld x r0_26 = x := View.ld_unit_lit _ _ (fun a => by fin_cases a <;> rfl)
theorem ld_w (x : Vec Ideal S1024x1024 .bf16) : View.ld x r0_27 = x := View.ld_unit_lit _ _ (fun a => by fin_cases a <;> rfl)
theorem gain_apply (x : Vec Ideal S1x128 .f32) (d : Fin 128) : (shapeCast S1x128 x shapeCasts_S1x128_S1x128 : FVec Ideal S1x128 .f32) (ix2 0 d) = x (ix2 0 d) := by
  pointwise []

/-- The block the body leaves, at an element, from the normed heads. -/
theorem block_apply (x0 x1 x2 x3 : Vec Ideal S1x64 .f32) (x4 : Vec Ideal S1x128 .f32) (x5 x6 : Vec Ideal S1x512x512 .bf16) (x7 : Vec Ideal S1x512x1024 .bf16) (x8 : Vec Ideal S1x512x1024 .f32)
    (x9 : Vec Ideal S1x2048x128 .bf16) (x10 : Vec Ideal S1x2x128x2048 .bf16) (x11 : Vec Ideal S1x2048x512 .bf16) (x12 : Vec Ideal S1x4x128x2048 .bf16) (x13 : Vec Ideal S1024x1024 .bf16)
    (r : Fin 512) (q : Fin 1024) :
    out0_14 (F := Ideal) x0 x1 x2 x3 x4 x5 x6 x7 x8 x9 x10 x11 x12 x13 (ix3 0 r q)
      = x8 (ix3 0 r q) + ∑ k : Fin 1024, normed (shapeCast S1x128 x4 shapeCasts_S1x128_S1x128) (heads (gqaOf x5 x9 x10) (diffOf x0 x1 x2 x3 x6 x11 x12)) (ix2 r k) * x7 (ix3 0 r k) * x13 (ix2 k q) := by
  rw [out14_eq]
  unfold blockOf
  rw [ld_gain, ld_gate, ld_x, ld_w]
  exact outBlock_apply _ _ _ _ r q

end Cert.Proof.Attn
-- ==== Proof.AttnRef.lean ====
/-
  What the reference's first attention computes, read at an element: the scores and their softmax, the values they
  average, the difference of two softmaxes with its norm, the gate, the output projection and the residual.
-/
module

public import proofs.«01_k».proof.Proof.Gen.Reference3Ideal.Run
public import Idealize.ShloMosaic.Lib.Pointwise
public import Idealize.ShloMosaic.Lib.StableHlo.Run

@[expose] public section

noncomputable section

namespace Cert.Proof.Attn

open Cert.Reference3Ideal Cert.Reference3Ideal.Gen
open Idealize.ShloMosaic
open Idealize.ShloMosaic.TcCoe Idealize.ShloMosaic.StableHlo

section Terms

variable {F : FTy → Type} [FloatOps F]

/-- The scores of grouped-query attention, every query head with its group's keys. -/
def refScA (qa : FVec F S65536x512 .bf16) (ka : FVec F S65536x128 .bf16) : FVec F S32x2x4x2048x2048 .f32 :=
  transpose S32x2x4x2048x2048 [0, 1, 4, 3, 2] (Host.dotGeneral dot_S32x2048x2x64_S32x2048x2x4x64_S32x2x2048x2048x4_3_4_1_13_02_02 none
    (shapeCast _ (extf .f32 ka bitsLt_bf16_f32) shapeCasts_S65536x128_S32x2048x2x64 : FVec F S32x2048x2x64 .f32)
    (shapeCast _ (extf .f32 qa bitsLt_bf16_f32) shapeCasts_S65536x512_S32x2048x2x4x64 : FVec F S32x2048x2x4x64 .f32))
    transposes_S32x2x2048x2048x4_S32x2x4x2048x2048_0_1_4_3_2
/-- The scores of differential attention, both of a head's. -/
def refScB (qb kb : FVec F S65536x512 .bf16) : FVec F S32x2x4x2048x2048 .f32 :=
  Host.dotGeneral dot_S32x2048x2x4x64_S32x2048x2x4x64_S32x2x4x2048x2048_4_4_1_1_023_023 none
    (transpose S32x2048x2x4x64 [0, 1, 3, 2, 4] (shapeCast _ (extf .f32 qb bitsLt_bf16_f32) shapeCasts_S65536x512_S32x2048x4x2x64) transposes_S32x2048x4x2x64_S32x2048x2x4x64_0_1_3_2_4)
    (transpose S32x2048x2x4x64 [0, 1, 3, 2, 4] (shapeCast _ (extf .f32 kb bitsLt_bf16_f32) shapeCasts_S65536x512_S32x2048x4x2x64) transposes_S32x2048x4x2x64_S32x2048x2x4x64_0_1_3_2_4)
/-- The greatest score of a row. -/
def refTop (s : FVec F S32x2x4x2048x2048 .f32) : FVec F S32x2x4x2048 .f32 :=
  maximumf (broadcastInDim S32x2x4x2048 ![] bcast_S_S32x2x4x2048 (constant S_ .f32 0xFF800000#32))
    (Host.reduce FloatOps.maximumf s (constant S_ .f32 0xFF800000#32) reducesTo_S32x2x4x2048x2048_S32x2x4x2048_d4 h_S_)
/-- The scores less a number of their row, exponentiated. -/
def refShift (s : FVec F S32x2x4x2048x2048 .f32) (t : FVec F S32x2x4x2048 .f32) : FVec F S32x2x4x2048x2048 .f32 :=
  Host.exp (subf s (broadcastInDim S32x2x4x2048x2048 ![0, 1, 2, 3, 4] bcast_S32x2x4x2048x1_S32x2x4x2048x2048_0_1_2_3_4
    (broadcastInDim S32x2x4x2048x1 ![0, 1, 2, 3] bcast_S32x2x4x2048_S32x2x4x2048x1_0_1_2_3 t)))
/-- The scores less their greatest, exponentiated, -/
def refExp (s : FVec F S32x2x4x2048x2048 .f32) : FVec F S32x2x4x2048x2048 .f32 := refShift s (refTop s)
/-- and over their sum. -/
def refSoft (s : FVec F S32x2x4x2048x2048 .f32) : FVec F S32x2x4x2048x2048 .f32 :=
  Host.divf (refExp s) (broadcastInDim S32x2x4x2048x2048 ![0, 1, 2, 3, 4] bcast_S32x2x4x2048x1_S32x2x4x2048x2048_0_1_2_3_4
    (broadcastInDim S32x2x4x2048x1 ![0, 1, 2, 3] bcast_S32x2x4x2048_S32x2x4x2048x1_0_1_2_3
      (Host.reduceAdd (refExp s) (constant S_ .f32 0x00000000#32) reducesTo_S32x2x4x2048x2048_S32x2x4x2048_d4 h_S_)))
/-- The values that grouped-query attention averages. -/
def refOA (p : FVec F S32x2x4x2048x2048 .f32) (va : FVec F S65536x128 .bf16) : FVec F S32x2048x512 .f32 :=
  shapeCast _ (transpose S32x2048x2x4x64 [0, 4, 1, 3, 2] (Host.dotGeneral dot_S32x2048x2x64_S32x2x4x2048x2048_S32x2x64x4x2048_1_4_3_23_02_01 none
    (shapeCast _ (extf .f32 va bitsLt_bf16_f32) shapeCasts_S65536x128_S32x2048x2x64 : FVec F S32x2048x2x64 .f32) p)
    transposes_S32x2x64x4x2048_S32x2048x2x4x64_0_4_1_3_2) shapeCasts_S32x2048x2x4x64_S32x2048x512
/-- The weight of the second softmax. -/
def refLam (q1 k1 q2 k2 : FVec F S64 .f32) : FVec F S_ .f32 :=
  addf (subf (Host.exp (Host.reduceAdd (mulf q1 k1) (constant S_ .f32 0x00000000#32) reducesTo_S64_S_d0 h_S_))
    (Host.exp (Host.reduceAdd (mulf q2 k2) (constant S_ .f32 0x00000000#32) reducesTo_S64_S_d0 h_S_))) (constant S_ .f32 0x3E4CCCCD#32)
/-- The values that differential attention averages. -/
def refOB (p : FVec F S32x2x4x2048x2048 .f32) (lam : FVec F S_ .f32) (vb : FVec F S65536x512 .bf16) : FVec F S32x2048x4x128 .f32 :=
  transpose S32x2048x4x128 [0, 3, 1, 2] (Host.dotGeneral dot_S32x2048x4x128_S32x4x2048x2048_S32x4x128x2048_1_3_3_2_02_01 none
    (shapeCast _ (extf .f32 vb bitsLt_bf16_f32) shapeCasts_S65536x512_S32x2048x4x128 : FVec F S32x2048x4x128 .f32)
    (subf (shapeCast _ (extractStridedSlice S32x1x4x2048x2048 ![0, 0, 0, 0, 0] p slices_S32x2x4x2048x2048_S32x1x4x2048x2048_0_0_0_0_0) shapeCasts_S32x1x4x2048x2048_S32x4x2048x2048)
      (mulf (broadcastInDim S32x4x2048x2048 ![] bcast_S_S32x4x2048x2048 lam)
        (shapeCast _ (extractStridedSlice S32x1x4x2048x2048 ![0, 1, 0, 0, 0] p slices_S32x2x4x2048x2048_S32x1x4x2048x2048_0_1_0_0_0) shapeCasts_S32x1x4x2048x2048_S32x4x2048x2048))))
    transposes_S32x4x128x2048_S32x2048x4x128_0_3_1_2
/-- Their norm, with its gain and the constant that scales it. -/
def refSub (o : FVec F S32x2048x4x128 .f32) (g : FVec F S128 .f32) : FVec F S32x2048x4x128 .f32 :=
  mulf (mulf (mulf o (broadcastInDim S32x2048x4x128 ![0, 1, 2, 3] bcast_S32x2048x4x1_S32x2048x4x128_0_1_2_3
      (Host.rsqrt (addf (Host.divf (broadcastInDim S32x2048x4x1 ![0, 1, 2] bcast_S32x2048x4_S32x2048x4x1_0_1_2
          (Host.reduceAdd (mulf o o) (constant S_ .f32 0x00000000#32) reducesTo_S32x2048x4x128_S32x2048x4_d3 h_S_))
        (broadcastInDim S32x2048x4x1 ![] bcast_S_S32x2048x4x1 (constant S_ .f32 0x43000000#32)))
        (broadcastInDim S32x2048x4x1 ![] bcast_S_S32x2048x4x1 (constant S_ .f32 0x358637BD#32))))))
    (broadcastInDim S32x2048x4x128 ![0, 1, 2, 3] bcast_S1x1x1x128_S32x2048x4x128_0_1_2_3 (broadcastInDim S1x1x1x128 ![3] bcast_S128_S1x1x1x128_3 g)))
    (broadcastInDim S32x2048x4x128 ![] bcast_S_S32x2048x4x128 (constant S_ .f32 0x3F4CCCCD#32))
/-- Both attentions side by side and gated, -/
def refMix (oa : FVec F S32x2048x512 .f32) (ob : FVec F S32x2048x4x128 .f32) (sg : FVec F S65536x1024 .bf16) : FVec F S32x2048x1024 .f32 :=
  mulf (concatenate S32x2048x1024 2 [⟨S32x2048x512, oa⟩, ⟨S32x2048x512, (shapeCast _ ob shapeCasts_S32x2048x4x128_S32x2048x512 : FVec F S32x2048x512 .f32)⟩] concatenates_S32x2048x512_S32x2048x512_S32x2048x1024_d2)
    (shapeCast _ (extf .f32 sg bitsLt_bf16_f32) shapeCasts_S65536x1024_S32x2048x1024)
/-- projected and added to the input. -/
def refY (x : FVec F S32x2048x1024 .f32) (oa : FVec F S32x2048x512 .f32) (ob : FVec F S32x2048x4x128 .f32)
    (sg : FVec F S65536x1024 .bf16) (w : FVec F S1024x1024 .f32) : FVec F S32x2048x1024 .f32 :=
  addf x (Host.dotGeneral dot_S32x2048x1024_S1024x1024_S32x2048x1024_2_0_01_1_n_n none (refMix oa ob sg) w)

/-- The reference's result. -/
def refOut (x : FVec F S32x2048x1024 .f32) (qa : FVec F S65536x512 .bf16) (ka va : FVec F S65536x128 .bf16)
    (qb kb vb : FVec F S65536x512 .bf16) (sg : FVec F S65536x1024 .bf16) (w : FVec F S1024x1024 .f32)
    (q1 k1 q2 k2 : FVec F S64 .f32) (g : FVec F S128 .f32) : FVec F S32x2048x1024 .f32 :=
  refY x (refOA (refSoft (refScA qa ka)) va) (refSub (refOB (refSoft (refScB qb kb)) (refLam q1 k1 q2 k2) vb) g) sg w

section Run

variable (m : (ℓ : Loc nD τ sig) → Buf (Elt F) ℓ) (ρ : Dev nD → PrngReg)

/-- It is what the reference's run leaves. -/
theorem ref_eq (c : Dev nD) : Value.res_main_v80 m c = refOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13)) := by
  unfold Value.res_main_v80
  rfl

end Run

end Terms

/-- The scores of query head `h` of group `g`, -/
theorem refScA_apply (qa : FVec Ideal S65536x512 .bf16) (ka : FVec Ideal S65536x128 .bf16)
    (b : Fin 32) (g : Fin 2) (h : Fin 4) (s t : Fin 2048) :
    refScA qa ka (ix5 b g h s t) = ∑ d : Fin 64, ka (ix2 ⟨b * 2048 + t, by omega⟩ ⟨g * 64 + d, by omega⟩) * qa (ix2 ⟨b * 2048 + s, by omega⟩ ⟨g * 256 + h * 64 + d, by omega⟩) := by
  pointwise [refScA]

/-- and those of score `c` of differential head `h`. -/
theorem refScB_apply (qb kb : FVec Ideal S65536x512 .bf16) (b : Fin 32) (c : Fin 2) (h : Fin 4) (s t : Fin 2048) :
    refScB qb kb (ix5 b c h s t) = ∑ d : Fin 64, qb (ix2 ⟨b * 2048 + s, by omega⟩ ⟨h * 128 + c * 64 + d, by omega⟩) * kb (ix2 ⟨b * 2048 + t, by omega⟩ ⟨h * 128 + c * 64 + d, by omega⟩) := by
  pointwise [refScB]

/-- The greatest of a row's scores, -/
theorem refTop_apply (z : FVec Ideal S32x2x4x2048x2048 .f32) (b : Fin 32) (c : Fin 2) (h : Fin 4) (s : Fin 2048) :
    refTop z (ix4 b c h s) = max (Ideal.ofBits .f32 0xFF800000#32)
      (Finset.univ.fold max (Ideal.ofBits .f32 0xFF800000#32) (fun t : Fin 2048 => z (ix5 b c h s t))) := by
  have e : (Host.reduce FloatOps.maximumf z (constant S_ .f32 0xFF800000#32) reducesTo_S32x2x4x2048x2048_S32x2x4x2048_d4 h_S_ : FVec Ideal S32x2x4x2048 .f32) (ix4 b c h s)
      = Finset.univ.fold max (Ideal.ofBits .f32 0xFF800000#32) (fun t : Fin 2048 => z (ix5 b c h s t)) := by pointwise
  have f : ∀ M : FVec Ideal S32x2x4x2048 .f32,
      (maximumf (broadcastInDim S32x2x4x2048 ![] bcast_S_S32x2x4x2048 (constant S_ .f32 0xFF800000#32)) M : FVec Ideal S32x2x4x2048 .f32) (ix4 b c h s)
        = max (Ideal.ofBits .f32 0xFF800000#32) (M (ix4 b c h s)) := fun M => by pointwise
  exact (f _).trans (congrArg (max _) e)
/-- the scores less it, exponentiated, -/
theorem refShift_apply (z : FVec Ideal S32x2x4x2048x2048 .f32) (m : FVec Ideal S32x2x4x2048 .f32)
    (b : Fin 32) (c : Fin 2) (h : Fin 4) (s t : Fin 2048) :
    refShift z m (ix5 b c h s t) = Ideal.exp (z (ix5 b c h s t) - m (ix4 b c h s)) := by
  pointwise [refShift]
/-- and over their sum. -/
theorem refSoft_apply (z : FVec Ideal S32x2x4x2048x2048 .f32) (b : Fin 32) (c : Fin 2) (h : Fin 4) (s t : Fin 2048) :
    refSoft z (ix5 b c h s t) = Ideal.div (refExp z (ix5 b c h s t)) (∑ u, refExp z (ix5 b c h s u)) := by
  unfold refSoft
  generalize refExp z = e
  pointwise

theorem refOA_apply (p : FVec Ideal S32x2x4x2048x2048 .f32) (va : FVec Ideal S65536x128 .bf16)
    (b : Fin 32) (s : Fin 2048) (g : Fin 2) (h : Fin 4) (d : Fin 64) :
    refOA p va (ix3 b s ⟨g * 256 + h * 64 + d, by omega⟩)
      = ∑ t : Fin 2048, va (ix2 ⟨b * 2048 + t, by omega⟩ ⟨g * 64 + d, by omega⟩) * p (ix5 b g h s t) := by
  pointwise [refOA]
  done

theorem refLam_apply (q1 k1 q2 k2 : FVec Ideal S64 .f32) :
    refLam q1 k1 q2 k2 ix0 = Ideal.exp (∑ d, q1 (ix1 d) * k1 (ix1 d)) - Ideal.exp (∑ d, q2 (ix1 d) * k2 (ix1 d)) + Ideal.ofBits .f32 0x3E4CCCCD#32 := by
  pointwise [refLam]

theorem refOB_apply (p : FVec Ideal S32x2x4x2048x2048 .f32) (lam : FVec Ideal S_ .f32) (vb : FVec Ideal S65536x512 .bf16)
    (b : Fin 32) (s : Fin 2048) (h : Fin 4) (d : Fin 128) :
    refOB p lam vb (ix4 b s h d)
      = ∑ t : Fin 2048, vb (ix2 ⟨b * 2048 + t, by omega⟩ ⟨h * 128 + d, by omega⟩) * (p (ix5 b 0 h s t) - lam ix0 * p (ix5 b 1 h s t)) := by
  pointwise [refOB]
  done

theorem refSub_apply (o : FVec Ideal S32x2048x4x128 .f32) (g : FVec Ideal S128 .f32)
    (b : Fin 32) (s : Fin 2048) (h : Fin 4) (d : Fin 128) :
    refSub o g (ix4 b s h d) = o (ix4 b s h d)
      * Ideal.rsqrt (Ideal.div (∑ d', o (ix4 b s h d') * o (ix4 b s h d')) (Ideal.ofBits .f32 0x43000000#32) + Ideal.ofBits .f32 0x358637BD#32)
      * g (ix1 d) * Ideal.ofBits .f32 0x3F4CCCCD#32 := by
  pointwise [refSub]

theorem refY_apply (x : FVec Ideal S32x2048x1024 .f32) (oa : FVec Ideal S32x2048x512 .f32) (ob : FVec Ideal S32x2048x4x128 .f32)
    (sg : FVec Ideal S65536x1024 .bf16) (w : FVec Ideal S1024x1024 .f32) (b : Fin 32) (s : Fin 2048) (q : Fin 1024) :
    refY x oa ob sg w (ix3 b s q) = x (ix3 b s q) + ∑ k : Fin 1024, refMix oa ob sg (ix3 b s k) * w (ix2 k q) := by
  unfold refY
  generalize refMix oa ob sg = z
  pointwise

theorem refMix_lo (oa : FVec Ideal S32x2048x512 .f32) (ob : FVec Ideal S32x2048x4x128 .f32)
    (sg : FVec Ideal S65536x1024 .bf16) (b : Fin 32) (s : Fin 2048) (k : Fin 512) :
    refMix oa ob sg (ix3 b s ⟨k, by omega⟩) = oa (ix3 b s k) * sg (ix2 ⟨b * 2048 + s, by omega⟩ ⟨k, by omega⟩) := by
  pointwise [refMix]

theorem refMix_hi (oa : FVec Ideal S32x2048x512 .f32) (ob : FVec Ideal S32x2048x4x128 .f32)
    (sg : FVec Ideal S65536x1024 .bf16) (b : Fin 32) (s : Fin 2048) (h : Fin 4) (d : Fin 128) :
    refMix oa ob sg (ix3 b s ⟨512 + h * 128 + d, by omega⟩) = ob (ix4 b s h d) * sg (ix2 ⟨b * 2048 + s, by omega⟩ ⟨512 + h * 128 + d, by omega⟩) := by
  pointwise [refMix]
  rw [dif_neg (by omega)]
  refine congrArg (· * _) ?_
  exact congrArg₂ (fun u v => ob (ix4 b s u v)) (Fin.ext (by dsimp only; omega)) (Fin.ext (by dsimp only; omega))

end Cert.Proof.Attn
-- ==== Proof.AttnHeads.lean ====
/-
  A row of the even layer's attention: what the body makes of the blocks it reads is the reference's row, when the
  queries and keys are real numbers. The kernel exponentiates the scores as they are and divides once by their sum, the
  reference subtracts the greatest score of the row first and divides each exponential.
-/
module

public import proofs.«01_k».proof.Proof.AttnBody
public import proofs.«01_k».proof.Proof.AttnRef

@[expose] public section

noncomputable section

namespace Cert.Proof.Attn

open Cert.Kernel3Ideal Cert.Kernel3Ideal.Gen
open Idealize.ShloMosaic
open Idealize.ShloMosaic.TcCoe Idealize.ShloMosaic.StableHlo

/-- The reference's softmax of a row of real scores. -/
theorem refSoft_eq (z : FVec Ideal Cert.Reference3Ideal.S32x2x4x2048x2048 .f32) (b : Fin 32) (c : Fin 2) (h : Fin 4) (s : Fin 2048)
    (hz : ∀ t, IsReal (z (ix5 b c h s t))) (t : Fin 2048) :
    refSoft z (ix5 b c h s t) = soft (n := 2047) (fun u => z (ix5 b c h s u)) t := by
  rw [refSoft_apply]
  unfold refExp
  simp only [refShift_apply]
  exact soft_shift (n := 2047) (fun u => z (ix5 b c h s u)) hz _ (by rw [refTop_apply]; exact top_real (n := 2047) _ hz) t

theorem lo_lt (g : Fin 2) (h : Fin 4) (d : Fin 64) : g.val * 256 + h.val * 64 + d.val < 1024 := by omega
theorem hi_lt (h : Fin 4) (d : Fin 128) : 512 + h.val * 128 + d.val < 1024 := by omega

section Row

variable (x0 x1 x2 x3 : Vec Ideal S1x64 .f32) (x4 : Vec Ideal S1x128 .f32) (x5 x6 : Vec Ideal S1x512x512 .bf16) (x7 : Vec Ideal S1x512x1024 .bf16) (x8 : Vec Ideal S1x512x1024 .f32)
  (x9 : Vec Ideal S1x2048x128 .bf16) (x10 : Vec Ideal S1x2x128x2048 .bf16) (x11 : Vec Ideal S1x2048x512 .bf16) (x12 : Vec Ideal S1x4x128x2048 .bf16) (x13 : Vec Ideal S1024x1024 .bf16)
  (x : FVec Ideal S32x2048x1024 .f32) (qa : FVec Ideal S65536x512 .bf16) (ka va : FVec Ideal S65536x128 .bf16) (qb kb vb : FVec Ideal S65536x512 .bf16)
  (sg : FVec Ideal S65536x1024 .bf16) (w : FVec Ideal S1024x1024 .f32) (q1 k1 q2 k2 : FVec Ideal S64 .f32) (gn : FVec Ideal S128 .f32)
  (b : Fin 32) (s : Fin 2048) (r : Fin 512)

/-- A grouped head's column. -/
theorem gqa_eq (h5 : ∀ k : Fin 512, x5 (ix3 0 r k) = qa (ix2 ⟨b.val * 2048 + s.val, by omega⟩ k))
    (h9 : ∀ (j : Fin 2048) (k : Fin 128), x9 (ix3 0 j k) = ka (ix2 ⟨b.val * 2048 + j.val, by omega⟩ k))
    (hv : ∀ (g : Fin 2) (d : Fin 64) (j : Fin 2048), x10 (ix4 0 g ⟨d.val, by omega⟩ j) = va (ix2 ⟨b.val * 2048 + j.val, by omega⟩ ⟨g.val * 64 + d.val, by omega⟩))
    (hn : ∀ (g : Fin 2) (d : Fin 64) (j : Fin 2048), x10 (ix4 0 g ⟨64 + d.val, by omega⟩ j) = 1)
    (hq : ∀ i, IsReal (qa i)) (hk : ∀ i, IsReal (ka i)) (y : Fin 4 → FVec Ideal S128x512 .f32) (g : Fin 2) (h : Fin 4) (d : Fin 64) :
    heads (gqaOf x5 x9 x10) y (ix2 r ⟨g.val * 256 + h.val * 64 + d.val, by omega⟩)
      = refOA (refSoft (refScA qa ka)) va (ix3 b s ⟨g.val * 256 + h.val * 64 + d.val, by omega⟩) := by
  have es : ∀ j : Fin 2048, (∑ c : Fin 64, x9 (ix3 0 j ⟨g.val * 64 + c.val, by omega⟩) * x5 (ix3 0 r ⟨g.val * 256 + h.val * 64 + c.val, by omega⟩))
      = refScA qa ka (ix5 b g h s j) := fun j => by
    rw [refScA_apply]
    exact Finset.sum_congr rfl fun c _ => by rw [h9, h5]
  have hz : ∀ j : Fin 2048, IsReal (refScA qa ka (ix5 b g h s j)) := fun j => by
    rw [refScA_apply]
    exact isReal_sum _ _ fun c => isReal_mul (hk _) (hq _)
  rw [heads_lo, gqaOf_apply, refOA_apply]
  unfold gqaVal
  simp only [es, hv, hn, one_mul, ofBits_one]
  rw [average (n := 2047) (fun j => refScA qa ka (ix5 b g h s j)) hz]
  exact Finset.sum_congr rfl fun j _ => by rw [refSoft_eq _ _ _ _ _ hz]

/-- A differential head's column. -/
theorem diff_eq (h0 : ∀ k : Fin 64, x0 (ix2 0 k) = q1 (ix1 k)) (h1 : ∀ k : Fin 64, x1 (ix2 0 k) = k1 (ix1 k))
    (h2 : ∀ k : Fin 64, x2 (ix2 0 k) = q2 (ix1 k)) (h3 : ∀ k : Fin 64, x3 (ix2 0 k) = k2 (ix1 k))
    (h6 : ∀ k : Fin 512, x6 (ix3 0 r k) = qb (ix2 ⟨b.val * 2048 + s.val, by omega⟩ k))
    (h11 : ∀ (j : Fin 2048) (k : Fin 512), x11 (ix3 0 j k) = kb (ix2 ⟨b.val * 2048 + j.val, by omega⟩ k))
    (h12 : ∀ (h : Fin 4) (d : Fin 128) (j : Fin 2048), x12 (ix4 0 h d j) = vb (ix2 ⟨b.val * 2048 + j.val, by omega⟩ ⟨h.val * 128 + d.val, by omega⟩))
    (hq : ∀ i, IsReal (qb i)) (hk : ∀ i, IsReal (kb i)) (y : Fin 8 → FVec Ideal S64x512 .f32) (h : Fin 4) (d : Fin 128) :
    heads y (diffOf x0 x1 x2 x3 x6 x11 x12) (ix2 r ⟨512 + h.val * 128 + d.val, by omega⟩)
      = refOB (refSoft (refScB qb kb)) (refLam q1 k1 q2 k2) vb (ix4 b s h d) := by
  have es : ∀ j : Fin 2048, (∑ c : Fin 64, x11 (ix3 0 j ⟨h.val * 128 + c.val, by omega⟩) * x6 (ix3 0 r ⟨h.val * 128 + c.val, by omega⟩))
      = refScB qb kb (ix5 b 0 h s j) := fun j => by
    rw [refScB_apply]
    exact Finset.sum_congr rfl fun c _ => by
      rw [h11, h6, mul_comm]
      exact congrArg₂ (fun u v => qb (ix2 _ u) * kb (ix2 _ v)) (Fin.ext (by simp)) (Fin.ext (by simp))
  have es' : ∀ j : Fin 2048, (∑ c : Fin 64, x11 (ix3 0 j ⟨h.val * 128 + 64 + c.val, by omega⟩) * x6 (ix3 0 r ⟨h.val * 128 + 64 + c.val, by omega⟩))
      = refScB qb kb (ix5 b 1 h s j) := fun j => by
    rw [refScB_apply]
    exact Finset.sum_congr rfl fun c _ => by
      rw [h11, h6, mul_comm]
      exact congrArg₂ (fun u v => qb (ix2 _ u) * kb (ix2 _ v)) (Fin.ext (by simp)) (Fin.ext (by simp))
  have hz : ∀ (e : Fin 2) (j : Fin 2048), IsReal (refScB qb kb (ix5 b e h s j)) := fun e j => by
    rw [refScB_apply]
    exact isReal_sum _ _ fun c => isReal_mul (hq _) (hk _)
  rw [heads_hi, diffOf_apply, refOB_apply, refLam_apply, ld_lam, ld_lam, ld_lam, ld_lam, lam_apply]
  unfold diffVal
  simp only [es, es', h0, h1, h2, h3, h12, ofBits_one]
  rw [difference (n := 2047) (fun j => refScB qb kb (ix5 b 0 h s j)) (fun j => refScB qb kb (ix5 b 1 h s j)) (hz 0) (hz 1)]
  exact Finset.sum_congr rfl fun j _ => by rw [refSoft_eq _ _ _ _ _ (hz 0), refSoft_eq _ _ _ _ _ (hz 1)]

/-- The row of the result. -/
theorem row_eq (h0 : ∀ k : Fin 64, x0 (ix2 0 k) = q1 (ix1 k)) (h1 : ∀ k : Fin 64, x1 (ix2 0 k) = k1 (ix1 k))
    (h2 : ∀ k : Fin 64, x2 (ix2 0 k) = q2 (ix1 k)) (h3 : ∀ k : Fin 64, x3 (ix2 0 k) = k2 (ix1 k)) (h4 : ∀ d : Fin 128, x4 (ix2 0 d) = gn (ix1 d))
    (h5 : ∀ k : Fin 512, x5 (ix3 0 r k) = qa (ix2 ⟨b.val * 2048 + s.val, by omega⟩ k))
    (h6 : ∀ k : Fin 512, x6 (ix3 0 r k) = qb (ix2 ⟨b.val * 2048 + s.val, by omega⟩ k))
    (h7 : ∀ k : Fin 1024, x7 (ix3 0 r k) = sg (ix2 ⟨b.val * 2048 + s.val, by omega⟩ k))
    (h8 : ∀ k : Fin 1024, x8 (ix3 0 r k) = x (ix3 b s k))
    (h9 : ∀ (j : Fin 2048) (k : Fin 128), x9 (ix3 0 j k) = ka (ix2 ⟨b.val * 2048 + j.val, by omega⟩ k))
    (hv : ∀ (g : Fin 2) (d : Fin 64) (j : Fin 2048), x10 (ix4 0 g ⟨d.val, by omega⟩ j) = va (ix2 ⟨b.val * 2048 + j.val, by omega⟩ ⟨g.val * 64 + d.val, by omega⟩))
    (hn : ∀ (g : Fin 2) (d : Fin 64) (j : Fin 2048), x10 (ix4 0 g ⟨64 + d.val, by omega⟩ j) = 1)
    (h11 : ∀ (j : Fin 2048) (k : Fin 512), x11 (ix3 0 j k) = kb (ix2 ⟨b.val * 2048 + j.val, by omega⟩ k))
    (h12 : ∀ (h : Fin 4) (d : Fin 128) (j : Fin 2048), x12 (ix4 0 h d j) = vb (ix2 ⟨b.val * 2048 + j.val, by omega⟩ ⟨h.val * 128 + d.val, by omega⟩))
    (h13 : ∀ k q : Fin 1024, x13 (ix2 k q) = w (ix2 k q))
    (hqa : ∀ i, IsReal (qa i)) (hka : ∀ i, IsReal (ka i)) (hqb : ∀ i, IsReal (qb i)) (hkb : ∀ i, IsReal (kb i)) (q : Fin 1024) :
    out0_14 (F := Ideal) x0 x1 x2 x3 x4 x5 x6 x7 x8 x9 x10 x11 x12 x13 (ix3 0 r q)
      = refOut (F := Ideal) x qa ka va qb kb vb sg w q1 k1 q2 k2 gn (ix3 b s q) := by
  unfold refOut
  rw [block_apply, refY_apply, h8]
  refine congrArg (x (ix3 b s q) + ·) (Finset.sum_congr rfl fun k _ => ?_)
  rw [h13, h7]
  refine congrArg (· * w (ix2 k q)) ?_
  by_cases hk : k.val < 512
  · obtain ⟨g, h, d, e⟩ : ∃ (g : Fin 2) (h : Fin 4) (d : Fin 64), k = ⟨g.val * 256 + h.val * 64 + d.val, lo_lt g h d⟩ :=
      ⟨⟨k.val / 256, by omega⟩, ⟨k.val / 64 % 4, by omega⟩, ⟨k.val % 64, by omega⟩, Fin.ext (by dsimp only; omega)⟩
    subst e
    refine (congrArg (· * _) ((normed_lo _ _ r ⟨g.val * 256 + h.val * 64 + d.val, by omega⟩).trans
      (gqa_eq x5 x9 x10 qa ka va b s r h5 h9 hv hn hqa hka _ g h d))).trans (refMix_lo _ _ sg b s ⟨g.val * 256 + h.val * 64 + d.val, by omega⟩).symm
  · obtain ⟨h, d, e⟩ : ∃ (h : Fin 4) (d : Fin 128), k = ⟨512 + h.val * 128 + d.val, hi_lt h d⟩ :=
      ⟨⟨(k.val - 512) / 128, by omega⟩, ⟨k.val % 128, by omega⟩, Fin.ext (by dsimp only; omega)⟩
    subst e
    rw [refMix_hi, refSub_apply, normed_hi, gain_apply, h4]
    simp only [diff_eq x0 x1 x2 x3 x6 x11 x12 qb kb vb q1 k1 q2 k2 b s r h0 h1 h2 h3 h6 h11 h12 hqb hkb]

end Row
end Cert.Proof.Attn
-- ==== Proof.AttnHost.lean ====
/-
  What the call's host code prepares for the even layer's attention, the block of each array a point of the grid reads,
  and the result's array read at an element.
-/
module

public import proofs.«01_k».proof.Proof.Gen.Kernel3Ideal.Value
public import proofs.«01_k».proof.Proof.AttnMath
public import Idealize.ShloMosaic.Lib.Pointwise
public import Idealize.ShloMosaic.Lib.StableHlo.Run
public import Idealize.ShloMosaic.Lib.StableHlo.RunRead

@[expose] public section

noncomputable section

namespace Cert.Proof.Attn

open Cert.Kernel3Ideal Cert.Kernel3Ideal.Gen
open Idealize.ShloMosaic
open Idealize.ShloMosaic.TcCoe Idealize.ShloMosaic.StableHlo

section Terms

variable {F : FTy → Type} [FloatOps F] (m : (ℓ : Loc nD τ sig) → Buf (Elt F) ℓ) (c : Dev nD)

/-- The grouped values, a head's 64 rows over 64 rows of ones. -/
def valuesA (va : FVec F S65536x128 .bf16) : FVec F S32x2x128x2048 .bf16 :=
  concatenate S32x2x128x2048 2 [⟨S32x2x64x2048, transpose S32x2x64x2048 [0, 2, 3, 1] (shapeCast S32x2048x2x64 va shapeCasts_S65536x128_S32x2048x2x64) transposes_S32x2048x2x64_S32x2x64x2048_0_2_3_1⟩,
    ⟨S32x2x64x2048, broadcastInDim S32x2x64x2048 ![] bcast_S_S32x2x64x2048 (constant S_ .bf16 0x3F80#16)⟩] concatenates_S32x2x64x2048_S32x2x64x2048_S32x2x128x2048_d2
/-- The differential values, a head each. -/
def valuesB (vb : FVec F S65536x512 .bf16) : FVec F S32x4x128x2048 .bf16 :=
  transpose S32x4x128x2048 [0, 2, 3, 1] (shapeCast S32x2048x4x128 vb shapeCasts_S65536x512_S32x2048x4x128) transposes_S32x2048x4x128_S32x4x128x2048_0_2_3_1

/-- What the call reads: -/
theorem V_v6 : V m c main_v6 = shapeCast S1x64 (m ((c : Thread nD τ).loc main_arg9)) shapeCasts_S64_S1x64 := by
  simp only [V, List.flatten_cons, List.flatten_nil, List.append_nil]
  after_reads_simp <;> rfl
theorem V_v7 : V m c main_v7 = shapeCast S1x64 (m ((c : Thread nD τ).loc main_arg10)) shapeCasts_S64_S1x64 := by
  simp only [V, List.flatten_cons, List.flatten_nil, List.append_nil]
  after_reads_simp <;> rfl
theorem V_v8 : V m c main_v8 = shapeCast S1x64 (m ((c : Thread nD τ).loc main_arg11)) shapeCasts_S64_S1x64 := by
  simp only [V, List.flatten_cons, List.flatten_nil, List.append_nil]
  after_reads_simp <;> rfl
theorem V_v9 : V m c main_v9 = shapeCast S1x64 (m ((c : Thread nD τ).loc main_arg12)) shapeCasts_S64_S1x64 := by
  simp only [V, List.flatten_cons, List.flatten_nil, List.append_nil]
  after_reads_simp <;> rfl
theorem V_v11 : V m c main_v11 = shapeCast S1x128 (m ((c : Thread nD τ).loc main_arg13)) shapeCasts_S128_S1x128 := by
  simp only [V, List.flatten_cons, List.flatten_nil, List.append_nil]
  after_reads_simp <;> rfl
theorem V_v12 : V m c main_v12 = shapeCast S32x2048x512 (m ((c : Thread nD τ).loc main_arg1)) shapeCasts_S65536x512_S32x2048x512 := by
  simp only [V, List.flatten_cons, List.flatten_nil, List.append_nil]
  after_reads_simp <;> rfl
theorem V_v14 : V m c main_v14 = shapeCast S32x2048x512 (m ((c : Thread nD τ).loc main_arg4)) shapeCasts_S65536x512_S32x2048x512 := by
  simp only [V, List.flatten_cons, List.flatten_nil, List.append_nil]
  after_reads_simp <;> rfl
theorem V_v16 : V m c main_v16 = shapeCast S32x2048x1024 (m ((c : Thread nD τ).loc main_arg7)) shapeCasts_S65536x1024_S32x2048x1024 := by
  simp only [V, List.flatten_cons, List.flatten_nil, List.append_nil]
  after_reads_simp <;> rfl
theorem V_v13 : V m c main_v13 = shapeCast S32x2048x128 (m ((c : Thread nD τ).loc main_arg2)) shapeCasts_S65536x128_S32x2048x128 := by
  simp only [V, List.flatten_cons, List.flatten_nil, List.append_nil]
  after_reads_simp <;> rfl
theorem V_v3 : V m c main_v3 = valuesA (m ((c : Thread nD τ).loc main_arg3)) := by
  simp only [V, List.flatten_cons, List.flatten_nil, List.append_nil]
  after_reads_simp <;> rfl
theorem V_v15 : V m c main_v15 = shapeCast S32x2048x512 (m ((c : Thread nD τ).loc main_arg5)) shapeCasts_S65536x512_S32x2048x512 := by
  simp only [V, List.flatten_cons, List.flatten_nil, List.append_nil]
  after_reads_simp <;> rfl
theorem V_v5 : V m c main_v5 = valuesB (m ((c : Thread nD τ).loc main_arg6)) := by
  simp only [V, List.flatten_cons, List.flatten_nil, List.append_nil]
  after_reads_simp <;> rfl
theorem V_v10 : V m c main_v10 = truncf .bf16 (m ((c : Thread nD τ).loc main_arg8)) bitsLt_bf16_f32 := by
  simp only [V, List.flatten_cons, List.flatten_nil, List.append_nil]
  after_reads_simp <;> rfl
theorem V_arg0 : V m c main_arg0 = m ((c : Thread nD τ).loc main_arg0) := V_main_arg0 m c

end Terms

section Blocks

variable {F : FTy → Type} [FloatOps F] (m : (ℓ : Loc nD τ sig) → Buf (Elt F) ℓ) (c : Dev nD)

theorem pt_lt (t : Fin cfg0.N) : t.val < 128 := N_0 ▸ t.isLt
/-- Point `t` of the grid is sequence `t / 4`, rows `512 (t mod 4)` and on. -/
theorem idx5_0 : ∀ t : Fin cfg0.N, win0_5.index t 0 = t.val / 4 := (by decide +kernel : ∀ t : Fin grid0.N, win0_5.index t 0 = t.val / 4)
theorem idx6_0 : ∀ t : Fin cfg0.N, win0_6.index t 0 = t.val / 4 := (by decide +kernel : ∀ t : Fin grid0.N, win0_6.index t 0 = t.val / 4)
theorem idx7_0 : ∀ t : Fin cfg0.N, win0_7.index t 0 = t.val / 4 := (by decide +kernel : ∀ t : Fin grid0.N, win0_7.index t 0 = t.val / 4)
theorem idx8_0 : ∀ t : Fin cfg0.N, win0_8.index t 0 = t.val / 4 := (by decide +kernel : ∀ t : Fin grid0.N, win0_8.index t 0 = t.val / 4)
theorem idx9_0 : ∀ t : Fin cfg0.N, win0_9.index t 0 = t.val / 4 := (by decide +kernel : ∀ t : Fin grid0.N, win0_9.index t 0 = t.val / 4)
theorem idx10_0 : ∀ t : Fin cfg0.N, win0_10.index t 0 = t.val / 4 := (by decide +kernel : ∀ t : Fin grid0.N, win0_10.index t 0 = t.val / 4)
theorem idx11_0 : ∀ t : Fin cfg0.N, win0_11.index t 0 = t.val / 4 := (by decide +kernel : ∀ t : Fin grid0.N, win0_11.index t 0 = t.val / 4)
theorem idx12_0 : ∀ t : Fin cfg0.N, win0_12.index t 0 = t.val / 4 := (by decide +kernel : ∀ t : Fin grid0.N, win0_12.index t 0 = t.val / 4)
theorem idx5_1 : ∀ t : Fin cfg0.N, win0_5.index t 1 = t.val % 4 := (by decide +kernel : ∀ t : Fin grid0.N, win0_5.index t 1 = t.val % 4)
theorem idx6_1 : ∀ t : Fin cfg0.N, win0_6.index t 1 = t.val % 4 := (by decide +kernel : ∀ t : Fin grid0.N, win0_6.index t 1 = t.val % 4)
theorem idx7_1 : ∀ t : Fin cfg0.N, win0_7.index t 1 = t.val % 4 := (by decide +kernel : ∀ t : Fin grid0.N, win0_7.index t 1 = t.val % 4)
theorem idx8_1 : ∀ t : Fin cfg0.N, win0_8.index t 1 = t.val % 4 := (by decide +kernel : ∀ t : Fin grid0.N, win0_8.index t 1 = t.val % 4)
theorem idx14_0 : ∀ t : Fin cfg0.N, win0_14.index t 0 = t.val / 4 := (by decide +kernel : ∀ t : Fin grid0.N, win0_14.index t 0 = t.val / 4)
theorem idx14_1 : ∀ t : Fin cfg0.N, win0_14.index t 1 = t.val % 4 := (by decide +kernel : ∀ t : Fin grid0.N, win0_14.index t 1 = t.val % 4)

/-- The blocks that are whole arrays, -/
theorem iblk0 (t : Fin cfg0.N) : (iblk m c 0 t : FVec F S1x64 .f32) = V m c main_v6 := by
  unfold iblk
  funext j
  show (V m c main_v6 : FVec F S1x64 .f32) _ = _
  congr 1
  funext a
  fin_cases a
  · refine Fin.ext ?_
    show 0 * 1 + 1 * (j 0).val = (j 0).val
    omega
  · refine Fin.ext ?_
    show 0 * 64 + 1 * (j 1).val = (j 1).val
    omega
theorem iblk1 (t : Fin cfg0.N) : (iblk m c 1 t : FVec F S1x64 .f32) = V m c main_v7 := by
  unfold iblk
  funext j
  show (V m c main_v7 : FVec F S1x64 .f32) _ = _
  congr 1
  funext a
  fin_cases a
  · refine Fin.ext ?_
    show 0 * 1 + 1 * (j 0).val = (j 0).val
    omega
  · refine Fin.ext ?_
    show 0 * 64 + 1 * (j 1).val = (j 1).val
    omega
theorem iblk2 (t : Fin cfg0.N) : (iblk m c 2 t : FVec F S1x64 .f32) = V m c main_v8 := by
  unfold iblk
  funext j
  show (V m c main_v8 : FVec F S1x64 .f32) _ = _
  congr 1
  funext a
  fin_cases a
  · refine Fin.ext ?_
    show 0 * 1 + 1 * (j 0).val = (j 0).val
    omega
  · refine Fin.ext ?_
    show 0 * 64 + 1 * (j 1).val = (j 1).val
    omega
theorem iblk3 (t : Fin cfg0.N) : (iblk m c 3 t : FVec F S1x64 .f32) = V m c main_v9 := by
  unfold iblk
  funext j
  show (V m c main_v9 : FVec F S1x64 .f32) _ = _
  congr 1
  funext a
  fin_cases a
  · refine Fin.ext ?_
    show 0 * 1 + 1 * (j 0).val = (j 0).val
    omega
  · refine Fin.ext ?_
    show 0 * 64 + 1 * (j 1).val = (j 1).val
    omega
theorem iblk4 (t : Fin cfg0.N) : (iblk m c 4 t : FVec F S1x128 .f32) = V m c main_v11 := by
  unfold iblk
  funext j
  show (V m c main_v11 : FVec F S1x128 .f32) _ = _
  congr 1
  funext a
  fin_cases a
  · refine Fin.ext ?_
    show 0 * 1 + 1 * (j 0).val = (j 0).val
    omega
  · refine Fin.ext ?_
    show 0 * 128 + 1 * (j 1).val = (j 1).val
    omega
theorem iblk13 (t : Fin cfg0.N) : (iblk m c 13 t : FVec F S1024x1024 .bf16) = V m c main_v10 := by
  unfold iblk
  funext j
  show (V m c main_v10 : FVec F S1024x1024 .bf16) _ = _
  congr 1
  funext a
  fin_cases a
  · refine Fin.ext ?_
    show 0 * 1024 + 1 * (j 0).val = (j 0).val
    omega
  · refine Fin.ext ?_
    show 0 * 1024 + 1 * (j 1).val = (j 1).val
    omega
/-- those of 512 rows of a sequence, -/
theorem iblk5 (t : Fin cfg0.N) (r : Fin 512) (k : Fin 512) : (iblk m c 5 t : FVec F S1x512x512 .bf16) (ix3 0 r k)
    = (V m c main_v12 : FVec F S32x2048x512 .bf16) (ix3 ⟨t.val / 4, by have := pt_lt t; omega⟩ ⟨512 * (t.val % 4) + r.val, by omega⟩ k) := by
  unfold iblk
  show (V m c main_v12 : FVec F S32x2048x512 .bf16) _ = _
  congr 1
  funext a
  fin_cases a
  · refine Fin.ext ?_
    show win0_5.index t 0 * 1 + 1 * 0 = t.val / 4
    rw [idx5_0]; omega
  · refine Fin.ext ?_
    show win0_5.index t 1 * 512 + 1 * r.val = 512 * (t.val % 4) + r.val
    rw [idx5_1]; omega
  · refine Fin.ext ?_
    show 0 * 512 + 1 * k.val = k.val
    omega
theorem iblk6 (t : Fin cfg0.N) (r : Fin 512) (k : Fin 512) : (iblk m c 6 t : FVec F S1x512x512 .bf16) (ix3 0 r k)
    = (V m c main_v14 : FVec F S32x2048x512 .bf16) (ix3 ⟨t.val / 4, by have := pt_lt t; omega⟩ ⟨512 * (t.val % 4) + r.val, by omega⟩ k) := by
  unfold iblk
  show (V m c main_v14 : FVec F S32x2048x512 .bf16) _ = _
  congr 1
  funext a
  fin_cases a
  · refine Fin.ext ?_
    show win0_6.index t 0 * 1 + 1 * 0 = t.val / 4
    rw [idx6_0]; omega
  · refine Fin.ext ?_
    show win0_6.index t 1 * 512 + 1 * r.val = 512 * (t.val % 4) + r.val
    rw [idx6_1]; omega
  · refine Fin.ext ?_
    show 0 * 512 + 1 * k.val = k.val
    omega
theorem iblk7 (t : Fin cfg0.N) (r : Fin 512) (k : Fin 1024) : (iblk m c 7 t : FVec F S1x512x1024 .bf16) (ix3 0 r k)
    = (V m c main_v16 : FVec F S32x2048x1024 .bf16) (ix3 ⟨t.val / 4, by have := pt_lt t; omega⟩ ⟨512 * (t.val % 4) + r.val, by omega⟩ k) := by
  unfold iblk
  show (V m c main_v16 : FVec F S32x2048x1024 .bf16) _ = _
  congr 1
  funext a
  fin_cases a
  · refine Fin.ext ?_
    show win0_7.index t 0 * 1 + 1 * 0 = t.val / 4
    rw [idx7_0]; omega
  · refine Fin.ext ?_
    show win0_7.index t 1 * 512 + 1 * r.val = 512 * (t.val % 4) + r.val
    rw [idx7_1]; omega
  · refine Fin.ext ?_
    show 0 * 1024 + 1 * k.val = k.val
    omega
theorem iblk8 (t : Fin cfg0.N) (r : Fin 512) (k : Fin 1024) : (iblk m c 8 t : FVec F S1x512x1024 .f32) (ix3 0 r k)
    = (V m c main_arg0 : FVec F S32x2048x1024 .f32) (ix3 ⟨t.val / 4, by have := pt_lt t; omega⟩ ⟨512 * (t.val % 4) + r.val, by omega⟩ k) := by
  unfold iblk
  show (V m c main_arg0 : FVec F S32x2048x1024 .f32) _ = _
  congr 1
  funext a
  fin_cases a
  · refine Fin.ext ?_
    show win0_8.index t 0 * 1 + 1 * 0 = t.val / 4
    rw [idx8_0]; omega
  · refine Fin.ext ?_
    show win0_8.index t 1 * 512 + 1 * r.val = 512 * (t.val % 4) + r.val
    rw [idx8_1]; omega
  · refine Fin.ext ?_
    show 0 * 1024 + 1 * k.val = k.val
    omega
/-- and those of a whole sequence. -/
theorem iblk9 (t : Fin cfg0.N) (r : Fin 2048) (k : Fin 128) : (iblk m c 9 t : FVec F S1x2048x128 .bf16) (ix3 0 r k)
    = (V m c main_v13 : FVec F S32x2048x128 .bf16) (ix3 ⟨t.val / 4, by have := pt_lt t; omega⟩ r k) := by
  unfold iblk
  show (V m c main_v13 : FVec F S32x2048x128 .bf16) _ = _
  congr 1
  funext a
  fin_cases a
  · refine Fin.ext ?_
    show win0_9.index t 0 * 1 + 1 * 0 = t.val / 4
    rw [idx9_0]; omega
  · refine Fin.ext ?_
    show 0 * 2048 + 1 * r.val = r.val
    omega
  · refine Fin.ext ?_
    show 0 * 128 + 1 * k.val = k.val
    omega
theorem iblk11 (t : Fin cfg0.N) (r : Fin 2048) (k : Fin 512) : (iblk m c 11 t : FVec F S1x2048x512 .bf16) (ix3 0 r k)
    = (V m c main_v15 : FVec F S32x2048x512 .bf16) (ix3 ⟨t.val / 4, by have := pt_lt t; omega⟩ r k) := by
  unfold iblk
  show (V m c main_v15 : FVec F S32x2048x512 .bf16) _ = _
  congr 1
  funext a
  fin_cases a
  · refine Fin.ext ?_
    show win0_11.index t 0 * 1 + 1 * 0 = t.val / 4
    rw [idx11_0]; omega
  · refine Fin.ext ?_
    show 0 * 2048 + 1 * r.val = r.val
    omega
  · refine Fin.ext ?_
    show 0 * 512 + 1 * k.val = k.val
    omega
theorem iblk10 (t : Fin cfg0.N) (g : Fin 2) (d : Fin 128) (j : Fin 2048) : (iblk m c 10 t : FVec F S1x2x128x2048 .bf16) (ix4 0 g d j)
    = (V m c main_v3 : FVec F S32x2x128x2048 .bf16) (ix4 ⟨t.val / 4, by have := pt_lt t; omega⟩ g d j) := by
  unfold iblk
  show (V m c main_v3 : FVec F S32x2x128x2048 .bf16) _ = _
  congr 1
  funext a
  fin_cases a
  · refine Fin.ext ?_
    show win0_10.index t 0 * 1 + 1 * 0 = t.val / 4
    rw [idx10_0]; omega
  · refine Fin.ext ?_
    show 0 * 2 + 1 * g.val = g.val
    omega
  · refine Fin.ext ?_
    show 0 * 128 + 1 * d.val = d.val
    omega
  · refine Fin.ext ?_
    show 0 * 2048 + 1 * j.val = j.val
    omega
theorem iblk12 (t : Fin cfg0.N) (g : Fin 4) (d : Fin 128) (j : Fin 2048) : (iblk m c 12 t : FVec F S1x4x128x2048 .bf16) (ix4 0 g d j)
    = (V m c main_v5 : FVec F S32x4x128x2048 .bf16) (ix4 ⟨t.val / 4, by have := pt_lt t; omega⟩ g d j) := by
  unfold iblk
  show (V m c main_v5 : FVec F S32x4x128x2048 .bf16) _ = _
  congr 1
  funext a
  fin_cases a
  · refine Fin.ext ?_
    show win0_12.index t 0 * 1 + 1 * 0 = t.val / 4
    rw [idx12_0]; omega
  · refine Fin.ext ?_
    show 0 * 4 + 1 * g.val = g.val
    omega
  · refine Fin.ext ?_
    show 0 * 128 + 1 * d.val = d.val
    omega
  · refine Fin.ext ?_
    show 0 * 2048 + 1 * j.val = j.val
    omega

/-- The result's array, in the rows of point `t`, is what point `t` computes. -/
theorem arr14 (t : Fin cfg0.N) (r : Fin 512) (q : Fin 1024) :
    ((dats m 0 c).arrAt 14 cfg0.N : FVec F S32x2048x1024 .f32) (ix3 ⟨t.val / 4, by have := pt_lt t; omega⟩ ⟨512 * (t.val % 4) + r.val, by omega⟩ q)
    = out0_14 (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (ix3 0 r q) := by
  have e := congrFun ((Value.blocks14 m c t (flush0_14 t)).trans (Value.flushed14 m c t)) (ix3 0 r q)
  refine Eq.trans ?_ (e.trans rfl)
  show _ = ((dats m 0 c).arrAt 14 cfg0.N : FVec F S32x2048x1024 .f32) _
  congr 1
  funext a
  fin_cases a
  · refine Fin.ext ?_
    show t.val / 4 = win0_14.index t 0 * 1 + 1 * 0
    rw [idx14_0]; omega
  · refine Fin.ext ?_
    show 512 * (t.val % 4) + r.val = win0_14.index t 1 * 512 + 1 * r.val
    rw [idx14_1]; omega
  · refine Fin.ext ?_
    show q.val = 0 * 1024 + 1 * q.val
    omega

end Blocks

/-- The prepared arrays at an element. -/
theorem rows512_apply (x : FVec Ideal S65536x512 .bf16) (b : Fin 32) (s : Fin 2048) (k : Fin 512) :
    (shapeCast S32x2048x512 x shapeCasts_S65536x512_S32x2048x512 : FVec Ideal S32x2048x512 .bf16) (ix3 b s k) = x (ix2 ⟨b.val * 2048 + s.val, by omega⟩ k) := by
  pointwise []
theorem rows128_apply (x : FVec Ideal S65536x128 .bf16) (b : Fin 32) (s : Fin 2048) (k : Fin 128) :
    (shapeCast S32x2048x128 x shapeCasts_S65536x128_S32x2048x128 : FVec Ideal S32x2048x128 .bf16) (ix3 b s k) = x (ix2 ⟨b.val * 2048 + s.val, by omega⟩ k) := by
  pointwise []
theorem rows1024_apply (x : FVec Ideal S65536x1024 .bf16) (b : Fin 32) (s : Fin 2048) (k : Fin 1024) :
    (shapeCast S32x2048x1024 x shapeCasts_S65536x1024_S32x2048x1024 : FVec Ideal S32x2048x1024 .bf16) (ix3 b s k) = x (ix2 ⟨b.val * 2048 + s.val, by omega⟩ k) := by
  pointwise []
theorem row64_apply (x : FVec Ideal S64 .f32) (k : Fin 64) : (shapeCast S1x64 x shapeCasts_S64_S1x64 : FVec Ideal S1x64 .f32) (ix2 0 k) = x (ix1 k) := by
  pointwise []
theorem row128_apply (x : FVec Ideal S128 .f32) (k : Fin 128) : (shapeCast S1x128 x shapeCasts_S128_S1x128 : FVec Ideal S1x128 .f32) (ix2 0 k) = x (ix1 k) := by
  pointwise []
theorem weights_apply (w : FVec Ideal S1024x1024 .f32) (k q : Fin 1024) : (truncf .bf16 w bitsLt_bf16_f32 : FVec Ideal S1024x1024 .bf16) (ix2 k q) = w (ix2 k q) := by
  pointwise []
theorem valuesA_lo (va : FVec Ideal S65536x128 .bf16) (b : Fin 32) (g : Fin 2) (d : Fin 64) (j : Fin 2048) :
    valuesA va (ix4 b g ⟨d.val, by omega⟩ j) = va (ix2 ⟨b.val * 2048 + j.val, by omega⟩ ⟨g.val * 64 + d.val, by omega⟩) := by
  pointwise [valuesA]
theorem valuesA_hi (va : FVec Ideal S65536x128 .bf16) (b : Fin 32) (g : Fin 2) (d : Fin 64) (j : Fin 2048) :
    valuesA va (ix4 b g ⟨64 + d.val, by omega⟩ j) = 1 := by
  refine Eq.trans ?_ ofBits_one16
  pointwise [valuesA]
theorem valuesB_apply (vb : FVec Ideal S65536x512 .bf16) (b : Fin 32) (h : Fin 4) (d : Fin 128) (j : Fin 2048) :
    valuesB vb (ix4 b h d j) = vb (ix2 ⟨b.val * 2048 + j.val, by omega⟩ ⟨h.val * 128 + d.val, by omega⟩) := by
  pointwise [valuesB]

end Cert.Proof.Attn
-- ==== Proof.AttnValue.lean ====
/-
  The array the even layer's attention leaves is the reference's, and what the precondition says of the queries and keys.
-/
module

public import proofs.«01_k».proof.Proof.AttnHeads
public import proofs.«01_k».proof.Proof.AttnHost
public import proofs.«01_k».proof.Pre_finite_scores

@[expose] public section

noncomputable section

namespace Cert.Proof.Attn

open Cert.Kernel3Ideal Cert.Kernel3Ideal.Gen
open Idealize.ShloMosaic
open Idealize.ShloMosaic.TcCoe Idealize.ShloMosaic.StableHlo

/-- A value whose absolute value is less than infinity is a real number. -/
theorem isReal_of_lt (x : EReal) (h : Ideal.cmp .olt (max x (-x)) ⊤ = 1#1) : IsReal x := by
  induction x with
  | bot => simp [Ideal.cmp] at h
  | coe r => exact ⟨r, rfl⟩
  | top => simp [Ideal.cmp] at h
theorem ofBits_top16 : Ideal.ofBits .bf16 0x7F80#16 = (⊤ : EReal) := by
  simp [Ideal.ofBits, Ideal.ieee]
theorem reals_512 [Cert.Pre_finite_scores.Facts] (q : FVec Ideal S65536x512 .bf16)
    (h : cmpf .olt (Host.absf q) (broadcastInDim S65536x512 ![] Cert.Pre_finite_scores.Facts.bcast_S_S65536x512 (constant Cert.Pre_finite_scores.S_ .bf16 0x7F80#16 : FVec Ideal Cert.Pre_finite_scores.S_ .bf16)) = fun _ => 1#1)
    (i : S65536x512.Idx) : IsReal (q i) :=
  isReal_of_lt _ (ofBits_top16 ▸ congrFun h i)
theorem reals_128 [Cert.Pre_finite_scores.Facts] (q : FVec Ideal S65536x128 .bf16)
    (h : cmpf .olt (Host.absf q) (broadcastInDim S65536x128 ![] Cert.Pre_finite_scores.Facts.bcast_S_S65536x128 (constant Cert.Pre_finite_scores.S_ .bf16 0x7F80#16 : FVec Ideal Cert.Pre_finite_scores.S_ .bf16)) = fun _ => 1#1)
    (i : S65536x128.Idx) : IsReal (q i) :=
  isReal_of_lt _ (ofBits_top16 ▸ congrFun h i)

section Results

variable (m : (ℓ : Loc nD τ sig) → Buf (Elt Ideal) ℓ) (c : Dev nD)

/-- The reference's result from the kernel's arguments. -/
def attnRef : FVec Ideal S32x2048x1024 .f32 :=
  refOut (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13))

section Finite

variable (hqa : ∀ i, IsReal ((m ((c : Thread nD τ).loc main_arg1) : FVec Ideal S65536x512 .bf16) i))
  (hka : ∀ i, IsReal ((m ((c : Thread nD τ).loc main_arg2) : FVec Ideal S65536x128 .bf16) i))
  (hqb : ∀ i, IsReal ((m ((c : Thread nD τ).loc main_arg4) : FVec Ideal S65536x512 .bf16) i))
  (hkb : ∀ i, IsReal ((m ((c : Thread nD τ).loc main_arg5) : FVec Ideal S65536x512 .bf16) i))

include hqa hka hqb hkb

/-- In the rows of a point of the grid, -/
theorem attn_at (t : Fin cfg0.N) (r : Fin 512) (q : Fin 1024) :
    ((dats m 0 c).arrAt 14 cfg0.N : FVec Ideal S32x2048x1024 .f32) (ix3 ⟨t.val / 4, by have := pt_lt t; omega⟩ ⟨512 * (t.val % 4) + r.val, by omega⟩ q)
      = attnRef m c (ix3 ⟨t.val / 4, by have := pt_lt t; omega⟩ ⟨512 * (t.val % 4) + r.val, by omega⟩ q) := by
  rw [arr14]
  unfold attnRef
  refine row_eq _ _ _ _ _ _ _ _ _ _ _ _ _ _ _ _ _ _ _ _ _ _ _ _ _ _ _ _ _ _ r ?_ ?_ ?_ ?_ ?_ ?_ ?_ ?_ ?_ ?_ ?_ ?_ ?_ ?_ ?_ hqa hka hqb hkb q
  · intro k; rw [iblk0, V_v6]; exact row64_apply _ k
  · intro k; rw [iblk1, V_v7]; exact row64_apply _ k
  · intro k; rw [iblk2, V_v8]; exact row64_apply _ k
  · intro k; rw [iblk3, V_v9]; exact row64_apply _ k
  · intro k; rw [iblk4, V_v11]; exact row128_apply _ k
  · intro k; rw [iblk5, V_v12]; exact rows512_apply _ _ _ k
  · intro k; rw [iblk6, V_v14]; exact rows512_apply _ _ _ k
  · intro k; rw [iblk7, V_v16]; exact rows1024_apply _ _ _ k
  · intro k; rw [iblk8, V_arg0]
  · intro j k; rw [iblk9, V_v13]; exact rows128_apply _ _ _ k
  · intro g d j; rw [iblk10, V_v3]; exact valuesA_lo _ _ g d j
  · intro g d j; rw [iblk10, V_v3]; exact valuesA_hi _ _ g d j
  · intro j k; rw [iblk11, V_v15]; exact rows512_apply _ _ _ k
  · intro h d j; rw [iblk12, V_v5]; exact valuesB_apply _ _ h d j
  · intro k q; rw [iblk13, V_v10]; exact weights_apply _ k q

/-- and so everywhere, the array is the reference's. -/
theorem attn_eq : ((dats m 0 c).arrAt 14 cfg0.N : FVec Ideal S32x2048x1024 .f32) = attnRef m c := by
  funext i
  obtain ⟨b, s, q, rfl⟩ : ∃ (b : Fin 32) (s : Fin 2048) (q : Fin 1024), i = ix3 b s q := ⟨i 0, i 1, i 2, by funext a; fin_cases a <;> rfl⟩
  have e := attn_at m c hqa hka hqb hkb ⟨b.val * 4 + s.val / 512, by have := b.isLt; have := s.isLt; exact lt_of_lt_of_eq (show b.val * 4 + s.val / 512 < 128 by omega) N_0.symm⟩ ⟨s.val % 512, by omega⟩ q
  have hb : (⟨(b.val * 4 + s.val / 512) / 4, by omega⟩ : Fin 32) = b := Fin.ext (by dsimp only; omega)
  have hs : (⟨512 * ((b.val * 4 + s.val / 512) % 4) + s.val % 512, by omega⟩ : Fin 2048) = s := Fin.ext (by dsimp only; omega)
  simp only [hb, hs] at e
  exact e

end Finite
end Results
end Cert.Proof.Attn
-- ==== Proof.EvenMath.lean ====
/-
  The axial rotary of a head: the first half of the lanes turns by the row of the grid, the second half by its column.
-/
module

public import proofs.«01_k».proof.Proof.ProjMath

@[expose] public section

noncomputable section

namespace Cert.Proof.Even

open Idealize.ShloMosaic

/-- A frequency of the axial rotary, -/
def axFrq (d : ℕ) : EReal :=
  Ideal.pow (Ideal.ofBits FTy.f32 1176256512#32)
      (Ideal.div (-(Ideal.ofBits FTy.f32 1073741824#32 * FloatOps.sitofp (F := Ideal) FTy.f32 (BitVec.ofNat 32 d))) (Ideal.ofBits FTy.f32 1107296256#32))
/-- the angle of position `s` at one of a head's lanes: the position's row or its column, times the frequency. -/
def axAng (s d : ℕ) : EReal :=
  FloatOps.sitofp (F := Ideal) FTy.f32 (BitVec.ofNat 32 (if d < 32 then s / 64 else s % 64)) * axFrq (d % 16)
/-- The axial rotary of a head at position `s`: in each half of the lanes the first sixteen turn with the next sixteen. -/
def axialAt (y : Fin 64 → EReal) (s : ℕ) (d : Fin 64) : EReal :=
  y d * Ideal.cos (axAng s d)
    + (if h : d.val % 32 < 16 then -y ⟨d.val + 16, by omega⟩ else y ⟨d.val - 16, by omega⟩) * Ideal.sin (axAng s d)

theorem ofBits_64f : Ideal.ofBits .f32 1115684864#32 = ((64 : ℝ) : EReal) := Cert.Proof.Proj.ofBits_64

/-- A small number read as a float is itself. -/
theorem sitofp_small (n : ℕ) (h : n < 2 ^ 31) : FloatOps.sitofp (F := Ideal) FTy.f32 (BitVec.ofNat 32 n) = (((n : ℕ) : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- The floor of a position's sixty-fourth is its row, -/
theorem row_floor (s : ℕ) (h : s < 2 ^ 31) :
    Ideal.liftRound Int.floor (Ideal.div (FloatOps.sitofp (F := Ideal) FTy.f32 (BitVec.ofNat 32 s)) (Ideal.ofBits .f32 1115684864#32))
      = FloatOps.sitofp (F := Ideal) FTy.f32 (BitVec.ofNat 32 (s / 64)) := by
  rw [sitofp_small s h, sitofp_small (s / 64) (by omega), ofBits_64f, Ideal.div_coe (by norm_num), ← EReal.coe_mul]
  rw [Ideal.liftRound_coe]
  have e : ⌊(s : ℝ) * (1 / 64)⌋ = ((s / 64 : ℕ) : ℤ) := by
    have h2 : (s : ℝ) = 64 * ((s / 64 : ℕ) : ℝ) + ((s % 64 : ℕ) : ℝ) := by exact_mod_cast (Nat.div_add_mod s 64).symm
    have h3 : ((s % 64 : ℕ) : ℝ) < 64 := by exact_mod_cast Nat.mod_lt s (by norm_num)
    have h4 : (0 : ℝ) ≤ ((s % 64 : ℕ) : ℝ) := Nat.cast_nonneg _
    rw [Int.floor_eq_iff, Int.cast_natCast]
    constructor <;> linarith
  rw [e, Int.cast_natCast]
/-- and what is left of the position is its column. -/
theorem col_rest (s : ℕ) (h : s < 2 ^ 31) :
    FloatOps.sitofp (F := Ideal) FTy.f32 (BitVec.ofNat 32 s) - FloatOps.sitofp (F := Ideal) FTy.f32 (BitVec.ofNat 32 (s / 64)) * Ideal.ofBits .f32 1115684864#32
      = FloatOps.sitofp (F := Ideal) FTy.f32 (BitVec.ofNat 32 (s % 64)) := by
  rw [sitofp_small s h, sitofp_small (s / 64) (by omega), sitofp_small (s % 64) (by omega), ofBits_64f, ← EReal.coe_mul, ← EReal.coe_sub]
  congr 1
  have := Nat.div_add_mod s 64
  have h2 : (s : ℝ) = 64 * ((s / 64 : ℕ) : ℝ) + ((s % 64 : ℕ) : ℝ) := by exact_mod_cast this.symm
  linarith

end Cert.Proof.Even

end
-- ==== Proof.EvenBody.lean ====
/-
  What the kernel's body of the even layer's input projection leaves in each output block, read at an element: a column
  stripe at a time, the normed row times a column of the weights, then the norm of its head and one of the two rotaries.
-/
module

public import proofs.«01_k».proof.Proof.Gen.Kernel4Ideal.Value
public import proofs.«01_k».proof.Proof.ProjBody
public import proofs.«01_k».proof.Proof.EvenMath

@[expose] public section

noncomputable section

namespace Cert.Proof.Even

open Cert.Kernel4Ideal Cert.Kernel4Ideal.Gen
open Cert.Proof.Proj
open Idealize.ShloMosaic
open Idealize.ShloMosaic.TcCoe Idealize.ShloMosaic.StableHlo

section Terms

variable {F : FTy → Type} [FloatOps F]

/-- The axial rotary of a stripe of four heads, from the three tables. -/
def headAxial (c sa sb : FVec F S1024x256 .f32) (y : FVec F S1024x256 .f32) : FVec F S1024x256 .f32 :=
  addf (addf (mulf y c) (mulf (dynamicRotate 1 240#32 none y rotates_S1024x256_d1) sa)) (mulf (dynamicRotate 1 16#32 none y rotates_S1024x256_d1) sb)
/-- A gain of two heads over a stripe of four. -/
def gain4 (t : Vec F S1x128 .f32) : FVec F S1x256 .f32 := Cert.Kernel2Ideal.Gen.k0_pay10 t
/-- The queries' scale, -/
def scaled (y : FVec F S1024x256 .f32) : FVec F S1024x256 .f32 := mulf y (broadcast S1024x256 (Scalar.ofBits .f32 0x3E000000#32 : F .f32))
/-- and a stripe as it is stored. -/
def stored (y : FVec F S1024x256 .f32) : FVec F S1024x256 .bf16 := truncf .bf16 y bitsLt_bf16_f32

section Pieces

variable (x0 : Vec F S1024x1024 .f32) (x1 : Vec F S1x1024 .f32) (x2 : Vec F S1024x3328 .bf16) (x3 : Vec F S256x256 .bf16) (x4 x5 x6 x7 : Vec F S1x128 .f32) (x8 x9 x10 x11 x12 x13 : Vec F S1024x128 .f32)

/-- A stripe with the axial rotary, -/
def axStripe (g : Vec F S1x128 .f32) (z : FVec F S1024x256 .f32) : FVec F S1024x256 .f32 :=
  headAxial (k0_pay9 (View.ld x8 r0_3)) (k0_pay10 (View.ld x9 r0_3)) (k0_pay11 (View.ld x10 r0_3)) (headNorm (k0_pay8 (View.ld x3 r0_2)) (gain4 (View.ld g r0_5)) z)
/-- and one with the rotary along the positions. -/
def posStripe (g : Vec F S1x128 .f32) (z : FVec F S1024x256 .f32) : FVec F S1024x256 .f32 :=
  headRope (k0_pay12 (View.ld x11 r0_3)) (k0_pay13 (View.ld x12 r0_3)) (k0_pay14 (View.ld x13 r0_3)) (headNorm (k0_pay8 (View.ld x3 r0_2)) (gain4 (View.ld g r0_5)) z)
/-- The product of the rows with a stripe of 512 columns, its two halves, -/
def wide512 (w : Vec F S1024x512 .bf16) : FVec F S1024x512 .f32 := projHalf (View.ld x0 r0_0) (View.ld x1 r0_1) w
def lo (w : Vec F S1024x512 .bf16) : FVec F S1024x256 .f32 := extractStridedSlice S1024x256 ![0, 0] (wide512 x0 x1 w) slices_S1024x512_o0_0_S1024x256
def hi (w : Vec F S1024x512 .bf16) : FVec F S1024x256 .f32 := extractStridedSlice S1024x256 ![0, 256] (wide512 x0 x1 w) slices_S1024x512_o0_256_S1024x256
/-- and that with a stripe of 256. -/
def wide256 (w : Vec F S1024x256 .bf16) : FVec F S1024x256 .f32 := k0_pay22 (k0_pay6 (View.ld x0 r0_0) (View.ld x1 r0_1)) (k0_pay7 (View.ld x0 r0_0)) w

/-- The first branch's queries are two stripes. -/
theorem out14_eq : out0_14 x0 x1 x2 x3 x4 x5 x6 x7 x8 x9 x10 x11 x12 x13 = View.canon
    [⟨r0_7, stored (scaled (axStripe x3 x8 x9 x10 x4 (hi x0 x1 (View.ld x2 r0_4))))⟩, ⟨r0_6, stored (scaled (axStripe x3 x8 x9 x10 x4 (lo x0 x1 (View.ld x2 r0_4))))⟩] := by
  unfold_out out0_14
  rfl
/-- The first branch's keys are half a stripe, -/
theorem out15_eq : out0_15 x0 x1 x2 x3 x4 x5 x6 x7 x8 x9 x10 x11 x12 x13
    = extractStridedSlice S1024x128 ![0, 0] (stored (axStripe x3 x8 x9 x10 x5 (wide256 x0 x1 (View.ld x2 r0_8)))) slices_S1024x256_o0_0_S1024x128 := by
  unfold_out out0_15
  exact View.canon_cons_unit_lit _ _ _ (fun a => by fin_cases a <;> rfl)
/-- and its values the other half of the product. -/
theorem out16_eq : out0_16 x0 x1 x2 x3 x4 x5 x6 x7 x8 x9 x10 x11 x12 x13
    = k0_pay25 (k0_pay6 (View.ld x0 r0_0) (View.ld x1 r0_1)) (k0_pay7 (View.ld x0 r0_0)) (View.ld x2 r0_8) := by
  unfold_out out0_16
  exact View.canon_cons_unit_lit _ _ _ (fun a => by fin_cases a <;> rfl)
/-- The second branch's queries are two stripes, -/
theorem out17_eq : out0_17 x0 x1 x2 x3 x4 x5 x6 x7 x8 x9 x10 x11 x12 x13 = View.canon
    [⟨r0_7, stored (scaled (posStripe x3 x11 x12 x13 x6 (hi x0 x1 (View.ld x2 r0_11))))⟩, ⟨r0_6, stored (scaled (posStripe x3 x11 x12 x13 x6 (lo x0 x1 (View.ld x2 r0_11))))⟩] := by
  unfold_out out0_17
  rfl
/-- and so are its keys. -/
theorem out18_eq : out0_18 x0 x1 x2 x3 x4 x5 x6 x7 x8 x9 x10 x11 x12 x13 = View.canon
    [⟨r0_7, stored (posStripe x3 x11 x12 x13 x7 (hi x0 x1 (View.ld x2 r0_12)))⟩, ⟨r0_6, stored (posStripe x3 x11 x12 x13 x7 (lo x0 x1 (View.ld x2 r0_12)))⟩] := by
  unfold_out out0_18
  rfl
/-- Its values are one store, -/
theorem out19_eq : out0_19 x0 x1 x2 x3 x4 x5 x6 x7 x8 x9 x10 x11 x12 x13
    = k0_pay43 (k0_pay6 (View.ld x0 r0_0) (View.ld x1 r0_1)) (k0_pay7 (View.ld x0 r0_0)) (View.ld x2 r0_13) := by
  unfold_out out0_19
  exact View.canon_cons_unit_lit _ _ _ (fun a => by fin_cases a <;> rfl)
/-- and so is the gate. -/
theorem out20_eq : out0_20 x0 x1 x2 x3 x4 x5 x6 x7 x8 x9 x10 x11 x12 x13
    = k0_pay4 (k0_pay6 (View.ld x0 r0_0) (View.ld x1 r0_1)) (k0_pay7 (View.ld x0 r0_0)) (View.ld x2 r0_19) := by
  unfold_out out0_20
  exact View.canon_cons_unit_lit _ _ _ (fun a => by fin_cases a <;> rfl)

end Pieces
end Terms

theorem headAxial_apply (c sa sb : FVec Ideal S1024x256 .f32) (z : FVec Ideal S1024x256 .f32) (r : Fin 1024) (q : Fin 256) :
    headAxial c sa sb z (ix2 r q) = z (ix2 r q) * c (ix2 r q) + z (ix2 r ⟨(q.val + 256 - 240) % 256, by omega⟩) * sa (ix2 r q)
      + z (ix2 r ⟨(q.val + 256 - 16) % 256, by omega⟩) * sb (ix2 r q) := by
  pointwise [headAxial]

theorem gain4_apply (t : Vec Ideal S1x128 .f32) (q : Fin 256) : gain4 t (ix2 0 q) = t (ix2 0 ⟨q.val % 128, by omega⟩) := pay10_apply t q
theorem tab9_apply (t : Vec Ideal S1024x128 .f32) (r : Fin 1024) (q : Fin 256) : k0_pay9 t (ix2 r q) = t (ix2 r ⟨q.val % 128, by omega⟩) := pay7_apply t r q
theorem tab10_apply (t : Vec Ideal S1024x128 .f32) (r : Fin 1024) (q : Fin 256) : k0_pay10 t (ix2 r q) = t (ix2 r ⟨q.val % 128, by omega⟩) := pay7_apply t r q
theorem tab11_apply (t : Vec Ideal S1024x128 .f32) (r : Fin 1024) (q : Fin 256) : k0_pay11 t (ix2 r q) = t (ix2 r ⟨q.val % 128, by omega⟩) := pay7_apply t r q
theorem tab12_apply (t : Vec Ideal S1024x128 .f32) (r : Fin 1024) (q : Fin 256) : k0_pay12 t (ix2 r q) = t (ix2 r ⟨q.val % 128, by omega⟩) := pay7_apply t r q
theorem tab13_apply (t : Vec Ideal S1024x128 .f32) (r : Fin 1024) (q : Fin 256) : k0_pay13 t (ix2 r q) = t (ix2 r ⟨q.val % 128, by omega⟩) := pay7_apply t r q
theorem tab14_apply (t : Vec Ideal S1024x128 .f32) (r : Fin 1024) (q : Fin 256) : k0_pay14 t (ix2 r q) = t (ix2 r ⟨q.val % 128, by omega⟩) := pay7_apply t r q
theorem mean8_apply (t : Vec Ideal S256x256 .bf16) (i j : Fin 256) : k0_pay8 t (ix2 i j) = t (ix2 i j) := by pointwise [k0_pay8]

theorem ldx (x : Vec Ideal S1024x1024 .f32) : View.ld x r0_0 = x := View.ld_unit_lit _ _ (fun a => by fin_cases a <;> rfl)
theorem ldg (x : Vec Ideal S1x1024 .f32) : View.ld x r0_1 = x := View.ld_unit_lit _ _ (fun a => by fin_cases a <;> rfl)
theorem ldmean (x : Vec Ideal S256x256 .bf16) : View.ld x r0_2 = x := View.ld_unit_lit _ _ (fun a => by fin_cases a <;> rfl)
theorem ldtab (x : Vec Ideal S1024x128 .f32) : View.ld x r0_3 = x := View.ld_unit_lit _ _ (fun a => by fin_cases a <;> rfl)
theorem ldgain (x : Vec Ideal S1x128 .f32) : View.ld x r0_5 = x := View.ld_unit_lit _ _ (fun a => by fin_cases a <;> rfl)

/-- The axial rotary of a stripe, from tables of cosines and signed sines, is the axial rotary of each head. -/
theorem headAxial_head (c sa sb : FVec Ideal S1024x256 .f32) (y : FVec Ideal S1024x256 .f32) (r : Fin 1024) (s : ℕ) (q : Fin 256)
    (hc : c (ix2 r q) = Ideal.cos (axAng s (q.val % 64)))
    (ha : sa (ix2 r q) = if q.val % 32 < 16 then -Ideal.sin (axAng s (q.val % 64)) else 0)
    (hb : sb (ix2 r q) = if q.val % 32 < 16 then 0 else Ideal.sin (axAng s (q.val % 64))) :
    headAxial c sa sb y (ix2 r q) = axialAt (fun d => y (ix2 r (lane q d))) s ⟨q.val % 64, by omega⟩ := by
  have hq : lane q ⟨q.val % 64, by omega⟩ = q := Fin.ext (by simp only [lane]; omega)
  rw [headAxial_apply, hc, ha, hb]
  unfold axialAt
  dsimp only
  rw [hq]
  by_cases h : q.val % 32 < 16
  · have e : (⟨(q.val + 256 - 240) % 256, by omega⟩ : Fin 256) = lane q ⟨q.val % 64 + 16, by omega⟩ := Fin.ext (by simp only [lane]; omega)
    rw [if_pos h, if_pos h, dif_pos (by omega), mul_zero, add_zero, e, mul_neg, neg_mul]
  · have e : (⟨(q.val + 256 - 16) % 256, by omega⟩ : Fin 256) = lane q ⟨q.val % 64 - 16, by omega⟩ := Fin.ext (by simp only [lane]; omega)
    rw [if_neg h, if_neg h, dif_neg (by omega), mul_zero, add_zero, e]

/-- A column of the weights by its number, -/
def cl (n : ℕ) : Fin 3328 := ⟨n % 3328, Nat.mod_lt _ (by norm_num)⟩
/-- and the product of a row with it. -/
def colAt (x0 : Vec Ideal S1024x1024 .f32) (x1 : Vec Ideal S1x1024 .f32) (x2 : Vec Ideal S1024x3328 .bf16) (r : Fin 1024) (n : ℕ) : EReal :=
  projAt (fun k => x0 (ix2 r k)) (fun k => x1 (ix2 0 k)) (fun k => x2 (ix2 k (cl n)))

section Reads

variable (x0 : Vec Ideal S1024x1024 .f32) (x1 : Vec Ideal S1x1024 .f32) (x2 : Vec Ideal S1024x3328 .bf16) (x3 : Vec Ideal S256x256 .bf16) (x4 x5 x6 x7 : Vec Ideal S1x128 .f32) (x8 x9 x10 x11 x12 x13 : Vec Ideal S1024x128 .f32)

theorem ld4 (k : Fin 1024) (q : Fin 512) : View.ld x2 r0_4 (ix2 k q) = x2 (ix2 k (cl (0 + q.val))) :=
  View.ld_unit_apply_of _ _ _ _ _ _ (fun a => by fin_cases a <;> simp [cl] <;> omega)
theorem ld8 (k : Fin 1024) (q : Fin 256) : View.ld x2 r0_8 (ix2 k q) = x2 (ix2 k (cl (512 + q.val))) :=
  View.ld_unit_apply_of _ _ _ _ _ _ (fun a => by fin_cases a <;> simp [cl] <;> omega)
theorem ld11 (k : Fin 1024) (q : Fin 512) : View.ld x2 r0_11 (ix2 k q) = x2 (ix2 k (cl (768 + q.val))) :=
  View.ld_unit_apply_of _ _ _ _ _ _ (fun a => by fin_cases a <;> simp [cl] <;> omega)
theorem ld12 (k : Fin 1024) (q : Fin 512) : View.ld x2 r0_12 (ix2 k q) = x2 (ix2 k (cl (1280 + q.val))) :=
  View.ld_unit_apply_of _ _ _ _ _ _ (fun a => by fin_cases a <;> simp [cl] <;> omega)
theorem ld13 (k : Fin 1024) (q : Fin 512) : View.ld x2 r0_13 (ix2 k q) = x2 (ix2 k (cl (1792 + q.val))) :=
  View.ld_unit_apply_of _ _ _ _ _ _ (fun a => by fin_cases a <;> simp [cl] <;> omega)
theorem ld19 (k : Fin 1024) (q : Fin 1024) : View.ld x2 r0_19 (ix2 k q) = x2 (ix2 k (cl (2304 + q.val))) :=
  View.ld_unit_apply_of _ _ _ _ _ _ (fun a => by fin_cases a <;> simp [cl] <;> omega)

/-- The halves of a stripe of 512 columns from column `o`, at an element, -/
theorem lo_apply (w : Vec Ideal S1024x512 .bf16) (o : ℕ) (hw : ∀ k q, w (ix2 k q) = x2 (ix2 k (cl (o + q.val)))) (r : Fin 1024) (q : Fin 256) :
    lo x0 x1 w (ix2 r q) = colAt x0 x1 x2 r (o + q.val) := by
  unfold lo wide512 colAt
  rw [ldx, ldg]
  refine (half0_apply x0 x1 w r q).trans ?_
  simp only [hw, Nat.zero_add]
theorem hi_apply (w : Vec Ideal S1024x512 .bf16) (o : ℕ) (hw : ∀ k q, w (ix2 k q) = x2 (ix2 k (cl (o + q.val)))) (r : Fin 1024) (q : Fin 256) :
    hi x0 x1 w (ix2 r q) = colAt x0 x1 x2 r (o + (256 + q.val)) := by
  unfold hi wide512 colAt
  rw [ldx, ldg]
  refine (half256_apply x0 x1 w r q).trans ?_
  simp only [hw]
/-- and a stripe of 256. -/
theorem wide256_apply (w : Vec Ideal S1024x256 .bf16) (o : ℕ) (hw : ∀ k q, w (ix2 k q) = x2 (ix2 k (cl (o + q.val)))) (r : Fin 1024) (q : Fin 256) :
    wide256 x0 x1 w (ix2 r q) = colAt x0 x1 x2 r (o + q.val) := by
  have e : wide256 x0 x1 w (ix2 r q) = projAt (fun k => x0 (ix2 r k)) (fun k => x1 (ix2 0 k)) (fun k => w (ix2 k q)) := by
    unfold wide256 projAt
    rw [ldx, ldg]
    pointwise [k0_pay22, k0_pay5, k0_pay6, k0_pay7]
  rw [e]
  simp only [hw, colAt]

/-- The norm and the axial rotary of a stripe, head by head, -/
theorem axStripe_apply (z : FVec Ideal S1024x256 .f32) (gt : Vec Ideal S1x128 .f32) (g : Fin 64 → EReal) (r : Fin 1024) (s : ℕ)
    (h3 : ∀ i j : Fin 256, x3 (ix2 i j) = if i.val / 64 = j.val / 64 then Ideal.ofBits .f32 1015021568#32 else 0)
    (hg : ∀ q : Fin 128, gt (ix2 0 q) = g ⟨q.val % 64, by omega⟩)
    (h8 : ∀ q : Fin 128, x8 (ix2 r q) = Ideal.cos (axAng s (q.val % 64)))
    (h9 : ∀ q : Fin 128, x9 (ix2 r q) = if q.val % 32 < 16 then -Ideal.sin (axAng s (q.val % 64)) else 0)
    (h10 : ∀ q : Fin 128, x10 (ix2 r q) = if q.val % 32 < 16 then 0 else Ideal.sin (axAng s (q.val % 64))) (q : Fin 256) :
    axStripe x3 x8 x9 x10 gt z (ix2 r q) = axialAt (normAt (fun d => z (ix2 r (lane q d))) g) s ⟨q.val % 64, by omega⟩ := by
  unfold axStripe
  simp only [ldmean, ldtab, ldgain]
  rw [headAxial_head _ _ _ _ r s q]
  · congr 1
    funext d
    rw [headNorm_head _ _ z g (fun i j => (mean8_apply x3 i j).trans (h3 i j)) (fun q => by
      rw [gain4_apply, hg]; congr 1; exact Fin.ext (by dsimp only; omega))]
    have hd : (lane q d).val / 64 = q.val / 64 := by simp only [lane]; omega
    have hm : (⟨(lane q d).val % 64, by omega⟩ : Fin 64) = d := Fin.ext (by simp only [lane]; omega)
    rw [hm]
    congr 1
    funext d'
    congr 2
    exact Fin.ext (by simp only [lane] at hd ⊢; omega)
  · rw [tab9_apply, h8]; dsimp only; congr 2; omega
  · rw [tab10_apply, h9]; dsimp only; rw [show q.val % 128 % 32 = q.val % 32 by omega, show q.val % 128 % 64 = q.val % 64 by omega]
  · rw [tab11_apply, h10]; dsimp only; rw [show q.val % 128 % 32 = q.val % 32 by omega, show q.val % 128 % 64 = q.val % 64 by omega]

/-- and the norm and the rotary along the positions. -/
theorem posStripe_apply (z : FVec Ideal S1024x256 .f32) (gt : Vec Ideal S1x128 .f32) (g : Fin 64 → EReal) (r : Fin 1024) (s : ℕ)
    (h3 : ∀ i j : Fin 256, x3 (ix2 i j) = if i.val / 64 = j.val / 64 then Ideal.ofBits .f32 1015021568#32 else 0)
    (hg : ∀ q : Fin 128, gt (ix2 0 q) = g ⟨q.val % 64, by omega⟩)
    (h11 : ∀ q : Fin 128, x11 (ix2 r q) = if h : q.val % 64 < 16 then Ideal.cos (ang s ⟨q.val % 64, h⟩) else 1)
    (h12 : ∀ q : Fin 128, x12 (ix2 r q) = if h : q.val % 64 < 8 then -Ideal.sin (ang s ⟨q.val % 64, by omega⟩) else 0)
    (h13 : ∀ q : Fin 128, x13 (ix2 r q) = if h : 8 ≤ q.val % 64 ∧ q.val % 64 < 16 then Ideal.sin (ang s ⟨q.val % 64, h.2⟩) else 0) (q : Fin 256) :
    posStripe x3 x11 x12 x13 gt z (ix2 r q) = ropeAt (normAt (fun d => z (ix2 r (lane q d))) g) s ⟨q.val % 64, by omega⟩ := by
  have e64 : q.val % 128 % 64 = q.val % 64 := by omega
  unfold posStripe
  simp only [ldmean, ldtab, ldgain]
  rw [headRope_head _ _ _ _ r s q]
  · congr 1
    funext d
    rw [headNorm_head _ _ z g (fun i j => (mean8_apply x3 i j).trans (h3 i j)) (fun q => by
      rw [gain4_apply, hg]; congr 1; exact Fin.ext (by dsimp only; omega))]
    have hd : (lane q d).val / 64 = q.val / 64 := by simp only [lane]; omega
    have hm : (⟨(lane q d).val % 64, by omega⟩ : Fin 64) = d := Fin.ext (by simp only [lane]; omega)
    rw [hm]
    congr 1
    funext d'
    congr 2
    exact Fin.ext (by simp only [lane] at hd ⊢; omega)
  · rw [tab12_apply, h11]; simp only [e64]
  · rw [tab13_apply, h12]; simp only [e64]
  · rw [tab14_apply, h13]; simp only [e64]

theorem cases2 {n k : ℕ} (i : (⟨2, ![n, k]⟩ : Shape).Idx) : ∃ (r : Fin n) (q : Fin k), i = ix2 r q :=
  ⟨i 0, i 1, funext fun a => by fin_cases a <;> rfl⟩
/-- A block of two stripes is read in the one that holds the column. -/
theorem canon2 (y1 y0 : FVec Ideal S1024x256 .bf16) (r : Fin 1024) (col : Fin 512) (v : EReal)
    (H1 : ∀ q : Fin 256, col.val = 256 + q.val → y1 (ix2 r q) = v) (H0 : ∀ q : Fin 256, col.val = q.val → y0 (ix2 r q) = v) :
    (View.canon (Val := Elt Ideal) [⟨r0_7, y1⟩, ⟨r0_6, y0⟩] : Vec Ideal S1024x512 .bf16) (ix2 r col) = v := by
  canon_tiles x h
  · obtain ⟨a, b, rfl⟩ := cases2 x
    obtain rfl : a = r := Fin.ext (by simpa using h0.symm)
    exact H1 b (by simpa using h1)
  · obtain ⟨a, b, rfl⟩ := cases2 x
    obtain rfl : a = r := Fin.ext (by simpa using h0.symm)
    exact H0 b (by simpa using h1)

/-- The products of a row with the columns of head `h` of the stripe from column `o`. -/
def headCols (o : ℕ) (r : Fin 1024) (h : ℕ) (d : Fin 64) : EReal := colAt x0 x1 x2 r (o + (64 * h + d.val))

section Blocks

variable (r : Fin 1024) (s : ℕ) (g : Fin 64 → EReal)
  (h3 : ∀ i j : Fin 256, x3 (ix2 i j) = if i.val / 64 = j.val / 64 then Ideal.ofBits .f32 1015021568#32 else 0)

section Axial

variable (h8 : ∀ q : Fin 128, x8 (ix2 r q) = Ideal.cos (axAng s (q.val % 64)))
  (h9 : ∀ q : Fin 128, x9 (ix2 r q) = if q.val % 32 < 16 then -Ideal.sin (axAng s (q.val % 64)) else 0)
  (h10 : ∀ q : Fin 128, x10 (ix2 r q) = if q.val % 32 < 16 then 0 else Ideal.sin (axAng s (q.val % 64)))

include h3 h8 h9 h10

/-- The block of the first branch's queries at an element, -/
theorem out14_apply (h4 : ∀ q : Fin 128, x4 (ix2 0 q) = g ⟨q.val % 64, by omega⟩) (col : Fin 512) :
    out0_14 x0 x1 x2 x3 x4 x5 x6 x7 x8 x9 x10 x11 x12 x13 (ix2 r col)
      = axialAt (normAt (headCols x0 x1 x2 0 r (col.val / 64)) g) s ⟨col.val % 64, by omega⟩ * Ideal.ofBits .f32 0x3E000000#32 := by
  rw [out14_eq]
  refine canon2 _ _ _ _ _ (fun q hq => ?_) (fun q hq => ?_)
  · refine congrArg (· * Ideal.ofBits .f32 0x3E000000#32) ((axStripe_apply x3 x8 x9 x10 _ x4 g r s h3 h4 h8 h9 h10 q).trans ?_)
    have e1 : (⟨q.val % 64, by omega⟩ : Fin 64) = ⟨col.val % 64, by omega⟩ := Fin.ext (by dsimp only; omega)
    rw [e1]
    refine congrArg (fun y => axialAt (normAt y g) s _) (funext fun d => ?_)
    rw [hi_apply x0 x1 x2 _ 0 (ld4 x2)]
    exact congrArg (colAt x0 x1 x2 r) (by simp only [lane]; omega)
  · refine congrArg (· * Ideal.ofBits .f32 0x3E000000#32) ((axStripe_apply x3 x8 x9 x10 _ x4 g r s h3 h4 h8 h9 h10 q).trans ?_)
    have e1 : (⟨q.val % 64, by omega⟩ : Fin 64) = ⟨col.val % 64, by omega⟩ := Fin.ext (by dsimp only; omega)
    rw [e1]
    refine congrArg (fun y => axialAt (normAt y g) s _) (funext fun d => ?_)
    rw [lo_apply x0 x1 x2 _ 0 (ld4 x2)]
    exact congrArg (colAt x0 x1 x2 r) (by simp only [lane]; omega)
/-- and that of its keys. -/
theorem out15_apply (h5 : ∀ q : Fin 128, x5 (ix2 0 q) = g ⟨q.val % 64, by omega⟩) (col : Fin 128) :
    out0_15 x0 x1 x2 x3 x4 x5 x6 x7 x8 x9 x10 x11 x12 x13 (ix2 r col)
      = axialAt (normAt (headCols x0 x1 x2 512 r (col.val / 64)) g) s ⟨col.val % 64, by omega⟩ := by
  rw [out15_eq]
  have e0 : ∀ y : FVec Ideal S1024x256 .bf16, extractStridedSlice S1024x128 ![0, 0] y slices_S1024x256_o0_0_S1024x128 (ix2 r col)
      = y (ix2 r ⟨col.val, by omega⟩) := fun y => by
    have e : extractStridedSlice S1024x128 ![0, 0] y slices_S1024x256_o0_0_S1024x128 (ix2 r col) = y (ix2 r ⟨0 + col.val, by omega⟩) := by pointwise
    rw [e]; congr 2; exact Fin.ext (by dsimp only; omega)
  rw [e0]
  refine (axStripe_apply x3 x8 x9 x10 _ x5 g r s h3 h5 h8 h9 h10 ⟨col.val, by omega⟩).trans ?_
  refine congrArg (fun y => axialAt (normAt y g) s _) (funext fun d => ?_)
  rw [wide256_apply x0 x1 x2 _ 512 (ld8 x2)]
  exact congrArg (colAt x0 x1 x2 r) (by simp only [lane])

end Axial
section Along

variable (h11 : ∀ q : Fin 128, x11 (ix2 r q) = if h : q.val % 64 < 16 then Ideal.cos (ang s ⟨q.val % 64, h⟩) else 1)
  (h12 : ∀ q : Fin 128, x12 (ix2 r q) = if h : q.val % 64 < 8 then -Ideal.sin (ang s ⟨q.val % 64, by omega⟩) else 0)
  (h13 : ∀ q : Fin 128, x13 (ix2 r q) = if h : 8 ≤ q.val % 64 ∧ q.val % 64 < 16 then Ideal.sin (ang s ⟨q.val % 64, h.2⟩) else 0)

include h3 h11 h12 h13

/-- The block of the second branch's queries at an element, -/
theorem out17_apply (h6 : ∀ q : Fin 128, x6 (ix2 0 q) = g ⟨q.val % 64, by omega⟩) (col : Fin 512) :
    out0_17 x0 x1 x2 x3 x4 x5 x6 x7 x8 x9 x10 x11 x12 x13 (ix2 r col)
      = ropeAt (normAt (headCols x0 x1 x2 768 r (col.val / 64)) g) s ⟨col.val % 64, by omega⟩ * Ideal.ofBits .f32 0x3E000000#32 := by
  rw [out17_eq]
  refine canon2 _ _ _ _ _ (fun q hq => ?_) (fun q hq => ?_)
  · refine congrArg (· * Ideal.ofBits .f32 0x3E000000#32) ((posStripe_apply x3 x11 x12 x13 _ x6 g r s h3 h6 h11 h12 h13 q).trans ?_)
    have e1 : (⟨q.val % 64, by omega⟩ : Fin 64) = ⟨col.val % 64, by omega⟩ := Fin.ext (by dsimp only; omega)
    rw [e1]
    refine congrArg (fun y => ropeAt (normAt y g) s _) (funext fun d => ?_)
    rw [hi_apply x0 x1 x2 _ 768 (ld11 x2)]
    exact congrArg (colAt x0 x1 x2 r) (by simp only [lane]; omega)
  · refine congrArg (· * Ideal.ofBits .f32 0x3E000000#32) ((posStripe_apply x3 x11 x12 x13 _ x6 g r s h3 h6 h11 h12 h13 q).trans ?_)
    have e1 : (⟨q.val % 64, by omega⟩ : Fin 64) = ⟨col.val % 64, by omega⟩ := Fin.ext (by dsimp only; omega)
    rw [e1]
    refine congrArg (fun y => ropeAt (normAt y g) s _) (funext fun d => ?_)
    rw [lo_apply x0 x1 x2 _ 768 (ld11 x2)]
    exact congrArg (colAt x0 x1 x2 r) (by simp only [lane]; omega)
/-- and that of its keys. -/
theorem out18_apply (h7 : ∀ q : Fin 128, x7 (ix2 0 q) = g ⟨q.val % 64, by omega⟩) (col : Fin 512) :
    out0_18 x0 x1 x2 x3 x4 x5 x6 x7 x8 x9 x10 x11 x12 x13 (ix2 r col)
      = ropeAt (normAt (headCols x0 x1 x2 1280 r (col.val / 64)) g) s ⟨col.val % 64, by omega⟩ := by
  rw [out18_eq]
  refine canon2 _ _ _ _ _ (fun q hq => ?_) (fun q hq => ?_)
  · refine (posStripe_apply x3 x11 x12 x13 _ x7 g r s h3 h7 h11 h12 h13 q).trans ?_
    have e1 : (⟨q.val % 64, by omega⟩ : Fin 64) = ⟨col.val % 64, by omega⟩ := Fin.ext (by dsimp only; omega)
    rw [e1]
    refine congrArg (fun y => ropeAt (normAt y g) s _) (funext fun d => ?_)
    rw [hi_apply x0 x1 x2 _ 1280 (ld12 x2)]
    exact congrArg (colAt x0 x1 x2 r) (by simp only [lane]; omega)
  · refine (posStripe_apply x3 x11 x12 x13 _ x7 g r s h3 h7 h11 h12 h13 q).trans ?_
    have e1 : (⟨q.val % 64, by omega⟩ : Fin 64) = ⟨col.val % 64, by omega⟩ := Fin.ext (by dsimp only; omega)
    rw [e1]
    refine congrArg (fun y => ropeAt (normAt y g) s _) (funext fun d => ?_)
    rw [lo_apply x0 x1 x2 _ 1280 (ld12 x2)]
    exact congrArg (colAt x0 x1 x2 r) (by simp only [lane]; omega)

end Along

/-- The blocks of the values, -/
theorem out16_apply (col : Fin 128) :
    out0_16 x0 x1 x2 x3 x4 x5 x6 x7 x8 x9 x10 x11 x12 x13 (ix2 r col) = colAt x0 x1 x2 r (640 + col.val) := by
  have e : ∀ w : Vec Ideal S1024x256 .bf16, k0_pay25 (k0_pay6 x0 x1) (k0_pay7 x0) w (ix2 r col)
      = projAt (fun k => x0 (ix2 r k)) (fun k => x1 (ix2 0 k)) (fun k => w (ix2 k ⟨128 + col.val, by omega⟩)) := fun w => by
    unfold projAt
    pointwise [k0_pay25, k0_pay24, k0_pay22, k0_pay5, k0_pay6, k0_pay7]
  rw [out16_eq, ldx, ldg, e]
  refine congrArg (projAt _ _) (funext fun k => ?_)
  rw [ld8]
  exact congrArg (fun n => x2 (ix2 k (cl n))) (by dsimp only; omega)
theorem out19_apply (col : Fin 512) :
    out0_19 x0 x1 x2 x3 x4 x5 x6 x7 x8 x9 x10 x11 x12 x13 (ix2 r col) = colAt x0 x1 x2 r (1792 + col.val) := by
  have e : ∀ w : Vec Ideal S1024x512 .bf16, k0_pay43 (k0_pay6 x0 x1) (k0_pay7 x0) w (ix2 r col)
      = projAt (fun k => x0 (ix2 r k)) (fun k => x1 (ix2 0 k)) (fun k => w (ix2 k col)) := fun w => by
    unfold projAt
    pointwise [k0_pay43, k0_pay42, k0_pay5, k0_pay6, k0_pay7]
  rw [out19_eq, ldx, ldg]
  exact (e _).trans (congrArg (projAt _ _) (funext fun k => ld13 x2 k col))
/-- and of the gate. -/
theorem out20_apply (col : Fin 1024) :
    out0_20 x0 x1 x2 x3 x4 x5 x6 x7 x8 x9 x10 x11 x12 x13 (ix2 r col)
      = colAt x0 x1 x2 r (2304 + col.val) * Ideal.logistic (colAt x0 x1 x2 r (2304 + col.val)) := by
  have e : ∀ w : Vec Ideal S1024x1024 .bf16, k0_pay4 (k0_pay6 x0 x1) (k0_pay7 x0) w (ix2 r col)
      = projAt (fun k => x0 (ix2 r k)) (fun k => x1 (ix2 0 k)) (fun k => w (ix2 k col))
        * Ideal.logistic (projAt (fun k => x0 (ix2 r k)) (fun k => x1 (ix2 0 k)) (fun k => w (ix2 k col))) := fun w => by
    unfold projAt
    pointwise [k0_pay4, k0_pay5, k0_pay6, k0_pay7]
  rw [out20_eq, ldx, ldg]
  exact (e _).trans (congrArg (fun f => projAt _ _ f * Ideal.logistic (projAt _ _ f)) (funext fun k => ld19 x2 k col))

end Blocks
end Reads

end Cert.Proof.Even

end
-- ==== Proof.EvenHost.lean ====
/-
  What the host prepares for the input projection of the even layer, read at an element: the rows, the gains, the weights,
  the matrix of head means, and the tables of cosines and signed sines of the two rotaries. The host's line of operations is
  long; the tables are read one stretch of it at a time.
-/
module

public import proofs.«01_k».proof.Proof.Gen.Kernel4Ideal.Value
public import proofs.«01_k».proof.Proof.ProjTables
public import proofs.«01_k».proof.Proof.EvenMath
public import Idealize.ShloMosaic.Lib.Pointwise
public import Idealize.ShloMosaic.Lib.StableHlo.Run

@[expose] public section

noncomputable section

namespace Cert.Proof.Even

open Cert.Kernel4Ideal Cert.Kernel4Ideal.Gen
open Cert.Proof.Proj (gainRow meanMat angs pad cosT sinT sinA sinB two sinAOf two_apply cosT_apply sinA_apply sinB_apply gainRow_apply meanMat_apply)
open Idealize.ShloMosaic
open Idealize.ShloMosaic.TcCoe Idealize.ShloMosaic.StableHlo

section Terms

variable {F : FTy → Type} [FloatOps F]

/-- The row of every position, its floor of a sixty-fourth, -/
def rowT : FVec F S4096 .f32 :=
  Host.floor (Host.divf (sitofp .f32 (iotaInDim S4096 32 0)) (broadcastInDim S4096 ![] bcast_S_S4096 (constant S_ .f32 0x42800000#32)))
/-- and its column, what is left. -/
def colT : FVec F S4096 .f32 :=
  subf (sitofp .f32 (iotaInDim S4096 32 0)) (mulf rowT (broadcastInDim S4096 ![] bcast_S_S4096 (constant S_ .f32 0x42800000#32)))
/-- The axial frequencies, -/
def freqT : FVec F S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))
/-- the angles of rows or of columns, on half a head's lanes, -/
def halfT (p : FVec F S4096 .f32) : FVec F S4096x32 .f32 :=
  let a : FVec F S4096x16 .f32 := mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 freqT))
  concatenate S4096x32 1 [⟨S4096x16, a⟩, ⟨S4096x16, a⟩] concatenates_S4096x16_S4096x16_S4096x32_d1
/-- and both halves. -/
def angT : FVec F S4096x64 .f32 :=
  concatenate S4096x64 1 [⟨S4096x32, (halfT rowT : FVec F S4096x32 .f32)⟩, ⟨S4096x32, (halfT colT : FVec F S4096x32 .f32)⟩] concatenates_S4096x32_S4096x32_S4096x64_d1
/-- A lane's place in its half, -/
def remOf (i : IVec S64 32) (d : IVec S_ 32) : IVec S64 32 :=
  let n : IVec S_ 32 := select (cmpi .eq d (constantI S_ 32 0#32)) (constantI S_ 32 1#32) d
  let r : IVec S64 32 := Host.remsi i (broadcastInDim S64 ![] bcast_S_S64 n)
  select (andi (cmpi .ne (cmpi .slt r (broadcastInDim S64 ![] bcast_S_S64 (constantI S_ 32 0#32)))
      (broadcastInDim S64 ![] bcast_S_S64 (cmpi .slt n (constantI S_ 32 0#32))))
      (cmpi .ne r (broadcastInDim S64 ![] bcast_S_S64 (constantI S_ 32 0#32))))
    (addi r (broadcastInDim S64 ![] bcast_S_S64 n)) r
/-- and whether it is in the half's first sixteen. -/
def firstOf (l : IVec S64 32) : IVec S64 1 := cmpi .slt l (broadcastInDim S64 ![] bcast_S_S64 (constantI S_ 32 16#32))
def firstT : IVec S64 1 := firstOf (remOf (iotaInDim S64 32 0) (constantI S_ 32 32#32))
/-- Zeros on some lanes and a table on the others, -/
def sinBOf (l : IVec S1x64 1) (z : FVec F S_ .f32) (t : FVec F S4096x64 .f32) : FVec F S4096x64 .f32 :=
  select (broadcastInDim S4096x64 ![0, 1] bcast_S1x64_S4096x64_0_1 l) (broadcastInDim S4096x64 ![] bcast_S_S4096x64 z) t
/-- the axial table of minus sines, -/
def axSinA : FVec F S4096x64 .f32 :=
  sinAOf (broadcastInDim S1x64 ![1] bcast_S64_S1x64_1 firstT) (Host.negf (Host.sin (angT : FVec F S4096x64 .f32))) (constant S_ .f32 0x00000000#32 : FVec F S_ .f32)
/-- and that of sines. -/
def axSinB : FVec F S4096x64 .f32 :=
  sinBOf (broadcastInDim S1x64 ![1] bcast_S64_S1x64_1 firstT) (constant S_ .f32 0x00000000#32 : FVec F S_ .f32) (Host.sin (angT : FVec F S4096x64 .f32))

theorem cat64 {a a' b b' : FVec F S4096x32 .f32} (ha : a = a') (hb : b = b') :
    concatenate (α := F .f32) S4096x64 1 [⟨S4096x32, a⟩, ⟨S4096x32, b⟩] concatenates_S4096x32_S4096x32_S4096x64_d1
      = concatenate S4096x64 1 [⟨S4096x32, a'⟩, ⟨S4096x32, b'⟩] concatenates_S4096x32_S4096x32_S4096x64_d1 := by rw [ha, hb]
theorem cat32 {a a' : FVec F S4096x16 .f32} (ha : a = a') :
    concatenate (α := F .f32) S4096x32 1 [⟨S4096x16, a⟩, ⟨S4096x16, a⟩] concatenates_S4096x16_S4096x16_S4096x32_d1
      = concatenate S4096x32 1 [⟨S4096x16, a'⟩, ⟨S4096x16, a'⟩] concatenates_S4096x16_S4096x16_S4096x32_d1 := by rw [ha]

section Stretches

variable (X : Idealize.ShloMosaic.Valuation τ sig (Elt F))

theorem line6_v44 : StableHlo.upto hostOps0_6 X 51 (Proc.devRef .tc main_v44) = (halfT rowT : FVec F S4096x32 .f32) := by
  after_reads_simp
  unfold halfT
  refine cat32 ?_
  after_reads_simp
  rfl
theorem line6_v60 : StableHlo.upto hostOps0_6 X 51 (Proc.devRef .tc main_v60) = (halfT colT : FVec F S4096x32 .f32) := by
  after_reads_simp
  unfold halfT
  refine cat32 ?_
  after_reads_simp
  rfl
theorem line6_v61 : after hostOps0_6 X (Proc.devRef .tc main_v61) = (angT : FVec F S4096x64 .f32) := by
  after_reads_simp
  unfold angT
  exact cat64 (line6_v44 X) (line6_v60 X)
theorem line6_v22 : after hostOps0_6 X (Proc.devRef .tc main_v22) = iotaInDim S64 32 0 := by
  after_reads_simp
theorem line6_c_12 : after hostOps0_6 X (Proc.devRef .tc main_c_12) = constantI S_ 32 32#32 := by
  after_reads_simp
theorem line6_v20 : after hostOps0_6 X (Proc.devRef .tc main_v20) = (truncf .bf16 (X (Proc.devRef .tc main_v19) : FVec F S256x256 .f32) bitsLt_bf16_f32 : FVec F S256x256 .bf16) := by
  after_reads_simp
theorem line7_v62 : after hostOps0_7 X (Proc.devRef .tc main_v62) = remOf (X (Proc.devRef .tc main_v22)) (X (Proc.devRef .tc main_c_12)) := by
  after_reads_simp
  simp only [TRef.ofBuf_toBuf, id]
  unfold remOf
  dsimp only
  generalize X (Proc.devRef .tc main_v22) = a
  generalize X (Proc.devRef .tc main_c_12) = b
  rfl
theorem line7_v61 : after hostOps0_7 X (Proc.devRef .tc main_v61) = X (Proc.devRef .tc main_v61) := by
  after_reads_simp
theorem line8_v64 : after hostOps0_8 X (Proc.devRef .tc main_v64) = firstOf (X (Proc.devRef .tc main_v62)) := by
  after_reads_simp; rfl
theorem line8_v65 : after hostOps0_8 X (Proc.devRef .tc main_v65) = (Host.cos ((X (Proc.devRef .tc main_v61)) : FVec F S4096x64 .f32) : FVec F S4096x64 .f32) := by
  after_reads_simp
theorem line8_v66 : after hostOps0_8 X (Proc.devRef .tc main_v66) = broadcastInDim S1x64 ![1] bcast_S64_S1x64_1 (firstOf (X (Proc.devRef .tc main_v62))) := by
  after_reads_simp; rfl
theorem line8_v68 : after hostOps0_8 X (Proc.devRef .tc main_v68) = (Host.negf (Host.sin ((X (Proc.devRef .tc main_v61)) : FVec F S4096x64 .f32)) : FVec F S4096x64 .f32) := by
  after_reads_simp
theorem line8_cst_14 : after hostOps0_8 X (Proc.devRef .tc main_cst_14) = (constant S_ .f32 0x00000000#32 : FVec F S_ .f32) := by
  after_reads_simp
theorem line8_v61 : after hostOps0_8 X (Proc.devRef .tc main_v61) = X (Proc.devRef .tc main_v61) := by
  after_reads_simp
theorem line9_v69 : after hostOps0_9 X (Proc.devRef .tc main_v69) = sinAOf (F := F) (X (Proc.devRef .tc main_v66)) (X (Proc.devRef .tc main_v68)) (X (Proc.devRef .tc main_cst_14)) := by
  after_reads_simp; rfl
theorem line9_v61 : after hostOps0_9 X (Proc.devRef .tc main_v61) = X (Proc.devRef .tc main_v61) := by
  after_reads_simp
theorem line9_v64 : after hostOps0_9 X (Proc.devRef .tc main_v64) = X (Proc.devRef .tc main_v64) := by
  after_reads_simp
theorem line9_v65 : after hostOps0_9 X (Proc.devRef .tc main_v65) = X (Proc.devRef .tc main_v65) := by
  after_reads_simp
theorem line10_v70 : after hostOps0_10 X (Proc.devRef .tc main_v70) = broadcastInDim S1x64 ![1] bcast_S64_S1x64_1 ((X (Proc.devRef .tc main_v64)) : IVec S64 1) := by
  after_reads_simp
theorem line10_v71 : after hostOps0_10 X (Proc.devRef .tc main_v71) = (Host.sin ((X (Proc.devRef .tc main_v61)) : FVec F S4096x64 .f32) : FVec F S4096x64 .f32) := by
  after_reads_simp
theorem line10_cst_15 : after hostOps0_10 X (Proc.devRef .tc main_cst_15) = (constant S_ .f32 0x00000000#32 : FVec F S_ .f32) := by
  after_reads_simp
theorem line10_v65 : after hostOps0_10 X (Proc.devRef .tc main_v65) = X (Proc.devRef .tc main_v65) := by
  after_reads_simp
theorem line10_v69 : after hostOps0_10 X (Proc.devRef .tc main_v69) = X (Proc.devRef .tc main_v69) := by
  after_reads_simp
theorem line11_v72 : after hostOps0_11 X (Proc.devRef .tc main_v72) = sinBOf (F := F) (X (Proc.devRef .tc main_v70)) (X (Proc.devRef .tc main_cst_15)) (X (Proc.devRef .tc main_v71)) := by
  after_reads_simp; rfl
theorem line11_v65 : after hostOps0_11 X (Proc.devRef .tc main_v65) = X (Proc.devRef .tc main_v65) := by
  after_reads_simp
theorem line11_v69 : after hostOps0_11 X (Proc.devRef .tc main_v69) = X (Proc.devRef .tc main_v69) := by
  after_reads_simp
theorem line12_v73 : after hostOps0_12 X (Proc.devRef .tc main_v73) = two (F := F) (X (Proc.devRef .tc main_v65)) := by
  after_reads_simp; rfl
theorem line12_v74 : after hostOps0_12 X (Proc.devRef .tc main_v74) = two (F := F) (X (Proc.devRef .tc main_v69)) := by
  after_reads_simp; rfl
theorem line12_v75 : after hostOps0_12 X (Proc.devRef .tc main_v75) = two (F := F) (X (Proc.devRef .tc main_v72)) := by
  after_reads_simp; rfl
theorem line12_v98 : after hostOps0_12 X (Proc.devRef .tc main_v98) = (cosT : FVec F S4096x64 .f32) := by
  after_reads_simp; sl_kernel_rfl
theorem line12_v100 : after hostOps0_12 X (Proc.devRef .tc main_v100) = (sinT : FVec F S4096x64 .f32) := by
  after_reads_simp; sl_kernel_rfl
theorem line12_v109 : after hostOps0_12 X (Proc.devRef .tc main_v109) = Host.negf (sinT : FVec F S4096x64 .f32) := by
  after_reads_simp; sl_kernel_rfl
theorem line12_v108 : after hostOps0_12 X (Proc.devRef .tc main_v108) = broadcastInDim S1x64 ![1] bcast_S64_S1x64_1
      (cmpi .slt (iotaInDim S64 32 0) (broadcastInDim S64 ![] bcast_S_S64 (constantI S_ 32 8#32))) := by
  after_reads_simp
theorem line12_v107 : after hostOps0_12 X (Proc.devRef .tc main_v107) = andi (cmpi .sge (iotaInDim S64 32 0) (broadcastInDim S64 ![] bcast_S_S64 (constantI S_ 32 8#32)))
        (cmpi .slt (iotaInDim S64 32 0) (broadcastInDim S64 ![] bcast_S_S64 (constantI S_ 32 16#32))) := by
  after_reads_simp
theorem line12_cst_25 : after hostOps0_12 X (Proc.devRef .tc main_cst_25) = (constant S_ .f32 0x00000000#32 : FVec F S_ .f32) := by
  after_reads_simp
theorem line13_v110 : after hostOps0_13 X (Proc.devRef .tc main_v110) = sinAOf (F := F) (X (Proc.devRef .tc main_v108)) (X (Proc.devRef .tc main_v109)) (X (Proc.devRef .tc main_cst_25)) := by
  after_reads_simp; rfl
theorem line13_v73 : after hostOps0_13 X (Proc.devRef .tc main_v73) = X (Proc.devRef .tc main_v73) := by
  after_reads_simp
theorem line13_v74 : after hostOps0_13 X (Proc.devRef .tc main_v74) = X (Proc.devRef .tc main_v74) := by
  after_reads_simp
theorem line13_v75 : after hostOps0_13 X (Proc.devRef .tc main_v75) = X (Proc.devRef .tc main_v75) := by
  after_reads_simp
theorem line13_v98 : after hostOps0_13 X (Proc.devRef .tc main_v98) = X (Proc.devRef .tc main_v98) := by
  after_reads_simp
theorem line13_v100 : after hostOps0_13 X (Proc.devRef .tc main_v100) = X (Proc.devRef .tc main_v100) := by
  after_reads_simp
theorem line13_v107 : after hostOps0_13 X (Proc.devRef .tc main_v107) = X (Proc.devRef .tc main_v107) := by
  after_reads_simp
theorem line14_v111 : after hostOps0_14 X (Proc.devRef .tc main_v111) = broadcastInDim S1x64 ![1] bcast_S64_S1x64_1 ((X (Proc.devRef .tc main_v107)) : IVec S64 1) := by
  after_reads_simp
theorem line14_cst_26 : after hostOps0_14 X (Proc.devRef .tc main_cst_26) = (constant S_ .f32 0x00000000#32 : FVec F S_ .f32) := by
  after_reads_simp
theorem line14_v73 : after hostOps0_14 X (Proc.devRef .tc main_v73) = X (Proc.devRef .tc main_v73) := by
  after_reads_simp
theorem line14_v74 : after hostOps0_14 X (Proc.devRef .tc main_v74) = X (Proc.devRef .tc main_v74) := by
  after_reads_simp
theorem line14_v75 : after hostOps0_14 X (Proc.devRef .tc main_v75) = X (Proc.devRef .tc main_v75) := by
  after_reads_simp
theorem line14_v98 : after hostOps0_14 X (Proc.devRef .tc main_v98) = X (Proc.devRef .tc main_v98) := by
  after_reads_simp
theorem line14_v100 : after hostOps0_14 X (Proc.devRef .tc main_v100) = X (Proc.devRef .tc main_v100) := by
  after_reads_simp
theorem line14_v110 : after hostOps0_14 X (Proc.devRef .tc main_v110) = X (Proc.devRef .tc main_v110) := by
  after_reads_simp
theorem line15_v112 : after hostOps0_15 X (Proc.devRef .tc main_v112) = sinAOf (F := F) (X (Proc.devRef .tc main_v111)) (X (Proc.devRef .tc main_v100)) (X (Proc.devRef .tc main_cst_26)) := by
  after_reads_simp; rfl
theorem line15_v73 : after hostOps0_15 X (Proc.devRef .tc main_v73) = X (Proc.devRef .tc main_v73) := by
  after_reads_simp
theorem line15_v74 : after hostOps0_15 X (Proc.devRef .tc main_v74) = X (Proc.devRef .tc main_v74) := by
  after_reads_simp
theorem line15_v75 : after hostOps0_15 X (Proc.devRef .tc main_v75) = X (Proc.devRef .tc main_v75) := by
  after_reads_simp
theorem line15_v98 : after hostOps0_15 X (Proc.devRef .tc main_v98) = X (Proc.devRef .tc main_v98) := by
  after_reads_simp
theorem line15_v110 : after hostOps0_15 X (Proc.devRef .tc main_v110) = X (Proc.devRef .tc main_v110) := by
  after_reads_simp
theorem line16_v113 : after hostOps0_16 X (Proc.devRef .tc main_v113) = two (F := F) (X (Proc.devRef .tc main_v98)) := by
  after_reads_simp; rfl
theorem line16_v114 : after hostOps0_16 X (Proc.devRef .tc main_v114) = two (F := F) (X (Proc.devRef .tc main_v110)) := by
  after_reads_simp; rfl
theorem line16_v115 : after hostOps0_16 X (Proc.devRef .tc main_v115) = two (F := F) (X (Proc.devRef .tc main_v112)) := by
  after_reads_simp; rfl
theorem line16_v73 : after hostOps0_16 X (Proc.devRef .tc main_v73) = X (Proc.devRef .tc main_v73) := by
  after_reads_simp
theorem line16_v74 : after hostOps0_16 X (Proc.devRef .tc main_v74) = X (Proc.devRef .tc main_v74) := by
  after_reads_simp
theorem line16_v75 : after hostOps0_16 X (Proc.devRef .tc main_v75) = X (Proc.devRef .tc main_v75) := by
  after_reads_simp
theorem line6_v1 : after hostOps0_6 X (Proc.devRef .tc main_v1) = X (Proc.devRef .tc main_v1) := by
  after_reads_simp
theorem line6_v3 : after hostOps0_6 X (Proc.devRef .tc main_v3) = X (Proc.devRef .tc main_v3) := by
  after_reads_simp
theorem line6_v5 : after hostOps0_6 X (Proc.devRef .tc main_v5) = X (Proc.devRef .tc main_v5) := by
  after_reads_simp
theorem line6_v7 : after hostOps0_6 X (Proc.devRef .tc main_v7) = X (Proc.devRef .tc main_v7) := by
  after_reads_simp
theorem line6_v8 : after hostOps0_6 X (Proc.devRef .tc main_v8) = X (Proc.devRef .tc main_v8) := by
  after_reads_simp
theorem line6_v9 : after hostOps0_6 X (Proc.devRef .tc main_v9) = X (Proc.devRef .tc main_v9) := by
  after_reads_simp
theorem line6_v10 : after hostOps0_6 X (Proc.devRef .tc main_v10) = X (Proc.devRef .tc main_v10) := by
  after_reads_simp
theorem line7_v1 : after hostOps0_7 X (Proc.devRef .tc main_v1) = X (Proc.devRef .tc main_v1) := by
  after_reads_simp
theorem line7_v3 : after hostOps0_7 X (Proc.devRef .tc main_v3) = X (Proc.devRef .tc main_v3) := by
  after_reads_simp
theorem line7_v5 : after hostOps0_7 X (Proc.devRef .tc main_v5) = X (Proc.devRef .tc main_v5) := by
  after_reads_simp
theorem line7_v7 : after hostOps0_7 X (Proc.devRef .tc main_v7) = X (Proc.devRef .tc main_v7) := by
  after_reads_simp
theorem line7_v8 : after hostOps0_7 X (Proc.devRef .tc main_v8) = X (Proc.devRef .tc main_v8) := by
  after_reads_simp
theorem line7_v9 : after hostOps0_7 X (Proc.devRef .tc main_v9) = X (Proc.devRef .tc main_v9) := by
  after_reads_simp
theorem line7_v10 : after hostOps0_7 X (Proc.devRef .tc main_v10) = X (Proc.devRef .tc main_v10) := by
  after_reads_simp
theorem line8_v1 : after hostOps0_8 X (Proc.devRef .tc main_v1) = X (Proc.devRef .tc main_v1) := by
  after_reads_simp
theorem line8_v3 : after hostOps0_8 X (Proc.devRef .tc main_v3) = X (Proc.devRef .tc main_v3) := by
  after_reads_simp
theorem line8_v5 : after hostOps0_8 X (Proc.devRef .tc main_v5) = X (Proc.devRef .tc main_v5) := by
  after_reads_simp
theorem line8_v7 : after hostOps0_8 X (Proc.devRef .tc main_v7) = X (Proc.devRef .tc main_v7) := by
  after_reads_simp
theorem line8_v8 : after hostOps0_8 X (Proc.devRef .tc main_v8) = X (Proc.devRef .tc main_v8) := by
  after_reads_simp
theorem line8_v9 : after hostOps0_8 X (Proc.devRef .tc main_v9) = X (Proc.devRef .tc main_v9) := by
  after_reads_simp
theorem line8_v10 : after hostOps0_8 X (Proc.devRef .tc main_v10) = X (Proc.devRef .tc main_v10) := by
  after_reads_simp
theorem line9_v1 : after hostOps0_9 X (Proc.devRef .tc main_v1) = X (Proc.devRef .tc main_v1) := by
  after_reads_simp
theorem line9_v3 : after hostOps0_9 X (Proc.devRef .tc main_v3) = X (Proc.devRef .tc main_v3) := by
  after_reads_simp
theorem line9_v5 : after hostOps0_9 X (Proc.devRef .tc main_v5) = X (Proc.devRef .tc main_v5) := by
  after_reads_simp
theorem line9_v7 : after hostOps0_9 X (Proc.devRef .tc main_v7) = X (Proc.devRef .tc main_v7) := by
  after_reads_simp
theorem line9_v8 : after hostOps0_9 X (Proc.devRef .tc main_v8) = X (Proc.devRef .tc main_v8) := by
  after_reads_simp
theorem line9_v9 : after hostOps0_9 X (Proc.devRef .tc main_v9) = X (Proc.devRef .tc main_v9) := by
  after_reads_simp
theorem line9_v10 : after hostOps0_9 X (Proc.devRef .tc main_v10) = X (Proc.devRef .tc main_v10) := by
  after_reads_simp
theorem line10_v1 : after hostOps0_10 X (Proc.devRef .tc main_v1) = X (Proc.devRef .tc main_v1) := by
  after_reads_simp
theorem line10_v3 : after hostOps0_10 X (Proc.devRef .tc main_v3) = X (Proc.devRef .tc main_v3) := by
  after_reads_simp
theorem line10_v5 : after hostOps0_10 X (Proc.devRef .tc main_v5) = X (Proc.devRef .tc main_v5) := by
  after_reads_simp
theorem line10_v7 : after hostOps0_10 X (Proc.devRef .tc main_v7) = X (Proc.devRef .tc main_v7) := by
  after_reads_simp
theorem line10_v8 : after hostOps0_10 X (Proc.devRef .tc main_v8) = X (Proc.devRef .tc main_v8) := by
  after_reads_simp
theorem line10_v9 : after hostOps0_10 X (Proc.devRef .tc main_v9) = X (Proc.devRef .tc main_v9) := by
  after_reads_simp
theorem line10_v10 : after hostOps0_10 X (Proc.devRef .tc main_v10) = X (Proc.devRef .tc main_v10) := by
  after_reads_simp
theorem line11_v1 : after hostOps0_11 X (Proc.devRef .tc main_v1) = X (Proc.devRef .tc main_v1) := by
  after_reads_simp
theorem line11_v3 : after hostOps0_11 X (Proc.devRef .tc main_v3) = X (Proc.devRef .tc main_v3) := by
  after_reads_simp
theorem line11_v5 : after hostOps0_11 X (Proc.devRef .tc main_v5) = X (Proc.devRef .tc main_v5) := by
  after_reads_simp
theorem line11_v7 : after hostOps0_11 X (Proc.devRef .tc main_v7) = X (Proc.devRef .tc main_v7) := by
  after_reads_simp
theorem line11_v8 : after hostOps0_11 X (Proc.devRef .tc main_v8) = X (Proc.devRef .tc main_v8) := by
  after_reads_simp
theorem line11_v9 : after hostOps0_11 X (Proc.devRef .tc main_v9) = X (Proc.devRef .tc main_v9) := by
  after_reads_simp
theorem line11_v10 : after hostOps0_11 X (Proc.devRef .tc main_v10) = X (Proc.devRef .tc main_v10) := by
  after_reads_simp
theorem line12_v1 : after hostOps0_12 X (Proc.devRef .tc main_v1) = X (Proc.devRef .tc main_v1) := by
  after_reads_simp
theorem line12_v3 : after hostOps0_12 X (Proc.devRef .tc main_v3) = X (Proc.devRef .tc main_v3) := by
  after_reads_simp
theorem line12_v5 : after hostOps0_12 X (Proc.devRef .tc main_v5) = X (Proc.devRef .tc main_v5) := by
  after_reads_simp
theorem line12_v7 : after hostOps0_12 X (Proc.devRef .tc main_v7) = X (Proc.devRef .tc main_v7) := by
  after_reads_simp
theorem line12_v8 : after hostOps0_12 X (Proc.devRef .tc main_v8) = X (Proc.devRef .tc main_v8) := by
  after_reads_simp
theorem line12_v9 : after hostOps0_12 X (Proc.devRef .tc main_v9) = X (Proc.devRef .tc main_v9) := by
  after_reads_simp
theorem line12_v10 : after hostOps0_12 X (Proc.devRef .tc main_v10) = X (Proc.devRef .tc main_v10) := by
  after_reads_simp
theorem line13_v1 : after hostOps0_13 X (Proc.devRef .tc main_v1) = X (Proc.devRef .tc main_v1) := by
  after_reads_simp
theorem line13_v3 : after hostOps0_13 X (Proc.devRef .tc main_v3) = X (Proc.devRef .tc main_v3) := by
  after_reads_simp
theorem line13_v5 : after hostOps0_13 X (Proc.devRef .tc main_v5) = X (Proc.devRef .tc main_v5) := by
  after_reads_simp
theorem line13_v7 : after hostOps0_13 X (Proc.devRef .tc main_v7) = X (Proc.devRef .tc main_v7) := by
  after_reads_simp
theorem line13_v8 : after hostOps0_13 X (Proc.devRef .tc main_v8) = X (Proc.devRef .tc main_v8) := by
  after_reads_simp
theorem line13_v9 : after hostOps0_13 X (Proc.devRef .tc main_v9) = X (Proc.devRef .tc main_v9) := by
  after_reads_simp
theorem line13_v10 : after hostOps0_13 X (Proc.devRef .tc main_v10) = X (Proc.devRef .tc main_v10) := by
  after_reads_simp
theorem line14_v1 : after hostOps0_14 X (Proc.devRef .tc main_v1) = X (Proc.devRef .tc main_v1) := by
  after_reads_simp
theorem line14_v3 : after hostOps0_14 X (Proc.devRef .tc main_v3) = X (Proc.devRef .tc main_v3) := by
  after_reads_simp
theorem line14_v5 : after hostOps0_14 X (Proc.devRef .tc main_v5) = X (Proc.devRef .tc main_v5) := by
  after_reads_simp
theorem line14_v7 : after hostOps0_14 X (Proc.devRef .tc main_v7) = X (Proc.devRef .tc main_v7) := by
  after_reads_simp
theorem line14_v8 : after hostOps0_14 X (Proc.devRef .tc main_v8) = X (Proc.devRef .tc main_v8) := by
  after_reads_simp
theorem line14_v9 : after hostOps0_14 X (Proc.devRef .tc main_v9) = X (Proc.devRef .tc main_v9) := by
  after_reads_simp
theorem line14_v10 : after hostOps0_14 X (Proc.devRef .tc main_v10) = X (Proc.devRef .tc main_v10) := by
  after_reads_simp
theorem line15_v1 : after hostOps0_15 X (Proc.devRef .tc main_v1) = X (Proc.devRef .tc main_v1) := by
  after_reads_simp
theorem line15_v3 : after hostOps0_15 X (Proc.devRef .tc main_v3) = X (Proc.devRef .tc main_v3) := by
  after_reads_simp
theorem line15_v5 : after hostOps0_15 X (Proc.devRef .tc main_v5) = X (Proc.devRef .tc main_v5) := by
  after_reads_simp
theorem line15_v7 : after hostOps0_15 X (Proc.devRef .tc main_v7) = X (Proc.devRef .tc main_v7) := by
  after_reads_simp
theorem line15_v8 : after hostOps0_15 X (Proc.devRef .tc main_v8) = X (Proc.devRef .tc main_v8) := by
  after_reads_simp
theorem line15_v9 : after hostOps0_15 X (Proc.devRef .tc main_v9) = X (Proc.devRef .tc main_v9) := by
  after_reads_simp
theorem line15_v10 : after hostOps0_15 X (Proc.devRef .tc main_v10) = X (Proc.devRef .tc main_v10) := by
  after_reads_simp
theorem line16_v1 : after hostOps0_16 X (Proc.devRef .tc main_v1) = X (Proc.devRef .tc main_v1) := by
  after_reads_simp
theorem line16_v3 : after hostOps0_16 X (Proc.devRef .tc main_v3) = X (Proc.devRef .tc main_v3) := by
  after_reads_simp
theorem line16_v5 : after hostOps0_16 X (Proc.devRef .tc main_v5) = X (Proc.devRef .tc main_v5) := by
  after_reads_simp
theorem line16_v7 : after hostOps0_16 X (Proc.devRef .tc main_v7) = X (Proc.devRef .tc main_v7) := by
  after_reads_simp
theorem line16_v8 : after hostOps0_16 X (Proc.devRef .tc main_v8) = X (Proc.devRef .tc main_v8) := by
  after_reads_simp
theorem line16_v9 : after hostOps0_16 X (Proc.devRef .tc main_v9) = X (Proc.devRef .tc main_v9) := by
  after_reads_simp
theorem line16_v10 : after hostOps0_16 X (Proc.devRef .tc main_v10) = X (Proc.devRef .tc main_v10) := by
  after_reads_simp
theorem line7_v20 : after hostOps0_7 X (Proc.devRef .tc main_v20) = X (Proc.devRef .tc main_v20) := by
  after_reads_simp
theorem line8_v20 : after hostOps0_8 X (Proc.devRef .tc main_v20) = X (Proc.devRef .tc main_v20) := by
  after_reads_simp
theorem line9_v20 : after hostOps0_9 X (Proc.devRef .tc main_v20) = X (Proc.devRef .tc main_v20) := by
  after_reads_simp
theorem line10_v20 : after hostOps0_10 X (Proc.devRef .tc main_v20) = X (Proc.devRef .tc main_v20) := by
  after_reads_simp
theorem line11_v20 : after hostOps0_11 X (Proc.devRef .tc main_v20) = X (Proc.devRef .tc main_v20) := by
  after_reads_simp
theorem line12_v20 : after hostOps0_12 X (Proc.devRef .tc main_v20) = X (Proc.devRef .tc main_v20) := by
  after_reads_simp
theorem line13_v20 : after hostOps0_13 X (Proc.devRef .tc main_v20) = X (Proc.devRef .tc main_v20) := by
  after_reads_simp
theorem line14_v20 : after hostOps0_14 X (Proc.devRef .tc main_v20) = X (Proc.devRef .tc main_v20) := by
  after_reads_simp
theorem line15_v20 : after hostOps0_15 X (Proc.devRef .tc main_v20) = X (Proc.devRef .tc main_v20) := by
  after_reads_simp
theorem line16_v20 : after hostOps0_16 X (Proc.devRef .tc main_v20) = X (Proc.devRef .tc main_v20) := by
  after_reads_simp

end Stretches

variable (m : (ℓ : Loc nD τ sig) → Buf (Elt F) ℓ) (c : Dev nD)

/-- The buffers before the stretch that computes the axial angles. -/
def before6 : Idealize.ShloMosaic.Valuation τ sig (Elt F) :=
  StableHlo.after (List.flatten [hostOps0, hostOps0_1, hostOps0_2, hostOps0_3, hostOps0_4, hostOps0_5]) (fun b => m (c, b))
/-- The whole line, stretch by stretch from there. -/
theorem V_split (b : Ref sig .tc) : V m c b
    = after hostOps0_16 (after hostOps0_15 (after hostOps0_14 (after hostOps0_13 (after hostOps0_12 (after hostOps0_11 (after hostOps0_10 (after hostOps0_9 (after hostOps0_8 (after hostOps0_7 (after hostOps0_6 (before6 m c))))))))))) (Proc.devRef .tc b) := by
  unfold before6
  simp only [← StableHlo.after_append]
  rfl

/-- The call finds the activations flattened to rows, -/
theorem V_x : V m c main_v8 = shapeCast S65536x1024 (m ((c : Thread nD τ).loc main_arg0)) shapeCasts_S32x2048x1024_S65536x1024 := by
  rw [V_split, line16_v8, line15_v8, line14_v8, line13_v8, line12_v8, line11_v8, line10_v8, line9_v8, line8_v8, line7_v8, line6_v8]
  simp only [before6, List.flatten_cons, List.flatten_nil, List.append_nil]
  after_reads_simp <;> rfl
/-- the gain of the row norm, -/
theorem V_g : V m c main_v9 = shapeCast S1x1024 (m ((c : Thread nD τ).loc main_arg1)) shapeCasts_S1024_S1x1024 := by
  rw [V_split, line16_v9, line15_v9, line14_v9, line13_v9, line12_v9, line11_v9, line10_v9, line9_v9, line8_v9, line7_v9, line6_v9]
  simp only [before6, List.flatten_cons, List.flatten_nil, List.append_nil]
  after_reads_simp <;> rfl
/-- the weights in the narrower format, -/
theorem V_w : V m c main_v10 = truncf .bf16 (m ((c : Thread nD τ).loc main_arg2)) bitsLt_bf16_f32 := by
  rw [V_split, line16_v10, line15_v10, line14_v10, line13_v10, line12_v10, line11_v10, line10_v10, line9_v10, line8_v10, line7_v10, line6_v10]
  simp only [before6, List.flatten_cons, List.flatten_nil, List.append_nil]
  after_reads_simp <;> rfl
/-- the gains of the head norms, -/
theorem V_gqa : V m c main_v1 = gainRow (m ((c : Thread nD τ).loc main_arg3)) := by
  rw [V_split, line16_v1, line15_v1, line14_v1, line13_v1, line12_v1, line11_v1, line10_v1, line9_v1, line8_v1, line7_v1, line6_v1]
  simp only [before6, List.flatten_cons, List.flatten_nil, List.append_nil]
  after_reads_simp <;> rfl
/-- the gains of the head norms, -/
theorem V_gka : V m c main_v3 = gainRow (m ((c : Thread nD τ).loc main_arg4)) := by
  rw [V_split, line16_v3, line15_v3, line14_v3, line13_v3, line12_v3, line11_v3, line10_v3, line9_v3, line8_v3, line7_v3, line6_v3]
  simp only [before6, List.flatten_cons, List.flatten_nil, List.append_nil]
  after_reads_simp <;> rfl
/-- the gains of the head norms, -/
theorem V_gqb : V m c main_v5 = gainRow (m ((c : Thread nD τ).loc main_arg5)) := by
  rw [V_split, line16_v5, line15_v5, line14_v5, line13_v5, line12_v5, line11_v5, line10_v5, line9_v5, line8_v5, line7_v5, line6_v5]
  simp only [before6, List.flatten_cons, List.flatten_nil, List.append_nil]
  after_reads_simp <;> rfl
/-- the gains of the head norms, -/
theorem V_gkb : V m c main_v7 = gainRow (m ((c : Thread nD τ).loc main_arg6)) := by
  rw [V_split, line16_v7, line15_v7, line14_v7, line13_v7, line12_v7, line11_v7, line10_v7, line9_v7, line8_v7, line7_v7, line6_v7]
  simp only [before6, List.flatten_cons, List.flatten_nil, List.append_nil]
  after_reads_simp <;> rfl
/-- the matrix of head means, -/
theorem V_mean : V m c main_v20 = (meanMat : FVec F S256x256 .bf16) := by
  rw [V_split, line16_v20, line15_v20, line14_v20, line13_v20, line12_v20, line11_v20, line10_v20, line9_v20, line8_v20, line7_v20, line6_v20]
  simp only [before6, List.flatten_cons, List.flatten_nil, List.append_nil]
  after_reads_simp <;> rfl
/-- the axial cosines, -/
theorem V_axc : V m c main_v73 = two (Host.cos (angT : FVec F S4096x64 .f32)) := by
  rw [V_split, line16_v73, line15_v73, line14_v73, line13_v73, line12_v73, line11_v65, line10_v65, line9_v65, line8_v65, line7_v61, line6_v61]
/-- minus the axial sines on the first sixteen lanes of each half, -/
theorem V_axa : V m c main_v74 = two (axSinA : FVec F S4096x64 .f32) := by
  rw [V_split, line16_v74, line15_v74, line14_v74, line13_v74, line12_v74, line11_v69, line10_v69, line9_v69, line8_v66, line8_v68, line8_cst_14, line7_v61, line7_v62, line6_v61, line6_v22, line6_c_12]
  rfl
/-- the axial sines on the next sixteen, -/
theorem V_axb : V m c main_v75 = two (axSinB : FVec F S4096x64 .f32) := by
  rw [V_split, line16_v75, line15_v75, line14_v75, line13_v75, line12_v75, line11_v72, line10_v70, line10_v71, line10_cst_15, line9_v61, line9_v64, line8_v61, line8_v64, line7_v61, line7_v62, line6_v61, line6_v22, line6_c_12]
  rfl
/-- and the tables of the rotary along the positions. -/
theorem V_cos : V m c main_v113 = two (cosT : FVec F S4096x64 .f32) := by
  rw [V_split, line16_v113, line15_v98, line14_v98, line13_v98, line12_v98]
/-- Minus its sines, -/
theorem V_sinA : V m c main_v114 = two (sinA : FVec F S4096x64 .f32) := by
  rw [V_split, line16_v114, line15_v110, line14_v110, line13_v110, line12_v108, line12_v109, line12_cst_25]
  rfl
/-- and its sines. -/
theorem V_sinB : V m c main_v115 = two (sinB : FVec F S4096x64 .f32) := by
  rw [V_split, line16_v115, line15_v112, line14_v111, line14_v100, line14_cst_26, line13_v107, line13_v100, line12_v107, line12_v100]
  rfl

end Terms

theorem rowT_apply (s : Fin 4096) : (rowT : FVec Ideal S4096 .f32) (ix1 s) = FloatOps.sitofp (F := Ideal) FTy.f32 (BitVec.ofNat 32 (s.val / 64)) := by
  rw [← row_floor s.val (by omega)]
  pointwise [rowT]
theorem colT_apply (s : Fin 4096) : (colT : FVec Ideal S4096 .f32) (ix1 s) = FloatOps.sitofp (F := Ideal) FTy.f32 (BitVec.ofNat 32 (s.val % 64)) := by
  rw [← col_rest s.val (by omega), ← rowT_apply s]
  pointwise [colT]
theorem freqT_apply (d : Fin 16) : (freqT : FVec Ideal S16 .f32) (ix1 d) = axFrq d := by
  unfold axFrq
  pointwise [freqT]
theorem halfT_apply (p : FVec Ideal S4096 .f32) (s : Fin 4096) (d : Fin 32) : halfT p (ix2 s d) = p (ix1 s) * axFrq (d.val % 16) := by
  have e : halfT p (ix2 s d) = if h : (d : ℕ) < 16 then p (ix1 s) * freqT (F := Ideal) (ix1 ⟨d, h⟩)
      else p (ix1 s) * freqT (F := Ideal) (ix1 ⟨d - 16, by omega⟩) := by pointwise [halfT]
  rw [e]
  split <;> rw [freqT_apply] <;> congr 2 <;> dsimp only <;> omega
/-- The axial angles at a lane, -/
theorem angT_apply (s : Fin 4096) (d : Fin 64) : (angT : FVec Ideal S4096x64 .f32) (ix2 s d) = axAng s d := by
  have e : (angT : FVec Ideal S4096x64 .f32) (ix2 s d) = if h : (d : ℕ) < 32 then halfT (F := Ideal) rowT (ix2 s ⟨d, h⟩)
      else halfT (F := Ideal) colT (ix2 s ⟨d - 32, by omega⟩) := by pointwise [angT]
  rw [e]
  unfold axAng
  split
  · rename_i h; rw [halfT_apply, rowT_apply]
  · rename_i h; rw [halfT_apply, colT_apply]; congr 2; dsimp only; omega
theorem first_lane : ∀ d : Fin 64, IntOp.cmpi CmpIPredicate.slt
    (Scalar.select (α := BitVec 32) (IntOp.andi
        (IntOp.cmpi CmpIPredicate.ne (IntOp.cmpi CmpIPredicate.slt (IntOp.remsi ArithUnit.host (BitVec.ofNat 32 d.val) (Scalar.select (IntOp.cmpi CmpIPredicate.eq 32#32 0#32) 1#32 32#32)) 0#32)
          (IntOp.cmpi CmpIPredicate.slt (Scalar.select (IntOp.cmpi CmpIPredicate.eq 32#32 0#32) 1#32 32#32) 0#32))
        (IntOp.cmpi CmpIPredicate.ne (IntOp.remsi ArithUnit.host (BitVec.ofNat 32 d.val) (Scalar.select (IntOp.cmpi CmpIPredicate.eq 32#32 0#32) 1#32 32#32)) 0#32))
      (IntOp.addi (IntOp.remsi ArithUnit.host (BitVec.ofNat 32 d.val) (Scalar.select (IntOp.cmpi CmpIPredicate.eq 32#32 0#32) 1#32 32#32)) (Scalar.select (IntOp.cmpi CmpIPredicate.eq 32#32 0#32) 1#32 32#32))
      (IntOp.remsi ArithUnit.host (BitVec.ofNat 32 d.val) (Scalar.select (IntOp.cmpi CmpIPredicate.eq 32#32 0#32) 1#32 32#32))) 16#32 = if d.val % 32 < 16 then 1 else 0 := by decide +kernel
theorem firstT_apply (d : Fin 64) : firstT (ix1 d) = if d.val % 32 < 16 then 1 else 0 := by
  rw [← first_lane d]
  pointwise [firstT, firstOf, remOf]
/-- and the signed sines there. -/
theorem axSinA_apply (s : Fin 4096) (d : Fin 64) :
    (axSinA : FVec Ideal S4096x64 .f32) (ix2 s d) = if d.val % 32 < 16 then -Ideal.sin (axAng s d) else 0 := by
  have e : (axSinA : FVec Ideal S4096x64 .f32) (ix2 s d) = Scalar.select (firstT (ix1 d)) (-(Ideal.sin (angT (F := Ideal) (ix2 s d))) : EReal) (0 : EReal) := by pointwise [axSinA, sinAOf]
  rw [e, firstT_apply, angT_apply]
  split <;> rfl
theorem axSinB_apply (s : Fin 4096) (d : Fin 64) :
    (axSinB : FVec Ideal S4096x64 .f32) (ix2 s d) = if d.val % 32 < 16 then 0 else Ideal.sin (axAng s d) := by
  have e : (axSinB : FVec Ideal S4096x64 .f32) (ix2 s d) = Scalar.select (firstT (ix1 d)) (0 : EReal) (Ideal.sin (angT (F := Ideal) (ix2 s d)) : EReal) := by pointwise [axSinB, sinBOf]
  rw [e, firstT_apply, angT_apply]
  split <;> rfl
theorem axCos_apply (s : Fin 4096) (d : Fin 64) : (Host.cos (angT : FVec Ideal S4096x64 .f32) : FVec Ideal S4096x64 .f32) (ix2 s d) = Ideal.cos (axAng s d) :=
  congrArg Ideal.cos (angT_apply s d)

end Cert.Proof.Even

end
-- ==== Proof.EvenRef.lean ====
/-
  What the reference's input projection of the even layer computes, read at an element: the normed row times a column of
  the weights; the norm of a head with its gain; the two rotaries of a head; the gate.
-/
module

public import proofs.«01_k».proof.Proof.Gen.Reference4Ideal.Run
public import proofs.«01_k».proof.Proof.EvenMath
public import Idealize.ShloMosaic.Lib.Pointwise
public import Idealize.ShloMosaic.Lib.StableHlo.Run

@[expose] public section

noncomputable section

namespace Cert.Proof.Even

open Cert.Reference4Ideal Cert.Reference4Ideal.Gen
open Cert.Proof.Proj (normAt ropeAt ang frq)
open Idealize.ShloMosaic
open Idealize.ShloMosaic.TcCoe Idealize.ShloMosaic.StableHlo

section Terms

variable {F : FTy → Type} [FloatOps F]

/-- The projection of the normed activations. -/
def refZ (x : FVec F S32x2048x1024 .f32) (g : FVec F S1024 .f32) (w : FVec F S1024x3328 .f32) : FVec F S32x2048x3328 .f32 :=
  Host.dotGeneral dot_S32x2048x1024_S1024x3328_S32x2048x3328_2_0_01_1_n_n none
    (mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf x x) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
      (broadcastInDim S32x2048x1024 ![0, 1, 2] bcast_S1x1x1024_S32x2048x1024_0_1_2 (broadcastInDim S1x1x1024 ![2] bcast_S1024_S1x1x1024_2 g))) w

/-- The frequencies of the rotary along the positions, -/
def refFreq : FVec F S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))
/-- and its angles at every position. -/
def refAng : FVec F S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 refFreq))
def refAngs : FVec F S1x2048x1x16 .f32 :=
  broadcastInDim S1x2048x1x16 ![1, 3] bcast_S2048x16_S1x2048x1x16_1_3
    (concatenate S2048x16 1 [⟨S2048x8, (refAng : FVec F S2048x8 .f32)⟩, ⟨S2048x8, (refAng : FVec F S2048x8 .f32)⟩] concatenates_S2048x8_S2048x8_S2048x16_d1)

/-- The frequencies of the axial rotary, -/
def axFreq : FVec F S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))
/-- the row and the column of every position, -/
def rowOf : FVec F S2048 .f32 :=
  shapeCast S2048 (broadcastInDim S32x64 ![0, 1] bcast_S32x1_S32x64_0_1 (broadcastInDim S32x1 ![0] bcast_S32_S32x1_0 (sitofp .f32 (iotaInDim S32 32 0) : FVec F S32 .f32))) shapeCasts_S32x64_S2048
def colOf : FVec F S2048 .f32 :=
  shapeCast S2048 (broadcastInDim S32x64 ![0, 1] bcast_S1x64_S32x64_0_1 (broadcastInDim S1x64 ![1] bcast_S64_S1x64_1 (sitofp .f32 (iotaInDim S64 32 0) : FVec F S64 .f32))) shapeCasts_S32x64_S2048
/-- and the angles of one of them. -/
def axOf (p : FVec F S2048 .f32) : FVec F S2048x16 .f32 :=
  mulf (broadcastInDim S2048x16 ![0, 1] bcast_S2048x1_S2048x16_0_1 (broadcastInDim S2048x1 ![0] bcast_S2048_S2048x1_0 p))
    (broadcastInDim S2048x16 ![0, 1] bcast_S1x16_S2048x16_0_1 (broadcastInDim S1x16 ![1] bcast_S16_S1x16_1 axFreq))
def axAngs (p : FVec F S2048 .f32) : FVec F S1x2048x1x32 .f32 :=
  broadcastInDim S1x2048x1x32 ![1, 3] bcast_S2048x32_S1x2048x1x32_1_3
    (concatenate S2048x32 1 [⟨S2048x16, axOf p⟩, ⟨S2048x16, axOf p⟩] concatenates_S2048x16_S2048x16_S2048x32_d1)

/-- The norm of every head of 8, with its gain. -/
def norm8 (z : FVec F S32x2048x8x64 .f32) (g : FVec F S64 .f32) : FVec F S32x2048x8x64 .f32 :=
  mulf (mulf z (broadcastInDim S32x2048x8x64 ![0, 1, 2, 3] bcast_S32x2048x8x1_S32x2048x8x64_0_1_2_3
      (Host.rsqrt (addf (Host.divf (broadcastInDim S32x2048x8x1 ![0, 1, 2] bcast_S32x2048x8_S32x2048x8x1_0_1_2
          (Host.reduceAdd (mulf z z) (constant S_ .f32 0x00000000#32) reducesTo_S32x2048x8x64_S32x2048x8_d3 h_S_))
        (broadcastInDim S32x2048x8x1 ![] bcast_S_S32x2048x8x1 (constant S_ .f32 0x42800000#32)))
        (broadcastInDim S32x2048x8x1 ![] bcast_S_S32x2048x8x1 (constant S_ .f32 0x358637BD#32))))))
    (broadcastInDim S32x2048x8x64 ![0, 1, 2, 3] bcast_S1x1x1x64_S32x2048x8x64_0_1_2_3 (broadcastInDim S1x1x1x64 ![3] bcast_S64_S1x1x1x64_3 g))
/-- Half the lanes of every head, turned. -/
def turn8 (a : FVec F S1x2048x1x32 .f32) (y : FVec F S32x2048x8x32 .f32) : FVec F S32x2048x8x32 .f32 :=
  addf (mulf y (broadcastInDim S32x2048x8x32 ![0, 1, 2, 3] bcast_S1x2048x1x32_S32x2048x8x32_0_1_2_3 (Host.cos a)))
    (mulf (concatenate S32x2048x8x32 3 [⟨S32x2048x8x16, (Host.negf (extractStridedSlice S32x2048x8x16 ![0, 0, 0, 16] y slices_S32x2048x8x32_S32x2048x8x16_0_0_0_16))⟩,
        ⟨S32x2048x8x16, (extractStridedSlice S32x2048x8x16 ![0, 0, 0, 0] y slices_S32x2048x8x32_S32x2048x8x16_0_0_0_0)⟩]
        concatenates_S32x2048x8x16_S32x2048x8x16_S32x2048x8x32_d3)
      (broadcastInDim S32x2048x8x32 ![0, 1, 2, 3] bcast_S1x2048x1x32_S32x2048x8x32_0_1_2_3 (Host.sin a)))
/-- The axial rotary of every head. -/
def axial8 (y : FVec F S32x2048x8x64 .f32) : FVec F S32x2048x8x64 .f32 :=
  concatenate S32x2048x8x64 3
    [⟨S32x2048x8x32, turn8 (axAngs rowOf) (extractStridedSlice S32x2048x8x32 ![0, 0, 0, 0] y slices_S32x2048x8x64_S32x2048x8x32_0_0_0_0)⟩,
     ⟨S32x2048x8x32, turn8 (axAngs colOf) (extractStridedSlice S32x2048x8x32 ![0, 0, 0, 32] y slices_S32x2048x8x64_S32x2048x8x32_0_0_0_32)⟩]
    concatenates_S32x2048x8x32_S32x2048x8x32_S32x2048x8x64_d3

/-- The norm of every head of 2, with its gain. -/
def norm2 (z : FVec F S32x2048x2x64 .f32) (g : FVec F S64 .f32) : FVec F S32x2048x2x64 .f32 :=
  mulf (mulf z (broadcastInDim S32x2048x2x64 ![0, 1, 2, 3] bcast_S32x2048x2x1_S32x2048x2x64_0_1_2_3
      (Host.rsqrt (addf (Host.divf (broadcastInDim S32x2048x2x1 ![0, 1, 2] bcast_S32x2048x2_S32x2048x2x1_0_1_2
          (Host.reduceAdd (mulf z z) (constant S_ .f32 0x00000000#32) reducesTo_S32x2048x2x64_S32x2048x2_d3 h_S_))
        (broadcastInDim S32x2048x2x1 ![] bcast_S_S32x2048x2x1 (constant S_ .f32 0x42800000#32)))
        (broadcastInDim S32x2048x2x1 ![] bcast_S_S32x2048x2x1 (constant S_ .f32 0x358637BD#32))))))
    (broadcastInDim S32x2048x2x64 ![0, 1, 2, 3] bcast_S1x1x1x64_S32x2048x2x64_0_1_2_3 (broadcastInDim S1x1x1x64 ![3] bcast_S64_S1x1x1x64_3 g))
/-- Half the lanes of every head, turned. -/
def turn2 (a : FVec F S1x2048x1x32 .f32) (y : FVec F S32x2048x2x32 .f32) : FVec F S32x2048x2x32 .f32 :=
  addf (mulf y (broadcastInDim S32x2048x2x32 ![0, 1, 2, 3] bcast_S1x2048x1x32_S32x2048x2x32_0_1_2_3 (Host.cos a)))
    (mulf (concatenate S32x2048x2x32 3 [⟨S32x2048x2x16, (Host.negf (extractStridedSlice S32x2048x2x16 ![0, 0, 0, 16] y slices_S32x2048x2x32_S32x2048x2x16_0_0_0_16))⟩,
        ⟨S32x2048x2x16, (extractStridedSlice S32x2048x2x16 ![0, 0, 0, 0] y slices_S32x2048x2x32_S32x2048x2x16_0_0_0_0)⟩]
        concatenates_S32x2048x2x16_S32x2048x2x16_S32x2048x2x32_d3)
      (broadcastInDim S32x2048x2x32 ![0, 1, 2, 3] bcast_S1x2048x1x32_S32x2048x2x32_0_1_2_3 (Host.sin a)))
/-- The axial rotary of every head. -/
def axial2 (y : FVec F S32x2048x2x64 .f32) : FVec F S32x2048x2x64 .f32 :=
  concatenate S32x2048x2x64 3
    [⟨S32x2048x2x32, turn2 (axAngs rowOf) (extractStridedSlice S32x2048x2x32 ![0, 0, 0, 0] y slices_S32x2048x2x64_S32x2048x2x32_0_0_0_0)⟩,
     ⟨S32x2048x2x32, turn2 (axAngs colOf) (extractStridedSlice S32x2048x2x32 ![0, 0, 0, 32] y slices_S32x2048x2x64_S32x2048x2x32_0_0_0_32)⟩]
    concatenates_S32x2048x2x32_S32x2048x2x32_S32x2048x2x64_d3

/-- The rotary along the positions of the first sixteen lanes of every head. -/
def rope8 (y : FVec F S32x2048x8x64 .f32) : FVec F S32x2048x8x64 .f32 :=
  concatenate S32x2048x8x64 3 [⟨S32x2048x8x16,
      (addf (mulf (extractStridedSlice S32x2048x8x16 ![0, 0, 0, 0] y slices_S32x2048x8x64_S32x2048x8x16_0_0_0_0)
          (broadcastInDim S32x2048x8x16 ![0, 1, 2, 3] bcast_S1x2048x1x16_S32x2048x8x16_0_1_2_3 (Host.cos refAngs)))
        (mulf (concatenate S32x2048x8x16 3 [⟨S32x2048x8x8, (Host.negf (extractStridedSlice S32x2048x8x8 ![0, 0, 0, 8]
              (extractStridedSlice S32x2048x8x16 ![0, 0, 0, 0] y slices_S32x2048x8x64_S32x2048x8x16_0_0_0_0) slices_S32x2048x8x16_S32x2048x8x8_0_0_0_8))⟩,
            ⟨S32x2048x8x8, (extractStridedSlice S32x2048x8x8 ![0, 0, 0, 0]
              (extractStridedSlice S32x2048x8x16 ![0, 0, 0, 0] y slices_S32x2048x8x64_S32x2048x8x16_0_0_0_0) slices_S32x2048x8x16_S32x2048x8x8_0_0_0_0)⟩]
            concatenates_S32x2048x8x8_S32x2048x8x8_S32x2048x8x16_d3)
          (broadcastInDim S32x2048x8x16 ![0, 1, 2, 3] bcast_S1x2048x1x16_S32x2048x8x16_0_1_2_3 (Host.sin refAngs))) : FVec F S32x2048x8x16 .f32)⟩,
    ⟨S32x2048x8x48, (extractStridedSlice S32x2048x8x48 ![0, 0, 0, 16] y slices_S32x2048x8x64_S32x2048x8x48_0_0_0_16)⟩]
    concatenates_S32x2048x8x16_S32x2048x8x48_S32x2048x8x64_d3

section Results

variable (x : FVec F S32x2048x1024 .f32) (g : FVec F S1024 .f32) (w : FVec F S1024x3328 .f32) (gh : FVec F S64 .f32)

/-- The first branch's queries: the scaled axial rotary of the normed heads, -/
def refQa : FVec F S65536x512 .bf16 :=
  truncf .bf16 (shapeCast S65536x512 (mulf (axial8 (norm8 (shapeCast S32x2048x8x64
      (extractStridedSlice S32x2048x512 ![0, 0, 0] (refZ x g w) slices_S32x2048x3328_S32x2048x512_0_0_0) shapeCasts_S32x2048x512_S32x2048x8x64) gh))
      (broadcastInDim S32x2048x8x64 ![] bcast_S_S32x2048x8x64 (constant S_ .f32 0x3E000000#32))) shapeCasts_S32x2048x8x64_S65536x512) bitsLt_bf16_f32
/-- its keys, on two heads, -/
def refKa : FVec F S65536x128 .bf16 :=
  truncf .bf16 (shapeCast S65536x128 (axial2 (norm2 (shapeCast S32x2048x2x64
      (extractStridedSlice S32x2048x128 ![0, 0, 512] (refZ x g w) slices_S32x2048x3328_S32x2048x128_0_0_512) shapeCasts_S32x2048x128_S32x2048x2x64) gh))
      shapeCasts_S32x2048x2x64_S65536x128) bitsLt_bf16_f32
/-- and its values. -/
def refVa : FVec F S65536x128 .bf16 :=
  truncf .bf16 (shapeCast S65536x128 (extractStridedSlice S32x2048x128 ![0, 0, 640] (refZ x g w) slices_S32x2048x3328_S32x2048x128_0_0_640)
    shapeCasts_S32x2048x128_S65536x128) bitsLt_bf16_f32
/-- The second branch's queries: the scaled rotary along the positions of the normed heads, -/
def refQb : FVec F S65536x512 .bf16 :=
  truncf .bf16 (shapeCast S65536x512 (mulf (rope8 (norm8 (shapeCast S32x2048x8x64
      (extractStridedSlice S32x2048x512 ![0, 0, 768] (refZ x g w) slices_S32x2048x3328_S32x2048x512_0_0_768) shapeCasts_S32x2048x512_S32x2048x8x64) gh))
      (broadcastInDim S32x2048x8x64 ![] bcast_S_S32x2048x8x64 (constant S_ .f32 0x3E000000#32))) shapeCasts_S32x2048x8x64_S65536x512) bitsLt_bf16_f32
/-- its keys -/
def refKb : FVec F S65536x512 .bf16 :=
  truncf .bf16 (shapeCast S65536x512 (rope8 (norm8 (shapeCast S32x2048x8x64
      (extractStridedSlice S32x2048x512 ![0, 0, 1280] (refZ x g w) slices_S32x2048x3328_S32x2048x512_0_0_1280) shapeCasts_S32x2048x512_S32x2048x8x64) gh))
      shapeCasts_S32x2048x8x64_S65536x512) bitsLt_bf16_f32
/-- and its values. -/
def refVb : FVec F S65536x512 .bf16 :=
  truncf .bf16 (shapeCast S65536x512 (extractStridedSlice S32x2048x512 ![0, 0, 1792] (refZ x g w) slices_S32x2048x3328_S32x2048x512_0_0_1792)
    shapeCasts_S32x2048x512_S65536x512) bitsLt_bf16_f32
/-- The gate times its logistic. -/
def refSg : FVec F S65536x1024 .bf16 :=
  truncf .bf16 (shapeCast S65536x1024 (mulf (extractStridedSlice S32x2048x1024 ![0, 0, 2304] (refZ x g w) slices_S32x2048x3328_S32x2048x1024_0_0_2304)
    (Host.divf (broadcastInDim S32x2048x1024 ![] bcast_S_S32x2048x1024 (constant S_ .f32 0x3F800000#32))
      (addf (broadcastInDim S32x2048x1024 ![] bcast_S_S32x2048x1024 (constant S_ .f32 0x3F800000#32))
        (Host.exp (Host.negf (extractStridedSlice S32x2048x1024 ![0, 0, 2304] (refZ x g w) slices_S32x2048x3328_S32x2048x1024_0_0_2304))))))
    shapeCasts_S32x2048x1024_S65536x1024) bitsLt_bf16_f32

/-- The first branch's values, a lane a row, with rows of ones under each head's, -/
def refVat : FVec F S32x2x128x2048 .bf16 :=
  truncf .bf16 (concatenate S32x2x128x2048 2 [⟨S32x2x64x2048, (transpose S32x2x64x2048 [0, 2, 3, 1] (shapeCast S32x2048x2x64
      (extractStridedSlice S32x2048x128 ![0, 0, 640] (refZ x g w) slices_S32x2048x3328_S32x2048x128_0_0_640) shapeCasts_S32x2048x128_S32x2048x2x64)
      transposes_S32x2048x2x64_S32x2x64x2048_0_2_3_1 : FVec F S32x2x64x2048 .f32)⟩,
    ⟨S32x2x64x2048, (broadcastInDim S32x2x64x2048 ![] bcast_S_S32x2x64x2048 (constant S_ .f32 0x3F800000#32) : FVec F S32x2x64x2048 .f32)⟩]
    concatenates_S32x2x64x2048_S32x2x64x2048_S32x2x128x2048_d2) bitsLt_bf16_f32
/-- and the second branch's, a lane a row. -/
def refVbt : FVec F S32x4x128x2048 .bf16 :=
  truncf .bf16 (transpose S32x4x128x2048 [0, 2, 3, 1] (shapeCast S32x2048x4x128
      (extractStridedSlice S32x2048x512 ![0, 0, 1792] (refZ x g w) slices_S32x2048x3328_S32x2048x512_0_0_1792) shapeCasts_S32x2048x512_S32x2048x4x128)
      transposes_S32x2048x4x128_S32x4x128x2048_0_2_3_1) bitsLt_bf16_f32

end Results

section Run

variable (m : (ℓ : Loc nD τ sig) → Buf (Elt F) ℓ) (ρ : Dev nD → PrngReg)

/-- The reference's run leaves those nine arrays and its arguments unchanged. -/
theorem ref_run : θ_run defs (onTc (τ := τ) (main (F := F))) ⟨m, fun _ => 0, ρ⟩ fun r => ∀ c : Dev nD,
      r.2.mem ((c.tc : Thread nD τ).loc main_v267) = refQa (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v269) = refKa (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v271) = refVa (m ((c.tc : Thread nD τ).loc main_arg0)) (m ((c.tc : Thread nD τ).loc main_arg1)) (m ((c.tc : Thread nD τ).loc main_arg2))
      ∧ r.2.mem ((c.tc : Thread nD τ).loc main_v273) = refQb (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v275) = refKb (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v277) = refVb (m ((c.tc : Thread nD τ).loc main_arg0)) (m ((c.tc : Thread nD τ).loc main_arg1)) (m ((c.tc : Thread nD τ).loc main_arg2))
      ∧ r.2.mem ((c.tc : Thread nD τ).loc main_v279) = refSg (m ((c.tc : Thread nD τ).loc main_arg0)) (m ((c.tc : Thread nD τ).loc main_arg1)) (m ((c.tc : Thread nD τ).loc main_arg2))
      ∧ r.2.mem ((c.tc : Thread nD τ).loc main_v280) = refVat (m ((c.tc : Thread nD τ).loc main_arg0)) (m ((c.tc : Thread nD τ).loc main_arg1)) (m ((c.tc : Thread nD τ).loc main_arg2))
      ∧ r.2.mem ((c.tc : Thread nD τ).loc main_v281) = refVbt (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6, h7, h8, h9⟩ := h c
    exact ⟨h0.trans rfl, h1.trans rfl, h2.trans rfl, h3.trans rfl, h4.trans rfl, h5.trans rfl, h6.trans rfl, h7.trans rfl, h8.trans rfl, h9⟩) (Value.run m ρ)

end Run

end Terms

/-- The projection at an element, -/
theorem refZ_apply (x : FVec Ideal S32x2048x1024 .f32) (g : FVec Ideal S1024 .f32) (w : FVec Ideal S1024x3328 .f32)
    (b : Fin 32) (s : Fin 2048) (q : Fin 3328) :
    refZ x g w (ix3 b s q) = ∑ k, x (ix3 b s k)
      * Ideal.rsqrt (Ideal.div (∑ k', x (ix3 b s k') * x (ix3 b s k')) (Ideal.ofBits .f32 1149239296#32) + Ideal.ofBits .f32 897988541#32)
      * g (ix1 k) * w (ix2 k q) := by
  pointwise [refZ]
/-- the frequencies and angles of the rotary along the positions, -/
theorem refFreq_apply (d : Fin 8) : (refFreq : FVec Ideal S8 .f32) (ix1 d) = frq d := by
  unfold frq
  pointwise [refFreq]
theorem refAngs_apply (s : Fin 2048) (d : Fin 16) : (refAngs : FVec Ideal S1x2048x1x16 .f32) (ix4 0 s 0 d) = ang s d := by
  have e : (refAngs : FVec Ideal S1x2048x1x16 .f32) (ix4 0 s 0 d)
      = if h : (d : ℕ) < 8 then (FloatOps.sitofp (F := Ideal) FTy.f32 (BitVec.ofNat 32 ↑s) : EReal) * refFreq (F := Ideal) (ix1 ⟨d, h⟩)
        else (FloatOps.sitofp (F := Ideal) FTy.f32 (BitVec.ofNat 32 ↑s) : EReal) * refFreq (F := Ideal) (ix1 ⟨d - 8, by omega⟩) := by pointwise [refAngs, refAng]
  rw [e]
  unfold ang
  split <;> rw [refFreq_apply] <;> congr 2 <;> exact Fin.ext (by dsimp only; omega)
/-- that rotary, -/
theorem rope8_apply (y : FVec Ideal S32x2048x8x64 .f32)
    (b : Fin 32) (s : Fin 2048) (h : Fin 8) (d : Fin 64) :
    rope8 y (ix4 b s h d) = ropeAt (fun d => y (ix4 b s h d)) s d := by
  have e : rope8 y (ix4 b s h d) = if h' : (d : ℕ) < 16 then y (ix4 b s h d) * Ideal.cos (refAngs (F := Ideal) (ix4 0 s 0 ⟨d, h'⟩))
        + (if h8 : (d : ℕ) < 8 then -y (ix4 b s h ⟨8 + d, by omega⟩) else y (ix4 b s h ⟨d - 8, by omega⟩)) * Ideal.sin (refAngs (F := Ideal) (ix4 0 s 0 ⟨d, h'⟩))
      else y (ix4 b s h ⟨16 + (d - 16), by omega⟩) := by pointwise [rope8]
  rw [e]
  unfold ropeAt
  split
  · rw [refAngs_apply]
  · congr 2; exact Fin.ext (by dsimp only; omega)
/-- the frequencies of the axial rotary, the rows and columns, and the angles. -/
theorem axFreq_apply (d : Fin 16) : (axFreq : FVec Ideal S16 .f32) (ix1 d) = axFrq d := by
  unfold axFrq
  pointwise [axFreq]
theorem rowOf_apply (s : Fin 2048) : (rowOf : FVec Ideal S2048 .f32) (ix1 s) = FloatOps.sitofp (F := Ideal) FTy.f32 (BitVec.ofNat 32 (s.val / 64)) := by
  obtain ⟨a, b, rfl⟩ : ∃ (a : Fin 32) (b : Fin 64), s = ⟨64 * a.val + b.val, by omega⟩ := ⟨⟨s.val / 64, by omega⟩, ⟨s.val % 64, by omega⟩, Fin.ext (by dsimp only; omega)⟩
  have e : (rowOf : FVec Ideal S2048 .f32) (ix1 ⟨64 * a.val + b.val, by omega⟩) = FloatOps.sitofp (F := Ideal) FTy.f32 (BitVec.ofNat 32 a.val) := by pointwise [rowOf]
  rw [e]
  congr 2
  dsimp only
  omega
theorem colOf_apply (s : Fin 2048) : (colOf : FVec Ideal S2048 .f32) (ix1 s) = FloatOps.sitofp (F := Ideal) FTy.f32 (BitVec.ofNat 32 (s.val % 64)) := by
  obtain ⟨a, b, rfl⟩ : ∃ (a : Fin 32) (b : Fin 64), s = ⟨64 * a.val + b.val, by omega⟩ := ⟨⟨s.val / 64, by omega⟩, ⟨s.val % 64, by omega⟩, Fin.ext (by dsimp only; omega)⟩
  have e : (colOf : FVec Ideal S2048 .f32) (ix1 ⟨64 * a.val + b.val, by omega⟩) = FloatOps.sitofp (F := Ideal) FTy.f32 (BitVec.ofNat 32 b.val) := by pointwise [colOf]
  rw [e]
  congr 2
  dsimp only
  omega
theorem axAngs_apply (p : FVec Ideal S2048 .f32) (s : Fin 2048) (d : Fin 32) : axAngs p (ix4 0 s 0 d) = p (ix1 s) * axFrq (d.val % 16) := by
  have e : axAngs p (ix4 0 s 0 d) = if h : (d : ℕ) < 16 then p (ix1 s) * axFreq (F := Ideal) (ix1 ⟨d, h⟩)
      else p (ix1 s) * axFreq (F := Ideal) (ix1 ⟨d - 16, by omega⟩) := by pointwise [axAngs, axOf]
  rw [e]
  split <;> rw [axFreq_apply] <;> congr 2 <;> dsimp only <;> omega

/-- The norm and the axial rotary of 8 heads. -/
theorem norm8_apply (z : FVec Ideal S32x2048x8x64 .f32) (g : FVec Ideal S64 .f32)
    (b : Fin 32) (s : Fin 2048) (h : Fin 8) (d : Fin 64) :
    norm8 z g (ix4 b s h d) = normAt (fun d => z (ix4 b s h d)) (fun d => g (ix1 d)) d := by
  unfold normAt
  pointwise [norm8]
theorem turn8_apply (a : FVec Ideal S1x2048x1x32 .f32) (y : FVec Ideal S32x2048x8x32 .f32)
    (b : Fin 32) (s : Fin 2048) (h : Fin 8) (d : Fin 32) :
    turn8 a y (ix4 b s h d) = y (ix4 b s h d) * Ideal.cos (a (ix4 0 s 0 d))
      + (if h' : (d : ℕ) < 16 then -y (ix4 b s h ⟨16 + d, by omega⟩) else y (ix4 b s h ⟨d - 16, by omega⟩)) * Ideal.sin (a (ix4 0 s 0 d)) := by
  pointwise [turn8]
theorem axial8_apply (y : FVec Ideal S32x2048x8x64 .f32)
    (b : Fin 32) (s : Fin 2048) (h : Fin 8) (d : Fin 64) :
    axial8 y (ix4 b s h d) = axialAt (fun d => y (ix4 b s h d)) s d := by
  have e : axial8 y (ix4 b s h d) = if h' : (d : ℕ) < 32
      then turn8 (axAngs (F := Ideal) rowOf) (extractStridedSlice S32x2048x8x32 ![0, 0, 0, 0] y slices_S32x2048x8x64_S32x2048x8x32_0_0_0_0) (ix4 b s h ⟨d, h'⟩)
      else turn8 (axAngs (F := Ideal) colOf) (extractStridedSlice S32x2048x8x32 ![0, 0, 0, 32] y slices_S32x2048x8x64_S32x2048x8x32_0_0_0_32) (ix4 b s h ⟨d - 32, by omega⟩) := by
    pointwise [axial8]
  have e0 : ∀ l : Fin 32, extractStridedSlice S32x2048x8x32 ![0, 0, 0, 0] y slices_S32x2048x8x64_S32x2048x8x32_0_0_0_0 (ix4 b s h l)
      = y (ix4 b s h ⟨l.val, by omega⟩) := fun l => by pointwise
  have e1 : ∀ l : Fin 32, extractStridedSlice S32x2048x8x32 ![0, 0, 0, 32] y slices_S32x2048x8x64_S32x2048x8x32_0_0_0_32 (ix4 b s h l)
      = y (ix4 b s h ⟨32 + l.val, by omega⟩) := fun l => by pointwise
  rw [e]
  unfold axialAt axAng
  by_cases h' : (d : ℕ) < 32
  · rw [dif_pos h', turn8_apply, axAngs_apply, rowOf_apply, if_pos h']
    simp only [e0]
    have hm : d.val % 32 = d.val := by omega
    by_cases h16 : (d : ℕ) < 16
    · rw [dif_pos h16, dif_pos (by omega)]
      have ed : (⟨16 + d.val, by omega⟩ : Fin 64) = ⟨d.val + 16, by omega⟩ := Fin.ext (by dsimp only; omega)
      rw [ed]
    · rw [dif_neg h16, dif_neg (by omega)]
  · rw [dif_neg h', turn8_apply, axAngs_apply, colOf_apply, if_neg h']
    simp only [e1]
    have ed : (⟨32 + (d.val - 32), by omega⟩ : Fin 64) = d := Fin.ext (by dsimp only; omega)
    have em : (d.val - 32) % 16 = d.val % 16 := by omega
    by_cases h16 : (d : ℕ) - 32 < 16
    · rw [dif_pos h16, dif_pos (by omega)]
      have ed2 : (⟨32 + (16 + (d.val - 32)), by omega⟩ : Fin 64) = ⟨d.val + 16, by omega⟩ := Fin.ext (by dsimp only; omega)
      rw [ed, ed2, em]
    · rw [dif_neg h16, dif_neg (by omega)]
      have ed2 : (⟨32 + (d.val - 32 - 16), by omega⟩ : Fin 64) = ⟨d.val - 16, by omega⟩ := Fin.ext (by dsimp only; omega)
      rw [ed, ed2, em]

/-- The norm and the axial rotary of 2 heads. -/
theorem norm2_apply (z : FVec Ideal S32x2048x2x64 .f32) (g : FVec Ideal S64 .f32)
    (b : Fin 32) (s : Fin 2048) (h : Fin 2) (d : Fin 64) :
    norm2 z g (ix4 b s h d) = normAt (fun d => z (ix4 b s h d)) (fun d => g (ix1 d)) d := by
  unfold normAt
  pointwise [norm2]
theorem turn2_apply (a : FVec Ideal S1x2048x1x32 .f32) (y : FVec Ideal S32x2048x2x32 .f32)
    (b : Fin 32) (s : Fin 2048) (h : Fin 2) (d : Fin 32) :
    turn2 a y (ix4 b s h d) = y (ix4 b s h d) * Ideal.cos (a (ix4 0 s 0 d))
      + (if h' : (d : ℕ) < 16 then -y (ix4 b s h ⟨16 + d, by omega⟩) else y (ix4 b s h ⟨d - 16, by omega⟩)) * Ideal.sin (a (ix4 0 s 0 d)) := by
  pointwise [turn2]
theorem axial2_apply (y : FVec Ideal S32x2048x2x64 .f32)
    (b : Fin 32) (s : Fin 2048) (h : Fin 2) (d : Fin 64) :
    axial2 y (ix4 b s h d) = axialAt (fun d => y (ix4 b s h d)) s d := by
  have e : axial2 y (ix4 b s h d) = if h' : (d : ℕ) < 32
      then turn2 (axAngs (F := Ideal) rowOf) (extractStridedSlice S32x2048x2x32 ![0, 0, 0, 0] y slices_S32x2048x2x64_S32x2048x2x32_0_0_0_0) (ix4 b s h ⟨d, h'⟩)
      else turn2 (axAngs (F := Ideal) colOf) (extractStridedSlice S32x2048x2x32 ![0, 0, 0, 32] y slices_S32x2048x2x64_S32x2048x2x32_0_0_0_32) (ix4 b s h ⟨d - 32, by omega⟩) := by
    pointwise [axial2]
  have e0 : ∀ l : Fin 32, extractStridedSlice S32x2048x2x32 ![0, 0, 0, 0] y slices_S32x2048x2x64_S32x2048x2x32_0_0_0_0 (ix4 b s h l)
      = y (ix4 b s h ⟨l.val, by omega⟩) := fun l => by pointwise
  have e1 : ∀ l : Fin 32, extractStridedSlice S32x2048x2x32 ![0, 0, 0, 32] y slices_S32x2048x2x64_S32x2048x2x32_0_0_0_32 (ix4 b s h l)
      = y (ix4 b s h ⟨32 + l.val, by omega⟩) := fun l => by pointwise
  rw [e]
  unfold axialAt axAng
  by_cases h' : (d : ℕ) < 32
  · rw [dif_pos h', turn2_apply, axAngs_apply, rowOf_apply, if_pos h']
    simp only [e0]
    have hm : d.val % 32 = d.val := by omega
    by_cases h16 : (d : ℕ) < 16
    · rw [dif_pos h16, dif_pos (by omega)]
      have ed : (⟨16 + d.val, by omega⟩ : Fin 64) = ⟨d.val + 16, by omega⟩ := Fin.ext (by dsimp only; omega)
      rw [ed]
    · rw [dif_neg h16, dif_neg (by omega)]
  · rw [dif_neg h', turn2_apply, axAngs_apply, colOf_apply, if_neg h']
    simp only [e1]
    have ed : (⟨32 + (d.val - 32), by omega⟩ : Fin 64) = d := Fin.ext (by dsimp only; omega)
    have em : (d.val - 32) % 16 = d.val % 16 := by omega
    by_cases h16 : (d : ℕ) - 32 < 16
    · rw [dif_pos h16, dif_pos (by omega)]
      have ed2 : (⟨32 + (16 + (d.val - 32)), by omega⟩ : Fin 64) = ⟨d.val + 16, by omega⟩ := Fin.ext (by dsimp only; omega)
      rw [ed, ed2, em]
    · rw [dif_neg h16, dif_neg (by omega)]
      have ed2 : (⟨32 + (d.val - 32 - 16), by omega⟩ : Fin 64) = ⟨d.val - 16, by omega⟩ := Fin.ext (by dsimp only; omega)
      rw [ed, ed2, em]

section Apply

variable (x : FVec Ideal S32x2048x1024 .f32) (g : FVec Ideal S1024 .f32) (w : FVec Ideal S1024x3328 .f32) (gh : FVec Ideal S64 .f32)
  (b : Fin 32) (s : Fin 2048) (h : Fin 8) (h2 : Fin 2) (d : Fin 64)

/-- The first branch's queries at row `2048 b + s` and lane `d` of head `h`, -/
theorem refQa_apply : refQa x g w gh (ix2 ⟨2048 * b.val + s.val, by omega⟩ ⟨64 * h.val + d.val, by omega⟩)
    = axialAt (normAt (fun d => refZ x g w (ix3 b s ⟨0 + (64 * h.val + d.val), by omega⟩)) (fun d => gh (ix1 d))) s d * Ideal.ofBits .f32 0x3E000000#32 := by
  unfold refQa
  generalize refZ x g w = z
  have e : ∀ y : FVec Ideal S32x2048x8x64 .f32, (truncf .bf16 (shapeCast S65536x512 y shapeCasts_S32x2048x8x64_S65536x512) bitsLt_bf16_f32 : FVec Ideal S65536x512 .bf16) (ix2 ⟨2048 * b.val + s.val, by omega⟩ ⟨64 * h.val + d.val, by omega⟩)
      = y (ix4 b s h d) := fun y => by pointwise
  have e0 : ∀ d : Fin 64, shapeCast S32x2048x8x64 (extractStridedSlice S32x2048x512 ![0, 0, 0] z slices_S32x2048x3328_S32x2048x512_0_0_0) shapeCasts_S32x2048x512_S32x2048x8x64 (ix4 b s h d)
      = z (ix3 b s ⟨0 + (64 * h.val + d.val), by omega⟩) := fun d => by
    pointwise
    try exact congrArg (fun l => z (ix3 b s l)) (Fin.ext (by dsimp only; omega))
  refine (e _).trans ?_
  refine congrArg (· * Ideal.ofBits .f32 0x3E000000#32) ((axial8_apply _ b s h d).trans ?_)
  refine congrArg (fun y => axialAt y s d) (funext fun d => ?_)
  rw [norm8_apply]
  exact congrArg (fun y => normAt y _ d) (funext e0)
/-- its keys there, -/
theorem refKa_apply : refKa x g w gh (ix2 ⟨2048 * b.val + s.val, by omega⟩ ⟨64 * h2.val + d.val, by omega⟩)
    = axialAt (normAt (fun d => refZ x g w (ix3 b s ⟨512 + (64 * h2.val + d.val), by omega⟩)) (fun d => gh (ix1 d))) s d := by
  unfold refKa
  generalize refZ x g w = z
  have e : ∀ y : FVec Ideal S32x2048x2x64 .f32, (truncf .bf16 (shapeCast S65536x128 y shapeCasts_S32x2048x2x64_S65536x128) bitsLt_bf16_f32 : FVec Ideal S65536x128 .bf16) (ix2 ⟨2048 * b.val + s.val, by omega⟩ ⟨64 * h2.val + d.val, by omega⟩)
      = y (ix4 b s h2 d) := fun y => by pointwise
  have e0 : ∀ d : Fin 64, shapeCast S32x2048x2x64 (extractStridedSlice S32x2048x128 ![0, 0, 512] z slices_S32x2048x3328_S32x2048x128_0_0_512) shapeCasts_S32x2048x128_S32x2048x2x64 (ix4 b s h2 d)
      = z (ix3 b s ⟨512 + (64 * h2.val + d.val), by omega⟩) := fun d => by
    pointwise
    try exact congrArg (fun l => z (ix3 b s l)) (Fin.ext (by dsimp only; omega))
  refine (e _).trans ?_
  refine ((axial2_apply _ b s h2 d).trans ?_)
  refine congrArg (fun y => axialAt y s d) (funext fun d => ?_)
  rw [norm2_apply]
  exact congrArg (fun y => normAt y _ d) (funext e0)
/-- the second branch's queries -/
theorem refQb_apply : refQb x g w gh (ix2 ⟨2048 * b.val + s.val, by omega⟩ ⟨64 * h.val + d.val, by omega⟩)
    = ropeAt (normAt (fun d => refZ x g w (ix3 b s ⟨768 + (64 * h.val + d.val), by omega⟩)) (fun d => gh (ix1 d))) s d * Ideal.ofBits .f32 0x3E000000#32 := by
  unfold refQb
  generalize refZ x g w = z
  have e : ∀ y : FVec Ideal S32x2048x8x64 .f32, (truncf .bf16 (shapeCast S65536x512 y shapeCasts_S32x2048x8x64_S65536x512) bitsLt_bf16_f32 : FVec Ideal S65536x512 .bf16) (ix2 ⟨2048 * b.val + s.val, by omega⟩ ⟨64 * h.val + d.val, by omega⟩)
      = y (ix4 b s h d) := fun y => by pointwise
  have e0 : ∀ d : Fin 64, shapeCast S32x2048x8x64 (extractStridedSlice S32x2048x512 ![0, 0, 768] z slices_S32x2048x3328_S32x2048x512_0_0_768) shapeCasts_S32x2048x512_S32x2048x8x64 (ix4 b s h d)
      = z (ix3 b s ⟨768 + (64 * h.val + d.val), by omega⟩) := fun d => by
    pointwise
    try exact congrArg (fun l => z (ix3 b s l)) (Fin.ext (by dsimp only; omega))
  refine (e _).trans ?_
  refine congrArg (· * Ideal.ofBits .f32 0x3E000000#32) ((rope8_apply _ b s h d).trans ?_)
  refine congrArg (fun y => ropeAt y s d) (funext fun d => ?_)
  rw [norm8_apply]
  exact congrArg (fun y => normAt y _ d) (funext e0)
/-- and its keys. -/
theorem refKb_apply : refKb x g w gh (ix2 ⟨2048 * b.val + s.val, by omega⟩ ⟨64 * h.val + d.val, by omega⟩)
    = ropeAt (normAt (fun d => refZ x g w (ix3 b s ⟨1280 + (64 * h.val + d.val), by omega⟩)) (fun d => gh (ix1 d))) s d := by
  unfold refKb
  generalize refZ x g w = z
  have e : ∀ y : FVec Ideal S32x2048x8x64 .f32, (truncf .bf16 (shapeCast S65536x512 y shapeCasts_S32x2048x8x64_S65536x512) bitsLt_bf16_f32 : FVec Ideal S65536x512 .bf16) (ix2 ⟨2048 * b.val + s.val, by omega⟩ ⟨64 * h.val + d.val, by omega⟩)
      = y (ix4 b s h d) := fun y => by pointwise
  have e0 : ∀ d : Fin 64, shapeCast S32x2048x8x64 (extractStridedSlice S32x2048x512 ![0, 0, 1280] z slices_S32x2048x3328_S32x2048x512_0_0_1280) shapeCasts_S32x2048x512_S32x2048x8x64 (ix4 b s h d)
      = z (ix3 b s ⟨1280 + (64 * h.val + d.val), by omega⟩) := fun d => by
    pointwise
    try exact congrArg (fun l => z (ix3 b s l)) (Fin.ext (by dsimp only; omega))
  refine (e _).trans ?_
  refine ((rope8_apply _ b s h d).trans ?_)
  refine congrArg (fun y => ropeAt y s d) (funext fun d => ?_)
  rw [norm8_apply]
  exact congrArg (fun y => normAt y _ d) (funext e0)
/-- The values of both, -/
theorem refVa_apply (q : Fin 128) : refVa x g w (ix2 ⟨2048 * b.val + s.val, by omega⟩ q) = refZ x g w (ix3 b s ⟨640 + q.val, by omega⟩) := by
  unfold refVa
  generalize refZ x g w = z
  pointwise
theorem refVb_apply (q : Fin 512) : refVb x g w (ix2 ⟨2048 * b.val + s.val, by omega⟩ q) = refZ x g w (ix3 b s ⟨1792 + q.val, by omega⟩) := by
  unfold refVb
  generalize refZ x g w = z
  pointwise
/-- The values turned, at lane `l` of a head. -/
theorem refVat_apply (a : Fin 2) (l : Fin 128) : refVat x g w (ix4 b a l s)
    = if l.val < 64 then refZ x g w (ix3 b s ⟨640 + (64 * a.val + l.val) % 128, by omega⟩) else Ideal.ofBits .f32 0x3F800000#32 := by
  unfold refVat
  generalize refZ x g w = z
  have e : ∀ y : FVec Ideal S32x2048x2x64 .f32, (truncf .bf16 (concatenate S32x2x128x2048 2
      [⟨S32x2x64x2048, (transpose S32x2x64x2048 [0, 2, 3, 1] y transposes_S32x2048x2x64_S32x2x64x2048_0_2_3_1 : FVec Ideal S32x2x64x2048 .f32)⟩,
        ⟨S32x2x64x2048, (broadcastInDim S32x2x64x2048 ![] bcast_S_S32x2x64x2048 (constant S_ .f32 0x3F800000#32) : FVec Ideal S32x2x64x2048 .f32)⟩]
      concatenates_S32x2x64x2048_S32x2x64x2048_S32x2x128x2048_d2) bitsLt_bf16_f32 : FVec Ideal S32x2x128x2048 .bf16) (ix4 b a l s)
      = if h : (l : ℕ) < 64 then y (ix4 b s a ⟨l, h⟩) else Ideal.ofBits .f32 0x3F800000#32 := fun y => by pointwise
  have e2 : ∀ d : Fin 64, shapeCast S32x2048x2x64 (extractStridedSlice S32x2048x128 ![0, 0, 640] z slices_S32x2048x3328_S32x2048x128_0_0_640)
      shapeCasts_S32x2048x128_S32x2048x2x64 (ix4 b s a d) = z (ix3 b s ⟨640 + (a.val * 64 + d.val), by omega⟩) := fun d => by pointwise
  rw [e]
  by_cases hl : l.val < 64
  · rw [dif_pos hl, if_pos hl, e2]
    exact congrArg (fun q => z (ix3 b s q)) (Fin.ext (by dsimp only; omega))
  · rw [dif_neg hl, if_neg hl]
theorem refVbt_apply (a : Fin 4) (l : Fin 128) : refVbt x g w (ix4 b a l s) = refZ x g w (ix3 b s ⟨1792 + (a.val * 128 + l.val), by omega⟩) := by
  unfold refVbt
  generalize refZ x g w = z
  pointwise
/-- and the gate. -/
theorem refSg_apply (q : Fin 1024) : refSg x g w (ix2 ⟨2048 * b.val + s.val, by omega⟩ q)
    = refZ x g w (ix3 b s ⟨2304 + q.val, by omega⟩) * Ideal.logistic (refZ x g w (ix3 b s ⟨2304 + q.val, by omega⟩)) := by
  unfold refSg Ideal.logistic
  generalize refZ x g w = z
  pointwise

end Apply

end Cert.Proof.Even

end
-- ==== Proof.EvenValue.lean ====
/-
  The seven arrays of rows that the input projection of the even layer leaves, read at an element, and that they are the reference's.
-/
module

public import proofs.«01_k».proof.Proof.EvenBody
public import proofs.«01_k».proof.Proof.EvenHost
public import proofs.«01_k».proof.Proof.EvenRef
public import proofs.«01_k».proof.Proof.ProjValue

@[expose] public section

noncomputable section

namespace Cert.Proof.Even

open Cert.Kernel4Ideal Cert.Kernel4Ideal.Gen
open Cert.Proof.Proj (ang projAt projAt_eq normAt ropeAt two_apply cosT_apply sinA_apply sinB_apply gainRow_apply meanMat_apply shapeCast_row)
open Idealize.ShloMosaic
open Idealize.ShloMosaic.TcCoe Idealize.ShloMosaic.StableHlo

section Blocks

variable {F : FTy → Type} [FloatOps F] (m : (ℓ : Loc nD τ sig) → Buf (Elt F) ℓ) (c : Dev nD)

theorem pt_lt (t : Fin cfg0.N) : t.val < 64 := N_0 ▸ t.isLt
/-- Point `t` of the grid reads block `t` of the rows, block `t mod 2` of each table, and writes block `t` of each result. -/
theorem idx0 : ∀ t : Fin cfg0.N, win0_0.index t 0 = t.val := (by decide +kernel : ∀ t : Fin grid0.N, win0_0.index t 0 = t.val)
theorem idx14 : ∀ t : Fin cfg0.N, win0_14.index t 0 = t.val := (by decide +kernel : ∀ t : Fin grid0.N, win0_14.index t 0 = t.val)
theorem idx15 : ∀ t : Fin cfg0.N, win0_15.index t 0 = t.val := (by decide +kernel : ∀ t : Fin grid0.N, win0_15.index t 0 = t.val)
theorem idx16 : ∀ t : Fin cfg0.N, win0_16.index t 0 = t.val := (by decide +kernel : ∀ t : Fin grid0.N, win0_16.index t 0 = t.val)
theorem idx17 : ∀ t : Fin cfg0.N, win0_17.index t 0 = t.val := (by decide +kernel : ∀ t : Fin grid0.N, win0_17.index t 0 = t.val)
theorem idx18 : ∀ t : Fin cfg0.N, win0_18.index t 0 = t.val := (by decide +kernel : ∀ t : Fin grid0.N, win0_18.index t 0 = t.val)
theorem idx19 : ∀ t : Fin cfg0.N, win0_19.index t 0 = t.val := (by decide +kernel : ∀ t : Fin grid0.N, win0_19.index t 0 = t.val)
theorem idx20 : ∀ t : Fin cfg0.N, win0_20.index t 0 = t.val := (by decide +kernel : ∀ t : Fin grid0.N, win0_20.index t 0 = t.val)
theorem idx8 : ∀ t : Fin cfg0.N, win0_8.index t 0 = t.val % 2 := (by decide +kernel : ∀ t : Fin grid0.N, win0_8.index t 0 = t.val % 2)
theorem idx9 : ∀ t : Fin cfg0.N, win0_9.index t 0 = t.val % 2 := (by decide +kernel : ∀ t : Fin grid0.N, win0_9.index t 0 = t.val % 2)
theorem idx10 : ∀ t : Fin cfg0.N, win0_10.index t 0 = t.val % 2 := (by decide +kernel : ∀ t : Fin grid0.N, win0_10.index t 0 = t.val % 2)
theorem idx11 : ∀ t : Fin cfg0.N, win0_11.index t 0 = t.val % 2 := (by decide +kernel : ∀ t : Fin grid0.N, win0_11.index t 0 = t.val % 2)
theorem idx12 : ∀ t : Fin cfg0.N, win0_12.index t 0 = t.val % 2 := (by decide +kernel : ∀ t : Fin grid0.N, win0_12.index t 0 = t.val % 2)
theorem idx13 : ∀ t : Fin cfg0.N, win0_13.index t 0 = t.val % 2 := (by decide +kernel : ∀ t : Fin grid0.N, win0_13.index t 0 = t.val % 2)

/-- The blocks that are whole arrays. -/
theorem iblk1 (t : Fin cfg0.N) : (iblk m c 1 t : FVec F S1x1024 .f32) = V m c main_v9 := by
  unfold iblk
  funext j
  show (V m c main_v9 : FVec F S1x1024 .f32) _ = _
  congr 1
  funext a
  fin_cases a <;> exact Fin.ext (by simp [win0_1]; rfl)
theorem iblk2 (t : Fin cfg0.N) : (iblk m c 2 t : FVec F S1024x3328 .bf16) = V m c main_v10 := by
  unfold iblk
  funext j
  show (V m c main_v10 : FVec F S1024x3328 .bf16) _ = _
  congr 1
  funext a
  fin_cases a <;> exact Fin.ext (by simp [win0_2]; rfl)
theorem iblk3 (t : Fin cfg0.N) : (iblk m c 3 t : FVec F S256x256 .bf16) = V m c main_v20 := by
  unfold iblk
  funext j
  show (V m c main_v20 : FVec F S256x256 .bf16) _ = _
  congr 1
  funext a
  fin_cases a <;> exact Fin.ext (by simp [win0_3]; rfl)
theorem iblk4 (t : Fin cfg0.N) : (iblk m c 4 t : FVec F S1x128 .f32) = V m c main_v1 := by
  unfold iblk
  funext j
  show (V m c main_v1 : FVec F S1x128 .f32) _ = _
  congr 1
  funext a
  fin_cases a <;> exact Fin.ext (by simp [win0_4]; rfl)
theorem iblk5 (t : Fin cfg0.N) : (iblk m c 5 t : FVec F S1x128 .f32) = V m c main_v3 := by
  unfold iblk
  funext j
  show (V m c main_v3 : FVec F S1x128 .f32) _ = _
  congr 1
  funext a
  fin_cases a <;> exact Fin.ext (by simp [win0_5]; rfl)
theorem iblk6 (t : Fin cfg0.N) : (iblk m c 6 t : FVec F S1x128 .f32) = V m c main_v5 := by
  unfold iblk
  funext j
  show (V m c main_v5 : FVec F S1x128 .f32) _ = _
  congr 1
  funext a
  fin_cases a <;> exact Fin.ext (by simp [win0_6]; rfl)
theorem iblk7 (t : Fin cfg0.N) : (iblk m c 7 t : FVec F S1x128 .f32) = V m c main_v7 := by
  unfold iblk
  funext j
  show (V m c main_v7 : FVec F S1x128 .f32) _ = _
  congr 1
  funext a
  fin_cases a <;> exact Fin.ext (by simp [win0_7]; rfl)

/-- The rows of a block, and of a block of a table. -/
theorem iblk0 (t : Fin cfg0.N) (r k : Fin 1024) : (iblk m c 0 t : FVec F S1024x1024 .f32) (ix2 r k)
    = (V m c main_v8 : FVec F S65536x1024 .f32) (ix2 ⟨1024 * t.val + r.val, by have := pt_lt t; omega⟩ k) := by
  unfold iblk
  show (V m c main_v8 : FVec F S65536x1024 .f32) _ = _
  congr 1
  funext a
  fin_cases a
  · refine Fin.ext ?_
    show win0_0.index t 0 * 1024 + 1 * r.val = 1024 * t.val + r.val
    rw [idx0]; omega
  · refine Fin.ext ?_
    show 0 * 1024 + 1 * k.val = k.val
    omega
theorem iblk8 (t : Fin cfg0.N) (r : Fin 1024) (k : Fin 128) : (iblk m c 8 t : FVec F S1024x128 .f32) (ix2 r k)
    = (V m c main_v73 : FVec F S4096x128 .f32) (ix2 ⟨1024 * (t.val % 2) + r.val, by omega⟩ k) := by
  unfold iblk
  show (V m c main_v73 : FVec F S4096x128 .f32) _ = _
  congr 1
  funext a
  fin_cases a
  · refine Fin.ext ?_
    show win0_8.index t 0 * 1024 + 1 * r.val = 1024 * (t.val % 2) + r.val
    rw [idx8]; omega
  · refine Fin.ext ?_
    show 0 * 128 + 1 * k.val = k.val
    omega
theorem iblk9 (t : Fin cfg0.N) (r : Fin 1024) (k : Fin 128) : (iblk m c 9 t : FVec F S1024x128 .f32) (ix2 r k)
    = (V m c main_v74 : FVec F S4096x128 .f32) (ix2 ⟨1024 * (t.val % 2) + r.val, by omega⟩ k) := by
  unfold iblk
  show (V m c main_v74 : FVec F S4096x128 .f32) _ = _
  congr 1
  funext a
  fin_cases a
  · refine Fin.ext ?_
    show win0_9.index t 0 * 1024 + 1 * r.val = 1024 * (t.val % 2) + r.val
    rw [idx9]; omega
  · refine Fin.ext ?_
    show 0 * 128 + 1 * k.val = k.val
    omega
theorem iblk10 (t : Fin cfg0.N) (r : Fin 1024) (k : Fin 128) : (iblk m c 10 t : FVec F S1024x128 .f32) (ix2 r k)
    = (V m c main_v75 : FVec F S4096x128 .f32) (ix2 ⟨1024 * (t.val % 2) + r.val, by omega⟩ k) := by
  unfold iblk
  show (V m c main_v75 : FVec F S4096x128 .f32) _ = _
  congr 1
  funext a
  fin_cases a
  · refine Fin.ext ?_
    show win0_10.index t 0 * 1024 + 1 * r.val = 1024 * (t.val % 2) + r.val
    rw [idx10]; omega
  · refine Fin.ext ?_
    show 0 * 128 + 1 * k.val = k.val
    omega
theorem iblk11 (t : Fin cfg0.N) (r : Fin 1024) (k : Fin 128) : (iblk m c 11 t : FVec F S1024x128 .f32) (ix2 r k)
    = (V m c main_v113 : FVec F S4096x128 .f32) (ix2 ⟨1024 * (t.val % 2) + r.val, by omega⟩ k) := by
  unfold iblk
  show (V m c main_v113 : FVec F S4096x128 .f32) _ = _
  congr 1
  funext a
  fin_cases a
  · refine Fin.ext ?_
    show win0_11.index t 0 * 1024 + 1 * r.val = 1024 * (t.val % 2) + r.val
    rw [idx11]; omega
  · refine Fin.ext ?_
    show 0 * 128 + 1 * k.val = k.val
    omega
theorem iblk12 (t : Fin cfg0.N) (r : Fin 1024) (k : Fin 128) : (iblk m c 12 t : FVec F S1024x128 .f32) (ix2 r k)
    = (V m c main_v114 : FVec F S4096x128 .f32) (ix2 ⟨1024 * (t.val % 2) + r.val, by omega⟩ k) := by
  unfold iblk
  show (V m c main_v114 : FVec F S4096x128 .f32) _ = _
  congr 1
  funext a
  fin_cases a
  · refine Fin.ext ?_
    show win0_12.index t 0 * 1024 + 1 * r.val = 1024 * (t.val % 2) + r.val
    rw [idx12]; omega
  · refine Fin.ext ?_
    show 0 * 128 + 1 * k.val = k.val
    omega
theorem iblk13 (t : Fin cfg0.N) (r : Fin 1024) (k : Fin 128) : (iblk m c 13 t : FVec F S1024x128 .f32) (ix2 r k)
    = (V m c main_v115 : FVec F S4096x128 .f32) (ix2 ⟨1024 * (t.val % 2) + r.val, by omega⟩ k) := by
  unfold iblk
  show (V m c main_v115 : FVec F S4096x128 .f32) _ = _
  congr 1
  funext a
  fin_cases a
  · refine Fin.ext ?_
    show win0_13.index t 0 * 1024 + 1 * r.val = 1024 * (t.val % 2) + r.val
    rw [idx13]; omega
  · refine Fin.ext ?_
    show 0 * 128 + 1 * k.val = k.val
    omega

/-- Each result's array, in the rows of block `t`, is what point `t` computes. -/
theorem arr14 (t : Fin cfg0.N) (r : Fin 1024) (q : Fin 512) : ((dats m 0 c).arrAt 14 cfg0.N : FVec F S65536x512 .bf16) (ix2 ⟨1024 * t.val + r.val, by have := pt_lt t; omega⟩ q)
    = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks14 m c t (flush0_14 t)).trans (Value.flushed14 m c t)) (ix2 r q)
  refine Eq.trans ?_ (e.trans rfl)
  show _ = ((dats m 0 c).arrAt 14 cfg0.N : FVec F S65536x512 .bf16) _
  congr 1
  funext a
  fin_cases a
  · refine Fin.ext ?_
    show 1024 * t.val + r.val = win0_14.index t 0 * 1024 + 1 * r.val
    rw [idx14]; omega
  · refine Fin.ext ?_
    show q.val = 0 * 512 + 1 * q.val
    omega
theorem arr15 (t : Fin cfg0.N) (r : Fin 1024) (q : Fin 128) : ((dats m 0 c).arrAt 15 cfg0.N : FVec F S65536x128 .bf16) (ix2 ⟨1024 * t.val + r.val, by have := pt_lt t; omega⟩ q)
    = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks15 m c t (flush0_15 t)).trans (Value.flushed15 m c t)) (ix2 r q)
  refine Eq.trans ?_ (e.trans rfl)
  show _ = ((dats m 0 c).arrAt 15 cfg0.N : FVec F S65536x128 .bf16) _
  congr 1
  funext a
  fin_cases a
  · refine Fin.ext ?_
    show 1024 * t.val + r.val = win0_15.index t 0 * 1024 + 1 * r.val
    rw [idx15]; omega
  · refine Fin.ext ?_
    show q.val = 0 * 128 + 1 * q.val
    omega
theorem arr16 (t : Fin cfg0.N) (r : Fin 1024) (q : Fin 128) : ((dats m 0 c).arrAt 16 cfg0.N : FVec F S65536x128 .bf16) (ix2 ⟨1024 * t.val + r.val, by have := pt_lt t; omega⟩ q)
    = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks16 m c t (flush0_16 t)).trans (Value.flushed16 m c t)) (ix2 r q)
  refine Eq.trans ?_ (e.trans rfl)
  show _ = ((dats m 0 c).arrAt 16 cfg0.N : FVec F S65536x128 .bf16) _
  congr 1
  funext a
  fin_cases a
  · refine Fin.ext ?_
    show 1024 * t.val + r.val = win0_16.index t 0 * 1024 + 1 * r.val
    rw [idx16]; omega
  · refine Fin.ext ?_
    show q.val = 0 * 128 + 1 * q.val
    omega
theorem arr17 (t : Fin cfg0.N) (r : Fin 1024) (q : Fin 512) : ((dats m 0 c).arrAt 17 cfg0.N : FVec F S65536x512 .bf16) (ix2 ⟨1024 * t.val + r.val, by have := pt_lt t; omega⟩ q)
    = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks17 m c t (flush0_17 t)).trans (Value.flushed17 m c t)) (ix2 r q)
  refine Eq.trans ?_ (e.trans rfl)
  show _ = ((dats m 0 c).arrAt 17 cfg0.N : FVec F S65536x512 .bf16) _
  congr 1
  funext a
  fin_cases a
  · refine Fin.ext ?_
    show 1024 * t.val + r.val = win0_17.index t 0 * 1024 + 1 * r.val
    rw [idx17]; omega
  · refine Fin.ext ?_
    show q.val = 0 * 512 + 1 * q.val
    omega
theorem arr18 (t : Fin cfg0.N) (r : Fin 1024) (q : Fin 512) : ((dats m 0 c).arrAt 18 cfg0.N : FVec F S65536x512 .bf16) (ix2 ⟨1024 * t.val + r.val, by have := pt_lt t; omega⟩ q)
    = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks18 m c t (flush0_18 t)).trans (Value.flushed18 m c t)) (ix2 r q)
  refine Eq.trans ?_ (e.trans rfl)
  show _ = ((dats m 0 c).arrAt 18 cfg0.N : FVec F S65536x512 .bf16) _
  congr 1
  funext a
  fin_cases a
  · refine Fin.ext ?_
    show 1024 * t.val + r.val = win0_18.index t 0 * 1024 + 1 * r.val
    rw [idx18]; omega
  · refine Fin.ext ?_
    show q.val = 0 * 512 + 1 * q.val
    omega
theorem arr19 (t : Fin cfg0.N) (r : Fin 1024) (q : Fin 512) : ((dats m 0 c).arrAt 19 cfg0.N : FVec F S65536x512 .bf16) (ix2 ⟨1024 * t.val + r.val, by have := pt_lt t; omega⟩ q)
    = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks19 m c t (flush0_19 t)).trans (Value.flushed19 m c t)) (ix2 r q)
  refine Eq.trans ?_ (e.trans rfl)
  show _ = ((dats m 0 c).arrAt 19 cfg0.N : FVec F S65536x512 .bf16) _
  congr 1
  funext a
  fin_cases a
  · refine Fin.ext ?_
    show 1024 * t.val + r.val = win0_19.index t 0 * 1024 + 1 * r.val
    rw [idx19]; omega
  · refine Fin.ext ?_
    show q.val = 0 * 512 + 1 * q.val
    omega
theorem arr20 (t : Fin cfg0.N) (r : Fin 1024) (q : Fin 1024) : ((dats m 0 c).arrAt 20 cfg0.N : FVec F S65536x1024 .bf16) (ix2 ⟨1024 * t.val + r.val, by have := pt_lt t; omega⟩ q)
    = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r q) := by
  have e := congrFun ((Value.blocks20 m c t (flush0_20 t)).trans (Value.flushed20 m c t)) (ix2 r q)
  refine Eq.trans ?_ (e.trans rfl)
  show _ = ((dats m 0 c).arrAt 20 cfg0.N : FVec F S65536x1024 .bf16) _
  congr 1
  funext a
  fin_cases a
  · refine Fin.ext ?_
    show 1024 * t.val + r.val = win0_20.index t 0 * 1024 + 1 * r.val
    rw [idx20]; omega
  · refine Fin.ext ?_
    show q.val = 0 * 1024 + 1 * q.val
    omega

end Blocks

section Results

variable (m : (ℓ : Loc nD τ sig) → Buf (Elt Ideal) ℓ) (c : Dev nD)

/-- The blocks at point `t`, read from the arguments: the rows, -/
theorem blk0 (t : Fin cfg0.N) (r k : Fin 1024) : (iblk m c 0 t : FVec Ideal S1024x1024 .f32) (ix2 r k)
    = (m ((c : Thread nD τ).loc main_arg0) : FVec Ideal S32x2048x1024 .f32)
        (ix3 ⟨t.val / 2, by have := pt_lt t; omega⟩ ⟨1024 * (t.val % 2) + r.val, by omega⟩ k) := by
  have ht := pt_lt t
  rw [iblk0, V_x]
  have e : (⟨1024 * t.val + r.val, by omega⟩ : Fin 65536) = ⟨2048 * (t.val / 2) + (1024 * (t.val % 2) + r.val), by omega⟩ :=
    Fin.ext (by dsimp only; omega)
  rw [e]
  generalize (m ((c : Thread nD τ).loc main_arg0) : FVec Ideal S32x2048x1024 .f32) = X
  exact shapeCast_row X ⟨t.val / 2, by omega⟩ ⟨1024 * (t.val % 2) + r.val, by omega⟩ k
/-- the gain, the weights, -/
theorem blk1 (t : Fin cfg0.N) (k : Fin 1024) : (iblk m c 1 t : FVec Ideal S1x1024 .f32) (ix2 0 k)
    = (m ((c : Thread nD τ).loc main_arg1) : FVec Ideal S1024 .f32) (ix1 k) := by
  rw [iblk1, V_g]
  generalize (m ((c : Thread nD τ).loc main_arg1) : FVec Ideal S1024 .f32) = X
  pointwise
theorem blk2 (t : Fin cfg0.N) (k : Fin 1024) (l : Fin 3328) : (iblk m c 2 t : FVec Ideal S1024x3328 .bf16) (ix2 k l)
    = (m ((c : Thread nD τ).loc main_arg2) : FVec Ideal S1024x3328 .f32) (ix2 k l) := by
  rw [iblk2, V_w]; rfl
/-- the matrix of head means, the gains of the head norms -/
theorem blk3 (t : Fin cfg0.N) (i j : Fin 256) : (iblk m c 3 t : FVec Ideal S256x256 .bf16) (ix2 i j)
    = if i.val / 64 = j.val / 64 then Ideal.ofBits .f32 1015021568#32 else 0 := by
  rw [iblk3, V_mean]; exact meanMat_apply i j
theorem blk4 (t : Fin cfg0.N) (l : Fin 128) : (iblk m c 4 t : FVec Ideal S1x128 .f32) (ix2 0 l)
    = (m ((c : Thread nD τ).loc main_arg3) : FVec Ideal S64 .f32) (ix1 ⟨l.val % 64, by omega⟩) := by
  rw [iblk4, V_gqa]; exact gainRow_apply _ l
theorem blk5 (t : Fin cfg0.N) (l : Fin 128) : (iblk m c 5 t : FVec Ideal S1x128 .f32) (ix2 0 l)
    = (m ((c : Thread nD τ).loc main_arg4) : FVec Ideal S64 .f32) (ix1 ⟨l.val % 64, by omega⟩) := by
  rw [iblk5, V_gka]; exact gainRow_apply _ l
theorem blk6 (t : Fin cfg0.N) (l : Fin 128) : (iblk m c 6 t : FVec Ideal S1x128 .f32) (ix2 0 l)
    = (m ((c : Thread nD τ).loc main_arg5) : FVec Ideal S64 .f32) (ix1 ⟨l.val % 64, by omega⟩) := by
  rw [iblk6, V_gqb]; exact gainRow_apply _ l
theorem blk7 (t : Fin cfg0.N) (l : Fin 128) : (iblk m c 7 t : FVec Ideal S1x128 .f32) (ix2 0 l)
    = (m ((c : Thread nD τ).loc main_arg6) : FVec Ideal S64 .f32) (ix1 ⟨l.val % 64, by omega⟩) := by
  rw [iblk7, V_gkb]; exact gainRow_apply _ l
/-- and the tables at the rows' positions. -/
theorem blk8 (t : Fin cfg0.N) (r : Fin 1024) (l : Fin 128) : (iblk m c 8 t : FVec Ideal S1024x128 .f32) (ix2 r l)
    = Ideal.cos (axAng (1024 * (t.val % 2) + r.val) (l.val % 64)) := by
  rw [iblk8, V_axc]
  exact (two_apply _ _ _).trans (axCos_apply _ _)
theorem blk9 (t : Fin cfg0.N) (r : Fin 1024) (l : Fin 128) : (iblk m c 9 t : FVec Ideal S1024x128 .f32) (ix2 r l)
    = if l.val % 32 < 16 then -Ideal.sin (axAng (1024 * (t.val % 2) + r.val) (l.val % 64)) else 0 := by
  rw [iblk9, V_axa]
  refine (two_apply _ _ _).trans ((axSinA_apply _ _).trans ?_)
  dsimp only
  rw [Nat.mod_mod_of_dvd l.val (by norm_num : 32 ∣ 64)]
theorem blk10 (t : Fin cfg0.N) (r : Fin 1024) (l : Fin 128) : (iblk m c 10 t : FVec Ideal S1024x128 .f32) (ix2 r l)
    = if l.val % 32 < 16 then 0 else Ideal.sin (axAng (1024 * (t.val % 2) + r.val) (l.val % 64)) := by
  rw [iblk10, V_axb]
  refine (two_apply _ _ _).trans ((axSinB_apply _ _).trans ?_)
  dsimp only
  rw [Nat.mod_mod_of_dvd l.val (by norm_num : 32 ∣ 64)]
theorem blk11 (t : Fin cfg0.N) (r : Fin 1024) (l : Fin 128) : (iblk m c 11 t : FVec Ideal S1024x128 .f32) (ix2 r l)
    = if h : l.val % 64 < 16 then Ideal.cos (ang (1024 * (t.val % 2) + r.val) ⟨l.val % 64, h⟩) else 1 := by
  rw [iblk11, V_cos]
  exact (two_apply _ _ _).trans (cosT_apply _ _)
theorem blk12 (t : Fin cfg0.N) (r : Fin 1024) (l : Fin 128) : (iblk m c 12 t : FVec Ideal S1024x128 .f32) (ix2 r l)
    = if h : l.val % 64 < 8 then -Ideal.sin (ang (1024 * (t.val % 2) + r.val) ⟨l.val % 64, by omega⟩) else 0 := by
  rw [iblk12, V_sinA]
  exact (two_apply _ _ _).trans (sinA_apply _ _)
theorem blk13 (t : Fin cfg0.N) (r : Fin 1024) (l : Fin 128) : (iblk m c 13 t : FVec Ideal S1024x128 .f32) (ix2 r l)
    = if h : 8 ≤ l.val % 64 ∧ l.val % 64 < 16 then Ideal.sin (ang (1024 * (t.val % 2) + r.val) ⟨l.val % 64, h.2⟩) else 0 := by
  rw [iblk13, V_sinB]
  exact (two_apply _ _ _).trans (sinB_apply _ _)

/-- The projection of a row of block `t` is the reference's. -/
theorem blk_proj (t : Fin cfg0.N) (r : Fin 1024) (n : ℕ) (hn : n < 3328) : colAt (iblk m c 0 t) (iblk m c 1 t) (iblk m c 2 t) r n
    = refZ (F := Ideal) (m ((c : Thread nD τ).loc main_arg0)) (m ((c : Thread nD τ).loc main_arg1)) (m ((c : Thread nD τ).loc main_arg2)) (ix3 ⟨t.val / 2, by have := pt_lt t; omega⟩ ⟨1024 * (t.val % 2) + r.val, by omega⟩ ⟨n, hn⟩) := by
  have en : cl n = ⟨n, hn⟩ := Fin.ext (Nat.mod_eq_of_lt hn)
  unfold colAt
  rw [en, refZ_apply, projAt_eq]
  simp only [blk0, blk1, blk2]

/-- Every row is a row of a block. -/
theorem row_cases (P : Fin 65536 → Prop) (h : ∀ (t : Fin cfg0.N) (r : Fin 1024), P ⟨1024 * t.val + r.val, by have := pt_lt t; omega⟩) (i : Fin 65536) : P i := by
  have e := h ⟨i.val / 1024, by have := i.isLt; show _ < grid0.N; rw [N_0]; omega⟩ ⟨i.val % 1024, by omega⟩
  have e' : (⟨1024 * (i.val / 1024) + i.val % 1024, by omega⟩ : Fin 65536) = i := Fin.ext (by dsimp only; omega)
  rwa [e'] at e
theorem row_eq (t : Fin cfg0.N) (r : Fin 1024) : (⟨1024 * t.val + r.val, by have := pt_lt t; omega⟩ : Fin 65536)
    = ⟨2048 * (t.val / 2) + (1024 * (t.val % 2) + r.val), by have := pt_lt t; omega⟩ := Fin.ext (by dsimp only; omega)

/-- The first branch's queries are the reference's, -/
theorem qa_eq : @Eq (FVec Ideal S65536x512 .bf16) ((dats m 0 c).arrAt 14 cfg0.N)
    (refQa (F := Ideal) (m ((c : Thread nD τ).loc main_arg0)) (m ((c : Thread nD τ).loc main_arg1)) (m ((c : Thread nD τ).loc main_arg2)) (m ((c : Thread nD τ).loc main_arg3))) := by
  funext i
  obtain ⟨R, col, rfl⟩ := cases2 i
  refine row_cases (fun R => ((dats m 0 c).arrAt 14 cfg0.N : FVec Ideal S65536x512 .bf16) (ix2 R col) = refQa (F := Ideal) _ _ _ _ (ix2 R col)) (fun t r => ?_) R
  have ht := pt_lt t
  have hc := col.isLt
  have e := refQa_apply (m ((c : Thread nD τ).loc main_arg0)) (m ((c : Thread nD τ).loc main_arg1)) (m ((c : Thread nD τ).loc main_arg2)) (m ((c : Thread nD τ).loc main_arg3))
    ⟨t.val / 2, by omega⟩ ⟨1024 * (t.val % 2) + r.val, by omega⟩ ⟨col.val / 64, by omega⟩ ⟨col.val % 64, by omega⟩
  have ec : (⟨64 * (col.val / 64) + col.val % 64, by omega⟩ : Fin 512) = col := Fin.ext (by dsimp only; omega)
  dsimp only at e
  rw [ec] at e
  have eh : headCols (iblk m c 0 t) (iblk m c 1 t) (iblk m c 2 t) 0 r (col.val / 64)
      = fun d => refZ (F := Ideal) (m ((c : Thread nD τ).loc main_arg0)) (m ((c : Thread nD τ).loc main_arg1)) (m ((c : Thread nD τ).loc main_arg2)) (ix3 ⟨t.val / 2, by omega⟩ ⟨1024 * (t.val % 2) + r.val, by omega⟩ ⟨0 + (64 * (col.val / 64) + d.val), by omega⟩) :=
    funext fun d => blk_proj m c t r _ _
  rw [arr14, out14_apply _ _ _ _ _ _ _ _ _ _ _ _ _ _ r (1024 * (t.val % 2) + r.val) (fun d => (m ((c : Thread nD τ).loc main_arg3) : FVec Ideal S64 .f32) (ix1 d))
    (blk3 m c t) (blk8 m c t r) (blk9 m c t r) (blk10 m c t r) (blk4 m c t) col, eh, row_eq]
  exact e.symm
/-- its keys, -/
theorem ka_eq : @Eq (FVec Ideal S65536x128 .bf16) ((dats m 0 c).arrAt 15 cfg0.N)
    (refKa (F := Ideal) (m ((c : Thread nD τ).loc main_arg0)) (m ((c : Thread nD τ).loc main_arg1)) (m ((c : Thread nD τ).loc main_arg2)) (m ((c : Thread nD τ).loc main_arg4))) := by
  funext i
  obtain ⟨R, col, rfl⟩ := cases2 i
  refine row_cases (fun R => ((dats m 0 c).arrAt 15 cfg0.N : FVec Ideal S65536x128 .bf16) (ix2 R col) = refKa (F := Ideal) _ _ _ _ (ix2 R col)) (fun t r => ?_) R
  have ht := pt_lt t
  have hc := col.isLt
  have e := refKa_apply (m ((c : Thread nD τ).loc main_arg0)) (m ((c : Thread nD τ).loc main_arg1)) (m ((c : Thread nD τ).loc main_arg2)) (m ((c : Thread nD τ).loc main_arg4))
    ⟨t.val / 2, by omega⟩ ⟨1024 * (t.val % 2) + r.val, by omega⟩ ⟨col.val / 64, by omega⟩ ⟨col.val % 64, by omega⟩
  have ec : (⟨64 * (col.val / 64) + col.val % 64, by omega⟩ : Fin 128) = col := Fin.ext (by dsimp only; omega)
  dsimp only at e
  rw [ec] at e
  have eh : headCols (iblk m c 0 t) (iblk m c 1 t) (iblk m c 2 t) 512 r (col.val / 64)
      = fun d => refZ (F := Ideal) (m ((c : Thread nD τ).loc main_arg0)) (m ((c : Thread nD τ).loc main_arg1)) (m ((c : Thread nD τ).loc main_arg2)) (ix3 ⟨t.val / 2, by omega⟩ ⟨1024 * (t.val % 2) + r.val, by omega⟩ ⟨512 + (64 * (col.val / 64) + d.val), by omega⟩) :=
    funext fun d => blk_proj m c t r _ _
  rw [arr15, out15_apply _ _ _ _ _ _ _ _ _ _ _ _ _ _ r (1024 * (t.val % 2) + r.val) (fun d => (m ((c : Thread nD τ).loc main_arg4) : FVec Ideal S64 .f32) (ix1 d))
    (blk3 m c t) (blk8 m c t r) (blk9 m c t r) (blk10 m c t r) (blk5 m c t) col, eh, row_eq]
  exact e.symm
/-- the second branch's queries -/
theorem qb_eq : @Eq (FVec Ideal S65536x512 .bf16) ((dats m 0 c).arrAt 17 cfg0.N)
    (refQb (F := Ideal) (m ((c : Thread nD τ).loc main_arg0)) (m ((c : Thread nD τ).loc main_arg1)) (m ((c : Thread nD τ).loc main_arg2)) (m ((c : Thread nD τ).loc main_arg5))) := by
  funext i
  obtain ⟨R, col, rfl⟩ := cases2 i
  refine row_cases (fun R => ((dats m 0 c).arrAt 17 cfg0.N : FVec Ideal S65536x512 .bf16) (ix2 R col) = refQb (F := Ideal) _ _ _ _ (ix2 R col)) (fun t r => ?_) R
  have ht := pt_lt t
  have hc := col.isLt
  have e := refQb_apply (m ((c : Thread nD τ).loc main_arg0)) (m ((c : Thread nD τ).loc main_arg1)) (m ((c : Thread nD τ).loc main_arg2)) (m ((c : Thread nD τ).loc main_arg5))
    ⟨t.val / 2, by omega⟩ ⟨1024 * (t.val % 2) + r.val, by omega⟩ ⟨col.val / 64, by omega⟩ ⟨col.val % 64, by omega⟩
  have ec : (⟨64 * (col.val / 64) + col.val % 64, by omega⟩ : Fin 512) = col := Fin.ext (by dsimp only; omega)
  dsimp only at e
  rw [ec] at e
  have eh : headCols (iblk m c 0 t) (iblk m c 1 t) (iblk m c 2 t) 768 r (col.val / 64)
      = fun d => refZ (F := Ideal) (m ((c : Thread nD τ).loc main_arg0)) (m ((c : Thread nD τ).loc main_arg1)) (m ((c : Thread nD τ).loc main_arg2)) (ix3 ⟨t.val / 2, by omega⟩ ⟨1024 * (t.val % 2) + r.val, by omega⟩ ⟨768 + (64 * (col.val / 64) + d.val), by omega⟩) :=
    funext fun d => blk_proj m c t r _ _
  rw [arr17, out17_apply _ _ _ _ _ _ _ _ _ _ _ _ _ _ r (1024 * (t.val % 2) + r.val) (fun d => (m ((c : Thread nD τ).loc main_arg5) : FVec Ideal S64 .f32) (ix1 d))
    (blk3 m c t) (blk11 m c t r) (blk12 m c t r) (blk13 m c t r) (blk6 m c t) col, eh, row_eq]
  exact e.symm
/-- and keys, -/
theorem kb_eq : @Eq (FVec Ideal S65536x512 .bf16) ((dats m 0 c).arrAt 18 cfg0.N)
    (refKb (F := Ideal) (m ((c : Thread nD τ).loc main_arg0)) (m ((c : Thread nD τ).loc main_arg1)) (m ((c : Thread nD τ).loc main_arg2)) (m ((c : Thread nD τ).loc main_arg6))) := by
  funext i
  obtain ⟨R, col, rfl⟩ := cases2 i
  refine row_cases (fun R => ((dats m 0 c).arrAt 18 cfg0.N : FVec Ideal S65536x512 .bf16) (ix2 R col) = refKb (F := Ideal) _ _ _ _ (ix2 R col)) (fun t r => ?_) R
  have ht := pt_lt t
  have hc := col.isLt
  have e := refKb_apply (m ((c : Thread nD τ).loc main_arg0)) (m ((c : Thread nD τ).loc main_arg1)) (m ((c : Thread nD τ).loc main_arg2)) (m ((c : Thread nD τ).loc main_arg6))
    ⟨t.val / 2, by omega⟩ ⟨1024 * (t.val % 2) + r.val, by omega⟩ ⟨col.val / 64, by omega⟩ ⟨col.val % 64, by omega⟩
  have ec : (⟨64 * (col.val / 64) + col.val % 64, by omega⟩ : Fin 512) = col := Fin.ext (by dsimp only; omega)
  dsimp only at e
  rw [ec] at e
  have eh : headCols (iblk m c 0 t) (iblk m c 1 t) (iblk m c 2 t) 1280 r (col.val / 64)
      = fun d => refZ (F := Ideal) (m ((c : Thread nD τ).loc main_arg0)) (m ((c : Thread nD τ).loc main_arg1)) (m ((c : Thread nD τ).loc main_arg2)) (ix3 ⟨t.val / 2, by omega⟩ ⟨1024 * (t.val % 2) + r.val, by omega⟩ ⟨1280 + (64 * (col.val / 64) + d.val), by omega⟩) :=
    funext fun d => blk_proj m c t r _ _
  rw [arr18, out18_apply _ _ _ _ _ _ _ _ _ _ _ _ _ _ r (1024 * (t.val % 2) + r.val) (fun d => (m ((c : Thread nD τ).loc main_arg6) : FVec Ideal S64 .f32) (ix1 d))
    (blk3 m c t) (blk11 m c t r) (blk12 m c t r) (blk13 m c t r) (blk7 m c t) col, eh, row_eq]
  exact e.symm
/-- the values of the one branch -/
theorem va_eq : @Eq (FVec Ideal S65536x128 .bf16) ((dats m 0 c).arrAt 16 cfg0.N)
    (refVa (F := Ideal) (m ((c : Thread nD τ).loc main_arg0)) (m ((c : Thread nD τ).loc main_arg1)) (m ((c : Thread nD τ).loc main_arg2))) := by
  funext i
  obtain ⟨R, col, rfl⟩ := cases2 i
  refine row_cases (fun R => ((dats m 0 c).arrAt 16 cfg0.N : FVec Ideal S65536x128 .bf16) (ix2 R col) = refVa (F := Ideal) _ _ _ (ix2 R col)) (fun t r => ?_) R
  have ht := pt_lt t
  have hc := col.isLt
  rw [arr16, out16_apply, blk_proj m c t r (640 + col.val) (by omega), row_eq]
  exact (refVa_apply _ _ _ ⟨t.val / 2, by omega⟩ ⟨1024 * (t.val % 2) + r.val, by omega⟩ col).symm
/-- and of the other, -/
theorem vb_eq : @Eq (FVec Ideal S65536x512 .bf16) ((dats m 0 c).arrAt 19 cfg0.N)
    (refVb (F := Ideal) (m ((c : Thread nD τ).loc main_arg0)) (m ((c : Thread nD τ).loc main_arg1)) (m ((c : Thread nD τ).loc main_arg2))) := by
  funext i
  obtain ⟨R, col, rfl⟩ := cases2 i
  refine row_cases (fun R => ((dats m 0 c).arrAt 19 cfg0.N : FVec Ideal S65536x512 .bf16) (ix2 R col) = refVb (F := Ideal) _ _ _ (ix2 R col)) (fun t r => ?_) R
  have ht := pt_lt t
  have hc := col.isLt
  rw [arr19, out19_apply, blk_proj m c t r (1792 + col.val) (by omega), row_eq]
  exact (refVb_apply _ _ _ ⟨t.val / 2, by omega⟩ ⟨1024 * (t.val % 2) + r.val, by omega⟩ col).symm
/-- and the gate times its logistic. -/
theorem sg_eq : @Eq (FVec Ideal S65536x1024 .bf16) ((dats m 0 c).arrAt 20 cfg0.N)
    (refSg (F := Ideal) (m ((c : Thread nD τ).loc main_arg0)) (m ((c : Thread nD τ).loc main_arg1)) (m ((c : Thread nD τ).loc main_arg2))) := by
  funext i
  obtain ⟨R, col, rfl⟩ := cases2 i
  refine row_cases (fun R => ((dats m 0 c).arrAt 20 cfg0.N : FVec Ideal S65536x1024 .bf16) (ix2 R col) = refSg (F := Ideal) _ _ _ (ix2 R col)) (fun t r => ?_) R
  have ht := pt_lt t
  have hc := col.isLt
  rw [arr20, out20_apply, blk_proj m c t r (2304 + col.val) (by omega), row_eq]
  exact (refSg_apply _ _ _ ⟨t.val / 2, by omega⟩ ⟨1024 * (t.val % 2) + r.val, by omega⟩ col).symm

end Results

end Cert.Proof.Even

end
-- ==== Proof.EvenTurned.lean ====
/-
  The two arrays of turned values, a lane a row, that the input projection of the even layer leaves, and that they are the reference's.
-/
module

public import proofs.«01_k».proof.Proof.EvenValue

@[expose] public section

noncomputable section

namespace Cert.Proof.Even

open Cert.Kernel4Ideal Cert.Kernel4Ideal.Gen
open Cert.Proof.Proj (projAt)
open Idealize.ShloMosaic
open Idealize.ShloMosaic.TcCoe

section Turned

variable (x0 : Vec Ideal S1024x1024 .f32) (x1 : Vec Ideal S1x1024 .f32) (x2 : Vec Ideal S1024x3328 .bf16) (x3 : Vec Ideal S256x256 .bf16) (x4 x5 x6 x7 : Vec Ideal S1x128 .f32) (x8 x9 x10 x11 x12 x13 : Vec Ideal S1024x128 .f32)
  (r : Fin 1024)

theorem cases4 {k n : ℕ} (i : (⟨4, ![1, 1, k, n]⟩ : Shape).Idx) : ∃ (l : Fin k) (q : Fin n), i = ix4 0 0 l q :=
  ⟨i 2, i 3, funext fun a => by
    fin_cases a
    · exact Subsingleton.elim (α := Fin 1) _ _
    · exact Subsingleton.elim (α := Fin 1) _ _
    · rfl
    · rfl⟩

/-- The first branch's values are half of their product's columns, -/
theorem pay24_apply (q : Fin 128) : k0_pay24 (k0_pay6 x0 x1) (k0_pay7 x0) (View.ld x2 r0_8) (ix2 r q) = colAt x0 x1 x2 r (640 + q.val) := by
  have e : ∀ w : Vec Ideal S1024x256 .bf16, k0_pay24 (k0_pay6 x0 x1) (k0_pay7 x0) w (ix2 r q)
      = projAt (fun k => x0 (ix2 r k)) (fun k => x1 (ix2 0 k)) (fun k => w (ix2 k ⟨128 + q.val, by omega⟩)) := fun w => by
    unfold projAt
    pointwise [k0_pay24, k0_pay22, k0_pay5, k0_pay6, k0_pay7]
  rw [e]
  refine congrArg (projAt _ _) (funext fun k => ?_)
  rw [ld8]
  exact congrArg (fun n => x2 (ix2 k (cl n))) (by dsimp only; omega)
/-- the second branch's all of theirs. -/
theorem pay42_apply (q : Fin 512) : k0_pay42 (k0_pay6 x0 x1) (k0_pay7 x0) (View.ld x2 r0_13) (ix2 r q) = colAt x0 x1 x2 r (1792 + q.val) := by
  have e : ∀ w : Vec Ideal S1024x512 .bf16, k0_pay42 (k0_pay6 x0 x1) (k0_pay7 x0) w (ix2 r q)
      = projAt (fun k => x0 (ix2 r k)) (fun k => x1 (ix2 0 k)) (fun k => w (ix2 k q)) := fun w => by
    unfold projAt
    pointwise [k0_pay42, k0_pay5, k0_pay6, k0_pay7]
  exact (e _).trans (congrArg (projAt _ _) (funext fun k => ld13 x2 k q))

/-- A head's turned values with ones under them, -/
theorem turn1_apply (v6 : FVec Ideal S1024x1024 .bf16) (v14 : FVec Ideal S1024x1 .f32) (w : Vec Ideal S1024x256 .bf16) (l : Fin 128) :
    k0_pay30 (k0_pay26 v6 v14 w) (k0_pay27 (F := Ideal)) (ix4 0 0 l r)
      = if h : (l : ℕ) < 64 then k0_pay24 v6 v14 w (ix2 r ⟨64 + l.val, by omega⟩) else Ideal.ofBits .f32 0x3F800000#32 := by
  unfold k0_pay26
  generalize k0_pay24 v6 v14 w = z
  pointwise [k0_pay30, k0_pay27]
theorem turn0_apply (v6 : FVec Ideal S1024x1024 .bf16) (v14 : FVec Ideal S1024x1 .f32) (w : Vec Ideal S1024x256 .bf16) (l : Fin 128) :
    k0_pay29 (k0_pay28 v6 v14 w) (ix4 0 0 l r)
      = if h : (l : ℕ) < 64 then k0_pay24 v6 v14 w (ix2 r ⟨0 + l.val, by omega⟩) else Ideal.ofBits .f32 0x3F800000#32 := by
  unfold k0_pay28 k0_pay26
  generalize k0_pay24 v6 v14 w = z
  pointwise [k0_pay29, k0_pay27]
/-- and those of a pair of heads. -/
theorem pair_apply (v6 : FVec Ideal S1024x1024 .bf16) (v14 : FVec Ideal S1024x1 .f32) (w : Vec Ideal S1024x512 .bf16) (l : Fin 128) :
    k0_pay45 v6 v14 w (ix4 0 0 l r) = k0_pay42 v6 v14 w (ix2 r ⟨0 + l.val, by omega⟩)
    ∧ k0_pay1 (k0_pay44 v6 v14 w) (ix4 0 0 l r) = k0_pay42 v6 v14 w (ix2 r ⟨128 + l.val, by omega⟩)
    ∧ k0_pay2 (k0_pay44 v6 v14 w) (ix4 0 0 l r) = k0_pay42 v6 v14 w (ix2 r ⟨256 + l.val, by omega⟩)
    ∧ k0_pay3 (k0_pay44 v6 v14 w) (ix4 0 0 l r) = k0_pay42 v6 v14 w (ix2 r ⟨384 + l.val, by omega⟩) := by
  unfold k0_pay45 k0_pay44
  generalize k0_pay42 v6 v14 w = z
  refine ⟨?_, ?_, ?_, ?_⟩
  · pointwise
  · pointwise [k0_pay1]
  · pointwise [k0_pay2]
  · pointwise [k0_pay3]

/-- The block of the first branch's turned values at an element, -/
theorem out21_apply (a : Fin 2) (l : Fin 128) : out0_21 x0 x1 x2 x3 x4 x5 x6 x7 x8 x9 x10 x11 x12 x13 (ix4 0 a l r)
    = if l.val < 64 then colAt x0 x1 x2 r (640 + (64 * a.val + l.val) % 128) else Ideal.ofBits .f32 0x3F800000#32 := by
  unfold_out out0_21
  rw [ldx, ldg]
  canon_tiles x h
  · obtain ⟨l', r', rfl⟩ := cases4 x
    obtain rfl : l = l' := Fin.ext (by simpa using h2)
    obtain rfl : r = r' := Fin.ext (by simpa using h3)
    have ha : a.val = 1 := by simpa using h1
    refine (turn1_apply r _ _ _ l).trans ?_
    by_cases hl : l.val < 64
    · rw [dif_pos hl, if_pos hl, pay24_apply]
      exact congrArg (colAt x0 x1 x2 r) (by dsimp only; omega)
    · rw [dif_neg hl, if_neg hl]
  · obtain ⟨l', r', rfl⟩ := cases4 x
    obtain rfl : l = l' := Fin.ext (by simpa using h2)
    obtain rfl : r = r' := Fin.ext (by simpa using h3)
    have ha : a.val = 0 := by simpa using h1
    refine (turn0_apply r _ _ _ l).trans ?_
    by_cases hl : l.val < 64
    · rw [dif_pos hl, if_pos hl, pay24_apply]
      exact congrArg (colAt x0 x1 x2 r) (by dsimp only; omega)
    · rw [dif_neg hl, if_neg hl]

/-- and of the second's. -/
theorem out22_apply (a : Fin 4) (l : Fin 128) : out0_22 x0 x1 x2 x3 x4 x5 x6 x7 x8 x9 x10 x11 x12 x13 (ix4 0 a l r)
    = colAt x0 x1 x2 r (1792 + (a.val * 128 + l.val)) := by
  obtain ⟨p0, p1, p2, p3⟩ := pair_apply r (k0_pay6 x0 x1) (k0_pay7 x0) (View.ld x2 r0_13) l
  unfold_out out0_22
  rw [ldx, ldg]
  canon_tiles x h
  all_goals
    obtain ⟨l', r', rfl⟩ := cases4 x
    obtain rfl : l = l' := Fin.ext (by simpa using h2)
    obtain rfl : r = r' := Fin.ext (by simpa using h3)
  · refine p3.trans ((pay42_apply x0 x1 x2 r _).trans (congrArg (colAt x0 x1 x2 r) ?_))
    have ha : a.val = 3 := by simpa using h1
    dsimp only
    omega
  · refine p2.trans ((pay42_apply x0 x1 x2 r _).trans (congrArg (colAt x0 x1 x2 r) ?_))
    have ha : a.val = 2 := by simpa using h1
    dsimp only
    omega
  · refine p1.trans ((pay42_apply x0 x1 x2 r _).trans (congrArg (colAt x0 x1 x2 r) ?_))
    have ha : a.val = 1 := by simpa using h1
    dsimp only
    omega
  · refine p0.trans ((pay42_apply x0 x1 x2 r _).trans (congrArg (colAt x0 x1 x2 r) ?_))
    have ha : a.val = 0 := by simpa using h1
    dsimp only
    omega

end Turned

section Blocks

variable {F : FTy → Type} [FloatOps F] (m : (ℓ : Loc nD τ sig) → Buf (Elt F) ℓ) (c : Dev nD)

/-- Point `t` of the grid writes the block of batch `t / 2` and of half `t mod 2` of its positions. -/
theorem idx21a : ∀ t : Fin cfg0.N, win0_21.index t 0 = t.val / 2 := (by decide +kernel : ∀ t : Fin grid0.N, win0_21.index t 0 = t.val / 2)
theorem idx21d : ∀ t : Fin cfg0.N, win0_21.index t 3 = t.val % 2 := (by decide +kernel : ∀ t : Fin grid0.N, win0_21.index t 3 = t.val % 2)
theorem idx22a : ∀ t : Fin cfg0.N, win0_22.index t 0 = t.val / 2 := (by decide +kernel : ∀ t : Fin grid0.N, win0_22.index t 0 = t.val / 2)
theorem idx22d : ∀ t : Fin cfg0.N, win0_22.index t 3 = t.val % 2 := (by decide +kernel : ∀ t : Fin grid0.N, win0_22.index t 3 = t.val % 2)
theorem arr21 (t : Fin cfg0.N) (r : Fin 1024) (a : Fin 2) (l : Fin 128) : ((dats m 0 c).arrAt 21 cfg0.N : FVec F S32x2x128x2048 .bf16)
      (ix4 ⟨t.val / 2, by have := pt_lt t; omega⟩ a l ⟨1024 * (t.val % 2) + r.val, by omega⟩)
    = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 0 a l r) := by
  have e := congrFun ((Value.blocks21 m c t (flush0_21 t)).trans (Value.flushed21 m c t)) (ix4 0 a l r)
  refine Eq.trans ?_ (e.trans rfl)
  show _ = ((dats m 0 c).arrAt 21 cfg0.N : FVec F S32x2x128x2048 .bf16) _
  congr 1
  funext x
  fin_cases x
  · refine Fin.ext ?_
    show t.val / 2 = win0_21.index t 0 * 1 + 1 * 0
    rw [idx21a]; omega
  · refine Fin.ext ?_
    show a.val = 0 * 2 + 1 * a.val
    omega
  · refine Fin.ext ?_
    show l.val = 0 * 128 + 1 * l.val
    omega
  · refine Fin.ext ?_
    show 1024 * (t.val % 2) + r.val = win0_21.index t 3 * 1024 + 1 * r.val
    rw [idx21d]; omega
theorem arr22 (t : Fin cfg0.N) (r : Fin 1024) (a : Fin 4) (l : Fin 128) : ((dats m 0 c).arrAt 22 cfg0.N : FVec F S32x4x128x2048 .bf16)
      (ix4 ⟨t.val / 2, by have := pt_lt t; omega⟩ a l ⟨1024 * (t.val % 2) + r.val, by omega⟩)
    = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix4 0 a l r) := by
  have e := congrFun ((Value.blocks22 m c t (flush0_22 t)).trans (Value.flushed22 m c t)) (ix4 0 a l r)
  refine Eq.trans ?_ (e.trans rfl)
  show _ = ((dats m 0 c).arrAt 22 cfg0.N : FVec F S32x4x128x2048 .bf16) _
  congr 1
  funext x
  fin_cases x
  · refine Fin.ext ?_
    show t.val / 2 = win0_22.index t 0 * 1 + 1 * 0
    rw [idx22a]; omega
  · refine Fin.ext ?_
    show a.val = 0 * 4 + 1 * a.val
    omega
  · refine Fin.ext ?_
    show l.val = 0 * 128 + 1 * l.val
    omega
  · refine Fin.ext ?_
    show 1024 * (t.val % 2) + r.val = win0_22.index t 3 * 1024 + 1 * r.val
    rw [idx22d]; omega

end Blocks

section Results

variable (m : (ℓ : Loc nD τ sig) → Buf (Elt Ideal) ℓ) (c : Dev nD)

theorem place_cases (P : Fin 32 → Fin 2048 → Prop) (h : ∀ (t : Fin cfg0.N) (r : Fin 1024), P ⟨t.val / 2, by have := pt_lt t; omega⟩ ⟨1024 * (t.val % 2) + r.val, by omega⟩)
    (b : Fin 32) (s : Fin 2048) : P b s := by
  have e := h ⟨2 * b.val + s.val / 1024, by rw [show cfg0.N = 64 from N_0]; omega⟩ ⟨s.val % 1024, by omega⟩
  have e1 : (2 * b.val + s.val / 1024) / 2 = b.val := by omega
  have e2 : 1024 * ((2 * b.val + s.val / 1024) % 2) + s.val % 1024 = s.val := by omega
  simpa only [e1, e2] using e
/-- The turned values of the first branch, -/
theorem vat_eq : @Eq (FVec Ideal S32x2x128x2048 .bf16) ((dats m 0 c).arrAt 21 cfg0.N)
    (refVat (F := Ideal) (m ((c : Thread nD τ).loc main_arg0)) (m ((c : Thread nD τ).loc main_arg1)) (m ((c : Thread nD τ).loc main_arg2))) := by
  funext i
  obtain ⟨b, a, l, s, rfl⟩ : ∃ (b : Fin 32) (a : Fin 2) (l : Fin 128) (s : Fin 2048), i = ix4 b a l s :=
    ⟨i 0, i 1, i 2, i 3, funext fun x => by fin_cases x <;> rfl⟩
  refine place_cases (fun b s => ((dats m 0 c).arrAt 21 cfg0.N : FVec Ideal S32x2x128x2048 .bf16) (ix4 b a l s) = refVat (F := Ideal) _ _ _ (ix4 b a l s)) (fun t r => ?_) b s
  have ht := pt_lt t
  have ha := a.isLt
  have hl := l.isLt
  rw [arr21, out21_apply, blk_proj m c t r (640 + (64 * a.val + l.val) % 128) (by omega)]
  exact (refVat_apply _ _ _ ⟨t.val / 2, by omega⟩ ⟨1024 * (t.val % 2) + r.val, by omega⟩ a l).symm
/-- and of the second. -/
theorem vbt_eq : @Eq (FVec Ideal S32x4x128x2048 .bf16) ((dats m 0 c).arrAt 22 cfg0.N)
    (refVbt (F := Ideal) (m ((c : Thread nD τ).loc main_arg0)) (m ((c : Thread nD τ).loc main_arg1)) (m ((c : Thread nD τ).loc main_arg2))) := by
  funext i
  obtain ⟨b, a, l, s, rfl⟩ : ∃ (b : Fin 32) (a : Fin 4) (l : Fin 128) (s : Fin 2048), i = ix4 b a l s :=
    ⟨i 0, i 1, i 2, i 3, funext fun x => by fin_cases x <;> rfl⟩
  refine place_cases (fun b s => ((dats m 0 c).arrAt 22 cfg0.N : FVec Ideal S32x4x128x2048 .bf16) (ix4 b a l s) = refVbt (F := Ideal) _ _ _ (ix4 b a l s)) (fun t r => ?_) b s
  have ht := pt_lt t
  have ha := a.isLt
  have hl := l.isLt
  rw [arr22, out22_apply, blk_proj m c t r (1792 + (a.val * 128 + l.val)) (by omega)]
  exact (refVbt_apply _ _ _ ⟨t.val / 2, by omega⟩ ⟨1024 * (t.val % 2) + r.val, by omega⟩ a l).symm

end Results

end Cert.Proof.Even

end
-- ==== Proof.lean ====
/-
  The claims of this directory, each from its own module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Value
public import proofs.«01_k».proof.Proof.Gen.Reference2Ideal
public import proofs.«01_k».proof.Proof.Gen.Reference2Ideal.Run
public import proofs.«01_k».proof.Proof.ProjValue
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_scores
public import proofs.«01_k».proof.Proof.AttnValue
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.EvenTurned

@[expose] public section

noncomputable section

namespace Cert.Proof

open Idealize.ShloMosaic Idealize.SL.Sem

/-- The two programs have the same text, so their body tables are one. -/
theorem defs_eq : Cert.Kernel.defs (F := Bits) = Cert.KernelIdeal.defs (F := Bits) := by sl_kernel_rfl

/-- The kernel terminates with its arguments unchanged and every counter at zero, whatever its arguments: its program is
    the ideal one's, whose run holds at any float values. -/
theorem frame_kernel : Cert.quiescent_Kernel := fun m ρ _ => by
  rw [defs_eq]
  exact (θ_run (Cert.KernelIdeal.defs (F := Bits)) _ _).mono (fun _ h => ⟨fun c => (h.1 c).2, h.2⟩)
    (Stream.run (F := Bits) m ρ)
/-- So does the kernel over the extended reals, -/
theorem frame_kernelIdeal : Cert.quiescent_KernelIdeal := fun m ρ _ =>
  (θ_run Cert.KernelIdeal.defs _ _).mono (fun _ h => ⟨fun c => (h.1 c).2, h.2⟩) (Stream.run (F := Ideal) m ρ)
/-- and the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's. -/
theorem algebraic : Cert.algebraic_KernelIdeal_ReferenceIdeal := fun m g m' g' _ hargs =>
  ⟨Stream.outV (F := Ideal) m,
    (θ_run Cert.KernelIdeal.defs _ _).mono (fun _ h => h.1) (Stream.run (F := Ideal) m g),
    (θ_run Cert.ReferenceIdeal.defs _ _).mono (fun _ h c => ⟨(h c).1.trans (by
        obtain ⟨h0, h1, h2⟩ := hargs c
        unfold Stream.outV
        rw [Stream.iblk_w, Stream.V_x, Stream.V_mix, Stream.V_w, Stream.value, h0, h1, h2]), (h c).2⟩)
      (Cert.ReferenceIdeal.Value.run (F := Ideal) m' g')⟩

/-- The input projection terminates with its arguments unchanged and every counter at zero, whatever its arguments, -/
theorem frame_kernel2 : Cert.quiescent_Kernel2 := fun m ρ _ => Cert.Kernel2.Gen.frame m ρ
/-- over the extended reals too, -/
theorem frame_kernel2Ideal : Cert.quiescent_Kernel2Ideal := fun m ρ _ => Cert.Kernel2Ideal.Gen.frame m ρ
/-- and so does its reference. -/
theorem frame_reference2Ideal : Cert.quiescent_Reference2Ideal := fun m ρ _ =>
  (θ_run Cert.Reference2Ideal.defs _ _).mono (fun r h => ⟨fun c => (h c).2.2.2.2, sem_eq_zero_of_no_sems (by decide) r.2⟩)
    (Proj.ref_run (F := Ideal) m ρ)

/-- Over the extended reals the projection's queries, keys, values and gate are the reference's. -/
theorem algebraic2 : Cert.algebraic_Kernel2Ideal_Reference2Ideal := fun m g m' g' _ hargs =>
  ⟨_, _, _, _, Cert.Kernel2Ideal.Value.run_blocks (F := Ideal) m g,
    (θ_run Cert.Reference2Ideal.defs _ _).mono (fun _ h c => by
        obtain ⟨h0, h1, h2, h3, hk⟩ := h c
        obtain ⟨a0, a1, a2, a3, a4⟩ := hargs c
        refine ⟨h0.trans ?_, h1.trans ?_, h2.trans ?_, h3.trans ?_, hk⟩
        · rw [a0, a1, a2, a3]; exact (Proj.q_eq m c).symm
        · rw [a0, a1, a2, a4]; exact (Proj.k_eq m c).symm
        · rw [a0, a1, a2]; exact (Proj.v_eq m c).symm
        · rw [a0, a1, a2]; exact (Proj.gate_eq m c).symm)
      (Proj.ref_run (F := Ideal) m' g')⟩

/-- The even layer's attention terminates with its arguments unchanged and every counter at zero, whatever its arguments, -/
theorem frame_kernel3 : Cert.quiescent_Kernel3 := fun m ρ _ => Cert.Kernel3.Gen.frame m ρ
/-- over the extended reals too, -/
theorem frame_kernel3Ideal : Cert.quiescent_Kernel3Ideal := fun m ρ _ => Cert.Kernel3Ideal.Gen.frame m ρ
/-- and so does its reference. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the attention's result is the reference's, where the queries and keys are finite. -/
theorem algebraic3 [Cert.Pre_finite_scores.Facts] : Cert.algebraic_Kernel3Ideal_Reference3Ideal_pre_finite_scores :=
  fun m g m' g' hp hargs =>
  ⟨_, Cert.Kernel3Ideal.Value.run_blocks (F := Ideal) m g,
    (θ_run Cert.Reference3Ideal.defs _ _).mono (fun _ h c => by
        obtain ⟨h0, hk⟩ := h c
        obtain ⟨a0, a1, a2, a3, a4, a5, a6, a7, a8, a9, a10, a11, a12, a13⟩ := hargs c
        obtain ⟨p1, p2, p4, p5⟩ := hp c
        refine ⟨h0.trans ((Attn.ref_eq m' c).trans ?_), hk⟩
        rw [a0, a1, a2, a3, a4, a5, a6, a7, a8, a9, a10, a11, a12, a13]
        exact (Attn.attn_eq m c (Attn.reals_512 _ p1) (Attn.reals_128 _ p2) (Attn.reals_512 _ p4) (Attn.reals_512 _ p5)).symm)
      (Cert.Reference3Ideal.Value.run (F := Ideal) m' g')⟩

/-- The even layer's input projection terminates with its arguments unchanged and every counter at zero, whatever its
    arguments, -/
theorem frame_kernel4 : Cert.quiescent_Kernel4 := fun m ρ _ => Cert.Kernel4.Gen.frame m ρ
/-- over the extended reals too, -/
theorem frame_kernel4Ideal : Cert.quiescent_Kernel4Ideal := fun m ρ _ => Cert.Kernel4Ideal.Gen.frame m ρ
/-- and so does its reference. -/
theorem frame_reference4Ideal : Cert.quiescent_Reference4Ideal := fun m ρ _ =>
  (θ_run Cert.Reference4Ideal.defs _ _).mono (fun r h => ⟨fun c => (h c).2.2.2.2.2.2.2.2.2, sem_eq_zero_of_no_sems (by decide) r.2⟩)
    (Even.ref_run (F := Ideal) m ρ)

/-- Over the extended reals the projection's queries, keys and values of both branches, its gate, and the turned values are the reference's. -/
theorem algebraic4 : Cert.algebraic_Kernel4Ideal_Reference4Ideal := fun m g m' g' _ hargs =>
  ⟨fun c => Even.refQa (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
   fun c => Even.refKa (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)),
   fun c => Even.refVa (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
   fun c => Even.refQb (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)),
   fun c => Even.refKb (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg6)),
   fun c => Even.refVb (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
   fun c => Even.refSg (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
   fun c => Even.refVat (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
   fun c => Even.refVbt (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun _ h c => by
        obtain ⟨h0, h1, h2, h3, h4, h5, h6, h7, h8, hk⟩ := h c
        exact ⟨h0.trans (Even.qa_eq m c), h1.trans (Even.ka_eq m c), h2.trans (Even.va_eq m c), h3.trans (Even.qb_eq m c), h4.trans (Even.kb_eq m c),
          h5.trans (Even.vb_eq m c), h6.trans (Even.sg_eq m c), h7.trans (Even.vat_eq m c), h8.trans (Even.vbt_eq m c), hk⟩)
      (Cert.Kernel4Ideal.Value.run_blocks (F := Ideal) m g),
    (θ_run Cert.Reference4Ideal.defs _ _).mono (fun _ h c => by
        obtain ⟨h0, h1, h2, h3, h4, h5, h6, h7, h8, hk⟩ := h c
        obtain ⟨a0, a1, a2, a3, a4, a5, a6⟩ := hargs c
        rw [a0, a1, a2, a3] at h0
        rw [a0, a1, a2, a4] at h1
        rw [a0, a1, a2] at h2
        rw [a0, a1, a2, a5] at h3
        rw [a0, a1, a2, a6] at h4
        rw [a0, a1, a2] at h5 h6 h7 h8
        exact ⟨h0, h1, h2, h3, h4, h5, h6, h7, h8, hk⟩)
      (Even.ref_run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.Gen.facts,
  frame_kernel, frame_kernelIdeal, frame_referenceIdeal, frame_kernel2, frame_kernel2Ideal, frame_reference2Ideal,
  frame_kernel3, frame_kernel3Ideal, fun m ρ _ => frame_kernel3Ideal m ρ trivial,
  frame_reference3Ideal, fun m ρ _ => frame_reference3Ideal m ρ trivial,
  frame_kernel4, frame_kernel4Ideal, frame_reference4Ideal,
  trivial, algebraic, trivial, algebraic2, trivial, algebraic3, trivial, algebraic4⟩

end Cert.Proof

end
